-- ==== Defs.lean ====
def Pre_Kernel [hPre_rows_named : Cert.Pre_rows_named.Facts] (m : (ℓ : Loc Cert.Kernel.nD Cert.Kernel.τ Cert.Kernel.sig) → Buf (Elt Bits) ℓ) : Prop :=
  ∀ c : Dev Cert.Kernel.nD,
    (Cert.Pre_rows_named.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_rows_named : Cert.Pre_rows_named.Facts] (m : (ℓ : Loc Cert.KernelIdeal.nD Cert.KernelIdeal.τ Cert.KernelIdeal.sig) → Buf (Elt Ideal) ℓ) : Prop :=
  ∀ c : Dev Cert.KernelIdeal.nD,
    (Cert.Pre_rows_named.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rows_named [hPre_rows_named : Cert.Pre_rows_named.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rows_named.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Reference [hPre_rows_named : Cert.Pre_rows_named.Facts] (m : (ℓ : Loc Cert.Reference.nD Cert.Reference.τ Cert.Reference.sig) → Buf (Elt Bits) ℓ) : Prop :=
  ∀ c : Dev Cert.Reference.nD,
    (Cert.Pre_rows_named.fn (F := Bits) (m ((c.tc : Thread Cert.Reference.nD Cert.Reference.τ).loc Cert.Reference.main_arg0)) (m ((c.tc : Thread Cert.Reference.nD Cert.Reference.τ).loc Cert.Reference.main_arg1))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_weights_finite [hPre_weights_finite : Cert.Pre_weights_finite.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_weights_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_weights_finite [hPre_weights_finite : Cert.Pre_weights_finite.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_weights_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))) = (fun _ => 1#1)

def Pre_Kernel5 [hPre_experts_named : Cert.Pre_experts_named.Facts] (m : (ℓ : Loc Cert.Kernel5.nD Cert.Kernel5.τ Cert.Kernel5.sig) → Buf (Elt Bits) ℓ) : Prop :=
  ∀ c : Dev Cert.Kernel5.nD,
    (Cert.Pre_experts_named.fn (F := Bits) (m ((c.tc : Thread Cert.Kernel5.nD Cert.Kernel5.τ).loc Cert.Kernel5.main_arg0)) (m ((c.tc : Thread Cert.Kernel5.nD Cert.Kernel5.τ).loc Cert.Kernel5.main_arg1)) (m ((c.tc : Thread Cert.Kernel5.nD Cert.Kernel5.τ).loc Cert.Kernel5.main_arg2)) (m ((c.tc : Thread Cert.Kernel5.nD Cert.Kernel5.τ).loc Cert.Kernel5.main_arg3)) (m ((c.tc : Thread Cert.Kernel5.nD Cert.Kernel5.τ).loc Cert.Kernel5.main_arg4)) (m ((c.tc : Thread Cert.Kernel5.nD Cert.Kernel5.τ).loc Cert.Kernel5.main_arg5)) (m ((c.tc : Thread Cert.Kernel5.nD Cert.Kernel5.τ).loc Cert.Kernel5.main_arg6))) = (fun _ => 1#1)

def Pre_Kernel5Ideal [hPre_experts_named : Cert.Pre_experts_named.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_experts_named.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_experts_named [hPre_experts_named : Cert.Pre_experts_named.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_experts_named.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))) = (fun _ => 1#1)

def quiescent_Kernel [hKernel : Cert.Kernel.Facts] [hPre_rows_named : Cert.Pre_rows_named.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_rows_named : Cert.Pre_rows_named.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rows_named [hReferenceIdeal : Cert.ReferenceIdeal.Facts] [hPre_rows_named : Cert.Pre_rows_named.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rows_named m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] [hPre_rows_named : Cert.Pre_rows_named.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13)
      ∧ r.2.mem ((c.tc : Thread Cert.Kernel3.nD Cert.Kernel3.τ).loc Cert.Kernel3.main_arg14) = m ((c.tc : Thread Cert.Kernel3.nD Cert.Kernel3.τ).loc Cert.Kernel3.main_arg14)
      ∧ r.2.mem ((c.tc : Thread Cert.Kernel3.nD Cert.Kernel3.τ).loc Cert.Kernel3.main_arg15) = m ((c.tc : Thread Cert.Kernel3.nD Cert.Kernel3.τ).loc Cert.Kernel3.main_arg15)
      ∧ r.2.mem ((c.tc : Thread Cert.Kernel3.nD Cert.Kernel3.τ).loc Cert.Kernel3.main_arg16) = m ((c.tc : Thread Cert.Kernel3.nD Cert.Kernel3.τ).loc Cert.Kernel3.main_arg16)
      ∧ r.2.mem ((c.tc : Thread Cert.Kernel3.nD Cert.Kernel3.τ).loc Cert.Kernel3.main_arg17) = m ((c.tc : Thread Cert.Kernel3.nD Cert.Kernel3.τ).loc Cert.Kernel3.main_arg17)
      ∧ r.2.mem ((c.tc : Thread Cert.Kernel3.nD Cert.Kernel3.τ).loc Cert.Kernel3.main_arg18) = m ((c.tc : Thread Cert.Kernel3.nD Cert.Kernel3.τ).loc Cert.Kernel3.main_arg18)
      ∧ r.2.mem ((c.tc : Thread Cert.Kernel3.nD Cert.Kernel3.τ).loc Cert.Kernel3.main_arg19) = m ((c.tc : Thread Cert.Kernel3.nD Cert.Kernel3.τ).loc Cert.Kernel3.main_arg19)
      ∧ r.2.mem ((c.tc : Thread Cert.Kernel3.nD Cert.Kernel3.τ).loc Cert.Kernel3.main_arg20) = m ((c.tc : Thread Cert.Kernel3.nD Cert.Kernel3.τ).loc Cert.Kernel3.main_arg20)
      ∧ r.2.mem ((c.tc : Thread Cert.Kernel3.nD Cert.Kernel3.τ).loc Cert.Kernel3.main_arg21) = m ((c.tc : Thread Cert.Kernel3.nD Cert.Kernel3.τ).loc Cert.Kernel3.main_arg21))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
      ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
      ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15)
      ∧ r.2.mem ((c.tc : Thread Cert.Kernel3Ideal.nD Cert.Kernel3Ideal.τ).loc Cert.Kernel3Ideal.main_arg16) = m ((c.tc : Thread Cert.Kernel3Ideal.nD Cert.Kernel3Ideal.τ).loc Cert.Kernel3Ideal.main_arg16)
      ∧ r.2.mem ((c.tc : Thread Cert.Kernel3Ideal.nD Cert.Kernel3Ideal.τ).loc Cert.Kernel3Ideal.main_arg17) = m ((c.tc : Thread Cert.Kernel3Ideal.nD Cert.Kernel3Ideal.τ).loc Cert.Kernel3Ideal.main_arg17)
      ∧ r.2.mem ((c.tc : Thread Cert.Kernel3Ideal.nD Cert.Kernel3Ideal.τ).loc Cert.Kernel3Ideal.main_arg18) = m ((c.tc : Thread Cert.Kernel3Ideal.nD Cert.Kernel3Ideal.τ).loc Cert.Kernel3Ideal.main_arg18)
      ∧ r.2.mem ((c.tc : Thread Cert.Kernel3Ideal.nD Cert.Kernel3Ideal.τ).loc Cert.Kernel3Ideal.main_arg19) = m ((c.tc : Thread Cert.Kernel3Ideal.nD Cert.Kernel3Ideal.τ).loc Cert.Kernel3Ideal.main_arg19)
      ∧ r.2.mem ((c.tc : Thread Cert.Kernel3Ideal.nD Cert.Kernel3Ideal.τ).loc Cert.Kernel3Ideal.main_arg20) = m ((c.tc : Thread Cert.Kernel3Ideal.nD Cert.Kernel3Ideal.τ).loc Cert.Kernel3Ideal.main_arg20)
      ∧ r.2.mem ((c.tc : Thread Cert.Kernel3Ideal.nD Cert.Kernel3Ideal.τ).loc Cert.Kernel3Ideal.main_arg21) = m ((c.tc : Thread Cert.Kernel3Ideal.nD Cert.Kernel3Ideal.τ).loc Cert.Kernel3Ideal.main_arg21))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13)
      ∧ r.2.mem ((c.tc : Thread Cert.Reference3Ideal.nD Cert.Reference3Ideal.τ).loc Cert.Reference3Ideal.main_arg14) = m ((c.tc : Thread Cert.Reference3Ideal.nD Cert.Reference3Ideal.τ).loc Cert.Reference3Ideal.main_arg14)
      ∧ r.2.mem ((c.tc : Thread Cert.Reference3Ideal.nD Cert.Reference3Ideal.τ).loc Cert.Reference3Ideal.main_arg15) = m ((c.tc : Thread Cert.Reference3Ideal.nD Cert.Reference3Ideal.τ).loc Cert.Reference3Ideal.main_arg15)
      ∧ r.2.mem ((c.tc : Thread Cert.Reference3Ideal.nD Cert.Reference3Ideal.τ).loc Cert.Reference3Ideal.main_arg16) = m ((c.tc : Thread Cert.Reference3Ideal.nD Cert.Reference3Ideal.τ).loc Cert.Reference3Ideal.main_arg16)
      ∧ r.2.mem ((c.tc : Thread Cert.Reference3Ideal.nD Cert.Reference3Ideal.τ).loc Cert.Reference3Ideal.main_arg17) = m ((c.tc : Thread Cert.Reference3Ideal.nD Cert.Reference3Ideal.τ).loc Cert.Reference3Ideal.main_arg17)
      ∧ r.2.mem ((c.tc : Thread Cert.Reference3Ideal.nD Cert.Reference3Ideal.τ).loc Cert.Reference3Ideal.main_arg18) = m ((c.tc : Thread Cert.Reference3Ideal.nD Cert.Reference3Ideal.τ).loc Cert.Reference3Ideal.main_arg18)
      ∧ r.2.mem ((c.tc : Thread Cert.Reference3Ideal.nD Cert.Reference3Ideal.τ).loc Cert.Reference3Ideal.main_arg19) = m ((c.tc : Thread Cert.Reference3Ideal.nD Cert.Reference3Ideal.τ).loc Cert.Reference3Ideal.main_arg19)
      ∧ r.2.mem ((c.tc : Thread Cert.Reference3Ideal.nD Cert.Reference3Ideal.τ).loc Cert.Reference3Ideal.main_arg20) = m ((c.tc : Thread Cert.Reference3Ideal.nD Cert.Reference3Ideal.τ).loc Cert.Reference3Ideal.main_arg20)
      ∧ r.2.mem ((c.tc : Thread Cert.Reference3Ideal.nD Cert.Reference3Ideal.τ).loc Cert.Reference3Ideal.main_arg21) = m ((c.tc : Thread Cert.Reference3Ideal.nD Cert.Reference3Ideal.τ).loc Cert.Reference3Ideal.main_arg21))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Kernel4Ideal_pre_weights_finite [hKernel4Ideal : Cert.Kernel4Ideal.Facts] [hPre_weights_finite : Cert.Pre_weights_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_weights_finite m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Reference4Ideal_pre_weights_finite [hReference4Ideal : Cert.Reference4Ideal.Facts] [hPre_weights_finite : Cert.Pre_weights_finite.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_weights_finite m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] [hPre_experts_named : Cert.Pre_experts_named.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] [hPre_experts_named : Cert.Pre_experts_named.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Reference5Ideal_pre_experts_named [hReference5Ideal : Cert.Reference5Ideal.Facts] [hPre_experts_named : Cert.Pre_experts_named.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_experts_named m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_rows_named : Cert.Pre_rows_named.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] [hPre_rows_named : Cert.Pre_rows_named.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v2)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v2) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v7) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v9_0)) (v1 : (c : Dev Cert.Kernel2Ideal.nD) → Buf (Elt Ideal) ((c.tc : Thread Cert.Kernel2Ideal.nD Cert.Kernel2Ideal.τ).loc Cert.Kernel2Ideal.main_v9_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v9_0) = v0 c
          ∧ r.2.mem ((c.tc : Thread Cert.Kernel2Ideal.nD Cert.Kernel2Ideal.τ).loc Cert.Kernel2Ideal.main_v9_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v143) = v0 c
          ∧ r.2.mem ((c.tc : Thread Cert.Reference2Ideal.nD Cert.Reference2Ideal.τ).loc Cert.Reference2Ideal.main_v31) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)
      ∧ m' ((c.tc : Thread Cert.Reference3Ideal.nD Cert.Reference3Ideal.τ).loc Cert.Reference3Ideal.main_arg14) = m ((c.tc : Thread Cert.Kernel3Ideal.nD Cert.Kernel3Ideal.τ).loc Cert.Kernel3Ideal.main_arg14)
      ∧ m' ((c.tc : Thread Cert.Reference3Ideal.nD Cert.Reference3Ideal.τ).loc Cert.Reference3Ideal.main_arg15) = m ((c.tc : Thread Cert.Kernel3Ideal.nD Cert.Kernel3Ideal.τ).loc Cert.Kernel3Ideal.main_arg15)
      ∧ m' ((c.tc : Thread Cert.Reference3Ideal.nD Cert.Reference3Ideal.τ).loc Cert.Reference3Ideal.main_arg16) = m ((c.tc : Thread Cert.Kernel3Ideal.nD Cert.Kernel3Ideal.τ).loc Cert.Kernel3Ideal.main_arg16)
      ∧ m' ((c.tc : Thread Cert.Reference3Ideal.nD Cert.Reference3Ideal.τ).loc Cert.Reference3Ideal.main_arg17) = m ((c.tc : Thread Cert.Kernel3Ideal.nD Cert.Kernel3Ideal.τ).loc Cert.Kernel3Ideal.main_arg17)
      ∧ m' ((c.tc : Thread Cert.Reference3Ideal.nD Cert.Reference3Ideal.τ).loc Cert.Reference3Ideal.main_arg18) = m ((c.tc : Thread Cert.Kernel3Ideal.nD Cert.Kernel3Ideal.τ).loc Cert.Kernel3Ideal.main_arg18)
      ∧ m' ((c.tc : Thread Cert.Reference3Ideal.nD Cert.Reference3Ideal.τ).loc Cert.Reference3Ideal.main_arg19) = m ((c.tc : Thread Cert.Kernel3Ideal.nD Cert.Kernel3Ideal.τ).loc Cert.Kernel3Ideal.main_arg19)
      ∧ m' ((c.tc : Thread Cert.Reference3Ideal.nD Cert.Reference3Ideal.τ).loc Cert.Reference3Ideal.main_arg20) = m ((c.tc : Thread Cert.Kernel3Ideal.nD Cert.Kernel3Ideal.τ).loc Cert.Kernel3Ideal.main_arg20)
      ∧ m' ((c.tc : Thread Cert.Reference3Ideal.nD Cert.Reference3Ideal.τ).loc Cert.Reference3Ideal.main_arg21) = m ((c.tc : Thread Cert.Kernel3Ideal.nD Cert.Kernel3Ideal.τ).loc Cert.Kernel3Ideal.main_arg21)) →
    ∃ (v0 : (c : Dev Cert.Kernel3Ideal.nD) → Buf (Elt Ideal) ((c.tc : Thread Cert.Kernel3Ideal.nD Cert.Kernel3Ideal.τ).loc Cert.Kernel3Ideal.main_v35_0)) (v1 : (c : Dev Cert.Kernel3Ideal.nD) → Buf (Elt Ideal) ((c.tc : Thread Cert.Kernel3Ideal.nD Cert.Kernel3Ideal.τ).loc Cert.Kernel3Ideal.main_v35_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v35_0) = v0 c
          ∧ r.2.mem ((c.tc : Thread Cert.Kernel3Ideal.nD Cert.Kernel3Ideal.τ).loc Cert.Kernel3Ideal.main_v35_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
          ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
          ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15)
          ∧ r.2.mem ((c.tc : Thread Cert.Kernel3Ideal.nD Cert.Kernel3Ideal.τ).loc Cert.Kernel3Ideal.main_arg16) = m ((c.tc : Thread Cert.Kernel3Ideal.nD Cert.Kernel3Ideal.τ).loc Cert.Kernel3Ideal.main_arg16)
          ∧ r.2.mem ((c.tc : Thread Cert.Kernel3Ideal.nD Cert.Kernel3Ideal.τ).loc Cert.Kernel3Ideal.main_arg17) = m ((c.tc : Thread Cert.Kernel3Ideal.nD Cert.Kernel3Ideal.τ).loc Cert.Kernel3Ideal.main_arg17)
          ∧ r.2.mem ((c.tc : Thread Cert.Kernel3Ideal.nD Cert.Kernel3Ideal.τ).loc Cert.Kernel3Ideal.main_arg18) = m ((c.tc : Thread Cert.Kernel3Ideal.nD Cert.Kernel3Ideal.τ).loc Cert.Kernel3Ideal.main_arg18)
          ∧ r.2.mem ((c.tc : Thread Cert.Kernel3Ideal.nD Cert.Kernel3Ideal.τ).loc Cert.Kernel3Ideal.main_arg19) = m ((c.tc : Thread Cert.Kernel3Ideal.nD Cert.Kernel3Ideal.τ).loc Cert.Kernel3Ideal.main_arg19)
          ∧ r.2.mem ((c.tc : Thread Cert.Kernel3Ideal.nD Cert.Kernel3Ideal.τ).loc Cert.Kernel3Ideal.main_arg20) = m ((c.tc : Thread Cert.Kernel3Ideal.nD Cert.Kernel3Ideal.τ).loc Cert.Kernel3Ideal.main_arg20)
          ∧ r.2.mem ((c.tc : Thread Cert.Kernel3Ideal.nD Cert.Kernel3Ideal.τ).loc Cert.Kernel3Ideal.main_arg21) = m ((c.tc : Thread Cert.Kernel3Ideal.nD Cert.Kernel3Ideal.τ).loc Cert.Kernel3Ideal.main_arg21))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v126) = v0 c
          ∧ r.2.mem ((c.tc : Thread Cert.Reference3Ideal.nD Cert.Reference3Ideal.τ).loc Cert.Reference3Ideal.main_v147) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13)
          ∧ r.2.mem ((c.tc : Thread Cert.Reference3Ideal.nD Cert.Reference3Ideal.τ).loc Cert.Reference3Ideal.main_arg14) = m' ((c.tc : Thread Cert.Reference3Ideal.nD Cert.Reference3Ideal.τ).loc Cert.Reference3Ideal.main_arg14)
          ∧ r.2.mem ((c.tc : Thread Cert.Reference3Ideal.nD Cert.Reference3Ideal.τ).loc Cert.Reference3Ideal.main_arg15) = m' ((c.tc : Thread Cert.Reference3Ideal.nD Cert.Reference3Ideal.τ).loc Cert.Reference3Ideal.main_arg15)
          ∧ r.2.mem ((c.tc : Thread Cert.Reference3Ideal.nD Cert.Reference3Ideal.τ).loc Cert.Reference3Ideal.main_arg16) = m' ((c.tc : Thread Cert.Reference3Ideal.nD Cert.Reference3Ideal.τ).loc Cert.Reference3Ideal.main_arg16)
          ∧ r.2.mem ((c.tc : Thread Cert.Reference3Ideal.nD Cert.Reference3Ideal.τ).loc Cert.Reference3Ideal.main_arg17) = m' ((c.tc : Thread Cert.Reference3Ideal.nD Cert.Reference3Ideal.τ).loc Cert.Reference3Ideal.main_arg17)
          ∧ r.2.mem ((c.tc : Thread Cert.Reference3Ideal.nD Cert.Reference3Ideal.τ).loc Cert.Reference3Ideal.main_arg18) = m' ((c.tc : Thread Cert.Reference3Ideal.nD Cert.Reference3Ideal.τ).loc Cert.Reference3Ideal.main_arg18)
          ∧ r.2.mem ((c.tc : Thread Cert.Reference3Ideal.nD Cert.Reference3Ideal.τ).loc Cert.Reference3Ideal.main_arg19) = m' ((c.tc : Thread Cert.Reference3Ideal.nD Cert.Reference3Ideal.τ).loc Cert.Reference3Ideal.main_arg19)
          ∧ r.2.mem ((c.tc : Thread Cert.Reference3Ideal.nD Cert.Reference3Ideal.τ).loc Cert.Reference3Ideal.main_arg20) = m' ((c.tc : Thread Cert.Reference3Ideal.nD Cert.Reference3Ideal.τ).loc Cert.Reference3Ideal.main_arg20)
          ∧ r.2.mem ((c.tc : Thread Cert.Reference3Ideal.nD Cert.Reference3Ideal.τ).loc Cert.Reference3Ideal.main_arg21) = m' ((c.tc : Thread Cert.Reference3Ideal.nD Cert.Reference3Ideal.τ).loc Cert.Reference3Ideal.main_arg21))

def preserves_Kernel4_Kernel4Ideal : Prop :=
  True

def algebraic_Kernel4Ideal_Reference4Ideal_pre_weights_finite [hKernel4Ideal : Cert.Kernel4Ideal.Facts] [hReference4Ideal : Cert.Reference4Ideal.Facts] [hPre_weights_finite : Cert.Pre_weights_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_weights_finite m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v39) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] [hPre_experts_named : Cert.Pre_experts_named.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v58) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def Claim : Prop :=
  ∃ (hKernel : Cert.Kernel.Facts) (hKernelIdeal : Cert.KernelIdeal.Facts) (hReferenceIdeal : Cert.ReferenceIdeal.Facts) (hReference : Cert.Reference.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_rows_named : Cert.Pre_rows_named.Facts) (hPre_weights_finite : Cert.Pre_weights_finite.Facts) (hPre_experts_named : Cert.Pre_experts_named.Facts),
    quiescent_Kernel (hKernel := hKernel) (hPre_rows_named := hPre_rows_named)
    ∧ quiescent_KernelIdeal (hKernelIdeal := hKernelIdeal) (hPre_rows_named := hPre_rows_named)
    ∧ quiescent_ReferenceIdeal (hReferenceIdeal := hReferenceIdeal)
    ∧ quiescent_ReferenceIdeal_pre_rows_named (hReferenceIdeal := hReferenceIdeal) (hPre_rows_named := hPre_rows_named)
    ∧ quiescent_Reference (hReference := hReference) (hPre_rows_named := hPre_rows_named)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_weights_finite (hKernel4Ideal := hKernel4Ideal) (hPre_weights_finite := hPre_weights_finite)
    ∧ quiescent_Reference4Ideal (hReference4Ideal := hReference4Ideal)
    ∧ quiescent_Reference4Ideal_pre_weights_finite (hReference4Ideal := hReference4Ideal) (hPre_weights_finite := hPre_weights_finite)
    ∧ quiescent_Kernel5 (hKernel5 := hKernel5) (hPre_experts_named := hPre_experts_named)
    ∧ quiescent_Kernel5Ideal (hKernel5Ideal := hKernel5Ideal) (hPre_experts_named := hPre_experts_named)
    ∧ quiescent_Reference5Ideal (hReference5Ideal := hReference5Ideal)
    ∧ quiescent_Reference5Ideal_pre_experts_named (hReference5Ideal := hReference5Ideal) (hPre_experts_named := hPre_experts_named)
    ∧ preserves_Kernel_KernelIdeal
    ∧ algebraic_KernelIdeal_ReferenceIdeal (hKernelIdeal := hKernelIdeal) (hReferenceIdeal := hReferenceIdeal) (hPre_rows_named := hPre_rows_named)
    ∧ bitexact_Kernel_Reference (hKernel := hKernel) (hReference := hReference) (hPre_rows_named := hPre_rows_named)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_weights_finite (hKernel4Ideal := hKernel4Ideal) (hReference4Ideal := hReference4Ideal) (hPre_weights_finite := hPre_weights_finite)
    ∧ preserves_Kernel5_Kernel5Ideal
    ∧ algebraic_Kernel5Ideal_Reference5Ideal (hKernel5Ideal := hKernel5Ideal) (hReference5Ideal := hReference5Ideal) (hPre_experts_named := hPre_experts_named)
-- ==== Pre_experts_named.lean ====
abbrev S98304x512 : Shape := ⟨2, ![98304, 512]⟩
abbrev S96 : Shape := ⟨1, ![96]⟩
abbrev S1 : Shape := ⟨1, ![1]⟩
abbrev S2x32x1024x512 : Shape := ⟨4, ![2, 32, 1024, 512]⟩
abbrev S2x32x512x1024 : Shape := ⟨4, ![2, 32, 512, 1024]⟩
abbrev S_ : Shape := ⟨0, ![]⟩

class Facts : Prop where
  bcast_S_S96 : S_.BroadcastsInDim S96 (![] : Fin 0 → Fin S96.rank)

variable [Facts]

def fn {F : FTy → Type} [FloatOps F] (main_arg0 : IVec S98304x512 32) (main_arg1 : IVec S96 32) (main_arg2 : IVec S1 32) (main_arg3 : IVec S96 32) (main_arg4 : FVec F S2x32x1024x512 .f32) (main_arg5 : FVec F S2x32x1024x512 .f32) (main_arg6 : FVec F S2x32x512x1024 .f32) : IVec S96 1 :=
  let main_c : IVec S_ 32 := constantI S_ 32 0#32
  let main_v0 : IVec S96 32 := broadcastInDim S96 ![] bcast_S_S96 main_c
  let main_v1 : IVec S96 1 := cmpi .sge main_arg1 main_v0
  let main_c_0 : IVec S_ 32 := constantI S_ 32 32#32
  let main_v2 : IVec S96 32 := broadcastInDim S96 ![] bcast_S_S96 main_c_0
  let main_v3 : IVec S96 1 := cmpi .slt main_arg1 main_v2
  let main_v4 : IVec S96 1 := andi main_v1 main_v3
  main_v4
-- ==== Pre_rows_named.lean ====
abbrev S98304x512 : Shape := ⟨2, ![98304, 512]⟩
abbrev S2x32768 : Shape := ⟨2, ![2, 32768]⟩
abbrev S_ : Shape := ⟨0, ![]⟩

class Facts : Prop where
  bcast_S_S2x32768 : S_.BroadcastsInDim S2x32768 (![] : Fin 0 → Fin S2x32768.rank)

variable [Facts]

def fn {F : FTy → Type} [FloatOps F] (main_arg0 : IVec S98304x512 32) (main_arg1 : IVec S2x32768 32) : IVec S2x32768 1 :=
  let main_c : IVec S_ 32 := constantI S_ 32 0#32
  let main_v0 : IVec S2x32768 32 := broadcastInDim S2x32768 ![] bcast_S_S2x32768 main_c
  let main_v1 : IVec S2x32768 1 := cmpi .sge main_arg1 main_v0
  let main_c_0 : IVec S_ 32 := constantI S_ 32 98304#32
  let main_v2 : IVec S2x32768 32 := broadcastInDim S2x32768 ![] bcast_S_S2x32768 main_c_0
  let main_v3 : IVec S2x32768 1 := cmpi .slt main_arg1 main_v2
  let main_v4 : IVec S2x32768 1 := andi main_v1 main_v3
  main_v4
-- ==== Pre_weights_finite.lean ====
abbrev S4x8192x1024 : Shape := ⟨3, ![4, 8192, 1024]⟩
abbrev S2x32768x512 : Shape := ⟨3, ![2, 32768, 512]⟩
abbrev S8x32768 : Shape := ⟨2, ![8, 32768]⟩
abbrev S4x8x1024 : Shape := ⟨3, ![4, 8, 1024]⟩
abbrev S1024 : Shape := ⟨1, ![1024]⟩
abbrev S2x32768 : Shape := ⟨2, ![2, 32768]⟩
abbrev S_ : Shape := ⟨0, ![]⟩

class Facts : Prop where
  slices_S8x32768_S2x32768_0_0 : S8x32768.Slices ![0, 0] S2x32768
  bcast_S_S2x32768 : S_.BroadcastsInDim S2x32768 (![] : Fin 0 → Fin S2x32768.rank)

variable [Facts]

def fn {F : FTy → Type} [FloatOps F] (main_arg0 : FVec F S4x8192x1024 .f32) (main_arg1 : IVec S2x32768x512 32) (main_arg2 : FVec F S8x32768 .f32) (main_arg3 : FVec F S4x8x1024 .f32) (main_arg4 : FVec F S1024 .f32) : IVec S2x32768 1 :=
  let main_v0 : FVec F S2x32768 .f32 := (extractStridedSlice S2x32768 ![0, 0] · slices_S8x32768_S2x32768_0_0) main_arg2
  let main_v1 : FVec F S2x32768 .f32 := Host.absf main_v0
  let main_cst : FVec F S_ .f32 := constant S_ .f32 0x7F800000#32
  let main_v2 : FVec F S2x32768 .f32 := broadcastInDim S2x32768 ![] bcast_S_S2x32768 main_cst
  let main_v3 : IVec S2x32768 1 := cmpf .olt main_v1 main_v2
  main_v3
-- ==== Kernel.lean ====
abbrev S98304x512 : Shape := ⟨2, ![98304, 512]⟩
abbrev S2x32768 : Shape := ⟨2, ![2, 32768]⟩
abbrev S65536 : Shape := ⟨1, ![65536]⟩
abbrev S1024x1x64 : Shape := ⟨3, ![1024, 1, 64]⟩
abbrev S65536x512 : Shape := ⟨2, ![65536, 512]⟩
abbrev S2x1x64 : Shape := ⟨3, ![2, 1, 64]⟩
abbrev S2 : Shape := ⟨1, ![2]⟩
abbrev S2x64x512 : Shape := ⟨3, ![2, 64, 512]⟩
abbrev S1x1x64 : Shape := ⟨3, ![1, 1, 64]⟩
abbrev S1x64 : Shape := ⟨2, ![1, 64]⟩
abbrev S1 : Shape := ⟨1, ![1]⟩
abbrev S_ : Shape := ⟨0, ![]⟩
abbrev S1x64x512 : Shape := ⟨3, ![1, 64, 512]⟩
abbrev S64x512 : Shape := ⟨2, ![64, 512]⟩
abbrev S64x128 : Shape := ⟨2, ![64, 128]⟩
abbrev S64 : Shape := ⟨1, ![64]⟩
abbrev S98304x128 : Shape := ⟨2, ![98304, 128]⟩

abbrev nBuf : Table → Nat
  | .hbm => 5
  | .local .scVector .vmem => 2
  | _ => 0

abbrev bufTy : (tb : Table) → Fin (nBuf tb) → BufTy
  | .hbm, ⟨0, _⟩ => ⟨S98304x512, .i32⟩
  | .hbm, ⟨1, _⟩ => ⟨S2x32768, .i32⟩
  | .hbm, ⟨2, _⟩ => ⟨S65536, .i32⟩
  | .hbm, ⟨3, _⟩ => ⟨S1024x1x64, .i32⟩
  | .hbm, ⟨4, _⟩ => ⟨S65536x512, .i32⟩
  | .local .scVector .vmem, ⟨0, _⟩ => ⟨S2x1x64, .i32⟩
  | .local .scVector .vmem, ⟨1, _⟩ => ⟨S2x64x512, .i32⟩
  | _, _ => ⟨S98304x512, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_arg0_scv : Ref sig .scVector := ⟨.hbm, 0, rfl⟩
abbrev main_v1_scv : Ref sig .scVector := ⟨.hbm, 3, rfl⟩
abbrev main_v2_scv : Ref sig .scVector := ⟨.hbm, 4, rfl⟩
abbrev cc0_scoped0 : Ref sig .scVector := ⟨.vmem, 0, rfl⟩
abbrev cc0_scoped2 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 : Fin 3 → Nat :=
  let c0_i32_13_r0 : BitVec 32 := 0#32
  let c2_i32_r0 : BitVec 32 := 2#32
  let v21_r0 : BitVec 32 := Scalar.remui c0_i32_13_r0 c2_i32_r0
  let c0_i32_14_r0 : BitVec 32 := 0#32
  let c0_i32_15_r0 : BitVec 32 := 0#32
  ![v21_r0.toNat, 0, 0]
def k0_off2 (i : grid0.Coords) : Fin 3 → Nat :=
  let c0_i32_1_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v7_r0 : BitVec 32 := Scalar.addi c0_i32_1_r0 v4
  let c0_i32_16_r0 : BitVec 32 := 0#32
  let c0_i32_17_r0 : BitVec 32 := 0#32
  ![v7_r0.toNat, 0, 0]
def k0_off3 : Fin 1 → Nat :=
  let c0_i32_13_r0 : BitVec 32 := 0#32
  let c2_i32_r0 : BitVec 32 := 2#32
  let v21_r0 : BitVec 32 := Scalar.remui c0_i32_13_r0 c2_i32_r0
  ![v21_r0.toNat]
@[reducible] def k0_t1_loop : Scf.Loop 32 :=
  let c0_i32_28_r0 : BitVec 32 := 0#32
  let c32_i32_29_r0 : BitVec 32 := 32#32
  let v33_r0 : BitVec 32 := Scalar.addi c0_i32_28_r0 c32_i32_29_r0
  let c1_i32_30_r0 : BitVec 32 := 1#32
  ⟨c0_i32_28_r0, v33_r0, c1_i32_30_r0⟩
def k0_off4 (arg6_r0 : BitVec 32) : Fin 3 → Nat :=
  let c2_i32_103_r0 : BitVec 32 := 2#32
  let v145_r0 : BitVec 32 := Scalar.remui arg6_r0 c2_i32_103_r0
  let c0_i32_104_r0 : BitVec 32 := 0#32
  let c0_i32_105_r0 : BitVec 32 := 0#32
  ![v145_r0.toNat, 0, 0]
def k0_cond1 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v67_r0 : BitVec 32 := Scalar.addi arg10_r0 v4
  let true_62_r0 : BitVec 1 := 1#1
  let c1_i32_61_r0 : BitVec 32 := 1#32
  let v73_r0 : BitVec 32 := Scalar.addi arg10_r0 c1_i32_61_r0
  let v74_r0 : BitVec 32 := Scalar.select true_62_r0 v73_r0 arg10_r0
  let c32_i32_63_r0 : BitVec 32 := 32#32
  let v75_r0 : BitVec 1 := Scalar.cmpi .eq v74_r0 c32_i32_63_r0
  let c0_i32_64_r0 : BitVec 32 := 0#32
  let v76_r0 : BitVec 32 := Scalar.select v75_r0 c0_i32_64_r0 v74_r0
  let v77_r0 : BitVec 32 := Scalar.addi v76_r0 v4
  let v83_r0 : BitVec 1 := Scalar.cmpi .ne v67_r0 v77_r0
  let c0_i32_28_r0 : BitVec 32 := 0#32
  let c1_i32_30_r0 : BitVec 32 := 1#32
  let arg5_r0 : BitVec 32 := Scf.iv c0_i32_28_r0 c1_i32_30_r0 k0_t1
  let c31_i32_69_r0 : BitVec 32 := 31#32
  let v84_r0 : BitVec 1 := Scalar.cmpi .sge arg5_r0 c31_i32_69_r0
  let true_70_r0 : BitVec 1 := 1#1
  let v85_r0 : BitVec 1 := Scalar.xori v84_r0 true_70_r0
  let v86_r0 : BitVec 1 := Scalar.andi v83_r0 v85_r0
  let true_71_r0 : BitVec 1 := 1#1
  let v87_r0 : BitVec 1 := Scalar.andi v86_r0 true_71_r0
  let v88_r0 : BitVec 32 := Scalar.extui v87_r0
  let c0_i32_72_r0 : BitVec 32 := 0#32
  let v89_r0 : BitVec 1 := Scalar.cmpi .ne v88_r0 c0_i32_72_r0
  v89_r0

def k0_off5 (i : grid0.Coords) (arg10_r0 : BitVec 32) : Fin 3 → Nat :=
  let true_62_r0 : BitVec 1 := 1#1
  let c1_i32_61_r0 : BitVec 32 := 1#32
  let v73_r0 : BitVec 32 := Scalar.addi arg10_r0 c1_i32_61_r0
  let v74_r0 : BitVec 32 := Scalar.select true_62_r0 v73_r0 arg10_r0
  let c32_i32_63_r0 : BitVec 32 := 32#32
  let v75_r0 : BitVec 1 := Scalar.cmpi .eq v74_r0 c32_i32_63_r0
  let c0_i32_64_r0 : BitVec 32 := 0#32
  let v76_r0 : BitVec 32 := Scalar.select v75_r0 c0_i32_64_r0 v74_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v77_r0 : BitVec 32 := Scalar.addi v76_r0 v4
  let c0_i32_106_r0 : BitVec 32 := 0#32
  let c0_i32_107_r0 : BitVec 32 := 0#32
  ![v77_r0.toNat, 0, 0]
def k0_off6 (arg6_r0 : BitVec 32) : Fin 1 → Nat :=
  let c2_i32_103_r0 : BitVec 32 := 2#32
  let v145_r0 : BitVec 32 := Scalar.remui arg6_r0 c2_i32_103_r0
  ![v145_r0.toNat]
def k0_off7 (arg7_r0 : BitVec 32) : Fin 3 → Nat :=
  let c2_i32_103_r0 : BitVec 32 := 2#32
  let v145_r0 : BitVec 32 := Scalar.remui arg7_r0 c2_i32_103_r0
  let c0_i32_104_r0 : BitVec 32 := 0#32
  let c0_i32_105_r0 : BitVec 32 := 0#32
  ![v145_r0.toNat, 0, 0]
def k0_cond2 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v67_r0 : BitVec 32 := Scalar.addi arg10_r0 v4
  let true_58_r0 : BitVec 1 := 1#1
  let c1_i32_57_r0 : BitVec 32 := 1#32
  let v68_r0 : BitVec 32 := Scalar.subi arg10_r0 c1_i32_57_r0
  let v69_r0 : BitVec 32 := Scalar.select true_58_r0 v68_r0 arg10_r0
  let c_m1_i32_59_r0 : BitVec 32 := 4294967295#32
  let v70_r0 : BitVec 1 := Scalar.cmpi .eq v69_r0 c_m1_i32_59_r0
  let c31_i32_60_r0 : BitVec 32 := 31#32
  let v71_r0 : BitVec 32 := Scalar.select v70_r0 c31_i32_60_r0 v69_r0
  let v72_r0 : BitVec 32 := Scalar.addi v71_r0 v4
  let v97_r0 : BitVec 1 := Scalar.cmpi .ne v67_r0 v72_r0
  let c0_i32_28_r0 : BitVec 32 := 0#32
  let c1_i32_30_r0 : BitVec 32 := 1#32
  let arg5_r0 : BitVec 32 := Scf.iv c0_i32_28_r0 c1_i32_30_r0 k0_t1
  let c0_i32_55_r0 : BitVec 32 := 0#32
  let v65_r0 : BitVec 1 := Scalar.cmpi .eq arg5_r0 c0_i32_55_r0
  let v98_r0 : BitVec 1 := Scalar.ori v97_r0 v65_r0
  let c0_i32_77_r0 : BitVec 32 := 0#32
  let v99_r0 : BitVec 1 := Scalar.cmpi .sge arg5_r0 c0_i32_77_r0
  let v100_r0 : BitVec 1 := Scalar.andi v98_r0 v99_r0
  let v101_r0 : BitVec 32 := Scalar.extui v100_r0
  let c0_i32_78_r0 : BitVec 32 := 0#32
  let v102_r0 : BitVec 1 := Scalar.cmpi .ne v101_r0 c0_i32_78_r0
  v102_r0

def k0_off8 (i : grid0.Coords) (arg10_r0 : BitVec 32) : Fin 3 → Nat :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v67_r0 : BitVec 32 := Scalar.addi arg10_r0 v4
  let c0_i32_106_r0 : BitVec 32 := 0#32
  let c0_i32_107_r0 : BitVec 32 := 0#32
  ![v67_r0.toNat, 0, 0]
def k0_off9 (arg7_r0 : BitVec 32) : Fin 1 → Nat :=
  let c2_i32_103_r0 : BitVec 32 := 2#32
  let v145_r0 : BitVec 32 := Scalar.remui arg7_r0 c2_i32_103_r0
  ![v145_r0.toNat]
def k0_off10 (arg8_r0 : BitVec 32) : Fin 3 → Nat :=
  let c2_i32_82_r0 : BitVec 32 := 2#32
  let v110_r0 : BitVec 32 := Scalar.remui arg8_r0 c2_i32_82_r0
  let c0_i32_103_r1 : BitVec 32 := 0#32
  let c0_i32_104_r1 : BitVec 32 := 0#32
  ![v110_r0.toNat, 0, 0]

def k0_chk2 (arg8_r0 : BitVec 32) : Prop :=
  (∀ a, (k0_off10 arg8_r0) a + S1x64x512.size a ≤ S2x64x512.size a)
theorem k0_off10_inb : ∀ (arg8_r0 : BitVec 32) (k0_hw2 : k0_chk2 arg8_r0), ∀ a, (k0_off10 arg8_r0) a + S1x64x512.size a ≤ S2x64x512.size a := fun arg8_r0 k0_hw2 => k0_hw2

def k0_off11 (arg7_r0 : BitVec 32) : Fin 3 → Nat :=
  let c2_i32_81_r0 : BitVec 32 := 2#32
  let v109_r0 : BitVec 32 := Scalar.remui arg7_r0 c2_i32_81_r0
  let c0_i32_107_r1 : BitVec 32 := 0#32
  let c0_i32_108_r1 : BitVec 32 := 0#32
  ![v109_r0.toNat, 0, 0]

def k0_chk3 (arg7_r0 : BitVec 32) : Prop :=
  (∀ a, (k0_off11 arg7_r0) a + S1x1x64.size a ≤ S2x1x64.size a)
theorem k0_off11_inb : ∀ (arg7_r0 : BitVec 32) (k0_hw3 : k0_chk3 arg7_r0), ∀ a, (k0_off11 arg7_r0) a + S1x1x64.size a ≤ S2x1x64.size a := fun arg7_r0 k0_hw3 => k0_hw3

def k0_off12 (arg8_r0 : BitVec 32) : Fin 3 → Nat :=
  let c2_i32_103_r0 : BitVec 32 := 2#32
  let v145_r0 : BitVec 32 := Scalar.remui arg8_r0 c2_i32_103_r0
  let c0_i32_105_r0 : BitVec 32 := 0#32
  let c0_i32_106_r0 : BitVec 32 := 0#32
  ![v145_r0.toNat, 0, 0]
def k0_cond5 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v67_r0 : BitVec 32 := Scalar.addi arg10_r0 v4
  let true_62_r0 : BitVec 1 := 1#1
  let c1_i32_61_r0 : BitVec 32 := 1#32
  let v73_r0 : BitVec 32 := Scalar.addi arg10_r0 c1_i32_61_r0
  let v74_r0 : BitVec 32 := Scalar.select true_62_r0 v73_r0 arg10_r0
  let c32_i32_63_r0 : BitVec 32 := 32#32
  let v75_r0 : BitVec 1 := Scalar.cmpi .eq v74_r0 c32_i32_63_r0
  let c0_i32_64_r0 : BitVec 32 := 0#32
  let v76_r0 : BitVec 32 := Scalar.select v75_r0 c0_i32_64_r0 v74_r0
  let v77_r0 : BitVec 32 := Scalar.addi v76_r0 v4
  let v116_r0 : BitVec 1 := Scalar.cmpi .ne v67_r0 v77_r0
  let c0_i32_28_r0 : BitVec 32 := 0#32
  let c1_i32_30_r0 : BitVec 32 := 1#32
  let arg5_r0 : BitVec 32 := Scf.iv c0_i32_28_r0 c1_i32_30_r0 k0_t1
  let c31_i32_56_r0 : BitVec 32 := 31#32
  let v66_r0 : BitVec 1 := Scalar.cmpi .eq arg5_r0 c31_i32_56_r0
  let v117_r0 : BitVec 1 := Scalar.ori v116_r0 v66_r0
  let v118_r0 : BitVec 32 := Scalar.extui v117_r0
  let c0_i32_88_r0 : BitVec 32 := 0#32
  let v119_r0 : BitVec 1 := Scalar.cmpi .ne v118_r0 c0_i32_88_r0
  v119_r0

def k0_off13 (i : grid0.Coords) (arg10_r0 : BitVec 32) : Fin 2 → Nat :=
  let c64_i32_104_r0 : BitVec 32 := 64#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v67_r0 : BitVec 32 := Scalar.addi arg10_r0 v4
  let v146_r0 : BitVec 32 := Scalar.muli c64_i32_104_r0 v67_r0
  let c0_i32_107_r0 : BitVec 32 := 0#32
  ![v146_r0.toNat, 0]
def k0_off14 (arg8_r0 : BitVec 32) : Fin 1 → Nat :=
  let c2_i32_103_r0 : BitVec 32 := 2#32
  let v145_r0 : BitVec 32 := Scalar.remui arg8_r0 c2_i32_103_r0
  ![v145_r0.toNat]
def k0_off15 (arg9_r0 : BitVec 32) : Fin 3 → Nat :=
  let c2_i32_103_r0 : BitVec 32 := 2#32
  let v145_r0 : BitVec 32 := Scalar.remui arg9_r0 c2_i32_103_r0
  let c0_i32_105_r0 : BitVec 32 := 0#32
  let c0_i32_106_r0 : BitVec 32 := 0#32
  ![v145_r0.toNat, 0, 0]
def k0_cond7 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v67_r0 : BitVec 32 := Scalar.addi arg10_r0 v4
  let true_58_r0 : BitVec 1 := 1#1
  let c1_i32_57_r0 : BitVec 32 := 1#32
  let v68_r0 : BitVec 32 := Scalar.subi arg10_r0 c1_i32_57_r0
  let v69_r0 : BitVec 32 := Scalar.select true_58_r0 v68_r0 arg10_r0
  let c_m1_i32_59_r0 : BitVec 32 := 4294967295#32
  let v70_r0 : BitVec 1 := Scalar.cmpi .eq v69_r0 c_m1_i32_59_r0
  let c31_i32_60_r0 : BitVec 32 := 31#32
  let v71_r0 : BitVec 32 := Scalar.select v70_r0 c31_i32_60_r0 v69_r0
  let v72_r0 : BitVec 32 := Scalar.addi v71_r0 v4
  let v129_r0 : BitVec 1 := Scalar.cmpi .ne v67_r0 v72_r0
  let c0_i32_28_r0 : BitVec 32 := 0#32
  let c1_i32_30_r0 : BitVec 32 := 1#32
  let arg5_r0 : BitVec 32 := Scf.iv c0_i32_28_r0 c1_i32_30_r0 k0_t1
  let c0_i32_55_r0 : BitVec 32 := 0#32
  let v65_r0 : BitVec 1 := Scalar.cmpi .eq arg5_r0 c0_i32_55_r0
  let true_94_r0 : BitVec 1 := 1#1
  let v130_r0 : BitVec 1 := Scalar.xori v65_r0 true_94_r0
  let v131_r0 : BitVec 1 := Scalar.andi v129_r0 v130_r0
  let v132_r0 : BitVec 32 := Scalar.extui v131_r0
  let c0_i32_95_r0 : BitVec 32 := 0#32
  let v133_r0 : BitVec 1 := Scalar.cmpi .ne v132_r0 c0_i32_95_r0
  v133_r0

def k0_off16 (i : grid0.Coords) (arg10_r0 : BitVec 32) : Fin 2 → Nat :=
  let c64_i32_104_r0 : BitVec 32 := 64#32
  let true_58_r0 : BitVec 1 := 1#1
  let c1_i32_57_r0 : BitVec 32 := 1#32
  let v68_r0 : BitVec 32 := Scalar.subi arg10_r0 c1_i32_57_r0
  let v69_r0 : BitVec 32 := Scalar.select true_58_r0 v68_r0 arg10_r0
  let c_m1_i32_59_r0 : BitVec 32 := 4294967295#32
  let v70_r0 : BitVec 1 := Scalar.cmpi .eq v69_r0 c_m1_i32_59_r0
  let c31_i32_60_r0 : BitVec 32 := 31#32
  let v71_r0 : BitVec 32 := Scalar.select v70_r0 c31_i32_60_r0 v69_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v72_r0 : BitVec 32 := Scalar.addi v71_r0 v4
  let v146_r0 : BitVec 32 := Scalar.muli c64_i32_104_r0 v72_r0
  let c0_i32_107_r0 : BitVec 32 := 0#32
  ![v146_r0.toNat, 0]
def k0_off17 (arg9_r0 : BitVec 32) : Fin 1 → Nat :=
  let c2_i32_103_r0 : BitVec 32 := 2#32
  let v145_r0 : BitVec 32 := Scalar.remui arg9_r0 c2_i32_103_r0
  ![v145_r0.toNat]

def k0_chk1 (i : grid0.Coords) (k0_t1 : Fin k0_t1_loop.trips) (arg6_r0 : BitVec 32) (arg7_r0 : BitVec 32) (arg8_r0 : BitVec 32) (arg9_r0 : BitVec 32) (arg10_r0 : BitVec 32) : Prop :=
  (∀ (k0_h1 : k0_cond1 i k0_t1 arg10_r0 = 1#1), ∀ a, (k0_off4 arg6_r0) a + S1x1x64.size a ≤ S2x1x64.size a) ∧
  (∀ (k0_h1 : k0_cond1 i k0_t1 arg10_r0 = 1#1), ∀ a, (k0_off5 i arg10_r0) a + S1x1x64.size a ≤ S1024x1x64.size a) ∧
  (∀ (k0_h1 : k0_cond1 i k0_t1 arg10_r0 = 1#1), ∀ a, (k0_off6 arg6_r0) a + S1.size a ≤ S2.size a) ∧
  (∀ (k0_h2 : k0_cond2 i k0_t1 arg10_r0 = 1#1), ∀ a, (k0_off7 arg7_r0) a + S1x1x64.size a ≤ S2x1x64.size a) ∧
  (∀ (k0_h2 : k0_cond2 i k0_t1 arg10_r0 = 1#1), ∀ a, (k0_off8 i arg10_r0) a + S1x1x64.size a ≤ S1024x1x64.size a) ∧
  (∀ (k0_h2 : k0_cond2 i k0_t1 arg10_r0 = 1#1), ∀ a, (k0_off9 arg7_r0) a + S1.size a ≤ S2.size a) ∧
  (∀ (k0_h5 : k0_cond5 i k0_t1 arg10_r0 = 1#1), ∀ a, (k0_off12 arg8_r0) a + S1x64x512.size a ≤ S2x64x512.size a) ∧
  (∀ (k0_h5 : k0_cond5 i k0_t1 arg10_r0 = 1#1), ∀ a, (k0_off13 i arg10_r0) a + S64x512.size a ≤ S65536x512.size a) ∧
  (∀ (k0_h5 : k0_cond5 i k0_t1 arg10_r0 = 1#1), ∀ a, (k0_off14 arg8_r0) a + S1.size a ≤ S2.size a) ∧
  (∀ (k0_h7 : k0_cond7 i k0_t1 arg10_r0 = 1#1), ∀ a, (k0_off15 arg9_r0) a + S1x64x512.size a ≤ S2x64x512.size a) ∧
  (∀ (k0_h7 : k0_cond7 i k0_t1 arg10_r0 = 1#1), ∀ a, (k0_off16 i arg10_r0) a + S64x512.size a ≤ S65536x512.size a) ∧
  (∀ (k0_h7 : k0_cond7 i k0_t1 arg10_r0 = 1#1), ∀ a, (k0_off17 arg9_r0) a + S1.size a ≤ S2.size a)
theorem k0_off4_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off4 arg6_r0) a + S1x1x64.size a ≤ S2x1x64.size a := fun i k0_t1 arg6_r0 arg7_r0 arg8_r0 arg9_r0 arg10_r0 k0_hw1 k0_h1 => k0_hw1.1 k0_h1
theorem k0_off5_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off5 i arg10_r0) a + S1x1x64.size a ≤ S1024x1x64.size a := fun i k0_t1 arg6_r0 arg7_r0 arg8_r0 arg9_r0 arg10_r0 k0_hw1 k0_h1 => k0_hw1.2.1 k0_h1
theorem k0_off6_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off6 arg6_r0) a + S1.size a ≤ S2.size a := fun i k0_t1 arg6_r0 arg7_r0 arg8_r0 arg9_r0 arg10_r0 k0_hw1 k0_h1 => k0_hw1.2.2.1 k0_h1
theorem k0_off7_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off7 arg7_r0) a + S1x1x64.size a ≤ S2x1x64.size a := fun i k0_t1 arg6_r0 arg7_r0 arg8_r0 arg9_r0 arg10_r0 k0_hw1 k0_h2 => k0_hw1.2.2.2.1 k0_h2
theorem k0_off8_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off8 i arg10_r0) a + S1x1x64.size a ≤ S1024x1x64.size a := fun i k0_t1 arg6_r0 arg7_r0 arg8_r0 arg9_r0 arg10_r0 k0_hw1 k0_h2 => k0_hw1.2.2.2.2.1 k0_h2
theorem k0_off9_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off9 arg7_r0) a + S1.size a ≤ S2.size a := fun i k0_t1 arg6_r0 arg7_r0 arg8_r0 arg9_r0 arg10_r0 k0_hw1 k0_h2 => k0_hw1.2.2.2.2.2.1 k0_h2
theorem k0_off12_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off12 arg8_r0) a + S1x64x512.size a ≤ S2x64x512.size a := fun i k0_t1 arg6_r0 arg7_r0 arg8_r0 arg9_r0 arg10_r0 k0_hw1 k0_h5 => k0_hw1.2.2.2.2.2.2.1 k0_h5
theorem k0_off13_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off13 i arg10_r0) a + S64x512.size a ≤ S65536x512.size a := fun i k0_t1 arg6_r0 arg7_r0 arg8_r0 arg9_r0 arg10_r0 k0_hw1 k0_h5 => k0_hw1.2.2.2.2.2.2.2.1 k0_h5
theorem k0_off14_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off14 arg8_r0) a + S1.size a ≤ S2.size a := fun i k0_t1 arg6_r0 arg7_r0 arg8_r0 arg9_r0 arg10_r0 k0_hw1 k0_h5 => k0_hw1.2.2.2.2.2.2.2.2.1 k0_h5
theorem k0_off15_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off15 arg9_r0) a + S1x64x512.size a ≤ S2x64x512.size a := fun i k0_t1 arg6_r0 arg7_r0 arg8_r0 arg9_r0 arg10_r0 k0_hw1 k0_h7 => k0_hw1.2.2.2.2.2.2.2.2.2.1 k0_h7
theorem k0_off16_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off16 i arg10_r0) a + S64x512.size a ≤ S65536x512.size a := fun i k0_t1 arg6_r0 arg7_r0 arg8_r0 arg9_r0 arg10_r0 k0_hw1 k0_h7 => k0_hw1.2.2.2.2.2.2.2.2.2.2.1 k0_h7
theorem k0_off17_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off17 arg9_r0) a + S1.size a ≤ S2.size a := fun i k0_t1 arg6_r0 arg7_r0 arg8_r0 arg9_r0 arg10_r0 k0_hw1 k0_h7 => k0_hw1.2.2.2.2.2.2.2.2.2.2.2 k0_h7

def k0_off18 (v34_3_r0 : BitVec 32) : Fin 3 → Nat :=
  let c2_i32_48_r0 : BitVec 32 := 2#32
  let v55_r0 : BitVec 32 := Scalar.remui v34_3_r0 c2_i32_48_r0
  let c0_i32_49_r0 : BitVec 32 := 0#32
  let c0_i32_50_r0 : BitVec 32 := 0#32
  ![v55_r0.toNat, 0, 0]

def k0_off19 (i : grid0.Coords) (v34_4_r0 : BitVec 32) : Fin 2 → Nat :=
  let c64_i32_r0 : BitVec 32 := 64#32
  let true_33_r0 : BitVec 1 := 1#1
  let c1_i32_32_r0 : BitVec 32 := 1#32
  let v35_r0 : BitVec 32 := Scalar.subi v34_4_r0 c1_i32_32_r0
  let v36_r0 : BitVec 32 := Scalar.select true_33_r0 v35_r0 v34_4_r0
  let c_m1_i32_34_r0 : BitVec 32 := 4294967295#32
  let v37_r0 : BitVec 1 := Scalar.cmpi .eq v36_r0 c_m1_i32_34_r0
  let c31_i32_35_r0 : BitVec 32 := 31#32
  let v38_r0 : BitVec 32 := Scalar.select v37_r0 c31_i32_35_r0 v36_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v39_r0 : BitVec 32 := Scalar.addi v38_r0 v4
  let v56_r0 : BitVec 32 := Scalar.muli c64_i32_r0 v39_r0
  let c0_i32_51_r0 : BitVec 32 := 0#32
  ![v56_r0.toNat, 0]

def k0_chk5 (i : grid0.Coords) (v34_4_r0 : BitVec 32) : Prop :=
  (∀ a, (k0_off19 i v34_4_r0) a + S64x512.size a ≤ S65536x512.size a)
theorem k0_off19_inb : ∀ (i : grid0.Coords) (v34_4_r0 : BitVec 32) (k0_hw5 : k0_chk5 i v34_4_r0), ∀ a, (k0_off19 i v34_4_r0) a + S64x512.size a ≤ S65536x512.size a := fun i v34_4_r0 k0_hw5 => k0_hw5

def k0_off20 (v34_3_r0 : BitVec 32) : Fin 1 → Nat :=
  let c2_i32_48_r0 : BitVec 32 := 2#32
  let v55_r0 : BitVec 32 := Scalar.remui v34_3_r0 c2_i32_48_r0
  ![v55_r0.toNat]
def k0_off21 (v34_3_r0 : BitVec 32) : Fin 3 → Nat :=
  let c2_i32_48_r0 : BitVec 32 := 2#32
  let v55_r0 : BitVec 32 := Scalar.remui v34_3_r0 c2_i32_48_r0
  let c0_i32_53_r0 : BitVec 32 := 0#32
  let c0_i32_54_r0 : BitVec 32 := 0#32
  ![v55_r0.toNat, 0, 0]

def k0_chk4 (v34_3_r0 : BitVec 32) : Prop :=
  (∀ a, (k0_off18 v34_3_r0) a + S1x64x512.size a ≤ S2x64x512.size a) ∧
  (∀ a, (k0_off20 v34_3_r0) a + S1.size a ≤ S2.size a) ∧
  (∀ a, (k0_off21 v34_3_r0) a + S1x64x512.size a ≤ S2x64x512.size a)
theorem k0_off18_inb : ∀ (v34_3_r0 : BitVec 32) (k0_hw4 : k0_chk4 v34_3_r0), ∀ a, (k0_off18 v34_3_r0) a + S1x64x512.size a ≤ S2x64x512.size a := fun v34_3_r0 k0_hw4 => k0_hw4.1
theorem k0_off20_inb : ∀ (v34_3_r0 : BitVec 32) (k0_hw4 : k0_chk4 v34_3_r0), ∀ a, (k0_off20 v34_3_r0) a + S1.size a ≤ S2.size a := fun v34_3_r0 k0_hw4 => k0_hw4.2.1
theorem k0_off21_inb : ∀ (v34_3_r0 : BitVec 32) (k0_hw4 : k0_chk4 v34_3_r0), ∀ a, (k0_off21 v34_3_r0) a + S1x64x512.size a ≤ S2x64x512.size a := fun v34_3_r0 k0_hw4 => k0_hw4.2.2

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S98304x512 : Shape := ⟨2, ![98304, 512]⟩
abbrev S2x32768 : Shape := ⟨2, ![2, 32768]⟩
abbrev S65536 : Shape := ⟨1, ![65536]⟩
abbrev S_ : Shape := ⟨0, ![]⟩
abbrev S65536x1 : Shape := ⟨2, ![65536, 1]⟩
abbrev S65536x512 : Shape := ⟨2, ![65536, 512]⟩

abbrev nBuf : Space → Nat
  | .hbm => 12
  | .vmem => 0
  | .smem => 0
  | _ => 0

abbrev bufTy : (tb : Table) → Fin (tcTables nBuf tb) → BufTy
  | .hbm, ⟨0, _⟩ => ⟨S98304x512, .i32⟩
  | .hbm, ⟨1, _⟩ => ⟨S2x32768, .i32⟩
  | .hbm, ⟨2, _⟩ => ⟨S65536, .i32⟩
  | .hbm, ⟨3, _⟩ => ⟨S_, .i32⟩
  | .hbm, ⟨4, _⟩ => ⟨S65536, .i32⟩
  | .hbm, ⟨5, _⟩ => ⟨S65536, .i1⟩
  | .hbm, ⟨6, _⟩ => ⟨S_, .i32⟩
  | .hbm, ⟨7, _⟩ => ⟨S65536, .i32⟩
  | .hbm, ⟨8, _⟩ => ⟨S65536, .i32⟩
  | .hbm, ⟨9, _⟩ => ⟨S65536, .i32⟩
  | .hbm, ⟨10, _⟩ => ⟨S65536x1, .i32⟩
  | .hbm, ⟨11, _⟩ => ⟨S65536x512, .i32⟩
  | _, _ => ⟨S98304x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel2.lean ====
abbrev S4x8192x1024 : Shape := ⟨3, ![4, 8192, 1024]⟩
abbrev S4x8x1024 : Shape := ⟨3, ![4, 8, 1024]⟩
abbrev S1024 : Shape := ⟨1, ![1024]⟩
abbrev S1024x7176 : Shape := ⟨2, ![1024, 7176]⟩
abbrev S3x256 : Shape := ⟨2, ![3, 256]⟩
abbrev S256 : Shape := ⟨1, ![256]⟩
abbrev S3x512 : Shape := ⟨2, ![3, 512]⟩
abbrev S512 : Shape := ⟨1, ![512]⟩
abbrev S1024x8 : Shape := ⟨2, ![1024, 8]⟩
abbrev S1024x8x64 : Shape := ⟨3, ![1024, 8, 64]⟩
abbrev S1024x512 : Shape := ⟨2, ![1024, 512]⟩
abbrev S1024x3072 : Shape := ⟨2, ![1024, 3072]⟩
abbrev S1x1024 : Shape := ⟨2, ![1, 1024]⟩
abbrev S1x256 : Shape := ⟨2, ![1, 256]⟩
abbrev S1x512 : Shape := ⟨2, ![1, 512]⟩
abbrev S11x4x8192x256 : Shape := ⟨4, ![11, 4, 8192, 256]⟩
abbrev S4x8192x256 : Shape := ⟨3, ![4, 8192, 256]⟩
abbrev S1x512x1024 : Shape := ⟨3, ![1, 512, 1024]⟩
abbrev S1x8x1024 : Shape := ⟨3, ![1, 8, 1024]⟩
abbrev S11x1x512x256 : Shape := ⟨4, ![11, 1, 512, 256]⟩
abbrev S1x512x256 : Shape := ⟨3, ![1, 512, 256]⟩
abbrev S8x1024 : Shape := ⟨2, ![8, 1024]⟩
abbrev S512x1024 : Shape := ⟨2, ![512, 1024]⟩
abbrev S528x1024 : Shape := ⟨2, ![528, 1024]⟩
abbrev S1x1x1024 : Shape := ⟨3, ![1, 1, 1024]⟩
abbrev S528 : Shape := ⟨1, ![528]⟩
abbrev S528x1 : Shape := ⟨2, ![528, 1]⟩
abbrev S528x3072 : Shape := ⟨2, ![528, 3072]⟩
abbrev S512x512 : Shape := ⟨2, ![512, 512]⟩
abbrev S528x256 : Shape := ⟨2, ![528, 256]⟩
abbrev S512x256 : Shape := ⟨2, ![512, 256]⟩
abbrev S1x1x512x256 : Shape := ⟨4, ![1, 1, 512, 256]⟩
abbrev S528x512 : Shape := ⟨2, ![528, 512]⟩

abbrev nBuf : Space → Nat
  | .hbm => 19
  | .vmem => 19
  | .smem => 0
  | _ => 0

abbrev bufTy : (tb : Table) → Fin (tcTables nBuf tb) → BufTy
  | .hbm, ⟨0, _⟩ => ⟨S4x8192x1024, .f32⟩
  | .hbm, ⟨1, _⟩ => ⟨S4x8x1024, .f32⟩
  | .hbm, ⟨2, _⟩ => ⟨S1024, .f32⟩
  | .hbm, ⟨3, _⟩ => ⟨S1024x7176, .f32⟩
  | .hbm, ⟨4, _⟩ => ⟨S3x256, .f32⟩
  | .hbm, ⟨5, _⟩ => ⟨S256, .f32⟩
  | .hbm, ⟨6, _⟩ => ⟨S3x512, .f32⟩
  | .hbm, ⟨7, _⟩ => ⟨S512, .f32⟩
  | .hbm, ⟨8, _⟩ => ⟨S1024x8, .f32⟩
  | .hbm, ⟨9, _⟩ => ⟨S1024x8x64, .f32⟩
  | .hbm, ⟨10, _⟩ => ⟨S1024x512, .f32⟩
  | .hbm, ⟨11, _⟩ => ⟨S1024x512, .bf16⟩
  | .hbm, ⟨12, _⟩ => ⟨S1024x3072, .f32⟩
  | .hbm, ⟨13, _⟩ => ⟨S1024x3072, .bf16⟩
  | .hbm, ⟨14, _⟩ => ⟨S1x1024, .f32⟩
  | .hbm, ⟨15, _⟩ => ⟨S1x256, .f32⟩
  | .hbm, ⟨16, _⟩ => ⟨S1x512, .f32⟩
  | .hbm, ⟨17, _⟩ => ⟨S11x4x8192x256, .f32⟩
  | .hbm, ⟨18, _⟩ => ⟨S4x8192x256, .f32⟩
  | .local _ .vmem, ⟨0, _⟩ => ⟨S1x512x1024, .f32⟩
  | .local _ .vmem, ⟨1, _⟩ => ⟨S1x512x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x8x1024, .f32⟩
  | .local _ .vmem, ⟨7, _⟩ => ⟨S1x8x1024, .f32⟩
  | .local _ .vmem, ⟨8, _⟩ => ⟨S1x1024, .f32⟩
  | .local _ .vmem, ⟨9, _⟩ => ⟨S1024x3072, .bf16⟩
  | .local _ .vmem, ⟨10, _⟩ => ⟨S1024x512, .bf16⟩
  | .local _ .vmem, ⟨11, _⟩ => ⟨S3x256, .f32⟩
  | .local _ .vmem, ⟨12, _⟩ => ⟨S1x256, .f32⟩
  | .local _ .vmem, ⟨13, _⟩ => ⟨S3x512, .f32⟩
  | .local _ .vmem, ⟨14, _⟩ => ⟨S1x512, .f32⟩
  | .local _ .vmem, ⟨15, _⟩ => ⟨S11x1x512x256, .f32⟩
  | .local _ .vmem, ⟨16, _⟩ => ⟨S11x1x512x256, .f32⟩
  | .local _ .vmem, ⟨17, _⟩ => ⟨S1x512x256, .f32⟩
  | .local _ .vmem, ⟨18, _⟩ => ⟨S1x512x256, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9_0 : Ref sig .tc := ⟨.hbm, 17, rfl⟩
abbrev main_v9_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16
abbrev cc0_sem12_0 : DmaSem sig := 17
abbrev cc0_sem12_1 : DmaSem sig := 18

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c1023_i32 : BitVec 32 := 1023#32
  let v2 : BitVec 32 := Scalar.minsi v1 c1023_i32
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x3072 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S3x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S3x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S11x1x512x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Reference2Ideal.lean ====
abbrev S4x8192x1024 : Shape := ⟨3, ![4, 8192, 1024]⟩
abbrev S4x8x1024 : Shape := ⟨3, ![4, 8, 1024]⟩
abbrev S1024 : Shape := ⟨1, ![1024]⟩
abbrev S1024x7176 : Shape := ⟨2, ![1024, 7176]⟩
abbrev S3x256 : Shape := ⟨2, ![3, 256]⟩
abbrev S256 : Shape := ⟨1, ![256]⟩
abbrev S3x512 : Shape := ⟨2, ![3, 512]⟩
abbrev S512 : Shape := ⟨1, ![512]⟩
abbrev S4x1x1024 : Shape := ⟨3, ![4, 1, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S1024x3080 : Shape := ⟨2, ![1024, 3080]⟩
abbrev S4x8192x3080 : Shape := ⟨3, ![4, 8192, 3080]⟩
abbrev S4x8192x256 : Shape := ⟨3, ![4, 8192, 256]⟩
abbrev S4x8192x8 : Shape := ⟨3, ![4, 8192, 8]⟩
abbrev S4x8192x8x64 : Shape := ⟨4, ![4, 8192, 8, 64]⟩
abbrev S4x8192x512 : Shape := ⟨3, ![4, 8192, 512]⟩
abbrev S4x8194x256 : Shape := ⟨3, ![4, 8194, 256]⟩
abbrev S1x256 : Shape := ⟨2, ![1, 256]⟩
abbrev S1x1x256 : Shape := ⟨3, ![1, 1, 256]⟩
abbrev S1x4x8192x256 : Shape := ⟨4, ![1, 4, 8192, 256]⟩
abbrev S11x4x8192x256 : Shape := ⟨4, ![11, 4, 8192, 256]⟩

abbrev nBuf : Space → Nat
  | .hbm => 166
  | .vmem => 0
  | .smem => 0
  | _ => 0

abbrev hbmTy0_0 (i : Nat) : BufTy := match i % 128 with
  | 0 => ⟨S4x8192x1024, .f32⟩
  | 1 => ⟨S4x8x1024, .f32⟩
  | 2 => ⟨S1024, .f32⟩
  | 3 => ⟨S1024x7176, .f32⟩
  | 4 => ⟨S3x256, .f32⟩
  | 5 => ⟨S256, .f32⟩
  | 6 => ⟨S3x512, .f32⟩
  | 7 => ⟨S512, .f32⟩
  | 8 => ⟨S4x1x1024, .f32⟩
  | 9 => ⟨S4x1x1024, .f32⟩
  | 10 => ⟨S4x8192x1024, .f32⟩
  | 11 => ⟨S_, .f32⟩
  | 12 => ⟨S4x8192, .f32⟩
  | 13 => ⟨S4x8192x1, .f32⟩
  | 14 => ⟨S_, .f32⟩
  | 15 => ⟨S4x8192x1, .f32⟩
  | 16 => ⟨S4x8192x1, .f32⟩
  | 17 => ⟨S_, .f32⟩
  | 18 => ⟨S4x8192x1, .f32⟩
  | 19 => ⟨S4x8192x1, .f32⟩
  | 20 => ⟨S4x8192x1, .f32⟩
  | 21 => ⟨S4x8192x1024, .f32⟩
  | 22 => ⟨S4x8192x1024, .f32⟩
  | 23 => ⟨S1x1x1024, .f32⟩
  | 24 => ⟨S4x8192x1024, .f32⟩
  | 25 => ⟨S4x8192x1024, .f32⟩
  | 26 => ⟨S_, .f32⟩
  | 27 => ⟨S4x1x1024, .f32⟩
  | 28 => ⟨S4x1x1024, .f32⟩
  | 29 => ⟨S4x8192x1024, .f32⟩
  | 30 => ⟨S4x8192x1024, .f32⟩
  | 31 => ⟨S4x8192x1024, .f32⟩
  | 32 => ⟨S4x8192x1024, .f32⟩
  | 33 => ⟨S1024x3080, .f32⟩
  | 34 => ⟨S4x8192x3080, .f32⟩
  | 35 => ⟨S4x8192x256, .f32⟩
  | 36 => ⟨S4x8192x256, .f32⟩
  | 37 => ⟨S4x8192x256, .f32⟩
  | 38 => ⟨S4x8192x256, .f32⟩
  | 39 => ⟨S4x8192x256, .f32⟩
  | 40 => ⟨S4x8192x256, .f32⟩
  | 41 => ⟨S4x8192x256, .f32⟩
  | 42 => ⟨S4x8192x256, .f32⟩
  | 43 => ⟨S4x8192x256, .f32⟩
  | 44 => ⟨S4x8192x256, .f32⟩
  | 45 => ⟨S4x8192x256, .f32⟩
  | 46 => ⟨S4x8192x256, .f32⟩
  | 47 => ⟨S4x8192x8, .f32⟩
  | 48 => ⟨S4x8192x8x64, .f32⟩
  | 49 => ⟨S4x8192x512, .f32⟩
  | 50 => ⟨S4x8192x256, .f32⟩
  | 51 => ⟨S_, .i32⟩
  | 52 => ⟨S_, .f32⟩
  | 53 => ⟨S4x8194x256, .f32⟩
  | 54 => ⟨S4x8192x256, .f32⟩
  | 55 => ⟨S1x256, .f32⟩
  | 56 => ⟨S256, .f32⟩
  | 57 => ⟨S1x1x256, .f32⟩
  | 58 => ⟨S4x8192x256, .f32⟩
  | 59 => ⟨S4x8192x256, .f32⟩
  | 60 => ⟨S4x8192x256, .f32⟩
  | 61 => ⟨S1x256, .f32⟩
  | 62 => ⟨S256, .f32⟩
  | 63 => ⟨S1x1x256, .f32⟩
  | 64 => ⟨S4x8192x256, .f32⟩
  | 65 => ⟨S4x8192x256, .f32⟩
  | 66 => ⟨S4x8192x256, .f32⟩
  | 67 => ⟨S4x8192x256, .f32⟩
  | 68 => ⟨S1x256, .f32⟩
  | 69 => ⟨S256, .f32⟩
  | 70 => ⟨S1x1x256, .f32⟩
  | 71 => ⟨S4x8192x256, .f32⟩
  | 72 => ⟨S4x8192x256, .f32⟩
  | 73 => ⟨S4x8192x256, .f32⟩
  | 74 => ⟨S1x1x256, .f32⟩
  | 75 => ⟨S4x8192x256, .f32⟩
  | 76 => ⟨S4x8192x256, .f32⟩
  | 77 => ⟨S4x8192x256, .f32⟩
  | 78 => ⟨S3x256, .f32⟩
  | 79 => ⟨S256, .f32⟩
  | 80 => ⟨S_, .i32⟩
  | 81 => ⟨S_, .f32⟩
  | 82 => ⟨S4x8194x256, .f32⟩
  | 83 => ⟨S4x8192x256, .f32⟩
  | 84 => ⟨S1x256, .f32⟩
  | 85 => ⟨S256, .f32⟩
  | 86 => ⟨S1x1x256, .f32⟩
  | 87 => ⟨S4x8192x256, .f32⟩
  | 88 => ⟨S4x8192x256, .f32⟩
  | 89 => ⟨S4x8192x256, .f32⟩
  | 90 => ⟨S1x256, .f32⟩
  | 91 => ⟨S256, .f32⟩
  | 92 => ⟨S1x1x256, .f32⟩
  | 93 => ⟨S4x8192x256, .f32⟩
  | 94 => ⟨S4x8192x256, .f32⟩
  | 95 => ⟨S4x8192x256, .f32⟩
  | 96 => ⟨S4x8192x256, .f32⟩
  | 97 => ⟨S1x256, .f32⟩
  | 98 => ⟨S256, .f32⟩
  | 99 => ⟨S1x1x256, .f32⟩
  | 100 => ⟨S4x8192x256, .f32⟩
  | 101 => ⟨S4x8192x256, .f32⟩
  | 102 => ⟨S4x8192x256, .f32⟩
  | 103 => ⟨S1x1x256, .f32⟩
  | 104 => ⟨S4x8192x256, .f32⟩
  | 105 => ⟨S4x8192x256, .f32⟩
  | 106 => ⟨S4x8192x256, .f32⟩
  | 107 => ⟨S4x8192x256, .f32⟩
  | 108 => ⟨S_, .f32⟩
  | 109 => ⟨S4x8192x256, .f32⟩
  | 110 => ⟨S4x8192x256, .f32⟩
  | 111 => ⟨S_, .f32⟩
  | 112 => ⟨S4x8192x256, .f32⟩
  | 113 => ⟨S4x8192x256, .f32⟩
  | 114 => ⟨S4x8192x256, .f32⟩
  | 115 => ⟨S3x256, .f32⟩
  | 116 => ⟨S256, .f32⟩
  | 117 => ⟨S_, .i32⟩
  | 118 => ⟨S_, .f32⟩
  | 119 => ⟨S4x8194x256, .f32⟩
  | 120 => ⟨S4x8192x256, .f32⟩
  | 121 => ⟨S1x256, .f32⟩
  | 122 => ⟨S256, .f32⟩
  | 123 => ⟨S1x1x256, .f32⟩
  | 124 => ⟨S4x8192x256, .f32⟩
  | 125 => ⟨S4x8192x256, .f32⟩
  | 126 => ⟨S4x8192x256, .f32⟩
  | 127 => ⟨S1x256, .f32⟩
  | _ => ⟨S4x8192x1024, .f32⟩

abbrev hbmTy0_1 (i : Nat) : BufTy := match i % 128 with
  | 0 => ⟨S256, .f32⟩
  | 1 => ⟨S1x1x256, .f32⟩
  | 2 => ⟨S4x8192x256, .f32⟩
  | 3 => ⟨S4x8192x256, .f32⟩
  | 4 => ⟨S4x8192x256, .f32⟩
  | 5 => ⟨S4x8192x256, .f32⟩
  | 6 => ⟨S1x256, .f32⟩
  | 7 => ⟨S256, .f32⟩
  | 8 => ⟨S1x1x256, .f32⟩
  | 9 => ⟨S4x8192x256, .f32⟩
  | 10 => ⟨S4x8192x256, .f32⟩
  | 11 => ⟨S4x8192x256, .f32⟩
  | 12 => ⟨S1x1x256, .f32⟩
  | 13 => ⟨S4x8192x256, .f32⟩
  | 14 => ⟨S4x8192x256, .f32⟩
  | 15 => ⟨S4x8192x256, .f32⟩
  | 16 => ⟨S4x8192x256, .f32⟩
  | 17 => ⟨S_, .f32⟩
  | 18 => ⟨S4x8192x256, .f32⟩
  | 19 => ⟨S4x8192x256, .f32⟩
  | 20 => ⟨S_, .f32⟩
  | 21 => ⟨S4x8192x256, .f32⟩
  | 22 => ⟨S4x8192x256, .f32⟩
  | 23 => ⟨S4x8192x256, .f32⟩
  | 24 => ⟨S4x8192x256, .f32⟩
  | 25 => ⟨S4x8192x256, .f32⟩
  | 26 => ⟨S1x4x8192x256, .f32⟩
  | 27 => ⟨S1x4x8192x256, .f32⟩
  | 28 => ⟨S1x4x8192x256, .f32⟩
  | 29 => ⟨S1x4x8192x256, .f32⟩
  | 30 => ⟨S1x4x8192x256, .f32⟩
  | 31 => ⟨S1x4x8192x256, .f32⟩
  | 32 => ⟨S1x4x8192x256, .f32⟩
  | 33 => ⟨S1x4x8192x256, .f32⟩
  | 34 => ⟨S1x4x8192x256, .f32⟩
  | 35 => ⟨S1x4x8192x256, .f32⟩
  | 36 => ⟨S1x4x8192x256, .f32⟩
  | 37 => ⟨S11x4x8192x256, .f32⟩
  | _ => ⟨S4x8192x1024, .f32⟩

abbrev hbmTy (i : Nat) : BufTy := match i / 128 with
  | 0 => hbmTy0_0 i
  | 1 => hbmTy0_1 i
  | _ => ⟨S4x8192x1024, .f32⟩

abbrev bufTy : (tb : Table) → Fin (tcTables nBuf tb) → BufTy
  | .hbm, ⟨i, _⟩ => hbmTy i
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_c : Ref sig .tc := ⟨.hbm, 51, rfl⟩
abbrev main_call0_v0 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_c_3 : Ref sig .tc := ⟨.hbm, 80, rfl⟩
abbrev main_call1_v0 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_cst_4 : Ref sig .tc := ⟨.hbm, 108, rfl⟩
abbrev main_v92 : Ref sig .tc := ⟨.hbm, 109, rfl⟩
abbrev main_v93 : Ref sig .tc := ⟨.hbm, 110, rfl⟩
abbrev main_cst_5 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_c_6 : Ref sig .tc := ⟨.hbm, 117, rfl⟩
abbrev main_call2_v0 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_v120 : Ref sig .tc := ⟨.hbm, 140, rfl⟩
abbrev main_v121 : Ref sig .tc := ⟨.hbm, 141, rfl⟩
abbrev main_v122 : Ref sig .tc := ⟨.hbm, 142, rfl⟩
abbrev main_v123 : Ref sig .tc := ⟨.hbm, 143, rfl⟩
abbrev main_v124 : Ref sig .tc := ⟨.hbm, 144, rfl⟩
abbrev main_cst_7 : Ref sig .tc := ⟨.hbm, 145, rfl⟩
abbrev main_v125 : Ref sig .tc := ⟨.hbm, 146, rfl⟩
abbrev main_v126 : Ref sig .tc := ⟨.hbm, 147, rfl⟩
abbrev main_cst_8 : Ref sig .tc := ⟨.hbm, 148, rfl⟩
abbrev main_v127 : Ref sig .tc := ⟨.hbm, 149, rfl⟩
abbrev main_v128 : Ref sig .tc := ⟨.hbm, 150, rfl⟩
abbrev main_v129 : Ref sig .tc := ⟨.hbm, 151, rfl⟩
abbrev main_v130 : Ref sig .tc := ⟨.hbm, 152, rfl⟩
abbrev main_v131 : Ref sig .tc := ⟨.hbm, 153, rfl⟩
abbrev main_v132 : Ref sig .tc := ⟨.hbm, 154, rfl⟩
abbrev main_v133 : Ref sig .tc := ⟨.hbm, 155, rfl⟩
abbrev main_v134 : Ref sig .tc := ⟨.hbm, 156, rfl⟩
abbrev main_v135 : Ref sig .tc := ⟨.hbm, 157, rfl⟩
abbrev main_v136 : Ref sig .tc := ⟨.hbm, 158, rfl⟩
abbrev main_v137 : Ref sig .tc := ⟨.hbm, 159, rfl⟩
abbrev main_v138 : Ref sig .tc := ⟨.hbm, 160, rfl⟩
abbrev main_v139 : Ref sig .tc := ⟨.hbm, 161, rfl⟩
abbrev main_v140 : Ref sig .tc := ⟨.hbm, 162, rfl⟩
abbrev main_v141 : Ref sig .tc := ⟨.hbm, 163, rfl⟩
abbrev main_v142 : Ref sig .tc := ⟨.hbm, 164, rfl⟩
abbrev main_v143 : Ref sig .tc := ⟨.hbm, 165, rfl⟩

abbrev nD : Nat := 1
abbrev τ : Topo := Topo.v7x

variable {F : FTy → Type} [FloatOps F]
-- ==== Kernel3.lean ====
abbrev S4x8192x1024 : Shape := ⟨3, ![4, 8192, 1024]⟩
abbrev S11x4x8192x256 : Shape := ⟨4, ![11, 4, 8192, 256]⟩
abbrev S4x8192x256 : Shape := ⟨3, ![4, 8192, 256]⟩
abbrev S4x8x1024 : Shape := ⟨3, ![4, 8, 1024]⟩
abbrev S1024 : Shape := ⟨1, ![1024]⟩
abbrev S1024x7176 : Shape := ⟨2, ![1024, 7176]⟩
abbrev S4x256x1024 : Shape := ⟨3, ![4, 256, 1024]⟩
abbrev S1024x1024 : Shape := ⟨2, ![1024, 1024]⟩
abbrev S64 : Shape := ⟨1, ![64]⟩
abbrev S4 : Shape := ⟨1, ![4]⟩
abbrev S256 : Shape := ⟨1, ![256]⟩
abbrev S1024x4 : Shape := ⟨2, ![1024, 4]⟩
abbrev S1024x32 : Shape := ⟨2, ![1024, 32]⟩
abbrev S32 : Shape := ⟨1, ![32]⟩
abbrev S256x256 : Shape := ⟨2, ![256, 256]⟩
abbrev S_ : Shape := ⟨0, ![]⟩
abbrev S1024x4096 : Shape := ⟨2, ![1024, 4096]⟩
abbrev S1x64 : Shape := ⟨2, ![1, 64]⟩
abbrev S4x64 : Shape := ⟨2, ![4, 64]⟩
abbrev S1x256 : Shape := ⟨2, ![1, 256]⟩
abbrev S4x1024 : Shape := ⟨2, ![4, 1024]⟩
abbrev S32x1024 : Shape := ⟨2, ![32, 1024]⟩
abbrev S40x1024 : Shape := ⟨2, ![40, 1024]⟩
abbrev S40 : Shape := ⟨1, ![40]⟩
abbrev S40x1 : Shape := ⟨2, ![40, 1]⟩
abbrev S1x1024 : Shape := ⟨2, ![1, 1024]⟩
abbrev S32768x1024 : Shape := ⟨2, ![32768, 1024]⟩
abbrev S8x32768 : Shape := ⟨2, ![8, 32768]⟩
abbrev S1x512x1024 : Shape := ⟨3, ![1, 512, 1024]⟩
abbrev S1x1x512x256 : Shape := ⟨4, ![1, 1, 512, 256]⟩
abbrev S1x512x256 : Shape := ⟨3, ![1, 512, 256]⟩
abbrev S1x8x1024 : Shape := ⟨3, ![1, 8, 1024]⟩
abbrev S512x1024 : Shape := ⟨2, ![512, 1024]⟩
abbrev S8x512 : Shape := ⟨2, ![8, 512]⟩
abbrev S1x1x1024 : Shape := ⟨3, ![1, 1, 1024]⟩
abbrev S512 : Shape := ⟨1, ![512]⟩
abbrev S512x1 : Shape := ⟨2, ![512, 1]⟩
abbrev S512x256 : Shape := ⟨2, ![512, 256]⟩
abbrev S1x256x1024 : Shape := ⟨3, ![1, 256, 1024]⟩
abbrev S256x1024 : Shape := ⟨2, ![256, 1024]⟩
abbrev S40x3072 : Shape := ⟨2, ![40, 3072]⟩
abbrev S512x3072 : Shape := ⟨2, ![512, 3072]⟩
abbrev S40x512 : Shape := ⟨2, ![40, 512]⟩
abbrev S4x512 : Shape := ⟨2, ![4, 512]⟩
abbrev S1x512 : Shape := ⟨2, ![1, 512]⟩

abbrev nBuf : Space → Nat
  | .hbm => 67
  | .vmem => 46
  | .smem => 0
  | _ => 0

abbrev bufTy : (tb : Table) → Fin (tcTables nBuf tb) → BufTy
  | .hbm, ⟨0, _⟩ => ⟨S4x8192x1024, .f32⟩
  | .hbm, ⟨1, _⟩ => ⟨S11x4x8192x256, .f32⟩
  | .hbm, ⟨2, _⟩ => ⟨S4x8192x256, .f32⟩
  | .hbm, ⟨3, _⟩ => ⟨S4x8192x256, .f32⟩
  | .hbm, ⟨4, _⟩ => ⟨S4x8192x256, .f32⟩
  | .hbm, ⟨5, _⟩ => ⟨S4x8192x256, .f32⟩
  | .hbm, ⟨6, _⟩ => ⟨S4x8192x256, .f32⟩
  | .hbm, ⟨7, _⟩ => ⟨S4x8192x256, .f32⟩
  | .hbm, ⟨8, _⟩ => ⟨S4x8192x256, .f32⟩
  | .hbm, ⟨9, _⟩ => ⟨S4x8x1024, .f32⟩
  | .hbm, ⟨10, _⟩ => ⟨S1024, .f32⟩
  | .hbm, ⟨11, _⟩ => ⟨S1024, .f32⟩
  | .hbm, ⟨12, _⟩ => ⟨S1024x7176, .f32⟩
  | .hbm, ⟨13, _⟩ => ⟨S4x256x1024, .f32⟩
  | .hbm, ⟨14, _⟩ => ⟨S1024x1024, .f32⟩
  | .hbm, ⟨15, _⟩ => ⟨S64, .f32⟩
  | .hbm, ⟨16, _⟩ => ⟨S4, .f32⟩
  | .hbm, ⟨17, _⟩ => ⟨S256, .f32⟩
  | .hbm, ⟨18, _⟩ => ⟨S1024x4, .f32⟩
  | .hbm, ⟨19, _⟩ => ⟨S4, .f32⟩
  | .hbm, ⟨20, _⟩ => ⟨S1024x32, .f32⟩
  | .hbm, ⟨21, _⟩ => ⟨S32, .f32⟩
  | .hbm, ⟨22, _⟩ => ⟨S256x256, .i32⟩
  | .hbm, ⟨23, _⟩ => ⟨S256x256, .i32⟩
  | .hbm, ⟨24, _⟩ => ⟨S_, .i32⟩
  | .hbm, ⟨25, _⟩ => ⟨S256x256, .i32⟩
  | .hbm, ⟨26, _⟩ => ⟨S256x256, .i32⟩
  | .hbm, ⟨27, _⟩ => ⟨S_, .i32⟩
  | .hbm, ⟨28, _⟩ => ⟨S256x256, .i32⟩
  | .hbm, ⟨29, _⟩ => ⟨S256x256, .i32⟩
  | .hbm, ⟨30, _⟩ => ⟨S256x256, .i1⟩
  | .hbm, ⟨31, _⟩ => ⟨S256x256, .bf16⟩
  | .hbm, ⟨32, _⟩ => ⟨S_, .i32⟩
  | .hbm, ⟨33, _⟩ => ⟨S256x256, .i32⟩
  | .hbm, ⟨34, _⟩ => ⟨S256x256, .i32⟩
  | .hbm, ⟨35, _⟩ => ⟨S_, .i32⟩
  | .hbm, ⟨36, _⟩ => ⟨S256x256, .i32⟩
  | .hbm, ⟨37, _⟩ => ⟨S256x256, .i32⟩
  | .hbm, ⟨38, _⟩ => ⟨S256x256, .i1⟩
  | .hbm, ⟨39, _⟩ => ⟨S256x256, .bf16⟩
  | .hbm, ⟨40, _⟩ => ⟨S1024x4096, .f32⟩
  | .hbm, ⟨41, _⟩ => ⟨S1024x4096, .bf16⟩
  | .hbm, ⟨42, _⟩ => ⟨S1x64, .f32⟩
  | .hbm, ⟨43, _⟩ => ⟨S4x64, .f32⟩
  | .hbm, ⟨44, _⟩ => ⟨S256, .f32⟩
  | .hbm, ⟨45, _⟩ => ⟨S1x256, .f32⟩
  | .hbm, ⟨46, _⟩ => ⟨S4x64, .f32⟩
  | .hbm, ⟨47, _⟩ => ⟨S256, .f32⟩
  | .hbm, ⟨48, _⟩ => ⟨S1x256, .f32⟩
  | .hbm, ⟨49, _⟩ => ⟨S4x256x1024, .bf16⟩
  | .hbm, ⟨50, _⟩ => ⟨S1024x1024, .bf16⟩
  | .hbm, ⟨51, _⟩ => ⟨S4x1024, .f32⟩
  | .hbm, ⟨52, _⟩ => ⟨S_, .f32⟩
  | .hbm, ⟨53, _⟩ => ⟨S4x1024, .f32⟩
  | .hbm, ⟨54, _⟩ => ⟨S32x1024, .f32⟩
  | .hbm, ⟨55, _⟩ => ⟨S40x1024, .f32⟩
  | .hbm, ⟨56, _⟩ => ⟨S_, .f32⟩
  | .hbm, ⟨57, _⟩ => ⟨S4, .f32⟩
  | .hbm, ⟨58, _⟩ => ⟨S40, .f32⟩
  | .hbm, ⟨59, _⟩ => ⟨S40x1, .f32⟩
  | .hbm, ⟨60, _⟩ => ⟨S1x1024, .f32⟩
  | .hbm, ⟨61, _⟩ => ⟨S1x1024, .f32⟩
  | .hbm, ⟨62, _⟩ => ⟨S1x256, .f32⟩
  | .hbm, ⟨63, _⟩ => ⟨S4x8192x1024, .f32⟩
  | .hbm, ⟨64, _⟩ => ⟨S32768x1024, .bf16⟩
  | .hbm, ⟨65, _⟩ => ⟨S8x32768, .i32⟩
  | .hbm, ⟨66, _⟩ => ⟨S8x32768, .f32⟩
  | .local _ .vmem, ⟨0, _⟩ => ⟨S1x512x1024, .f32⟩
  | .local _ .vmem, ⟨1, _⟩ => ⟨S1x512x1024, .f32⟩
  | .local _ .vmem, ⟨2, _⟩ => ⟨S1x1x512x256, .f32⟩
  | .local _ .vmem, ⟨3, _⟩ => ⟨S1x1x512x256, .f32⟩
  | .local _ .vmem, ⟨4, _⟩ => ⟨S1x1x512x256, .f32⟩
  | .local _ .vmem, ⟨5, _⟩ => ⟨S1x1x512x256, .f32⟩
  | .local _ .vmem, ⟨6, _⟩ => ⟨S1x1x512x256, .f32⟩
  | .local _ .vmem, ⟨7, _⟩ => ⟨S1x1x512x256, .f32⟩
  | .local _ .vmem, ⟨8, _⟩ => ⟨S1x1x512x256, .f32⟩
  | .local _ .vmem, ⟨9, _⟩ => ⟨S1x1x512x256, .f32⟩
  | .local _ .vmem, ⟨10, _⟩ => ⟨S1x512x256, .f32⟩
  | .local _ .vmem, ⟨11, _⟩ => ⟨S1x512x256, .f32⟩
  | .local _ .vmem, ⟨12, _⟩ => ⟨S1x512x256, .f32⟩
  | .local _ .vmem, ⟨13, _⟩ => ⟨S1x512x256, .f32⟩
  | .local _ .vmem, ⟨14, _⟩ => ⟨S1x512x256, .f32⟩
  | .local _ .vmem, ⟨15, _⟩ => ⟨S1x512x256, .f32⟩
  | .local _ .vmem, ⟨16, _⟩ => ⟨S1x512x256, .f32⟩
  | .local _ .vmem, ⟨17, _⟩ => ⟨S1x512x256, .f32⟩
  | .local _ .vmem, ⟨18, _⟩ => ⟨S1x512x256, .f32⟩
  | .local _ .vmem, ⟨19, _⟩ => ⟨S1x512x256, .f32⟩
  | .local _ .vmem, ⟨20, _⟩ => ⟨S1x512x256, .f32⟩
  | .local _ .vmem, ⟨21, _⟩ => ⟨S1x512x256, .f32⟩
  | .local _ .vmem, ⟨22, _⟩ => ⟨S1x512x256, .f32⟩
  | .local _ .vmem, ⟨23, _⟩ => ⟨S1x512x256, .f32⟩
  | .local _ .vmem, ⟨24, _⟩ => ⟨S1x8x1024, .f32⟩
  | .local _ .vmem, ⟨25, _⟩ => ⟨S1x8x1024, .f32⟩
  | .local _ .vmem, ⟨26, _⟩ => ⟨S1x1024, .f32⟩
  | .local _ .vmem, ⟨27, _⟩ => ⟨S1x1024, .f32⟩
  | .local _ .vmem, ⟨28, _⟩ => ⟨S1024x4096, .bf16⟩
  | .local _ .vmem, ⟨29, _⟩ => ⟨S4x256x1024, .bf16⟩
  | .local _ .vmem, ⟨30, _⟩ => ⟨S1024x1024, .bf16⟩
  | .local _ .vmem, ⟨31, _⟩ => ⟨S1x256, .f32⟩
  | .local _ .vmem, ⟨32, _⟩ => ⟨S1x256, .f32⟩
  | .local _ .vmem, ⟨33, _⟩ => ⟨S1x256, .f32⟩
  | .local _ .vmem, ⟨34, _⟩ => ⟨S256x256, .bf16⟩
  | .local _ .vmem, ⟨35, _⟩ => ⟨S256x256, .bf16⟩
  | .local _ .vmem, ⟨36, _⟩ => ⟨S40x1024, .f32⟩
  | .local _ .vmem, ⟨37, _⟩ => ⟨S40x1, .f32⟩
  | .local _ .vmem, ⟨38, _⟩ => ⟨S1x512x1024, .f32⟩
  | .local _ .vmem, ⟨39, _⟩ => ⟨S1x512x1024, .f32⟩
  | .local _ .vmem, ⟨40, _⟩ => ⟨S512x1024, .bf16⟩
  | .local _ .vmem, ⟨41, _⟩ => ⟨S512x1024, .bf16⟩
  | .local _ .vmem, ⟨42, _⟩ => ⟨S8x512, .i32⟩
  | .local _ .vmem, ⟨43, _⟩ => ⟨S8x512, .i32⟩
  | .local _ .vmem, ⟨44, _⟩ => ⟨S8x512, .f32⟩
  | .local _ .vmem, ⟨45, _⟩ => ⟨S8x512, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_c : Ref sig .tc := ⟨.hbm, 24, rfl⟩
abbrev main_v2 : Ref sig .tc := ⟨.hbm, 25, rfl⟩
abbrev main_v3 : Ref sig .tc := ⟨.hbm, 26, rfl⟩
abbrev main_c_0 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_c_1 : Ref sig .tc := ⟨.hbm, 32, rfl⟩
abbrev main_v8 : Ref sig .tc := ⟨.hbm, 33, rfl⟩
abbrev main_v9 : Ref sig .tc := ⟨.hbm, 34, rfl⟩
abbrev main_c_2 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_cst : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_cst_3 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35_0 : Ref sig .tc := ⟨.hbm, 63, rfl⟩
abbrev main_v35_1 : Ref sig .tc := ⟨.hbm, 64, rfl⟩
abbrev main_v35_2 : Ref sig .tc := ⟨.hbm, 65, rfl⟩
abbrev main_v35_3 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg14_0 : Ref sig .tc := ⟨.vmem, 27, rfl⟩
abbrev cc0_stg15_0 : Ref sig .tc := ⟨.vmem, 28, rfl⟩
abbrev cc0_stg16_0 : Ref sig .tc := ⟨.vmem, 29, rfl⟩
abbrev cc0_stg17_0 : Ref sig .tc := ⟨.vmem, 30, rfl⟩
abbrev cc0_stg18_0 : Ref sig .tc := ⟨.vmem, 31, rfl⟩
abbrev cc0_stg19_0 : Ref sig .tc := ⟨.vmem, 32, rfl⟩
abbrev cc0_stg20_0 : Ref sig .tc := ⟨.vmem, 33, rfl⟩
abbrev cc0_stg21_0 : Ref sig .tc := ⟨.vmem, 34, rfl⟩
abbrev cc0_stg22_0 : Ref sig .tc := ⟨.vmem, 35, rfl⟩
abbrev cc0_stg23_0 : Ref sig .tc := ⟨.vmem, 36, rfl⟩
abbrev cc0_stg24_0 : Ref sig .tc := ⟨.vmem, 37, rfl⟩
abbrev cc0_stg25_0 : Ref sig .tc := ⟨.vmem, 38, rfl⟩
abbrev cc0_stg25_1 : Ref sig .tc := ⟨.vmem, 39, rfl⟩
abbrev cc0_stg26_0 : Ref sig .tc := ⟨.vmem, 40, rfl⟩
abbrev cc0_stg26_1 : Ref sig .tc := ⟨.vmem, 41, rfl⟩
abbrev cc0_stg27_0 : Ref sig .tc := ⟨.vmem, 42, rfl⟩
abbrev cc0_stg27_1 : Ref sig .tc := ⟨.vmem, 43, rfl⟩
abbrev cc0_stg28_0 : Ref sig .tc := ⟨.vmem, 44, rfl⟩
abbrev cc0_stg28_1 : Ref sig .tc := ⟨.vmem, 45, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem14_0 : DmaSem sig := 27
abbrev cc0_sem15_0 : DmaSem sig := 28
abbrev cc0_sem16_0 : DmaSem sig := 29
abbrev cc0_sem17_0 : DmaSem sig := 30
abbrev cc0_sem18_0 : DmaSem sig := 31
abbrev cc0_sem19_0 : DmaSem sig := 32
abbrev cc0_sem20_0 : DmaSem sig := 33
abbrev cc0_sem21_0 : DmaSem sig := 34
abbrev cc0_sem22_0 : DmaSem sig := 35
abbrev cc0_sem23_0 : DmaSem sig := 36
abbrev cc0_sem24_0 : DmaSem sig := 37
abbrev cc0_sem25_0 : DmaSem sig := 38
abbrev cc0_sem25_1 : DmaSem sig := 39
abbrev cc0_sem26_0 : DmaSem sig := 40
abbrev cc0_sem26_1 : DmaSem sig := 41
abbrev cc0_sem27_0 : DmaSem sig := 42
abbrev cc0_sem27_1 : DmaSem sig := 43
abbrev cc0_sem28_0 : DmaSem sig := 44
abbrev cc0_sem28_1 : DmaSem sig := 45

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c5_i32 : BitVec 32 := 5#32
  let c0_i32 : BitVec 32 := 0#32
  let c0_i32_0 : BitVec 32 := 0#32
  ![c5_i32.toNat, arg0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c6_i32 : BitVec 32 := 6#32
  let c0_i32 : BitVec 32 := 0#32
  let c0_i32_0 : BitVec 32 := 0#32
  ![c6_i32.toNat, arg0.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let c7_i32 : BitVec 32 := 7#32
  let c0_i32 : BitVec 32 := 0#32
  let c0_i32_0 : BitVec 32 := 0#32
  ![c7_i32.toNat, arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_26 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![v2.toNat, c0_i32_0.toNat]

def cc0_transform_27 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![c0_i32.toNat, v1.toNat]

def cc0_transform_28 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![c0_i32.toNat, v1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x8x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1024x4096 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S4x256x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S1024x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S1x256 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 1 → Memref sig .tc .vmem S1x256 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]

abbrev stage0_20 : Fin 1 → Memref sig .tc .vmem S1x256 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false, false]

abbrev stage0_21 : Fin 1 → Memref sig .tc .vmem S256x256 .bf16 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false, false]

abbrev stage0_22 : Fin 1 → Memref sig .tc .vmem S256x256 .bf16 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false, false]

abbrev stage0_23 : Fin 1 → Memref sig .tc .vmem S40x1024 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false, false]

abbrev stage0_24 : Fin 1 → Memref sig .tc .vmem S40x1 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false, false]

abbrev stage0_25 : Fin 2 → Memref sig .tc .vmem S1x512x1024 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true, true]

abbrev stage0_26 : Fin 2 → Memref sig .tc .vmem S512x1024 .bf16 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true, true]

abbrev stage0_27 : Fin 2 → Memref sig .tc .vmem S8x512 .i32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true, true]

abbrev stage0_28 : Fin 2 → Memref sig .tc .vmem S8x512 .f32 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true, true]
-- ==== Reference3Ideal.lean ====
abbrev S4x8192x1024 : Shape := ⟨3, ![4, 8192, 1024]⟩
abbrev S11x4x8192x256 : Shape := ⟨4, ![11, 4, 8192, 256]⟩
abbrev S4x8192x256 : Shape := ⟨3, ![4, 8192, 256]⟩
abbrev S4x8x1024 : Shape := ⟨3, ![4, 8, 1024]⟩
abbrev S1024 : Shape := ⟨1, ![1024]⟩
abbrev S1024x7176 : Shape := ⟨2, ![1024, 7176]⟩
abbrev S4x256x1024 : Shape := ⟨3, ![4, 256, 1024]⟩
abbrev S1024x1024 : Shape := ⟨2, ![1024, 1024]⟩
abbrev S64 : Shape := ⟨1, ![64]⟩
abbrev S4 : Shape := ⟨1, ![4]⟩
abbrev S256 : Shape := ⟨1, ![256]⟩
abbrev S1024x4 : Shape := ⟨2, ![1024, 4]⟩
abbrev S1024x32 : Shape := ⟨2, ![1024, 32]⟩
abbrev S32 : Shape := ⟨1, ![32]⟩
abbrev S4x1x1024 : Shape := ⟨3, ![4, 1, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S1x4x8192x256 : Shape := ⟨4, ![1, 4, 8192, 256]⟩
abbrev S4x8192x4x64 : Shape := ⟨4, ![4, 8192, 4, 64]⟩
abbrev S4x8192x4 : Shape := ⟨3, ![4, 8192, 4]⟩
abbrev S4x8192x4x1 : Shape := ⟨4, ![4, 8192, 4, 1]⟩
abbrev S1x1x1x64 : Shape := ⟨4, ![1, 1, 1, 64]⟩
abbrev S4x1 : Shape := ⟨2, ![4, 1]⟩
abbrev S1x1x4x1 : Shape := ⟨4, ![1, 1, 4, 1]⟩
abbrev S4x8192x2x128 : Shape := ⟨4, ![4, 8192, 2, 128]⟩
abbrev S2x128 : Shape := ⟨2, ![2, 128]⟩
abbrev S4x8192x2 : Shape := ⟨3, ![4, 8192, 2]⟩
abbrev S4x8192x2x1 : Shape := ⟨4, ![4, 8192, 2, 1]⟩
abbrev S1x1x2x128 : Shape := ⟨4, ![1, 1, 2, 128]⟩
abbrev S1024x4096 : Shape := ⟨2, ![1024, 4096]⟩
abbrev S4x8192x4096 : Shape := ⟨3, ![4, 8192, 4096]⟩
abbrev S1x256x1024 : Shape := ⟨3, ![1, 256, 1024]⟩
abbrev S256x1024 : Shape := ⟨2, ![256, 1024]⟩
abbrev S32768x1024 : Shape := ⟨2, ![32768, 1024]⟩

abbrev nBuf : Space → Nat
  | .hbm => 190
  | .vmem => 0
  | .smem => 0
  | _ => 0

abbrev hbmTy0_0 (i : Nat) : BufTy := match i % 128 with
  | 0 => ⟨S4x8192x1024, .f32⟩
  | 1 => ⟨S11x4x8192x256, .f32⟩
  | 2 => ⟨S4x8192x256, .f32⟩
  | 3 => ⟨S4x8192x256, .f32⟩
  | 4 => ⟨S4x8192x256, .f32⟩
  | 5 => ⟨S4x8192x256, .f32⟩
  | 6 => ⟨S4x8192x256, .f32⟩
  | 7 => ⟨S4x8192x256, .f32⟩
  | 8 => ⟨S4x8192x256, .f32⟩
  | 9 => ⟨S4x8x1024, .f32⟩
  | 10 => ⟨S1024, .f32⟩
  | 11 => ⟨S1024, .f32⟩
  | 12 => ⟨S1024x7176, .f32⟩
  | 13 => ⟨S4x256x1024, .f32⟩
  | 14 => ⟨S1024x1024, .f32⟩
  | 15 => ⟨S64, .f32⟩
  | 16 => ⟨S4, .f32⟩
  | 17 => ⟨S256, .f32⟩
  | 18 => ⟨S1024x4, .f32⟩
  | 19 => ⟨S4, .f32⟩
  | 20 => ⟨S1024x32, .f32⟩
  | 21 => ⟨S32, .f32⟩
  | 22 => ⟨S4x1x1024, .f32⟩
  | 23 => ⟨S4x1x1024, .f32⟩
  | 24 => ⟨S4x1x1024, .f32⟩
  | 25 => ⟨S4x1x1024, .f32⟩
  | 26 => ⟨S4x1x1024, .f32⟩
  | 27 => ⟨S4x8192x1024, .f32⟩
  | 28 => ⟨S_, .f32⟩
  | 29 => ⟨S4x8192, .f32⟩
  | 30 => ⟨S4x8192x1, .f32⟩
  | 31 => ⟨S_, .f32⟩
  | 32 => ⟨S4x8192x1, .f32⟩
  | 33 => ⟨S4x8192x1, .f32⟩
  | 34 => ⟨S_, .f32⟩
  | 35 => ⟨S4x8192x1, .f32⟩
  | 36 => ⟨S4x8192x1, .f32⟩
  | 37 => ⟨S4x8192x1, .f32⟩
  | 38 => ⟨S4x8192x1024, .f32⟩
  | 39 => ⟨S4x8192x1024, .f32⟩
  | 40 => ⟨S1x1x1024, .f32⟩
  | 41 => ⟨S4x8192x1024, .f32⟩
  | 42 => ⟨S4x8192x1024, .f32⟩
  | 43 => ⟨S_, .f32⟩
  | 44 => ⟨S4x1x1024, .f32⟩
  | 45 => ⟨S4x1x1024, .f32⟩
  | 46 => ⟨S4x8192x1024, .f32⟩
  | 47 => ⟨S4x8192x1024, .f32⟩
  | 48 => ⟨S4x8192x1024, .f32⟩
  | 49 => ⟨S4x8192x1024, .f32⟩
  | 50 => ⟨S1x4x8192x256, .f32⟩
  | 51 => ⟨S4x8192x256, .f32⟩
  | 52 => ⟨S1x4x8192x256, .f32⟩
  | 53 => ⟨S4x8192x256, .f32⟩
  | 54 => ⟨S1x4x8192x256, .f32⟩
  | 55 => ⟨S4x8192x256, .f32⟩
  | 56 => ⟨S1x4x8192x256, .f32⟩
  | 57 => ⟨S4x8192x256, .f32⟩
  | 58 => ⟨S4x8192x256, .f32⟩
  | 59 => ⟨S4x8192x256, .f32⟩
  | 60 => ⟨S4x8192x4x64, .f32⟩
  | 61 => ⟨S4x8192x4x64, .f32⟩
  | 62 => ⟨S_, .f32⟩
  | 63 => ⟨S4x8192x4, .f32⟩
  | 64 => ⟨S4x8192x4x1, .f32⟩
  | 65 => ⟨S_, .f32⟩
  | 66 => ⟨S4x8192x4x1, .f32⟩
  | 67 => ⟨S4x8192x4x1, .f32⟩
  | 68 => ⟨S_, .f32⟩
  | 69 => ⟨S4x8192x4x1, .f32⟩
  | 70 => ⟨S4x8192x4x1, .f32⟩
  | 71 => ⟨S4x8192x4x1, .f32⟩
  | 72 => ⟨S4x8192x4x64, .f32⟩
  | 73 => ⟨S4x8192x4x64, .f32⟩
  | 74 => ⟨S1x1x1x64, .f32⟩
  | 75 => ⟨S4x8192x4x64, .f32⟩
  | 76 => ⟨S4x8192x4x64, .f32⟩
  | 77 => ⟨S4x8192x256, .f32⟩
  | 78 => ⟨S4x8192x256, .f32⟩
  | 79 => ⟨S_, .f32⟩
  | 80 => ⟨S4x8192x256, .f32⟩
  | 81 => ⟨S4x8192x256, .f32⟩
  | 82 => ⟨S_, .f32⟩
  | 83 => ⟨S4x8192x256, .f32⟩
  | 84 => ⟨S4x8192x256, .f32⟩
  | 85 => ⟨S4x8192x256, .f32⟩
  | 86 => ⟨S4x8192x4x64, .f32⟩
  | 87 => ⟨S4x8192x4x64, .f32⟩
  | 88 => ⟨S4x8192x256, .f32⟩
  | 89 => ⟨S4x8192x256, .f32⟩
  | 90 => ⟨S4x8192x4x64, .f32⟩
  | 91 => ⟨S4x1, .f32⟩
  | 92 => ⟨S4x8192x4x64, .f32⟩
  | 93 => ⟨S1x1x4x1, .f32⟩
  | 94 => ⟨S4x8192x4x64, .f32⟩
  | 95 => ⟨S4x8192x4x64, .f32⟩
  | 96 => ⟨S4x8192x4x64, .f32⟩
  | 97 => ⟨S4x8192x256, .f32⟩
  | 98 => ⟨S4x8192x256, .f32⟩
  | 99 => ⟨S4x8192x256, .f32⟩
  | 100 => ⟨S_, .f32⟩
  | 101 => ⟨S4x8192x256, .f32⟩
  | 102 => ⟨S4x8192x256, .f32⟩
  | 103 => ⟨S_, .f32⟩
  | 104 => ⟨S4x8192x256, .f32⟩
  | 105 => ⟨S4x8192x256, .f32⟩
  | 106 => ⟨S4x8192x256, .f32⟩
  | 107 => ⟨S4x8192x256, .f32⟩
  | 108 => ⟨S4x8192x2x128, .f32⟩
  | 109 => ⟨S2x128, .f32⟩
  | 110 => ⟨S4x8192x2x128, .f32⟩
  | 111 => ⟨S_, .f32⟩
  | 112 => ⟨S4x8192x2, .f32⟩
  | 113 => ⟨S4x8192x2x1, .f32⟩
  | 114 => ⟨S_, .f32⟩
  | 115 => ⟨S4x8192x2x1, .f32⟩
  | 116 => ⟨S4x8192x2x1, .f32⟩
  | 117 => ⟨S_, .f32⟩
  | 118 => ⟨S4x8192x2x1, .f32⟩
  | 119 => ⟨S4x8192x2x1, .f32⟩
  | 120 => ⟨S4x8192x2x1, .f32⟩
  | 121 => ⟨S4x8192x2x128, .f32⟩
  | 122 => ⟨S4x8192x2x128, .f32⟩
  | 123 => ⟨S1x1x2x128, .f32⟩
  | 124 => ⟨S4x8192x2x128, .f32⟩
  | 125 => ⟨S4x8192x2x128, .f32⟩
  | 126 => ⟨S4x8192x256, .f32⟩
  | 127 => ⟨S4x8192x256, .f32⟩
  | _ => ⟨S4x8192x1024, .f32⟩

abbrev hbmTy0_1 (i : Nat) : BufTy := match i % 128 with
  | 0 => ⟨S1024x4096, .f32⟩
  | 1 => ⟨S4x8192x4096, .f32⟩
  | 2 => ⟨S4x8192x4096, .f32⟩
  | 3 => ⟨S4x8192x4096, .f32⟩
  | 4 => ⟨S_, .f32⟩
  | 5 => ⟨S4x8192x4096, .f32⟩
  | 6 => ⟨S4x8192x4096, .f32⟩
  | 7 => ⟨S_, .f32⟩
  | 8 => ⟨S4x8192x4096, .f32⟩
  | 9 => ⟨S4x8192x4096, .f32⟩
  | 10 => ⟨S4x8192x1024, .f32⟩
  | 11 => ⟨S1x256x1024, .f32⟩
  | 12 => ⟨S256x1024, .f32⟩
  | 13 => ⟨S4x8192x1024, .f32⟩
  | 14 => ⟨S4x8192x1024, .f32⟩
  | 15 => ⟨S4x8192x1024, .f32⟩
  | 16 => ⟨S1x256x1024, .f32⟩
  | 17 => ⟨S256x1024, .f32⟩
  | 18 => ⟨S4x8192x1024, .f32⟩
  | 19 => ⟨S4x8192x1024, .f32⟩
  | 20 => ⟨S4x8192x1024, .f32⟩
  | 21 => ⟨S4x8192x1024, .f32⟩
  | 22 => ⟨S1x256x1024, .f32⟩
  | 23 => ⟨S256x1024, .f32⟩
  | 24 => ⟨S4x8192x1024, .f32⟩
  | 25 => ⟨S4x8192x1024, .f32⟩
  | 26 => ⟨S4x8192x1024, .f32⟩
  | 27 => ⟨S4x8192x1024, .f32⟩
  | 28 => ⟨S1x256x1024, .f32⟩
  | 29 => ⟨S256x1024, .f32⟩
  | 30 => ⟨S4x8192x1024, .f32⟩
  | 31 => ⟨S4x8192x1024, .f32⟩
  | 32 => ⟨S4x8192x1024, .f32⟩
  | 33 => ⟨S4x8192x1024, .f32⟩
  | 34 => ⟨S4x8192x1024, .f32⟩
  | 35 => ⟨S4x8192x1024, .f32⟩
  | 36 => ⟨S4x8192x1024, .f32⟩
  | 37 => ⟨S4x8192x1024, .f32⟩
  | 38 => ⟨S_, .f32⟩
  | 39 => ⟨S4x8192, .f32⟩
  | 40 => ⟨S4x8192x1, .f32⟩
  | 41 => ⟨S_, .f32⟩
  | 42 => ⟨S4x8192x1, .f32⟩
  | 43 => ⟨S4x8192x1, .f32⟩
  | 44 => ⟨S_, .f32⟩
  | 45 => ⟨S4x8192x1, .f32⟩
  | 46 => ⟨S4x8192x1, .f32⟩
  | 47 => ⟨S4x8192x1, .f32⟩
  | 48 => ⟨S4x8192x1024, .f32⟩
  | 49 => ⟨S4x8192x1024, .f32⟩
  | 50 => ⟨S1x1x1024, .f32⟩
  | 51 => ⟨S4x8192x1024, .f32⟩
  | 52 => ⟨S4x8192x1024, .f32⟩
  | 53 => ⟨S_, .f32⟩
  | 54 => ⟨S4x1x1024, .f32⟩
  | 55 => ⟨S4x1x1024, .f32⟩
  | 56 => ⟨S4x8192x1024, .f32⟩
  | 57 => ⟨S4x8192x1024, .f32⟩
  | 58 => ⟨S4x8192x1024, .f32⟩
  | 59 => ⟨S4x8192x1024, .f32⟩
  | 60 => ⟨S32768x1024, .f32⟩
  | 61 => ⟨S32768x1024, .bf16⟩
  | _ => ⟨S4x8192x1024, .f32⟩

abbrev hbmTy (i : Nat) : BufTy := match i / 128 with
  | 0 => hbmTy0_0 i
  | 1 => hbmTy0_1 i
  | _ => ⟨S4x8192x1024, .f32⟩

abbrev bufTy : (tb : Table) → Fin (tcTables nBuf tb) → BufTy
  | .hbm, ⟨i, _⟩ => hbmTy i
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_cst : Ref sig .tc := ⟨.hbm, 28, rfl⟩
abbrev main_v6 : Ref sig .tc := ⟨.hbm, 29, rfl⟩
abbrev main_v7 : Ref sig .tc := ⟨.hbm, 30, rfl⟩
abbrev main_cst_0 : Ref sig .tc := ⟨.hbm, 31, rfl⟩
abbrev main_v8 : Ref sig .tc := ⟨.hbm, 32, rfl⟩
abbrev main_v9 : Ref sig .tc := ⟨.hbm, 33, rfl⟩
abbrev main_cst_1 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_cst_2 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_cst_3 : Ref sig .tc := ⟨.hbm, 62, rfl⟩
abbrev main_v36 : Ref sig .tc := ⟨.hbm, 63, rfl⟩
abbrev main_v37 : Ref sig .tc := ⟨.hbm, 64, rfl⟩
abbrev main_cst_4 : Ref sig .tc := ⟨.hbm, 65, rfl⟩
abbrev main_v38 : Ref sig .tc := ⟨.hbm, 66, rfl⟩
abbrev main_v39 : Ref sig .tc := ⟨.hbm, 67, rfl⟩
abbrev main_cst_5 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_cst_6 : Ref sig .tc := ⟨.hbm, 79, rfl⟩
abbrev main_v50 : Ref sig .tc := ⟨.hbm, 80, rfl⟩
abbrev main_v51 : Ref sig .tc := ⟨.hbm, 81, rfl⟩
abbrev main_cst_7 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_cst_8 : Ref sig .tc := ⟨.hbm, 100, rfl⟩
abbrev main_v69 : Ref sig .tc := ⟨.hbm, 101, rfl⟩
abbrev main_v70 : Ref sig .tc := ⟨.hbm, 102, rfl⟩
abbrev main_cst_9 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_cst_10 : Ref sig .tc := ⟨.hbm, 111, rfl⟩
abbrev main_v78 : Ref sig .tc := ⟨.hbm, 112, rfl⟩
abbrev main_v79 : Ref sig .tc := ⟨.hbm, 113, rfl⟩
abbrev main_cst_11 : Ref sig .tc := ⟨.hbm, 114, rfl⟩
abbrev main_v80 : Ref sig .tc := ⟨.hbm, 115, rfl⟩
abbrev main_v81 : Ref sig .tc := ⟨.hbm, 116, rfl⟩
abbrev main_cst_12 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_cst_13 : Ref sig .tc := ⟨.hbm, 132, rfl⟩
abbrev main_v96 : Ref sig .tc := ⟨.hbm, 133, rfl⟩
abbrev main_v97 : Ref sig .tc := ⟨.hbm, 134, rfl⟩
abbrev main_cst_14 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_cst_15 : Ref sig .tc := ⟨.hbm, 166, rfl⟩
abbrev main_v128 : Ref sig .tc := ⟨.hbm, 167, rfl⟩
abbrev main_v129 : Ref sig .tc := ⟨.hbm, 168, rfl⟩
abbrev main_cst_16 : Ref sig .tc := ⟨.hbm, 169, rfl⟩
abbrev main_v130 : Ref sig .tc := ⟨.hbm, 170, rfl⟩
abbrev main_v131 : Ref sig .tc := ⟨.hbm, 171, rfl⟩
abbrev main_cst_17 : Ref sig .tc := ⟨.hbm, 172, rfl⟩
abbrev main_v132 : Ref sig .tc := ⟨.hbm, 173, rfl⟩
abbrev main_v133 : Ref sig .tc := ⟨.hbm, 174, rfl⟩
abbrev main_v134 : Ref sig .tc := ⟨.hbm, 175, rfl⟩
abbrev main_v135 : Ref sig .tc := ⟨.hbm, 176, rfl⟩
abbrev main_v136 : Ref sig .tc := ⟨.hbm, 177, rfl⟩
abbrev main_v137 : Ref sig .tc := ⟨.hbm, 178, rfl⟩
abbrev main_v138 : Ref sig .tc := ⟨.hbm, 179, rfl⟩
abbrev main_v139 : Ref sig .tc := ⟨.hbm, 180, rfl⟩
abbrev main_cst_18 : Ref sig .tc := ⟨.hbm, 181, rfl⟩
abbrev main_v140 : Ref sig .tc := ⟨.hbm, 182, rfl⟩
abbrev main_v141 : Ref sig .tc := ⟨.hbm, 183, rfl⟩
abbrev main_v142 : Ref sig .tc := ⟨.hbm, 184, rfl⟩
abbrev main_v143 : Ref sig .tc := ⟨.hbm, 185, rfl⟩
abbrev main_v144 : Ref sig .tc := ⟨.hbm, 186, rfl⟩
abbrev main_v145 : Ref sig .tc := ⟨.hbm, 187, rfl⟩
abbrev main_v146 : Ref sig .tc := ⟨.hbm, 188, rfl⟩
abbrev main_v147 : Ref sig .tc := ⟨.hbm, 189, rfl⟩

abbrev nD : Nat := 1
abbrev τ : Topo := Topo.v7x

variable {F : FTy → Type} [FloatOps F]
-- ==== Kernel4.lean ====
abbrev S4x8192x1024 : Shape := ⟨3, ![4, 8192, 1024]⟩
abbrev S2x32768x512 : Shape := ⟨3, ![2, 32768, 512]⟩
abbrev S8x32768 : Shape := ⟨2, ![8, 32768]⟩
abbrev S4x8x1024 : Shape := ⟨3, ![4, 8, 1024]⟩
abbrev S1024 : Shape := ⟨1, ![1024]⟩
abbrev S1x1024 : Shape := ⟨2, ![1, 1024]⟩
abbrev S1x512x1024 : Shape := ⟨3, ![1, 512, 1024]⟩
abbrev S1x512x512 : Shape := ⟨3, ![1, 512, 512]⟩
abbrev S8x512 : Shape := ⟨2, ![8, 512]⟩
abbrev S1x8x1024 : Shape := ⟨3, ![1, 8, 1024]⟩
abbrev S512x512 : Shape := ⟨2, ![512, 512]⟩
abbrev S16x512 : Shape := ⟨2, ![16, 512]⟩
abbrev S512x16 : Shape := ⟨2, ![512, 16]⟩
abbrev S512x8 : Shape := ⟨2, ![512, 8]⟩
abbrev S512x1 : Shape := ⟨2, ![512, 1]⟩
abbrev S512x1024 : Shape := ⟨2, ![512, 1024]⟩
abbrev S1x1x1024 : Shape := ⟨3, ![1, 1, 1024]⟩
abbrev S512 : Shape := ⟨1, ![512]⟩

abbrev nBuf : Space → Nat
  | .hbm => 7
  | .vmem => 13
  | .smem => 0
  | _ => 0

abbrev bufTy : (tb : Table) → Fin (tcTables nBuf tb) → BufTy
  | .hbm, ⟨0, _⟩ => ⟨S4x8192x1024, .f32⟩
  | .hbm, ⟨1, _⟩ => ⟨S2x32768x512, .i32⟩
  | .hbm, ⟨2, _⟩ => ⟨S8x32768, .f32⟩
  | .hbm, ⟨3, _⟩ => ⟨S4x8x1024, .f32⟩
  | .hbm, ⟨4, _⟩ => ⟨S1024, .f32⟩
  | .hbm, ⟨5, _⟩ => ⟨S1x1024, .f32⟩
  | .hbm, ⟨6, _⟩ => ⟨S4x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .i32⟩
  | .local _ .vmem, ⟨3, _⟩ => ⟨S1x512x512, .i32⟩
  | .local _ .vmem, ⟨4, _⟩ => ⟨S1x512x512, .i32⟩
  | .local _ .vmem, ⟨5, _⟩ => ⟨S1x512x512, .i32⟩
  | .local _ .vmem, ⟨6, _⟩ => ⟨S8x512, .f32⟩
  | .local _ .vmem, ⟨7, _⟩ => ⟨S8x512, .f32⟩
  | .local _ .vmem, ⟨8, _⟩ => ⟨S1x8x1024, .f32⟩
  | .local _ .vmem, ⟨9, _⟩ => ⟨S1x8x1024, .f32⟩
  | .local _ .vmem, ⟨10, _⟩ => ⟨S1x1024, .f32⟩
  | .local _ .vmem, ⟨11, _⟩ => ⟨S1x512x1024, .f32⟩
  | .local _ .vmem, ⟨12, _⟩ => ⟨S1x512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  let c0_i32_2 : BitVec 32 := 0#32
  ![c0_i32_0.toNat, v2.toNat, c0_i32_1.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c0_i32 : BitVec 32 := 0#32
  let v1 : BitVec 32 := Scalar.addi c0_i32 v0
  let v2 : BitVec 32 := Scalar.addi v1 arg1
  let c1_i32 : BitVec 32 := 1#32
  let c0_i32_0 : BitVec 32 := 0#32
  let c0_i32_1 : BitVec 32 := 0#32
  ![c1_i32.toNat, v2.toNat, c0_i32_0.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![c0_i32_0.toNat, v2.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference4Ideal.lean ====
abbrev S4x8192x1024 : Shape := ⟨3, ![4, 8192, 1024]⟩
abbrev S2x32768x512 : Shape := ⟨3, ![2, 32768, 512]⟩
abbrev S8x32768 : Shape := ⟨2, ![8, 32768]⟩
abbrev S4x8x1024 : Shape := ⟨3, ![4, 8, 1024]⟩
abbrev S1024 : Shape := ⟨1, ![1024]⟩
abbrev S_ : Shape := ⟨0, ![]⟩
abbrev S2x32768x1024 : Shape := ⟨3, ![2, 32768, 1024]⟩
abbrev S1x32768 : Shape := ⟨2, ![1, 32768]⟩
abbrev S32768 : Shape := ⟨1, ![32768]⟩
abbrev S32768x1 : Shape := ⟨2, ![32768, 1]⟩
abbrev S1x32768x1024 : Shape := ⟨3, ![1, 32768, 1024]⟩
abbrev S32768x1024 : Shape := ⟨2, ![32768, 1024]⟩
abbrev S4x1x1024 : Shape := ⟨3, ![4, 1, 1024]⟩
abbrev S4x8192 : Shape := ⟨2, ![4, 8192]⟩
abbrev S4x8192x1 : Shape := ⟨3, ![4, 8192, 1]⟩
abbrev S1x1x1024 : Shape := ⟨3, ![1, 1, 1024]⟩

abbrev nBuf : Space → Nat
  | .hbm => 50
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S2x32768x512, .i32⟩
  | .hbm, ⟨2, _⟩ => ⟨S8x32768, .f32⟩
  | .hbm, ⟨3, _⟩ => ⟨S4x8x1024, .f32⟩
  | .hbm, ⟨4, _⟩ => ⟨S1024, .f32⟩
  | .hbm, ⟨5, _⟩ => ⟨S_, .i32⟩
  | .hbm, ⟨6, _⟩ => ⟨S2x32768x512, .i32⟩
  | .hbm, ⟨7, _⟩ => ⟨S2x32768x512, .i32⟩
  | .hbm, ⟨8, _⟩ => ⟨S2x32768x512, .f32⟩
  | .hbm, ⟨9, _⟩ => ⟨S_, .i32⟩
  | .hbm, ⟨10, _⟩ => ⟨S2x32768x512, .i32⟩
  | .hbm, ⟨11, _⟩ => ⟨S2x32768x512, .i32⟩
  | .hbm, ⟨12, _⟩ => ⟨S2x32768x512, .f32⟩
  | .hbm, ⟨13, _⟩ => ⟨S2x32768x1024, .f32⟩
  | .hbm, ⟨14, _⟩ => ⟨S1x32768, .f32⟩
  | .hbm, ⟨15, _⟩ => ⟨S32768, .f32⟩
  | .hbm, ⟨16, _⟩ => ⟨S32768x1, .f32⟩
  | .hbm, ⟨17, _⟩ => ⟨S1x32768x1024, .f32⟩
  | .hbm, ⟨18, _⟩ => ⟨S32768x1024, .f32⟩
  | .hbm, ⟨19, _⟩ => ⟨S32768x1024, .f32⟩
  | .hbm, ⟨20, _⟩ => ⟨S32768x1024, .f32⟩
  | .hbm, ⟨21, _⟩ => ⟨S1x32768, .f32⟩
  | .hbm, ⟨22, _⟩ => ⟨S32768, .f32⟩
  | .hbm, ⟨23, _⟩ => ⟨S32768x1, .f32⟩
  | .hbm, ⟨24, _⟩ => ⟨S1x32768x1024, .f32⟩
  | .hbm, ⟨25, _⟩ => ⟨S32768x1024, .f32⟩
  | .hbm, ⟨26, _⟩ => ⟨S32768x1024, .f32⟩
  | .hbm, ⟨27, _⟩ => ⟨S32768x1024, .f32⟩
  | .hbm, ⟨28, _⟩ => ⟨S32768x1024, .f32⟩
  | .hbm, ⟨29, _⟩ => ⟨S4x1x1024, .f32⟩
  | .hbm, ⟨30, _⟩ => ⟨S4x8192x1024, .f32⟩
  | .hbm, ⟨31, _⟩ => ⟨S4x8192x1024, .f32⟩
  | .hbm, ⟨32, _⟩ => ⟨S4x8192x1024, .f32⟩
  | .hbm, ⟨33, _⟩ => ⟨S4x8192x1024, .f32⟩
  | .hbm, ⟨34, _⟩ => ⟨S4x8192x1024, .f32⟩
  | .hbm, ⟨35, _⟩ => ⟨S_, .f32⟩
  | .hbm, ⟨36, _⟩ => ⟨S4x8192, .f32⟩
  | .hbm, ⟨37, _⟩ => ⟨S4x8192x1, .f32⟩
  | .hbm, ⟨38, _⟩ => ⟨S_, .f32⟩
  | .hbm, ⟨39, _⟩ => ⟨S4x8192x1, .f32⟩
  | .hbm, ⟨40, _⟩ => ⟨S4x8192x1, .f32⟩
  | .hbm, ⟨41, _⟩ => ⟨S_, .f32⟩
  | .hbm, ⟨42, _⟩ => ⟨S4x8192x1, .f32⟩
  | .hbm, ⟨43, _⟩ => ⟨S4x8192x1, .f32⟩
  | .hbm, ⟨44, _⟩ => ⟨S4x8192x1, .f32⟩
  | .hbm, ⟨45, _⟩ => ⟨S4x8192x1024, .f32⟩
  | .hbm, ⟨46, _⟩ => ⟨S4x8192x1024, .f32⟩
  | .hbm, ⟨47, _⟩ => ⟨S1x1x1024, .f32⟩
  | .hbm, ⟨48, _⟩ => ⟨S4x8192x1024, .f32⟩
  | .hbm, ⟨49, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_cst : Ref sig .tc := ⟨.hbm, 35, rfl⟩
abbrev main_v28 : Ref sig .tc := ⟨.hbm, 36, rfl⟩
abbrev main_v29 : Ref sig .tc := ⟨.hbm, 37, rfl⟩
abbrev main_cst_1 : Ref sig .tc := ⟨.hbm, 38, rfl⟩
abbrev main_v30 : Ref sig .tc := ⟨.hbm, 39, rfl⟩
abbrev main_v31 : Ref sig .tc := ⟨.hbm, 40, rfl⟩
abbrev main_cst_2 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩

abbrev nD : Nat := 1
abbrev τ : Topo := Topo.v7x

variable {F : FTy → Type} [FloatOps F]
-- ==== Kernel5.lean ====
abbrev S98304x512 : Shape := ⟨2, ![98304, 512]⟩
abbrev S96 : Shape := ⟨1, ![96]⟩
abbrev S1 : Shape := ⟨1, ![1]⟩
abbrev S2x32x1024x512 : Shape := ⟨4, ![2, 32, 1024, 512]⟩
abbrev S2x32x512x1024 : Shape := ⟨4, ![2, 32, 512, 1024]⟩
abbrev S98304x1024 : Shape := ⟨2, ![98304, 1024]⟩
abbrev S1024x512 : Shape := ⟨2, ![1024, 512]⟩
abbrev S1x1x1024x512 : Shape := ⟨4, ![1, 1, 1024, 512]⟩
abbrev S1x1x512x1024 : Shape := ⟨4, ![1, 1, 512, 1024]⟩
abbrev S1024x1024 : Shape := ⟨2, ![1024, 1024]⟩
abbrev S512x1024 : Shape := ⟨2, ![512, 1024]⟩
abbrev S1024x1 : Shape := ⟨2, ![1024, 1]⟩
abbrev S512x512 : Shape := ⟨2, ![512, 512]⟩

abbrev nBuf : Space → Nat
  | .hbm => 5
  | .vmem => 13
  | .smem => 3
  | _ => 0

abbrev bufTy : (tb : Table) → Fin (tcTables nBuf tb) → BufTy
  | .hbm, ⟨0, _⟩ => ⟨S98304x512, .i32⟩
  | .hbm, ⟨1, _⟩ => ⟨S2x32x1024x512, .f32⟩
  | .hbm, ⟨2, _⟩ => ⟨S2x32x1024x512, .f32⟩
  | .hbm, ⟨3, _⟩ => ⟨S2x32x512x1024, .f32⟩
  | .hbm, ⟨4, _⟩ => ⟨S98304x1024, .bf16⟩
  | .local _ .vmem, ⟨0, _⟩ => ⟨S1024x512, .i32⟩
  | .local _ .vmem, ⟨1, _⟩ => ⟨S1024x512, .i32⟩
  | .local _ .vmem, ⟨2, _⟩ => ⟨S1x1x1024x512, .f32⟩
  | .local _ .vmem, ⟨3, _⟩ => ⟨S1x1x1024x512, .f32⟩
  | .local _ .vmem, ⟨4, _⟩ => ⟨S1x1x1024x512, .f32⟩
  | .local _ .vmem, ⟨5, _⟩ => ⟨S1x1x1024x512, .f32⟩
  | .local _ .vmem, ⟨6, _⟩ => ⟨S1x1x512x1024, .f32⟩
  | .local _ .vmem, ⟨7, _⟩ => ⟨S1x1x512x1024, .f32⟩
  | .local _ .vmem, ⟨8, _⟩ => ⟨S1024x1024, .bf16⟩
  | .local _ .vmem, ⟨9, _⟩ => ⟨S1024x1024, .bf16⟩
  | .local _ .vmem, ⟨10, _⟩ => ⟨S1024x512, .bf16⟩
  | .local _ .vmem, ⟨11, _⟩ => ⟨S1024x512, .bf16⟩
  | .local _ .vmem, ⟨12, _⟩ => ⟨S512x1024, .bf16⟩
  | .local _ .smem, ⟨0, _⟩ => ⟨S96, .i32⟩
  | .local _ .smem, ⟨1, _⟩ => ⟨S1, .i32⟩
  | .local _ .smem, ⟨2, _⟩ => ⟨S96, .i32⟩
  | _, _ => ⟨S98304x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg4 : Ref sig .tc := ⟨.hbm, 1, rfl⟩
abbrev main_arg5 : Ref sig .tc := ⟨.hbm, 2, rfl⟩
abbrev main_arg6 : Ref sig .tc := ⟨.hbm, 3, rfl⟩
abbrev main_v0 : Ref sig .tc := ⟨.hbm, 4, rfl⟩
abbrev main_arg1 : Ref sig .tc := ⟨.smem, 0, rfl⟩
abbrev main_arg2 : Ref sig .tc := ⟨.smem, 1, rfl⟩
abbrev main_arg3 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![96], ![false]⟩

abbrev pre0 : Pipeline.Prefetch sig := ⟨3, ![main_arg1.idx, main_arg2.idx, main_arg3.idx], fun | 0 => main_arg1.names | 1 => main_arg2.names | 2 => main_arg3.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v5 : BitVec 32 := Scalar.subi arg0 c1_i32
  let c0_i32_0 : BitVec 32 := 0#32
  let v6 : BitVec 32 := Scalar.maxsi v5 c0_i32_0
  let v7 : Index := Scalar.indexCast v6
  ![v7.toNat]
def k0_off3 (i : grid0.Coords) : Fin 1 → Nat :=
  let arg0 : BitVec 32 := BitVec.ofNat 32 (i 0).val
  let v20 : Index := Scalar.indexCast arg0
  ![v20.toNat]
def k0_cond2 (i : grid0.Coords) (v0 : BitVec 32) : BitVec 1 :=
  let arg0 : BitVec 32 := BitVec.ofNat 32 (i 0).val
  let v1 : BitVec 1 := Scalar.cmpi .slt arg0 v0
  let v14 : BitVec 32 := Scalar.extui v1
  let c0_i32_2 : BitVec 32 := 0#32
  let v15 : BitVec 1 := Scalar.cmpi .ne v14 c0_i32_2
  v15

def k0_cond3 (i : grid0.Coords) (v0 : BitVec 32) : BitVec 1 :=
  let arg0 : BitVec 32 := BitVec.ofNat 32 (i 0).val
  let v1 : BitVec 1 := Scalar.cmpi .slt arg0 v0
  let v_true : BitVec 1 := 1#1
  let v16 : BitVec 1 := Scalar.xori v1 v_true
  let v17 : BitVec 32 := Scalar.extui v16
  let c0_i32_3 : BitVec 32 := 0#32
  let v18 : BitVec 1 := Scalar.cmpi .ne v17 c0_i32_3
  v18

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S96.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S96) ![v0.toNat] S1.size (k0_off1_inb i)) numel1_S1
  let c1_i32 : BitVec 32 := 1#32
  let c0_i32 : BitVec 32 := 0#32
  let c0_i32_0 : BitVec 32 := 0#32
  let c0_i32_1 : BitVec 32 := 0#32
  ![c1_i32.toNat, v1.toNat, c0_i32.toNat, c0_i32_0.toNat]

def cc0_transform_2 (k0_off1_inb : ∀ i : grid0.Coords, ∀ a, (k0_off1 i) a + S1.size a ≤ S96.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S96) ![v0.toNat] S1.size (k0_off1_inb i)) numel1_S1
  let c1_i32 : BitVec 32 := 1#32
  let c0_i32 : BitVec 32 := 0#32
  let c0_i32_0 : BitVec 32 := 0#32
  let c0_i32_1 : BitVec 32 := 0#32
  ![c1_i32.toNat, v1.toNat, c0_i32.toNat, c0_i32_0.toNat]

def cc0_transform_3 (k0_off1_inb : ∀ i : grid0.Coords, ∀ a, (k0_off1 i) a + S1.size a ≤ S96.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S96) ![v0.toNat] S1.size (k0_off1_inb i)) numel1_S1
  let c1_i32 : BitVec 32 := 1#32
  let c0_i32 : BitVec 32 := 0#32
  let c0_i32_0 : BitVec 32 := 0#32
  let c0_i32_1 : BitVec 32 := 0#32
  ![c1_i32.toNat, v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference5Ideal.lean ====
abbrev S98304x512 : Shape := ⟨2, ![98304, 512]⟩
abbrev S96 : Shape := ⟨1, ![96]⟩
abbrev S1 : Shape := ⟨1, ![1]⟩
abbrev S2x32x1024x512 : Shape := ⟨4, ![2, 32, 1024, 512]⟩
abbrev S2x32x512x1024 : Shape := ⟨4, ![2, 32, 512, 1024]⟩
abbrev S_ : Shape := ⟨0, ![]⟩
abbrev S98304x1024 : Shape := ⟨2, ![98304, 1024]⟩
abbrev S96x1024x1024 : Shape := ⟨3, ![96, 1024, 1024]⟩
abbrev S96x1024 : Shape := ⟨2, ![96, 1024]⟩
abbrev S96x1 : Shape := ⟨2, ![96, 1]⟩
abbrev S96x1024x1 : Shape := ⟨3, ![96, 1024, 1]⟩
abbrev S1x32x1024x512 : Shape := ⟨4, ![1, 32, 1024, 512]⟩
abbrev S32x1024x512 : Shape := ⟨3, ![32, 1024, 512]⟩
abbrev S96x1024x512 : Shape := ⟨3, ![96, 1024, 512]⟩
abbrev S1x32x512x1024 : Shape := ⟨4, ![1, 32, 512, 1024]⟩
abbrev S32x512x1024 : Shape := ⟨3, ![32, 512, 1024]⟩
abbrev S96x512x1024 : Shape := ⟨3, ![96, 512, 1024]⟩

abbrev nBuf : Space → Nat
  | .hbm => 80
  | .vmem => 0
  | .smem => 0
  | _ => 0

abbrev bufTy : (tb : Table) → Fin (tcTables nBuf tb) → BufTy
  | .hbm, ⟨0, _⟩ => ⟨S98304x512, .i32⟩
  | .hbm, ⟨1, _⟩ => ⟨S96, .i32⟩
  | .hbm, ⟨2, _⟩ => ⟨S1, .i32⟩
  | .hbm, ⟨3, _⟩ => ⟨S96, .i32⟩
  | .hbm, ⟨4, _⟩ => ⟨S2x32x1024x512, .f32⟩
  | .hbm, ⟨5, _⟩ => ⟨S2x32x1024x512, .f32⟩
  | .hbm, ⟨6, _⟩ => ⟨S2x32x512x1024, .f32⟩
  | .hbm, ⟨7, _⟩ => ⟨S_, .i32⟩
  | .hbm, ⟨8, _⟩ => ⟨S98304x512, .i32⟩
  | .hbm, ⟨9, _⟩ => ⟨S98304x512, .i32⟩
  | .hbm, ⟨10, _⟩ => ⟨S98304x512, .f32⟩
  | .hbm, ⟨11, _⟩ => ⟨S_, .i32⟩
  | .hbm, ⟨12, _⟩ => ⟨S98304x512, .i32⟩
  | .hbm, ⟨13, _⟩ => ⟨S98304x512, .i32⟩
  | .hbm, ⟨14, _⟩ => ⟨S98304x512, .f32⟩
  | .hbm, ⟨15, _⟩ => ⟨S98304x1024, .f32⟩
  | .hbm, ⟨16, _⟩ => ⟨S96x1024x1024, .f32⟩
  | .hbm, ⟨17, _⟩ => ⟨S96x1024, .i32⟩
  | .hbm, ⟨18, _⟩ => ⟨S96x1024, .i32⟩
  | .hbm, ⟨19, _⟩ => ⟨S96x1, .i32⟩
  | .hbm, ⟨20, _⟩ => ⟨S96x1024, .i32⟩
  | .hbm, ⟨21, _⟩ => ⟨S96x1024, .i1⟩
  | .hbm, ⟨22, _⟩ => ⟨S_, .i32⟩
  | .hbm, ⟨23, _⟩ => ⟨S96x1024, .i32⟩
  | .hbm, ⟨24, _⟩ => ⟨S96x1024, .i1⟩
  | .hbm, ⟨25, _⟩ => ⟨S96x1024, .i1⟩
  | .hbm, ⟨26, _⟩ => ⟨S96x1024x1, .i1⟩
  | .hbm, ⟨27, _⟩ => ⟨S_, .f32⟩
  | .hbm, ⟨28, _⟩ => ⟨S_, .f32⟩
  | .hbm, ⟨29, _⟩ => ⟨S96x1024x1024, .i1⟩
  | .hbm, ⟨30, _⟩ => ⟨S96x1024x1024, .f32⟩
  | .hbm, ⟨31, _⟩ => ⟨S96x1024x1024, .f32⟩
  | .hbm, ⟨32, _⟩ => ⟨S1x32x1024x512, .f32⟩
  | .hbm, ⟨33, _⟩ => ⟨S32x1024x512, .f32⟩
  | .hbm, ⟨34, _⟩ => ⟨S_, .i32⟩
  | .hbm, ⟨35, _⟩ => ⟨S96, .i32⟩
  | .hbm, ⟨36, _⟩ => ⟨S96, .i1⟩
  | .hbm, ⟨37, _⟩ => ⟨S_, .i32⟩
  | .hbm, ⟨38, _⟩ => ⟨S96, .i32⟩
  | .hbm, ⟨39, _⟩ => ⟨S96, .i32⟩
  | .hbm, ⟨40, _⟩ => ⟨S96, .i32⟩
  | .hbm, ⟨41, _⟩ => ⟨S96x1, .i32⟩
  | .hbm, ⟨42, _⟩ => ⟨S96x1024x512, .f32⟩
  | .hbm, ⟨43, _⟩ => ⟨S96x1024x512, .f32⟩
  | .hbm, ⟨44, _⟩ => ⟨S1x32x1024x512, .f32⟩
  | .hbm, ⟨45, _⟩ => ⟨S32x1024x512, .f32⟩
  | .hbm, ⟨46, _⟩ => ⟨S_, .i32⟩
  | .hbm, ⟨47, _⟩ => ⟨S96, .i32⟩
  | .hbm, ⟨48, _⟩ => ⟨S96, .i1⟩
  | .hbm, ⟨49, _⟩ => ⟨S_, .i32⟩
  | .hbm, ⟨50, _⟩ => ⟨S96, .i32⟩
  | .hbm, ⟨51, _⟩ => ⟨S96, .i32⟩
  | .hbm, ⟨52, _⟩ => ⟨S96, .i32⟩
  | .hbm, ⟨53, _⟩ => ⟨S96x1, .i32⟩
  | .hbm, ⟨54, _⟩ => ⟨S96x1024x512, .f32⟩
  | .hbm, ⟨55, _⟩ => ⟨S96x1024x512, .f32⟩
  | .hbm, ⟨56, _⟩ => ⟨S96x1024x512, .f32⟩
  | .hbm, ⟨57, _⟩ => ⟨S96x1024x512, .f32⟩
  | .hbm, ⟨58, _⟩ => ⟨S_, .f32⟩
  | .hbm, ⟨59, _⟩ => ⟨S96x1024x512, .f32⟩
  | .hbm, ⟨60, _⟩ => ⟨S96x1024x512, .f32⟩
  | .hbm, ⟨61, _⟩ => ⟨S_, .f32⟩
  | .hbm, ⟨62, _⟩ => ⟨S96x1024x512, .f32⟩
  | .hbm, ⟨63, _⟩ => ⟨S96x1024x512, .f32⟩
  | .hbm, ⟨64, _⟩ => ⟨S96x1024x512, .f32⟩
  | .hbm, ⟨65, _⟩ => ⟨S96x1024x512, .f32⟩
  | .hbm, ⟨66, _⟩ => ⟨S1x32x512x1024, .f32⟩
  | .hbm, ⟨67, _⟩ => ⟨S32x512x1024, .f32⟩
  | .hbm, ⟨68, _⟩ => ⟨S_, .i32⟩
  | .hbm, ⟨69, _⟩ => ⟨S96, .i32⟩
  | .hbm, ⟨70, _⟩ => ⟨S96, .i1⟩
  | .hbm, ⟨71, _⟩ => ⟨S_, .i32⟩
  | .hbm, ⟨72, _⟩ => ⟨S96, .i32⟩
  | .hbm, ⟨73, _⟩ => ⟨S96, .i32⟩
  | .hbm, ⟨74, _⟩ => ⟨S96, .i32⟩
  | .hbm, ⟨75, _⟩ => ⟨S96x1, .i32⟩
  | .hbm, ⟨76, _⟩ => ⟨S96x512x1024, .f32⟩
  | .hbm, ⟨77, _⟩ => ⟨S96x1024x1024, .f32⟩
  | .hbm, ⟨78, _⟩ => ⟨S98304x1024, .f32⟩
  | .hbm, ⟨79, _⟩ => ⟨S98304x1024, .bf16⟩
  | _, _ => ⟨S98304x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_1 : Ref sig .tc := ⟨.hbm, 34, rfl⟩
abbrev main_v21 : Ref sig .tc := ⟨.hbm, 35, rfl⟩
abbrev main_v22 : Ref sig .tc := ⟨.hbm, 36, rfl⟩
abbrev main_c_2 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_c_3 : Ref sig .tc := ⟨.hbm, 46, rfl⟩
abbrev main_v31 : Ref sig .tc := ⟨.hbm, 47, rfl⟩
abbrev main_v32 : Ref sig .tc := ⟨.hbm, 48, rfl⟩
abbrev main_c_4 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_5 : Ref sig .tc := ⟨.hbm, 58, rfl⟩
abbrev main_v41 : Ref sig .tc := ⟨.hbm, 59, rfl⟩
abbrev main_v42 : Ref sig .tc := ⟨.hbm, 60, rfl⟩
abbrev main_cst_6 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_c_7 : Ref sig .tc := ⟨.hbm, 68, rfl⟩
abbrev main_v49 : Ref sig .tc := ⟨.hbm, 69, rfl⟩
abbrev main_v50 : Ref sig .tc := ⟨.hbm, 70, rfl⟩
abbrev main_c_8 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩

abbrev nD : Nat := 1
abbrev τ : Topo := Topo.v7x

variable {F : FTy → Type} [FloatOps F]
-- ==== Proof.Words.lean ====
/-
  The words of the pipeline's loop, and the windows and cells they name.

  Every vector subcore runs the same loop of 32 trips over its 32 blocks of the list. Five words travel with it: the number of
  list blocks fetched (`arg6`), of list blocks waited for (`arg7`), of row blocks sent (`arg8`), of row blocks whose sending was
  waited for (`arg9`), and the place in the loop (`arg10`). Before trip `k` they are `k + 1`, `k`, `k`, `k - 1`, `k`; every offset
  and every branch of the trip is computed from them. Here are those offsets in closed form, over all 32 subcores and all 32
  trips, and the equations that rename the program's windows and cells by slot and block number.
-/
module

public import proofs.«01_k».proof.Defs
public import proofs.«01_k».proof.Proof.Gen.KernelIdeal
public import proofs.«01_k».proof.Proof.Gen.KernelIdeal.Skeleton
public import Idealize.ShloMosaic.Lib.SparseCore.Quiescent
public import Idealize.ShloMosaic.Lib.StableHlo.Run
public import Idealize.ShloMosaic.Lib.Pipeline.Kit
public import Idealize.ShloMosaic.Lib.Tactic
public import Idealize.ShloMosaic.Lib.Ring

@[expose] public section

noncomputable section

namespace Cert.Proof.Rows

open Cert.KernelIdeal Cert.KernelIdeal.Gen
open Idealize.ShloMosaic
open Idealize.ShloMosaic.Tactic

-- the kernel's operands, spelt as the program passes them: the table, the list in blocks, the result; the two scratch buffers
local notation "yV" => (Memref.whole Cert.KernelIdeal.main_arg0_scv : Memref Cert.KernelIdeal.sig Kind.scVector Space.hbm Cert.KernelIdeal.S98304x512 EltTy.i32)
local notation "vV" => (Memref.whole Cert.KernelIdeal.main_v1_scv : Memref Cert.KernelIdeal.sig Kind.scVector Space.hbm Cert.KernelIdeal.S1024x1x64 EltTy.i32)
local notation "oV" => (Memref.whole Cert.KernelIdeal.main_v2_scv : Memref Cert.KernelIdeal.sig Kind.scVector Space.hbm Cert.KernelIdeal.S65536x512 EltTy.i32)
local notation "lV" => (Memref.whole Cert.KernelIdeal.cc0_scoped0 : Memref Cert.KernelIdeal.sig Kind.scVector Space.vmem Cert.KernelIdeal.S2x1x64 EltTy.i32)
local notation "tV" => (Memref.whole Cert.KernelIdeal.cc0_scoped2 : Memref Cert.KernelIdeal.sig Kind.scVector Space.vmem Cert.KernelIdeal.S2x64x512 EltTy.i32)

/-! ## Blocks and slots -/

/-- The number, among the 1024 blocks, of the subcore's `k`-th. -/
def blk (i : grid0.Coords) (k : ℕ) : Fin 1024 := Fin.ofNat 1024 (512 * (i 0).val + 32 * (i 1).val + k)

theorem inb_list (b : Fin 1024) : ∀ a, (![b.val, 0, 0] : Fin 3 → Nat) a + S1x1x64.size a ≤ S1024x1x64.size a := by
  have := b.isLt; intro a; fin_cases a <;> simp <;> omega
theorem inb_rows (b : Fin 1024) : ∀ a, (![64 * b.val, 0] : Fin 2 → Nat) a + S64x512.size a ≤ S65536x512.size a := by
  have := b.isLt; intro a; fin_cases a <;> simp <;> omega
theorem inb_lslot (j : Fin 2) : ∀ a, (![j.val, 0, 0] : Fin 3 → Nat) a + S1x1x64.size a ≤ S2x1x64.size a := by
  have := j.isLt; intro a; fin_cases a <;> simp <;> omega
theorem inb_tslot (j : Fin 2) : ∀ a, (![j.val, 0, 0] : Fin 3 → Nat) a + S1x64x512.size a ≤ S2x64x512.size a := by
  have := j.isLt; intro a; fin_cases a <;> simp <;> omega
theorem inb_cell (j : Fin 2) : ∀ a, (![j.val] : Fin 1 → Nat) a + S1.size a ≤ S2.size a := by
  have := j.isLt; intro a; fin_cases a; simp; omega

/-- Block `b` of the list; -/
def listB (b : Fin 1024) : Memref sig .scVector .hbm S1x64 .i32 :=
  ((vV).slice (Rect.unit (s := S1024x1x64) ![b.val, 0, 0] S1x1x64.size (inb_list b)) (fun _ => rfl)).squeeze S1x64 squeezes_S1x1x64_S1x64
/-- block `b` of the result, 64 rows; -/
def rowsB (b : Fin 1024) : Memref sig .scVector .hbm S64x512 .i32 :=
  (oV).slice (Rect.unit (s := S65536x512) ![64 * b.val, 0] S64x512.size (inb_rows b)) (fun _ => rfl)
/-- slot `j` of the scratch the list goes through; -/
def lSlot (j : Fin 2) : Memref sig .scVector .vmem S1x64 .i32 :=
  ((lV).slice (Rect.unit (s := S2x1x64) ![j.val, 0, 0] S1x1x64.size (inb_lslot j)) (fun _ => rfl)).squeeze S1x64 squeezes_S1x1x64_S1x64
/-- slot `j` of the scratch the rows go through; -/
def tSlot (j : Fin 2) : Memref sig .scVector .vmem S64x512 .i32 :=
  ((tV).slice (Rect.unit (s := S2x64x512) ![j.val, 0, 0] S1x64x512.size (inb_tslot j)) (fun _ => rfl)).squeeze S64x512 squeezes_S1x64x512_S64x512
/-- and the two slots' cells. -/
def lSem (j : Fin 2) : DmaSems sig S_ := (cc0_scoped1.slice (Rect.unit (s := S2) ![j.val] S1.size (inb_cell j))).squeeze S_ squeezes_S1_S_
def tSem (j : Fin 2) : DmaSems sig S_ := (cc0_scoped3.slice (Rect.unit (s := S2) ![j.val] S1.size (inb_cell j))).squeeze S_ squeezes_S1_S_

/-! ## The words before a trip, the branches and the checks -/

/-- A trip number as the loop's word. -/
abbrev wd (k : ℕ) : BitVec 32 := BitVec.ofNat 32 k

theorem cond1_iff : ∀ (i : grid0.Coords) (k : Fin k0_t1_loop.trips), k0_cond1 i k (wd k.val) = 1#1 ↔ k.val < 31 := by decide +kernel
theorem cond2_true : ∀ (i : grid0.Coords) (k : Fin k0_t1_loop.trips), k0_cond2 i k (wd k.val) = 1#1 := by decide +kernel
theorem cond5_true : ∀ (i : grid0.Coords) (k : Fin k0_t1_loop.trips), k0_cond5 i k (wd k.val) = 1#1 := by decide +kernel
theorem cond7_iff : ∀ (i : grid0.Coords) (k : Fin k0_t1_loop.trips), k0_cond7 i k (wd k.val) = 1#1 ↔ 0 < k.val := by decide +kernel
theorem chk1_ok : ∀ (i : grid0.Coords) (k : Fin k0_t1_loop.trips), k0_chk1 i k (wd (k.val + 1)) (wd k.val) (wd k.val) (wd (k.val - 1)) (wd k.val) := by decide +kernel
theorem chk2_ok : ∀ (k : Fin k0_t1_loop.trips), k0_chk2 (wd k.val) := by decide +kernel
theorem chk3_ok : ∀ (k : Fin k0_t1_loop.trips), k0_chk3 (wd k.val) := by decide +kernel
theorem chk4_ok : k0_chk4 (wd 31) := by decide +kernel
theorem chk5_ok : ∀ (i : grid0.Coords), k0_chk5 i (wd 0) := by decide +kernel

/-! ## The offsets -/

theorem off1_e : k0_off1 = ![(Ring.sl 2 0).val, 0, 0] := by decide +kernel
theorem off2_e : ∀ i : grid0.Coords, k0_off2 i = ![(blk i 0).val, 0, 0] := by decide +kernel
theorem off3_e : k0_off3 = ![(Ring.sl 2 0).val] := by decide +kernel
theorem off4_e : ∀ k : Fin k0_t1_loop.trips, k0_off4 (wd (k.val + 1)) = ![(Ring.sl 2 (k.val + 1)).val, 0, 0] := by decide +kernel
theorem off5_e : ∀ (i : grid0.Coords) (k : Fin k0_t1_loop.trips), k.val < 31 → k0_off5 i (wd k.val) = ![(blk i (k.val + 1)).val, 0, 0] := by decide +kernel
theorem off6_e : ∀ k : Fin k0_t1_loop.trips, k0_off6 (wd (k.val + 1)) = ![(Ring.sl 2 (k.val + 1)).val] := by decide +kernel
theorem off7_e : ∀ k : Fin k0_t1_loop.trips, k0_off7 (wd k.val) = ![(Ring.sl 2 k.val).val, 0, 0] := by decide +kernel
theorem off8_e : ∀ (i : grid0.Coords) (k : Fin k0_t1_loop.trips), k0_off8 i (wd k.val) = ![(blk i k.val).val, 0, 0] := by decide +kernel
theorem off9_e : ∀ k : Fin k0_t1_loop.trips, k0_off9 (wd k.val) = ![(Ring.sl 2 k.val).val] := by decide +kernel
theorem off10_e : ∀ k : Fin k0_t1_loop.trips, k0_off10 (wd k.val) = ![(Ring.sl 2 k.val).val, 0, 0] := by decide +kernel
theorem off11_e : ∀ k : Fin k0_t1_loop.trips, k0_off11 (wd k.val) = ![(Ring.sl 2 k.val).val, 0, 0] := by decide +kernel
theorem off12_e : ∀ k : Fin k0_t1_loop.trips, k0_off12 (wd k.val) = ![(Ring.sl 2 k.val).val, 0, 0] := by decide +kernel
theorem off13_e : ∀ (i : grid0.Coords) (k : Fin k0_t1_loop.trips), k0_off13 i (wd k.val) = ![64 * (blk i k.val).val, 0] := by decide +kernel
theorem off14_e : ∀ k : Fin k0_t1_loop.trips, k0_off14 (wd k.val) = ![(Ring.sl 2 k.val).val] := by decide +kernel
theorem off15_e : ∀ k : Fin k0_t1_loop.trips, 0 < k.val → k0_off15 (wd (k.val - 1)) = ![(Ring.sl 2 (k.val + 1)).val, 0, 0] := by decide +kernel
theorem off16_e : ∀ (i : grid0.Coords) (k : Fin k0_t1_loop.trips), 0 < k.val → k0_off16 i (wd k.val) = ![64 * (blk i (k.val - 1)).val, 0] := by decide +kernel
theorem off17_e : ∀ k : Fin k0_t1_loop.trips, 0 < k.val → k0_off17 (wd (k.val - 1)) = ![(Ring.sl 2 (k.val + 1)).val] := by decide +kernel
theorem off19_e : ∀ i : grid0.Coords, k0_off19 i (wd 0) = ![64 * (blk i 31).val, 0] := by decide +kernel
theorem off20_e : k0_off20 (wd 31) = ![(Ring.sl 2 31).val] := by decide +kernel
theorem off21_e : k0_off21 (wd 31) = ![(Ring.sl 2 31).val, 0, 0] := by decide +kernel

/-! ## The program's windows and cells under their names -/

@[sl_canon] theorem canon_w1 (h) : ((lV).slice (Rect.unit (s := S2x1x64) k0_off1 S1x1x64.size h) (fun _ => rfl)).squeeze S1x64 squeezes_S1x1x64_S1x64 = lSlot (Ring.sl 2 0) :=
  congrArg (fun M : Memref sig .scVector .vmem S1x1x64 .i32 => M.squeeze S1x64 squeezes_S1x1x64_S1x64)
    (Memref.slice_unit_congr _ off1_e _ _ (fun _ => rfl) (fun _ => rfl))
@[sl_canon] theorem canon_w2 (i : grid0.Coords) (h) : ((vV).slice (Rect.unit (s := S1024x1x64) (k0_off2 i) S1x1x64.size h) (fun _ => rfl)).squeeze S1x64 squeezes_S1x1x64_S1x64 = listB (blk i 0) :=
  congrArg (fun M : Memref sig .scVector .hbm S1x1x64 .i32 => M.squeeze S1x64 squeezes_S1x1x64_S1x64)
    (Memref.slice_unit_congr _ (off2_e i) _ _ (fun _ => rfl) (fun _ => rfl))
@[sl_canon] theorem canon_w3 (h) : (cc0_scoped1.slice (Rect.unit (s := S2) k0_off3 S1.size h)).squeeze S_ squeezes_S1_S_ = lSem (Ring.sl 2 0) :=
  congrArg (fun A : DmaSems sig S1 => A.squeeze S_ squeezes_S1_S_) (SemArray.slice_unit_congr _ off3_e _ _)
@[sl_canon] theorem canon_w4 (k : Fin k0_t1_loop.trips) (h) : ((lV).slice (Rect.unit (s := S2x1x64) (k0_off4 (BitVec.ofNat 32 (k.val + 1))) S1x1x64.size h) (fun _ => rfl)).squeeze S1x64 squeezes_S1x1x64_S1x64 = lSlot (Ring.sl 2 (k.val + 1)) :=
  congrArg (fun M : Memref sig .scVector .vmem S1x1x64 .i32 => M.squeeze S1x64 squeezes_S1x1x64_S1x64)
    (Memref.slice_unit_congr _ (off4_e k) _ _ (fun _ => rfl) (fun _ => rfl))
@[sl_canon] theorem canon_w5 (i : grid0.Coords) (k : Fin k0_t1_loop.trips) (hk : k.val < 31) (h) : ((vV).slice (Rect.unit (s := S1024x1x64) (k0_off5 i (BitVec.ofNat 32 k.val)) S1x1x64.size h) (fun _ => rfl)).squeeze S1x64 squeezes_S1x1x64_S1x64 = listB (blk i (k.val + 1)) :=
  congrArg (fun M : Memref sig .scVector .hbm S1x1x64 .i32 => M.squeeze S1x64 squeezes_S1x1x64_S1x64)
    (Memref.slice_unit_congr _ (off5_e i k hk) _ _ (fun _ => rfl) (fun _ => rfl))
@[sl_canon] theorem canon_w6 (k : Fin k0_t1_loop.trips) (h) : (cc0_scoped1.slice (Rect.unit (s := S2) (k0_off6 (BitVec.ofNat 32 (k.val + 1))) S1.size h)).squeeze S_ squeezes_S1_S_ = lSem (Ring.sl 2 (k.val + 1)) :=
  congrArg (fun A : DmaSems sig S1 => A.squeeze S_ squeezes_S1_S_) (SemArray.slice_unit_congr _ (off6_e k) _ _)
@[sl_canon] theorem canon_w7 (k : Fin k0_t1_loop.trips) (h) : ((lV).slice (Rect.unit (s := S2x1x64) (k0_off7 (BitVec.ofNat 32 k.val)) S1x1x64.size h) (fun _ => rfl)).squeeze S1x64 squeezes_S1x1x64_S1x64 = lSlot (Ring.sl 2 k.val) :=
  congrArg (fun M : Memref sig .scVector .vmem S1x1x64 .i32 => M.squeeze S1x64 squeezes_S1x1x64_S1x64)
    (Memref.slice_unit_congr _ (off7_e k) _ _ (fun _ => rfl) (fun _ => rfl))
@[sl_canon] theorem canon_w8 (i : grid0.Coords) (k : Fin k0_t1_loop.trips) (h) : ((vV).slice (Rect.unit (s := S1024x1x64) (k0_off8 i (BitVec.ofNat 32 k.val)) S1x1x64.size h) (fun _ => rfl)).squeeze S1x64 squeezes_S1x1x64_S1x64 = listB (blk i k.val) :=
  congrArg (fun M : Memref sig .scVector .hbm S1x1x64 .i32 => M.squeeze S1x64 squeezes_S1x1x64_S1x64)
    (Memref.slice_unit_congr _ (off8_e i k) _ _ (fun _ => rfl) (fun _ => rfl))
@[sl_canon] theorem canon_w9 (k : Fin k0_t1_loop.trips) (h) : (cc0_scoped1.slice (Rect.unit (s := S2) (k0_off9 (BitVec.ofNat 32 k.val)) S1.size h)).squeeze S_ squeezes_S1_S_ = lSem (Ring.sl 2 k.val) :=
  congrArg (fun A : DmaSems sig S1 => A.squeeze S_ squeezes_S1_S_) (SemArray.slice_unit_congr _ (off9_e k) _ _)
@[sl_canon] theorem canon_w10 (k : Fin k0_t1_loop.trips) (h) : ((tV).slice (Rect.unit (s := S2x64x512) (k0_off10 (BitVec.ofNat 32 k.val)) S1x64x512.size h) (fun _ => rfl)).squeeze S64x512 squeezes_S1x64x512_S64x512 = tSlot (Ring.sl 2 k.val) :=
  congrArg (fun M : Memref sig .scVector .vmem S1x64x512 .i32 => M.squeeze S64x512 squeezes_S1x64x512_S64x512)
    (Memref.slice_unit_congr _ (off10_e k) _ _ (fun _ => rfl) (fun _ => rfl))
@[sl_canon] theorem canon_w11 (k : Fin k0_t1_loop.trips) (h) : ((lV).slice (Rect.unit (s := S2x1x64) (k0_off11 (BitVec.ofNat 32 k.val)) S1x1x64.size h) (fun _ => rfl)).squeeze S1x64 squeezes_S1x1x64_S1x64 = lSlot (Ring.sl 2 k.val) :=
  congrArg (fun M : Memref sig .scVector .vmem S1x1x64 .i32 => M.squeeze S1x64 squeezes_S1x1x64_S1x64)
    (Memref.slice_unit_congr _ (off11_e k) _ _ (fun _ => rfl) (fun _ => rfl))
@[sl_canon] theorem canon_w12 (k : Fin k0_t1_loop.trips) (h) : ((tV).slice (Rect.unit (s := S2x64x512) (k0_off12 (BitVec.ofNat 32 k.val)) S1x64x512.size h) (fun _ => rfl)).squeeze S64x512 squeezes_S1x64x512_S64x512 = tSlot (Ring.sl 2 k.val) :=
  congrArg (fun M : Memref sig .scVector .vmem S1x64x512 .i32 => M.squeeze S64x512 squeezes_S1x64x512_S64x512)
    (Memref.slice_unit_congr _ (off12_e k) _ _ (fun _ => rfl) (fun _ => rfl))
@[sl_canon] theorem canon_w13 (i : grid0.Coords) (k : Fin k0_t1_loop.trips) (h) : (oV).slice (Rect.unit (s := S65536x512) (k0_off13 i (BitVec.ofNat 32 k.val)) S64x512.size h) (fun _ => rfl) = rowsB (blk i k.val) :=
  Memref.slice_unit_congr _ (off13_e i k) _ _ (fun _ => rfl) (fun _ => rfl)
@[sl_canon] theorem canon_w14 (k : Fin k0_t1_loop.trips) (h) : (cc0_scoped3.slice (Rect.unit (s := S2) (k0_off14 (BitVec.ofNat 32 k.val)) S1.size h)).squeeze S_ squeezes_S1_S_ = tSem (Ring.sl 2 k.val) :=
  congrArg (fun A : DmaSems sig S1 => A.squeeze S_ squeezes_S1_S_) (SemArray.slice_unit_congr _ (off14_e k) _ _)
@[sl_canon] theorem canon_w15 (k : Fin k0_t1_loop.trips) (hk : 0 < k.val) (h) : ((tV).slice (Rect.unit (s := S2x64x512) (k0_off15 (BitVec.ofNat 32 (k.val - 1))) S1x64x512.size h) (fun _ => rfl)).squeeze S64x512 squeezes_S1x64x512_S64x512 = tSlot (Ring.sl 2 (k.val + 1)) :=
  congrArg (fun M : Memref sig .scVector .vmem S1x64x512 .i32 => M.squeeze S64x512 squeezes_S1x64x512_S64x512)
    (Memref.slice_unit_congr _ (off15_e k hk) _ _ (fun _ => rfl) (fun _ => rfl))
@[sl_canon] theorem canon_w16 (i : grid0.Coords) (k : Fin k0_t1_loop.trips) (hk : 0 < k.val) (h) : (oV).slice (Rect.unit (s := S65536x512) (k0_off16 i (BitVec.ofNat 32 k.val)) S64x512.size h) (fun _ => rfl) = rowsB (blk i (k.val - 1)) :=
  Memref.slice_unit_congr _ (off16_e i k hk) _ _ (fun _ => rfl) (fun _ => rfl)
@[sl_canon] theorem canon_w17 (k : Fin k0_t1_loop.trips) (hk : 0 < k.val) (h) : (cc0_scoped3.slice (Rect.unit (s := S2) (k0_off17 (BitVec.ofNat 32 (k.val - 1))) S1.size h)).squeeze S_ squeezes_S1_S_ = tSem (Ring.sl 2 (k.val + 1)) :=
  congrArg (fun A : DmaSems sig S1 => A.squeeze S_ squeezes_S1_S_) (SemArray.slice_unit_congr _ (off17_e k hk) _ _)
@[sl_canon] theorem canon_w19 (i : grid0.Coords) (h) : (oV).slice (Rect.unit (s := S65536x512) (k0_off19 i (BitVec.ofNat 32 0)) S64x512.size h) (fun _ => rfl) = rowsB (blk i 31) :=
  Memref.slice_unit_congr _ (off19_e i) _ _ (fun _ => rfl) (fun _ => rfl)
@[sl_canon] theorem canon_w20 (h) : (cc0_scoped3.slice (Rect.unit (s := S2) (k0_off20 (BitVec.ofNat 32 31)) S1.size h)).squeeze S_ squeezes_S1_S_ = tSem (Ring.sl 2 31) :=
  congrArg (fun A : DmaSems sig S1 => A.squeeze S_ squeezes_S1_S_) (SemArray.slice_unit_congr _ off20_e _ _)
@[sl_canon] theorem canon_w21 (h) : ((tV).slice (Rect.unit (s := S2x64x512) (k0_off21 (BitVec.ofNat 32 31)) S1x64x512.size h) (fun _ => rfl)).squeeze S64x512 squeezes_S1x64x512_S64x512 = tSlot (Ring.sl 2 31) :=
  congrArg (fun M : Memref sig .scVector .vmem S1x64x512 .i32 => M.squeeze S64x512 squeezes_S1x64x512_S64x512)
    (Memref.slice_unit_congr _ off21_e _ _ (fun _ => rfl) (fun _ => rfl))

/-! The windows the rows are gathered between, their extents written out. -/

@[sl_canon] theorem canon_w10' (k : Fin k0_t1_loop.trips) (h) : ((tV).slice (Rect.unit (s := S2x64x512) (k0_off10 (BitVec.ofNat 32 k.val)) ![1, 64, 512] h) (fun _ => rfl)).squeeze S64x512 squeezes_S1x64x512_S64x512 = tSlot (Ring.sl 2 k.val) :=
  canon_w10 k h
@[sl_canon] theorem canon_w11' (k : Fin k0_t1_loop.trips) (h) : ((lV).slice (Rect.unit (s := S2x1x64) (k0_off11 (BitVec.ofNat 32 k.val)) ![1, 1, 64] h) (fun _ => rfl)).squeeze S1x64 squeezes_S1x1x64_S1x64 = lSlot (Ring.sl 2 k.val) :=
  canon_w11 k h

end Cert.Proof.Rows

end
-- ==== Proof.Setup.lean ====
/-
  The launch as the library's theorem for SparseCore calls sees it, and a vector subcore's own buffers and cells.

  The one call runs on two SparseCores of sixteen vector subcores each. A subcore owns a scratch for two list blocks, a scratch
  for two row blocks, two cells for each, and four more cells, one for each strip of 128 lanes the rows are gathered in.
-/
module

public import proofs.«01_k».proof.Proof.Words

@[expose] public section

noncomputable section

namespace Cert.Proof.Rows

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "yV" => (Memref.whole Cert.KernelIdeal.main_arg0_scv : Memref Cert.KernelIdeal.sig Kind.scVector Space.hbm Cert.KernelIdeal.S98304x512 EltTy.i32)
local notation "lV" => (Memref.whole Cert.KernelIdeal.cc0_scoped0 : Memref Cert.KernelIdeal.sig Kind.scVector Space.vmem Cert.KernelIdeal.S2x1x64 EltTy.i32)
local notation "tV" => (Memref.whole Cert.KernelIdeal.cc0_scoped2 : Memref Cert.KernelIdeal.sig Kind.scVector Space.vmem Cert.KernelIdeal.S2x64x512 EltTy.i32)

/-! ## The program and the algebra -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

/-- The handshakes' half of the algebra; the transfers' counters are the other. -/
abbrev EH : Emb UH (MT nD τ sig (HIx 1) (Elt F) ℕ UU ℕ) := embL

/-! ## The arrays and a subcore -/

/-- The table, the list as given, the list flat, the list in blocks, and the result. -/
abbrev yLoc (d : Dev nD) : Loc nD τ sig := (SparseCore.T d).loc main_arg0
abbrev gLoc (d : Dev nD) : Loc nD τ sig := (SparseCore.T d).loc main_arg1
abbrev wLoc (d : Dev nD) : Loc nD τ sig := (SparseCore.T d).loc main_v0
abbrev vLoc (d : Dev nD) : Loc nD τ sig := (SparseCore.T d).loc main_v1
abbrev oLoc (d : Dev nD) : Loc nD τ sig := (SparseCore.T d).loc main_v2

abbrev cV (L : grid0.Coords) : Fin τ.nSC := (L 0).castLE hcore0
abbrev jV (L : grid0.Coords) : Fin τ.nSub := (L 1).castLE hsub0
/-- The vector subcore at grid point `L`. -/
abbrev VT (d : Dev nD) (L : grid0.Coords) : Thread nD τ := V d (cV L) (jV L)

section Own

variable (d : Dev nD) (L : grid0.Coords)

/-! ## A subcore's own cells: the eight the program names, and the rest -/

abbrev csem (k : Nat) (hk : k < 8 := by decide) : DmaSem sig := ⟨k, hk⟩
abbrev dcell (d : Dev nD) (c : Fin τ.nSC) (i : Fin τ.nSub) (k : Fin 8) : GSem nD τ sig := (V d c i, .dma (csem k.val k.isLt))
abbrev cell0 (k : Nat) (hk : k < 8 := by decide) : sProp 𝕄 := semVal (VT d L, SemLoc.dma (csem k hk)) 0

/-- A list slot's cell, a row slot's cell. -/
abbrev lR (j : Fin 2) : SemLoc sig := .dma (lSem j).sem
abbrev tR (j : Fin 2) : SemLoc sig := .dma (tSem j).sem
theorem lR_0 : lR 0 = .dma (csem 0) := by decide
theorem lR_1 : lR 1 = .dma (csem 1) := by decide
theorem tR_0 : tR 0 = .dma (csem 2) := by decide
theorem tR_1 : tR 1 = .dma (csem 3) := by decide

/-- The eight at zero: the list's two, the rows' two, the strips' four. -/
abbrev cells0 : sProp 𝕄 :=
  iprop(semVal (VT d L, lR 0) 0 ∗ semVal (VT d L, lR 1) 0 ∗ semVal (VT d L, tR 0) 0 ∗ semVal (VT d L, tR 1) 0
    ∗ cell0 d L 4 ∗ cell0 d L 5 ∗ cell0 d L 6 ∗ cell0 d L 7)

theorem dcell_mem (c : Fin τ.nSC) (i : Fin τ.nSub) (k : Fin 8) : dcell d c i k ∈ ownCells (V d c i) :=
  mem_ownCells.mpr ⟨rfl, (show ∀ s : DmaSem sig, (SemLoc.dma s : SemLoc sig).isScoped .scVector = true by decide) _⟩

theorem ownSems0_V :
    (ownSems0 (VT d L) : sProp 𝕄)
      = iprop(cells0 d L ∗ bigSep ((ownCells (VT d L)) \ Finset.univ.image (dcell d (cV L) (jV L))) fun g => semVal g 0) := by
  unfold SparseCore.Cfg.ownSems0 cells0
  rw [lR_0, lR_1, tR_0, tR_1, SparseCore.bigSep_sdiff_split' (t := Finset.univ.image (dcell d (cV L) (jV L)))
      (Finset.image_subset_iff.mpr fun k _ => dcell_mem d (cV L) (jV L) k),
    SparseCore.bigSep_image_of_injOn (fun a _ b _ h => by
      have := congrArg (fun g : GSem nD τ sig => g.2) h
      simp only [SemLoc.dma.injEq, Fin.mk.injEq] at this; exact Fin.ext this)]
  rw [show (Finset.univ : Finset (Fin 8)) = {0, 1, 2, 3, 4, 5, 6, 7} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]
  rfl

/-! ## A subcore's own buffers: the two scratches, and the rest -/

theorem ownBufs_V :
    (ownBufs (VT d L) : sProp 𝕄)
      = iprop((∃ f, (VT d L).loc cc0_scoped0 ↦{fullShare} f) ∗ (∃ f, (VT d L).loc cc0_scoped2 ↦{fullShare} f)
          ∗ bigSep (((ownRefs (τ := τ) (.scVector (cV L) (jV L))).erase ((Proc.scVector (cV L) (jV L)).devRef cc0_scoped0)).erase
              ((Proc.scVector (cV L) (jV L)).devRef cc0_scoped2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scoped0) rfl)).trans ?_
  rw [SparseCore.bigSep_erase' (Finset.mem_erase.mpr ⟨fun e => absurd (Proc.devRef_injective _ e) (show (cc0_scoped2 : Ref sig .scVector) ≠ cc0_scoped0 by decide),
    SparseCore.Cfg.mem_ownRefs_of_owner (p := Proc.scVector (cV L) (jV L)) (b := (Proc.scVector (cV L) (jV L)).devRef cc0_scoped2) rfl⟩)]

/-! ## The two scratches as their slots -/

/-- A slot held by its own elements. -/
abbrev lP (j : Fin 2) (f : Buf (Elt F) ((lSlot j).view.loc (VT d L))) : sProp 𝕄 := (lSlot j).view.loc (VT d L) ↦[(lSlot j).view.set]{fullShare} f
abbrev tP (j : Fin 2) (f : Buf (Elt F) ((tSlot j).view.loc (VT d L))) : sProp 𝕄 := (tSlot j).view.loc (VT d L) ↦[(tSlot j).view.set]{fullShare} f

abbrev lSet (j : Fin 2) : Finset S2x1x64.Idx := (Rect.unit (s := S2x1x64) ![j.val, 0, 0] S1x1x64.size (inb_lslot j)).set
abbrev tSet (j : Fin 2) : Finset S2x64x512.Idx := (Rect.unit (s := S2x64x512) ![j.val, 0, 0] S1x64x512.size (inb_tslot j)).set
theorem lSet_eq (j : Fin 2) : (lSlot j).view.set = lSet j := by
  simp only [lSlot, Memref.view_squeeze, View.set_reshape]; exact View.set_slice_whole _ _
theorem tSet_eq (j : Fin 2) : (tSlot j).view.set = tSet j := by
  simp only [tSlot, Memref.view_squeeze, View.set_reshape]; exact View.set_slice_whole _ _
theorem lSet_disjoint (j j' : Fin 2) (hj : j ≠ j') : Disjoint (lSet j) (lSet j') :=
  Ring.lead_disjoint (s := S2x1x64) (0 : Fin 3) 1 (fun j : Fin 2 => (![j.val, 0, 0] : Fin 3 → Nat)) S1x1x64.size inb_lslot (fun j => by simp) rfl j j' hj
theorem tSet_disjoint (j j' : Fin 2) (hj : j ≠ j') : Disjoint (tSet j) (tSet j') :=
  Ring.lead_disjoint (s := S2x64x512) (0 : Fin 3) 1 (fun j : Fin 2 => (![j.val, 0, 0] : Fin 3 → Nat)) S1x64x512.size inb_tslot (fun j => by simp) rfl j j' hj
theorem lSet_cover : Finset.univ.biUnion lSet = Finset.univ :=
  Ring.lead_cover (s := S2x1x64) (0 : Fin 3) 1 (fun j : Fin 2 => (![j.val, 0, 0] : Fin 3 → Nat)) S1x1x64.size inb_lslot (fun j => by simp)
    (fun j a ha => by fin_cases a <;> first | exact absurd rfl ha | rfl) rfl (fun a ha => by fin_cases a <;> first | exact absurd rfl ha | rfl) rfl
theorem tSet_cover : Finset.univ.biUnion tSet = Finset.univ :=
  Ring.lead_cover (s := S2x64x512) (0 : Fin 3) 1 (fun j : Fin 2 => (![j.val, 0, 0] : Fin 3 → Nat)) S1x64x512.size inb_tslot (fun j => by simp)
    (fun j a ha => by fin_cases a <;> first | exact absurd rfl ha | rfl) rfl (fun a ha => by fin_cases a <;> first | exact absurd rfl ha | rfl) rfl
theorem lP_eq (j : Fin 2) (f) : lP (F := F) d L j f = ((VT d L).loc cc0_scoped0 ↦[lSet j]{fullShare} f : sProp 𝕄) := by
  unfold lP; rw [lSet_eq]; rfl
theorem tP_eq (j : Fin 2) (f) : tP (F := F) d L j f = ((VT d L).loc cc0_scoped2 ↦[tSet j]{fullShare} f : sProp 𝕄) := by
  unfold tP; rw [tSet_eq]; rfl
theorem lSlots_in : iprop(∃ f, (VT d L).loc cc0_scoped0 ↦{fullShare} f) ⊢ (iprop((∃ f, lP d L 0 f) ∗ ∃ f, lP d L 1 f) : sProp 𝕄) :=
  Ring.slots2_split (U := UU) (ℓ := (VT d L).loc cc0_scoped0) (q := fullShare) lSet lSet_disjoint lSet_cover (lP d L 0) (lP d L 1) (lP_eq d L 0) (lP_eq d L 1)
theorem lSlots_out : (iprop((∃ f, lP d L 0 f) ∗ ∃ f, lP d L 1 f) : sProp 𝕄) ⊢ iprop(∃ f, (VT d L).loc cc0_scoped0 ↦{fullShare} f) :=
  Ring.slots2_join (U := UU) (ℓ := (VT d L).loc cc0_scoped0) (q := fullShare) lSet lSet_disjoint lSet_cover (lP d L 0) (lP d L 1) (lP_eq d L 0) (lP_eq d L 1)
theorem tSlots_in : iprop(∃ f, (VT d L).loc cc0_scoped2 ↦{fullShare} f) ⊢ (iprop((∃ f, tP d L 0 f) ∗ ∃ f, tP d L 1 f) : sProp 𝕄) :=
  Ring.slots2_split (U := UU) (ℓ := (VT d L).loc cc0_scoped2) (q := fullShare) tSet tSet_disjoint tSet_cover (tP d L 0) (tP d L 1) (tP_eq d L 0) (tP_eq d L 1)
theorem tSlots_out : (iprop((∃ f, tP d L 0 f) ∗ ∃ f, tP d L 1 f) : sProp 𝕄) ⊢ iprop(∃ f, (VT d L).loc cc0_scoped2 ↦{fullShare} f) :=
  Ring.slots2_join (U := UU) (ℓ := (VT d L).loc cc0_scoped2) (q := fullShare) tSet tSet_disjoint tSet_cover (tP d L 0) (tP d L 1) (tP_eq d L 0) (tP_eq d L 1)

end Own

end Cert.Proof.Rows

end
-- ==== Proof.Block.lean ====
/-
  The blocks of the pipeline: what a subcore holds of the list, of the result and of its two scratch buffers between the
  pipeline's steps, and what the steps leave there. Row `64 * b + j` of the result is the row of the table that word `j` of
  block `b` of the list names (`tgt`); a slot of the row scratch into which the four strips of block `b`'s rows have come
  reads as block `b` of that (`slot_read`).
-/
module

public import proofs.«01_k».proof.Proof.Setup
public import Idealize.ShloMosaic.Lib.WritesUnit

@[expose] public section

noncomputable section

namespace Cert.Proof.Rows

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "yV" => (Memref.whole Cert.KernelIdeal.main_arg0_scv : Memref Cert.KernelIdeal.sig Kind.scVector Space.hbm Cert.KernelIdeal.S98304x512 EltTy.i32)
local notation "vV" => (Memref.whole Cert.KernelIdeal.main_v1_scv : Memref Cert.KernelIdeal.sig Kind.scVector Space.hbm Cert.KernelIdeal.S1024x1x64 EltTy.i32)
local notation "oV" => (Memref.whole Cert.KernelIdeal.main_v2_scv : Memref Cert.KernelIdeal.sig Kind.scVector Space.hbm Cert.KernelIdeal.S65536x512 EltTy.i32)
local notation "lV" => (Memref.whole Cert.KernelIdeal.cc0_scoped0 : Memref Cert.KernelIdeal.sig Kind.scVector Space.vmem Cert.KernelIdeal.S2x1x64 EltTy.i32)
local notation "tV" => (Memref.whole Cert.KernelIdeal.cc0_scoped2 : Memref Cert.KernelIdeal.sig Kind.scVector Space.vmem Cert.KernelIdeal.S2x64x512 EltTy.i32)
local notation "𝕄" => MT nD τ sig (HIx 1) (Elt F) ℕ UU ℕ

section Body
variable (d : Dev nD) (L : grid0.Coords) (y : Buf (Elt F) (yLoc d)) (v : Buf (Elt F) (vLoc d)) (q : PosShare TreeShare)

/-- Block `b` of the list; block `b` of the result, at anything. -/
abbrev LB (b : Fin 1024) : sProp 𝕄 := (listB b).view.loc (VT d L) ↦[(listB b).view.set]{fullShare} v
abbrev RB (b : Fin 1024) : sProp 𝕄 := iprop(∃ f, (rowsB b).view.loc (VT d L) ↦[(rowsB b).view.set]{fullShare} f)

/-- Row `r` of the table, at column `c`; word `j` of block `b` of the list. -/
def yIx (r : ℕ) (c : Fin 512) : S98304x512.Idx := fun a => match a with | 0 => Fin.ofNat 98304 r | 1 => c
def vIx (b : ℕ) (j : ℕ) : S1024x1x64.Idx := fun a => match a with | 0 => Fin.ofNat 1024 b | 1 => (0 : Fin 1) | 2 => Fin.ofNat 64 j

/-- The result: row `64 * b + j` is the table's row that word `j` of block `b` of the list names. -/
def tgt : Buf (Elt F) (oLoc d) :=
  fun x : S65536x512.Idx => y (yIx (v (vIx ((x 0).val / 64) ((x 0).val % 64)) : BitVec 32).toNat (x 1))
/-- Block `b` of the result, done. -/
abbrev RD (b : Fin 1024) : sProp 𝕄 := (rowsB b).view.loc (VT d L) ↦[(rowsB b).view.set]{fullShare} tgt d y v

/-- List block `b` on its way to slot `j`; row block `b` on its way out of slot `j`. -/
def lFly (j : Fin 2) (b : Fin 1024) : sProp 𝕄 :=
  iprop(∃ f, Transfers.Flight countersEmb (VT d L) (lR j) default 2048
    iprop(((lSlot j).view.loc (VT d L) ↦[(lSlot j).view.set]{fullShare}
        (lSlot j).view.writes (Elt F) f [⟨Rect.whole S1x64, ReadAs.same.apply ((listB b).view.read (Elt F) v)⟩]) ∗ LB d L v b))
def tFly (j : Fin 2) (b : Fin 1024) : sProp 𝕄 :=
  iprop(∃ f g, ⌜∀ x, (tSlot j).view.read (Elt F) g x = (rowsB b).view.read (Elt F) (tgt d y v) x⌝
    ∗ Transfers.Flight countersEmb (VT d L) (tR j) default 1048576
    iprop(((rowsB b).view.loc (VT d L) ↦[(rowsB b).view.set]{fullShare}
        (rowsB b).view.writes (Elt F) f [⟨Rect.whole S64x512, ReadAs.same.apply ((tSlot j).view.read (Elt F) g)⟩]) ∗ tP d L j g))
/-- A slot free, its cell at zero. -/
def lFree (j : Fin 2) : sProp 𝕄 := iprop((∃ f, lP d L j f) ∗ semVal (VT d L, lR j) 0)
def tFree (j : Fin 2) : sProp 𝕄 := iprop((∃ f, tP d L j f) ∗ semVal (VT d L, tR j) 0)

/-- The list's slot of trip `k`: block `k` on its way, or, past the last, free. -/
def lAt (k : ℕ) : sProp 𝕄 := if k < 32 then lFly d L v (Ring.sl 2 k) (blk L k) else lFree d L (Ring.sl 2 k)
/-- The rows' other slot before trip `k`: block `k - 1` on its way, or, before the first, free. -/
def tAt (k : ℕ) : sProp 𝕄 := if 0 < k then tFly d L y v (Ring.sl 2 (k + 1)) (blk L (k - 1)) else tFree d L (Ring.sl 2 (k + 1))

/-- The blocks in `[lo, hi)`. -/
abbrev Ls (lo hi : ℕ) : sProp 𝕄 := bigSep (Ring.rangeSet 32 lo hi) fun k => LB d L v (blk L k.val)
abbrev Rs (lo hi : ℕ) : sProp 𝕄 := bigSep (Ring.rangeSet 32 lo hi) fun k => RB d L (blk L k.val)
abbrev Ds (lo hi : ℕ) : sProp 𝕄 := bigSep (Ring.rangeSet 32 lo hi) fun k => RD d L y v (blk L k.val)

theorem Ls_head (k : ℕ) (h : k < 32) : Ls d L v k 32 = iprop(LB d L v (blk L k) ∗ Ls d L v (k + 1) 32) :=
  Ring.bigSep_rangeSet_head (Φ := fun k : Fin 32 => LB d L v (blk L k.val)) h h
theorem Ls_last (k : ℕ) (h : k < 32) : Ls d L v 0 (k + 1) = iprop(LB d L v (blk L k) ∗ Ls d L v 0 k) :=
  Ring.bigSep_rangeSet_last (Φ := fun k : Fin 32 => LB d L v (blk L k.val)) (Nat.succ_pos k) h
theorem Rs_head (k : ℕ) (h : k < 32) : Rs (F := F) d L k 32 = iprop(RB d L (blk L k) ∗ Rs d L (k + 1) 32) :=
  Ring.bigSep_rangeSet_head (Φ := fun k : Fin 32 => RB d L (blk L k.val)) h h
theorem Ds_last (k : ℕ) (h : k < 32) : Ds d L y v 0 (k + 1) = iprop(RD d L y v (blk L k) ∗ Ds d L y v 0 k) :=
  Ring.bigSep_rangeSet_last (Φ := fun k : Fin 32 => RD d L y v (blk L k.val)) (Nat.succ_pos k) h

theorem lAt_lt (k : ℕ) (h : k < 32) : lAt d L v k = lFly d L v (Ring.sl 2 k) (blk L k) := if_pos h
theorem lAt_last (k : ℕ) (h : ¬ k < 32) : lAt d L v k = lFree d L (Ring.sl 2 k) := if_neg h
theorem tAt_pos (k : ℕ) (h : 0 < k) : tAt d L y v k = tFly d L y v (Ring.sl 2 (k + 1)) (blk L (k - 1)) := if_pos h
theorem tAt_zero (k : ℕ) (h : ¬ 0 < k) : tAt d L y v k = tFree d L (Ring.sl 2 (k + 1)) := if_neg h

/-- The words before trip `k`. -/
def words (k : ℕ) : BitVec 32 × BitVec 32 × BitVec 32 × BitVec 32 × BitVec 32 :=
  (wd (min (k + 1) 32), wd k, wd k, wd (k - 1), wd (k % 32))

def inv (O : CellTallies nD τ sig (HIx 1)) (k : ℕ) (acc : BitVec 32 × BitVec 32 × BitVec 32 × BitVec 32 × BitVec 32) : sProp 𝕄 :=
  iprop(⌜acc = words k⌝ ∗ Transfers.MayWaits (VT d L) (none : HIx 1) O
    ∗ ((yV).view.loc (VT d L) ↦{q} y)
    ∗ (Ls d L v 0 k ∗ Ls d L v (k + 1) 32)
    ∗ (Ds d L y v 0 (k - 1) ∗ Rs d L k 32)
    ∗ lAt d L v k ∗ lFree d L (Ring.sl 2 (k + 1))
    ∗ tFree d L (Ring.sl 2 k) ∗ tAt d L y v k
    ∗ (cell0 d L 4 ∗ cell0 d L 5 ∗ cell0 d L 6 ∗ cell0 d L 7)
    ∗ ∃ W', owes (VT d L) O W')

/-- After the last trip: every list block back, every row block but the last done, the last on its way. -/
theorem inv_end (O : CellTallies nD τ sig (HIx 1)) (acc : BitVec 32 × BitVec 32 × BitVec 32 × BitVec 32 × BitVec 32) :
    inv d L y v q O k0_t1_loop.trips acc ⊢ (iprop(⌜acc = words 32⌝ ∗ Transfers.MayWaits (VT d L) (none : HIx 1) O
      ∗ ((yV).view.loc (VT d L) ↦{q} y)
      ∗ Ls d L v 0 32 ∗ Ds d L y v 0 31
      ∗ lFree d L 0 ∗ lFree d L 1 ∗ tFree d L 0 ∗ tFly d L y v (Ring.sl 2 31) (blk L 31)
      ∗ (cell0 d L 4 ∗ cell0 d L 5 ∗ cell0 d L 6 ∗ cell0 d L 7)
      ∗ ∃ W', owes (VT d L) O W') : sProp 𝕄) := by
  rw [show k0_t1_loop.trips = 32 by decide]
  unfold inv
  rw [lAt_last d L v 32 (by decide), tAt_pos d L y v 32 (by decide), show Ring.sl 2 32 = (0 : Fin 2) from rfl,
    show Ring.sl 2 (32 + 1) = (1 : Fin 2) from rfl, show Ring.sl 2 31 = (1 : Fin 2) from rfl]
  iintro ⟨%h, Hmw, Hy, ⟨HLs, -⟩, ⟨HDs, -⟩, H1, H2, H3, H4, H5, H6⟩
  isplitr; · ipureintro; exact h
  isplitl [Hmw]; · iexact Hmw
  isplitl [Hy]; · iexact Hy
  isplitl [HLs]; · iexact HLs
  isplitl [HDs]; · iexact HDs
  isplitl [H1]; · iexact H1
  isplitl [H2]; · iexact H2
  isplitl [H3]; · iexact H3
  isplitl [H4]; · iexact H4
  isplitl [H5]; · iexact H5
  iexact H6

/-- The list as the gathers read it out of slot `j`. -/
abbrev lOffs (j : Fin 2) : Memref sig .scVector .vmem S64 .i32 :=
  ((lSlot j).slice (Rect.unit (s := S1x64) ![0, 0] S1x64.size inb_S1x64_S1x64_0_0) (fun _ => rfl)).squeeze S64 squeezes_S1x64_S64

/-- Lane `n` of a list of 64 words. -/
def lane (n : Fin 64) : S64.Idx := fun a => match a with | 0 => n
def lane2 (n : Fin 64) : S1x64.Idx := fun a => match a with | 0 => (0 : Fin 1) | 1 => n
def lane3 (n : Fin 64) : S1x1x64.Idx := fun a => match a with | 0 => (0 : Fin 1) | 1 => (0 : Fin 1) | 2 => n

/-- Word `x` of it, after block `b` was copied in, is word `x` of that block. -/
theorem lOffs_read (j : Fin 2) (b : Fin 1024) (f : Buf (Elt F) ((lSlot j).view.loc (VT d L))) (x : S64.Idx) :
    (lOffs j).view.read (Elt F) ((lSlot j).view.writes (Elt F) f [⟨Rect.whole S1x64, ReadAs.same.apply ((listB b).view.read (Elt F) v)⟩]) x
      = v (vIx b.val (x 0).val) := by
  have e : (lOffs j).view.read (Elt F) ((lSlot j).view.writes (Elt F) f [⟨Rect.whole S1x64, ReadAs.same.apply ((listB b).view.read (Elt F) v)⟩]) x
      = (lSlot j).view.read (Elt F) ((lSlot j).view.writes (Elt F) f [⟨Rect.whole S1x64, ReadAs.same.apply ((listB b).view.read (Elt F) v)⟩])
          ((Rect.unit (s := S1x64) ![0, 0] S1x64.size inb_S1x64_S1x64_0_0).emb (Shape.reshapeEquiv squeezes_S1x64_S64.numel_eq x)) := by
    rw [View.read_apply, View.read_apply]; rfl
  rw [e, View.read_writes_whole]
  have h1 : ∀ n : Fin 64, Shape.reshapeEquiv (s := S1x64) (s' := S64) squeezes_S1x64_S64.numel_eq (lane n) = lane2 n := by decide +kernel
  have h2 : ∀ n : Fin 64, Shape.reshapeEquiv (s := S1x1x64) (s' := S1x64) squeezes_S1x1x64_S1x64.numel_eq (lane2 n) = lane3 n := by decide +kernel
  have h3 : ∀ n : Fin 64, (Rect.unit (s := S1x64) ![0, 0] S1x64.size inb_S1x64_S1x64_0_0).emb (lane2 n) = lane2 n := by decide +kernel
  obtain ⟨n, rfl⟩ : ∃ n : Fin 64, x = lane n := ⟨x 0, funext fun a => by
    match a with | 0 => rfl⟩
  refine (congrArg (fun z => ReadAs.same.apply ((listB b).view.read (Elt F) v) z)
    ((congrArg (Rect.unit (s := S1x64) ![0, 0] S1x64.size inb_S1x64_S1x64_0_0).emb (h1 n)).trans (h3 n))).trans ?_
  refine (congrArg (fun z => v ((Rect.unit (s := S1024x1x64) ![b.val, 0, 0] S1x1x64.size (inb_list b)).emb z)) (h2 n)).trans ?_
  refine congrArg v (funext fun a => ?_)
  match a with
  | 0 => exact Fin.ext (by show b.val + 1 * 0 = b.val % 1024; have := b.isLt; omega)
  | 1 => exact Subsingleton.elim (α := Fin 1) _ _
  | 2 => exact Fin.ext (by show 0 + 1 * n.val = n.val % 64; have := n.isLt; omega)

theorem lOffs_lt (hv : ∀ j : S1024x1x64.Idx, (v j : BitVec 32).toNat < 98304) (j : Fin 2) (b : Fin 1024) (f : Buf (Elt F) ((lSlot j).view.loc (VT d L))) :
    ∀ x : S64.Idx, ((lOffs j).view.read (Elt F) ((lSlot j).view.writes (Elt F) f [⟨Rect.whole S1x64, ReadAs.same.apply ((listB b).view.read (Elt F) v)⟩]) x : BitVec 32).toNat < 98304 := by
  intro x; rw [lOffs_read]; exact hv _

omit [FloatOps F] in
/-- Contents that read the same through a view agree on the view's elements. -/
theorem eq_on_of_read {κ : Kind} {sp : Space} {s : Shape} {e : EltTy} (w : View sig κ sp s e) (f g : w.ty.Contents (Elt F))
    (h : ∀ x, w.read (Elt F) f x = w.read (Elt F) g x) : ∀ i ∈ w.set, f i = g i := by
  intro i hi
  obtain ⟨x, -, hx⟩ := Finset.mem_map.mp hi
  have hx' := h x
  rw [View.read_apply, View.read_apply] at hx'
  rw [← hx]; exact (cast_inj _).mp hx'

/-- A row block sent holds the target. -/
theorem RD_of (j : Fin 2) (b : Fin 1024) (f : (rowsB b).view.ty.Contents (Elt F)) (g : Buf (Elt F) ((tSlot j).view.loc (VT d L)))
    (hg : ∀ x, (tSlot j).view.read (Elt F) g x = (rowsB b).view.read (Elt F) (tgt d y v) x) :
    ((rowsB b).view.loc (VT d L) ↦[(rowsB b).view.set]{fullShare}
        (rowsB b).view.writes (Elt F) f [⟨Rect.whole S64x512, ReadAs.same.apply ((tSlot j).view.read (Elt F) g)⟩] : sProp 𝕄)
      ⊢ RD d L y v b :=
  Entails.of_eq (pointsTo_congr (eq_on_of_read (rowsB b).view _ _ fun x =>
    (congrFun (View.read_writes_whole (rowsB b).view f _) x).trans (hg x)))

/-- A strip's gather: the payload at `x` is the strip's element at the row word `x 0` of the list names. -/
theorem strip_apply (g : S98304x128.Idx → Elt F .i32) (idx : S64.Idx → Elt F .i32) (hin : ∀ x, (idx x : BitVec 32).toNat < 98304) (x : S64x128.Idx) :
    SparseCore.gatherPayload gathers_S98304x128_S64x128 g (SparseCore.rows idx rfl hin) x
      = g (fun a => match a with | 0 => (⟨(idx (lane (x 0)) : BitVec 32).toNat, hin _⟩ : Fin 98304) | 1 => x 1) := by
  have hr : ∀ n : Fin 64, S64.rowMajor.symm (n.cast (rfl : S64.numel = 64).symm) = lane n := by decide +kernel
  unfold SparseCore.gatherPayload
  congr 1; funext a
  match a with
  | 0 =>
    refine (Shape.Gathers.idx_axis gathers_S98304x128_S64x128 _ x).trans ?_
    refine Fin.ext ?_
    exact congrArg (fun z => (idx z : BitVec 32).toNat) (hr (x 0))
  | 1 => exact Fin.ext (Shape.Gathers.idx_of_ne gathers_S98304x128_S64x128 _ x 1 (by decide))

/-- The table's strip of columns from `128 * c` on, as a gather reads it. -/
theorem strip_read (o : ℕ) (ho : ∀ a, (![0, o] : Fin 2 → Nat) a + S98304x128.size a ≤ S98304x512.size a) (z : S98304x128.Idx) :
    (((yV).slice (Rect.unit (s := S98304x512) ![0, o] S98304x128.size ho) (fun _ => rfl)).slice
        (Rect.unit (s := S98304x128) ![0, 0] S98304x128.size inb_S98304x128_S98304x128_0_0) (fun _ => rfl)).view.read (Elt F) y z
      = y (yIx (z 0).val (Fin.ofNat 512 (o + (z 1).val))) := by
  rw [View.read_apply]
  show y _ = y _
  congr 1; funext a
  match a with
  | 0 => exact Fin.ext (by show 0 + 1 * (0 + 1 * (z 0).val) = (z 0).val % 98304; have : (z 0).val < 98304 := (z 0).isLt; omega)
  | 1 =>
    exact Fin.ext (by
      show o + 1 * (0 + 1 * (z 1).val) = (o + (z 1).val) % 512
      have h1 : (z 1).val < 128 := (z 1).isLt
      have h2 : o + 128 ≤ 512 := ho 1
      omega)

/-- What a slot holds once the four strips of block `b`'s rows have come in. -/
theorem slot_read (j : Fin 2) (b : Fin 1024) (f : Buf (Elt F) ((tSlot j).view.loc (VT d L)))
    (p0 p1 p2 p3 : S64x128.Idx → Elt F .i32)
    (h0 : ∀ x : S64x128.Idx, p0 x = y (yIx (v (vIx b.val (x 0).val) : BitVec 32).toNat (Fin.ofNat 512 (0 + (x 1).val))))
    (h1 : ∀ x : S64x128.Idx, p1 x = y (yIx (v (vIx b.val (x 0).val) : BitVec 32).toNat (Fin.ofNat 512 (128 + (x 1).val))))
    (h2 : ∀ x : S64x128.Idx, p2 x = y (yIx (v (vIx b.val (x 0).val) : BitVec 32).toNat (Fin.ofNat 512 (256 + (x 1).val))))
    (h3 : ∀ x : S64x128.Idx, p3 x = y (yIx (v (vIx b.val (x 0).val) : BitVec 32).toNat (Fin.ofNat 512 (384 + (x 1).val)))) (x : S64x512.Idx) :
    (tSlot j).view.read (Elt F) ((tSlot j).view.writes (Elt F) f
        [⟨Rect.unit (s := S64x512) ![0, 384] S64x128.size inb_S64x512_S64x128_0_384, p3⟩,
         ⟨Rect.unit (s := S64x512) ![0, 256] S64x128.size inb_S64x512_S64x128_0_256, p2⟩,
         ⟨Rect.unit (s := S64x512) ![0, 128] S64x128.size inb_S64x512_S64x128_0_128, p1⟩,
         ⟨Rect.unit (s := S64x512) ![0, 0] S64x128.size inb_S64x512_S64x128_0_0, p0⟩]) x
      = (rowsB b).view.read (Elt F) (tgt d y v) x := by
  have hx0 : (x 0).val < 64 := (x 0).isLt
  have hx1 : (x 1).val < 512 := (x 1).isLt
  have hb := b.isLt
  -- the target at the block's element `x`
  have hT : (rowsB b).view.read (Elt F) (tgt d y v) x = y (yIx (v (vIx b.val (x 0).val) : BitVec 32).toNat (x 1)) := by
    show y (yIx (v (vIx ((64 * b.val + 1 * (x 0).val) / 64) ((64 * b.val + 1 * (x 0).val) % 64)) : BitVec 32).toNat
      ((Rect.unit (s := S65536x512) ![64 * b.val, 0] S64x512.size (inb_rows b)).emb x 1)) = _
    have e0 : (64 * b.val + 1 * (x 0).val) / 64 = b.val := by omega
    have e1 : (64 * b.val + 1 * (x 0).val) % 64 = (x 0).val := by omega
    have e2 : (Rect.unit (s := S65536x512) ![64 * b.val, 0] S64x512.size (inb_rows b)).emb x 1 = x 1 := Fin.ext (by show 0 + 1 * (x 1).val = (x 1).val; omega)
    rw [e0, e1]; exact congrArg (fun c => y (yIx _ c)) e2
  rw [hT]
  -- a piece the column is in, and the pieces before it that it is not in
  have hin : ∀ o : ℕ, o ≤ (x 1).val → (x 1).val < o + 128 → ∃ z : S64x128.Idx, (∀ a, (x a).val = (![0, o] : Fin 2 → ℕ) a + (z a).val)
      ∧ z 0 = x 0 ∧ Fin.ofNat 512 (o + (z 1).val) = x 1 := by
    intro o ha hb'
    refine ⟨fun a => match a with | 0 => (⟨(x 0).val, hx0⟩ : Fin 64) | 1 => (⟨(x 1).val - o, by omega⟩ : Fin 128), ?_, rfl, ?_⟩
    · intro a
      match a with
      | 0 => exact (Nat.zero_add _).symm
      | 1 => show (x 1).val = o + ((x 1).val - o); omega
    · exact Fin.ext (by show (o + ((x 1).val - o)) % 512 = (x 1).val; omega)
  by_cases c3 : 384 ≤ (x 1).val
  · obtain ⟨z, hz, z0, z1⟩ := hin 384 c3 (by omega)
    rw [View.read_writes_cons_unit_of_mem _ _ _ _ _ _ z rfl hz, h3, z0, z1]
  rw [View.read_writes_cons_unit_of_not_mem _ _ _ _ _ _ rfl 1 (.inl (by show (x 1).val < 384; omega))]
  by_cases c2 : 256 ≤ (x 1).val
  · obtain ⟨z, hz, z0, z1⟩ := hin 256 c2 (by omega)
    rw [View.read_writes_cons_unit_of_mem _ _ _ _ _ _ z rfl hz, h2, z0, z1]
  rw [View.read_writes_cons_unit_of_not_mem _ _ _ _ _ _ rfl 1 (.inl (by show (x 1).val < 256; omega))]
  by_cases c1 : 128 ≤ (x 1).val
  · obtain ⟨z, hz, z0, z1⟩ := hin 128 c1 (by omega)
    rw [View.read_writes_cons_unit_of_mem _ _ _ _ _ _ z rfl hz, h1, z0, z1]
  rw [View.read_writes_cons_unit_of_not_mem _ _ _ _ _ _ rfl 1 (.inl (by show (x 1).val < 128; omega))]
  obtain ⟨z, hz, z0, z1⟩ := hin 0 (Nat.zero_le _) (by omega)
  rw [View.read_writes_cons_unit_of_mem _ _ _ _ _ _ z rfl hz, h0, z0, z1]

/-- A strip's payload over the list as block `b` left it in slot `j`. -/
theorem strip_payload (j : Fin 2) (b : Fin 1024) (f : Buf (Elt F) ((lSlot j).view.loc (VT d L)))
    (o : ℕ) (ho : ∀ a, (![0, o] : Fin 2 → Nat) a + S98304x128.size a ≤ S98304x512.size a)
    (hin : ∀ x : S64.Idx, ((lOffs j).view.read (Elt F) ((lSlot j).view.writes (Elt F) f [⟨Rect.whole S1x64, ReadAs.same.apply ((listB b).view.read (Elt F) v)⟩]) x : BitVec 32).toNat < 98304)
    (x : S64x128.Idx) :
    SparseCore.gatherPayload gathers_S98304x128_S64x128
        ((((yV).slice (Rect.unit (s := S98304x512) ![0, o] S98304x128.size ho) (fun _ => rfl)).slice
          (Rect.unit (s := S98304x128) ![0, 0] S98304x128.size inb_S98304x128_S98304x128_0_0) (fun _ => rfl)).view.read (Elt F) y)
        (SparseCore.rows ((lOffs j).view.read (Elt F) ((lSlot j).view.writes (Elt F) f [⟨Rect.whole S1x64, ReadAs.same.apply ((listB b).view.read (Elt F) v)⟩])) rfl hin) x
      = y (yIx (v (vIx b.val (x 0).val) : BitVec 32).toNat (Fin.ofNat 512 (o + (x 1).val))) := by
  rw [strip_apply, strip_read]
  exact congrArg (fun w : BitVec 32 => y (yIx w.toNat (Fin.ofNat 512 (o + (x 1).val)))) (lOffs_read d L v j b f (lane (x 0)))

end Body

end Cert.Proof.Rows
-- ==== Proof.Tile.lean ====
/-
  One vector subcore's run of the pipeline: 32 trips, each bringing in the next block of the list, gathering the rows of the
  present block, in four strips, into one slot of the row scratch, and sending that slot out to the result while the
  other slot's sending ends. Before the first trip the first block is on its way in; after the last the last is on its way out.
-/
module

public import proofs.«01_k».proof.Proof.Block

@[expose] public section

noncomputable section

namespace Cert.Proof.Rows

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "yV" => (Memref.whole Cert.KernelIdeal.main_arg0_scv : Memref Cert.KernelIdeal.sig Kind.scVector Space.hbm Cert.KernelIdeal.S98304x512 EltTy.i32)
local notation "vV" => (Memref.whole Cert.KernelIdeal.main_v1_scv : Memref Cert.KernelIdeal.sig Kind.scVector Space.hbm Cert.KernelIdeal.S1024x1x64 EltTy.i32)
local notation "oV" => (Memref.whole Cert.KernelIdeal.main_v2_scv : Memref Cert.KernelIdeal.sig Kind.scVector Space.hbm Cert.KernelIdeal.S65536x512 EltTy.i32)
local notation "lV" => (Memref.whole Cert.KernelIdeal.cc0_scoped0 : Memref Cert.KernelIdeal.sig Kind.scVector Space.vmem Cert.KernelIdeal.S2x1x64 EltTy.i32)
local notation "tV" => (Memref.whole Cert.KernelIdeal.cc0_scoped2 : Memref Cert.KernelIdeal.sig Kind.scVector Space.vmem Cert.KernelIdeal.S2x64x512 EltTy.i32)
local notation "𝕄" => MT nD τ sig (HIx 1) (Elt F) ℕ UU ℕ

section Body
variable (d : Dev nD) (L : grid0.Coords) (y : Buf (Elt F) (yLoc d)) (v : Buf (Elt F) (vLoc d)) (q : PosShare TreeShare)

theorem tile_run (hv : ∀ j : S1024x1x64.Idx, (v j : BitVec 32).toNat < 98304) (O : CellTallies nD τ sig (HIx 1)) (W : Waits sig (HIx 1)) :
    (iprop(Transfers.MayWaits (VT d L) (none : HIx 1) O
        ∗ ((yV).view.loc (VT d L) ↦{q} y)
        ∗ Ls d L v 0 32 ∗ Rs d L 0 32
        ∗ (∃ f, lP d L 0 f) ∗ (∃ f, lP d L 1 f) ∗ (∃ f, tP d L 0 f) ∗ (∃ f, tP d L 1 f)
        ∗ cells0 d L
        ∗ owes (VT d L) O W) : sProp 𝕄)
      ⊢ wp frame (wpE (defs₀ (F := F)) 𝒱₀ (VT d L) none) Set.univ
          (cc0_sc_gather_rows L yV (Memref.isWhole_whole _) vV (Memref.isWhole_whole _) oV (Memref.isWhole_whole _)
            lV (Memref.isWhole_whole _) cc0_scoped1 tV (Memref.isWhole_whole _) cc0_scoped3 cc0_scoped4 cc0_scoped5 cc0_scoped6 cc0_scoped7)
          fun _ => iprop(((yV).view.loc (VT d L) ↦{q} y)
            ∗ Ls d L v 0 32 ∗ Ds d L y v 0 32
            ∗ (∃ f, lP d L 0 f) ∗ (∃ f, lP d L 1 f) ∗ (∃ f, tP d L 0 f) ∗ (∃ f, tP d L 1 f)
            ∗ cells0 d L
            ∗ ∃ W', owes (VT d L) O W') := by
  iintro ⟨#Hmw, Hy, HLs, HRs, ⟨%l0, Hl0⟩, ⟨%l1, Hl1⟩, ⟨%t0, Ht0⟩, ⟨%t1, Ht1⟩, ⟨Hcl0, Hcl1, Hct0, Hct1, Hc4, Hc5, Hc6, Hc7⟩, HO⟩
  have hs : Ring.sl 2 0 = (0 : Fin 2) := rfl
  ihave HLs' := (Entails.of_eq (Ls_head d L v 0 (by decide))) $$ HLs
  icases HLs' with ⟨HL, HLs⟩
  sl_unfold [cc0_sc_gather_rows]
  sl_exec
  sl_for (inv d L y v q O) $$ [Hy HLs HRs Hl1 Ht0 Ht1 Hcl0 Hcl1 Hct0 Hct1 Hc4 Hc5 Hc6 Hc7 HO]
  case region =>
    intro k acc
    unfold inv
    have hc2 := cond2_true L k
    have hc5 := cond5_true L k
    have h1 := chk1_ok L k
    have h2 := chk2_ok k
    have h3 := chk3_ok k
    have hin := lOffs_lt d L v hv (Ring.sl 2 k.val) (blk L k.val)
    have hk : k.val < 32 := k.isLt
    have hw : words k.val = (wd (k.val + 1), wd k.val, wd k.val, wd (k.val - 1), wd k.val) := by
      unfold words; rw [Nat.min_eq_left (by omega), Nat.mod_eq_of_lt (by omega)]
    rw [lAt_lt d L v k.val hk, tAt_pos d L y v (k.val + 1) (Nat.succ_pos _), Rs_head d L k.val hk, Ls_last d L v k.val hk, Nat.add_sub_cancel,
      show Ring.sl 2 (k.val + 1 + 1) = Ring.sl 2 k.val from Ring.sl_add 2 k.val]
    rcases Classical.em (0 < k.val) with hk0 | hk0
    · have hc7 := (cond7_iff L k).mpr hk0
      rw [tAt_pos d L y v k.val hk0]
      obtain ⟨n, hn⟩ : ∃ n, k.val = n + 1 := ⟨k.val - 1, by omega⟩
      rw [show Ds d L y v 0 k.val = iprop(RD d L y v (blk L (k.val - 1)) ∗ Ds d L y v 0 (k.val - 1)) from by
        rw [hn]; exact Ds_last d L y v n (by omega)]
      rcases Classical.em (k.val < 31) with hk1 | hk1
      · rw [lAt_lt d L v (k.val + 1) (by omega), Ls_head d L v (k.val + 1) (by omega)]
        have hc1 := (cond1_iff L k).mpr hk1
        unfold lFly tFly lFree tFree
        iintro ⟨%hacc, #Hmw, Hy, ⟨HLd, HL, HLs⟩, ⟨HDs, ⟨%fr, HR⟩, HRs⟩, ⟨%f1, Hlf⟩, ⟨⟨%f2, Hl1⟩, Hcl1⟩, ⟨⟨%f3, Ht0⟩, Hct0⟩, ⟨%f4, %g4, %hg4, Htf⟩, ⟨Hc4, Hc5, Hc6, Hc7⟩, %W', HO⟩
        subst hacc
        rw [hw]
        sl_exec (disch := first | sl_exact hc2 | sl_exact hc5 | sl_exact hc7 | omega)
        sl_exec (disch := first | sl_exact hc2 | sl_exact hc5 | sl_exact hc7 | omega)
        sl_step
        ihave HD := (RD_of d L y v (Ring.sl 2 (k.val + 1)) (blk L (k.val - 1)) f4 g4 hg4) $$ Htf_dst
        isplitr
        · ipureintro
          clear * - k L
          revert L k; decide +kernel
        isplitr; · iexact Hmw
        isplitl [Hy]; · iexact Hy
        isplitl [HLd HLs Hlf_src]
        · isplitl [HLd Hlf_src]
          · isplitl [Hlf_src]; · iexact Hlf_src
            iexact HLd
          iexact HLs
        isplitl [HDs HD HRs]
        · isplitl [HDs HD]
          · isplitl [HD]; · iexact HD
            iexact HDs
          iexact HRs
        isplitl [Hcl1]; · iexists f2; iexact Hcl1
        isplitl [Hlf_dst Hlf]
        · isplitl [Hlf_dst]; · iexists _; iexact Hlf_dst
          iexact Hlf
        isplitl [Htf_src Htf]
        · isplitl [Htf_src]; · iexists g4; iexact Htf_src
          iexact Htf
        isplitl [Hct0]
        · iexists fr; iexists _
          isplitr; rotate_left
          · iexact Hct0
          ipureintro
          exact slot_read d L y v _ _ _ _ _ _ _ (strip_payload d L y v _ _ _ _ _ _) (strip_payload d L y v _ _ _ _ _ _) (strip_payload d L y v _ _ _ _ _ _) (strip_payload d L y v _ _ _ _ _ _)
        isplitl [Hc4 Hc5 Hc6 Hc7]
        · isplitl [Hc4]; · iexact Hc4
          isplitl [Hc5]; · iexact Hc5
          isplitl [Hc6]; · iexact Hc6
          iexact Hc7
        iexists _; iexact HO
      · rw [lAt_last d L v (k.val + 1) (by omega), show Ls d L v (k.val + 1 + 1) 32 = Ls d L v (k.val + 1) 32 from by
          unfold Ls; rw [Ring.rangeSet_empty (by omega), Ring.rangeSet_empty (by omega)]]
        have hc1 := fun h => hk1 ((cond1_iff L k).mp h)
        unfold lFly tFly lFree tFree
        iintro ⟨%hacc, #Hmw, Hy, ⟨HLd, HLs⟩, ⟨HDs, ⟨%fr, HR⟩, HRs⟩, ⟨%f1, Hlf⟩, ⟨⟨%f2, Hl1⟩, Hcl1⟩, ⟨⟨%f3, Ht0⟩, Hct0⟩, ⟨%f4, %g4, %hg4, Htf⟩, ⟨Hc4, Hc5, Hc6, Hc7⟩, %W', HO⟩
        subst hacc
        rw [hw]
        sl_exec (disch := first | sl_exact hc2 | sl_exact hc5 | sl_exact hc7 | omega)
        sl_exec (disch := first | sl_exact hc2 | sl_exact hc5 | sl_exact hc7 | omega)
        sl_step
        ihave HD := (RD_of d L y v (Ring.sl 2 (k.val + 1)) (blk L (k.val - 1)) f4 g4 hg4) $$ Htf_dst
        isplitr
        · ipureintro
          clear * - k L hk1
          revert L k; decide +kernel
        isplitr; · iexact Hmw
        isplitl [Hy]; · iexact Hy
        isplitl [HLd HLs Hlf_src]
        · isplitl [HLd Hlf_src]
          · isplitl [Hlf_src]; · iexact Hlf_src
            iexact HLd
          iexact HLs
        isplitl [HDs HD HRs]
        · isplitl [HDs HD]
          · isplitl [HD]; · iexact HD
            iexact HDs
          iexact HRs
        isplitl [Hl1 Hcl1]
        · isplitl [Hl1]; · iexists f2; iexact Hl1
          iexact Hcl1
        isplitl [Hlf_dst Hlf]
        · isplitl [Hlf_dst]; · iexists _; iexact Hlf_dst
          iexact Hlf
        isplitl [Htf_src Htf]
        · isplitl [Htf_src]; · iexists g4; iexact Htf_src
          iexact Htf
        isplitl [Hct0]
        · iexists fr; iexists _
          isplitr; rotate_left
          · iexact Hct0
          ipureintro
          exact slot_read d L y v _ _ _ _ _ _ _ (strip_payload d L y v _ _ _ _ _ _) (strip_payload d L y v _ _ _ _ _ _) (strip_payload d L y v _ _ _ _ _ _) (strip_payload d L y v _ _ _ _ _ _)
        isplitl [Hc4 Hc5 Hc6 Hc7]
        · isplitl [Hc4]; · iexact Hc4
          isplitl [Hc5]; · iexact Hc5
          isplitl [Hc6]; · iexact Hc6
          iexact Hc7
        iexists _; iexact HO
    · have hk1 : k.val < 31 := by omega
      have hc7 := fun h => hk0 ((cond7_iff L k).mp h)
      rw [tAt_zero d L y v k.val hk0, lAt_lt d L v (k.val + 1) (by omega), Ls_head d L v (k.val + 1) (by omega),
        show Ds d L y v 0 (k.val - 1) = Ds d L y v 0 k.val from by rw [show k.val - 1 = k.val by omega]]
      have hc1 := (cond1_iff L k).mpr hk1
      unfold lFly tFly lFree tFree
      iintro ⟨%hacc, #Hmw, Hy, ⟨HLd, HL, HLs⟩, ⟨HDs, ⟨%fr, HR⟩, HRs⟩, ⟨%f1, Hlf⟩, ⟨⟨%f2, Hl1⟩, Hcl1⟩, ⟨⟨%f3, Ht0⟩, Hct0⟩, ⟨⟨%g4, Ht1⟩, Hct1⟩, ⟨Hc4, Hc5, Hc6, Hc7⟩, %W', HO⟩
      subst hacc
      rw [hw]
      sl_exec (disch := first | sl_exact hc2 | sl_exact hc5 | sl_exact hc7 | omega)
      sl_exec (disch := first | sl_exact hc2 | sl_exact hc5 | sl_exact hc7 | omega)
      sl_step
      isplitr
      · ipureintro
        clear * - k L
        revert L k; decide +kernel
      isplitr; · iexact Hmw
      isplitl [Hy]; · iexact Hy
      isplitl [HLd HLs Hlf_src]
      · isplitl [HLd Hlf_src]
        · isplitl [Hlf_src]; · iexact Hlf_src
          iexact HLd
        iexact HLs
      isplitl [HDs HRs]
      · isplitl [HDs]; · iexact HDs
        iexact HRs
      isplitl [Hcl1]; · iexists f2; iexact Hcl1
      isplitl [Hlf_dst Hlf]
      · isplitl [Hlf_dst]; · iexists _; iexact Hlf_dst
        iexact Hlf
      isplitl [Ht1 Hct1]
      · isplitl [Ht1]; · iexists g4; iexact Ht1
        iexact Hct1
      isplitl [Hct0]
      · iexists fr; iexists _
        isplitr; rotate_left
        · iexact Hct0
        ipureintro
        exact slot_read d L y v _ _ _ _ _ _ _ (strip_payload d L y v _ _ _ _ _ _) (strip_payload d L y v _ _ _ _ _ _) (strip_payload d L y v _ _ _ _ _ _) (strip_payload d L y v _ _ _ _ _ _)
      isplitl [Hc4 Hc5 Hc6 Hc7]
      · isplitl [Hc4]; · iexact Hc4
        isplitl [Hc5]; · iexact Hc5
        isplitl [Hc6]; · iexact Hc6
        iexact Hc7
      iexists _; iexact HO
  · unfold inv
    irw [lAt_lt d L v 0 (by decide), tAt_zero d L y v 0 (by decide)]
    unfold lFly lFree tFree
    irw [show Ring.sl 2 0 = (0 : Fin 2) from rfl, show Ring.sl 2 (0 + 1) = (1 : Fin 2) from rfl]
    isplitr; · ipureintro; decide
    isplitr; · iexact Hmw
    isplitl [Hy]; · iexact Hy
    isplitl [HLs]
    · isplitr
      · iapply (Entails.of_eq (Ring.bigSep_rangeSet_empty (NB := 32) (lo := 0) (hi := 0) (Φ := fun k : Fin 32 => LB d L v (blk L k.val)) le_rfl).symm)
        iempintro
      iexact HLs
    isplitl [HRs]
    · isplitr
      · iapply (Entails.of_eq (Ring.bigSep_rangeSet_empty (NB := 32) (lo := 0) (hi := 0) (Φ := fun k : Fin 32 => RD d L y v (blk L k.val)) le_rfl).symm)
        iempintro
      iexact HRs
    isplitl [Hcl0]; · iexists l0; iexact Hcl0
    isplitl [Hl1 Hcl1]
    · isplitl [Hl1]; · iexists l1; iexact Hl1
      iexact Hcl1
    isplitl [Ht0 Hct0]
    · isplitl [Ht0]; · iexists t0; iexact Ht0
      iexact Hct0
    isplitl [Ht1 Hct1]
    · isplitl [Ht1]; · iexists t1; iexact Ht1
      iexact Hct1
    isplitl [Hc4 Hc5 Hc6 Hc7]
    · isplitl [Hc4]; · iexact Hc4
      isplitl [Hc5]; · iexact Hc5
      isplitl [Hc6]; · iexact Hc6
      iexact Hc7
    iexists W; iexact HO
  iintro %acc HI
  ihave HI' := (inv_end d L y v q O acc) $$ HI
  unfold lFree tFree tFly
  icases HI' with ⟨%hacc, -, Hy, HLs, HDs, ⟨⟨%f0, Hl0⟩, Hcl0⟩, ⟨⟨%f1, Hl1⟩, Hcl1⟩, ⟨⟨%f3, Ht0⟩, Hct0⟩, ⟨%f4, %g4, %hg4, Htf⟩, ⟨Hc4, Hc5, Hc6, Hc7⟩, %W', HO⟩
  subst hacc
  rw [show words 32 = (wd 32, wd 32, wd 32, wd 31, wd 0) from by decide]
  have h4 := chk4_ok
  have h5 := chk5_ok L
  sl_exec
  sl_step
  ihave HD := (RD_of d L y v (Ring.sl 2 31) (blk L 31) f4 g4 hg4) $$ Htf_dst
  isplitl [Hy]; · iexact Hy
  isplitl [HLs]; · iexact HLs
  isplitl [HDs HD]
  · iapply (Entails.of_eq (Ds_last d L y v 31 (by decide)).symm)
    isplitl [HD]; · iexact HD
    iexact HDs
  isplitl [Hl0]; · iexists f0; iexact Hl0
  isplitl [Hl1]; · iexists f1; iexact Hl1
  isplitl [Ht0]; · iexists f3; iexact Ht0
  isplitl [Htf_src]; · iexists g4; iexact Htf_src
  isplitl [Hcl0 Hcl1 Hct0 Htf Hc4 Hc5 Hc6 Hc7]
  · isplitl [Hcl0]; · iexact Hcl0
    isplitl [Hcl1]; · iexact Hcl1
    isplitl [Hct0]; · iexact Hct0
    isplitl [Htf]; · iexact Htf
    isplitl [Hc4]; · iexact Hc4
    isplitl [Hc5]; · iexact Hc5
    isplitl [Hc6]; · iexact Hc6
    iexact Hc7
  iexists _; iexact HO

end Body
end Cert.Proof.Rows
end
-- ==== Proof.Deal.lean ====
/-
  What the launch deals the 32 vector subcores and takes back: each a share of the table, its 32 blocks of the list and its
  32 blocks of the result; and the arrays as the sum of what is dealt.
-/
module

public import proofs.«01_k».proof.Proof.Tile

@[expose] public section

noncomputable section

namespace Cert.Proof.Rows

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "yV" => (Memref.whole Cert.KernelIdeal.main_arg0_scv : Memref Cert.KernelIdeal.sig Kind.scVector Space.hbm Cert.KernelIdeal.S98304x512 EltTy.i32)
local notation "vV" => (Memref.whole Cert.KernelIdeal.main_v1_scv : Memref Cert.KernelIdeal.sig Kind.scVector Space.hbm Cert.KernelIdeal.S1024x1x64 EltTy.i32)
local notation "oV" => (Memref.whole Cert.KernelIdeal.main_v2_scv : Memref Cert.KernelIdeal.sig Kind.scVector Space.hbm Cert.KernelIdeal.S65536x512 EltTy.i32)
local notation "lV" => (Memref.whole Cert.KernelIdeal.cc0_scoped0 : Memref Cert.KernelIdeal.sig Kind.scVector Space.vmem Cert.KernelIdeal.S2x1x64 EltTy.i32)
local notation "tV" => (Memref.whole Cert.KernelIdeal.cc0_scoped2 : Memref Cert.KernelIdeal.sig Kind.scVector Space.vmem Cert.KernelIdeal.S2x64x512 EltTy.i32)
local notation "𝕄" => MT nD τ sig (HIx 1) (Elt F) ℕ UU ℕ

/-! ## A subcore by its two coordinates -/

/-- The grid point of subcore `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

/-- The same, by numbers. -/
def Lat (c : Fin 2) (s : Fin 16) : grid0.Coords := coordsV c s

/-- The 1024 blocks, by SparseCore, subcore and trip. -/
theorem blk_bijective : Function.Bijective fun p : (Fin 2 × Fin 16) × Fin 32 => blk (Lat p.1.1 p.1.2) p.2.val := by
  rw [Fintype.bijective_iff_injective_and_card]
  refine ⟨?_, by simp⟩
  rintro ⟨⟨c, s⟩, k⟩ ⟨⟨c', s'⟩, k'⟩ h
  have h' : (512 * c.val + 32 * s.val + k.val) % 1024 = (512 * c'.val + 32 * s'.val + k'.val) % 1024 := congrArg Fin.val h
  have := c.isLt; have := s.isLt; have := k.isLt; have := c'.isLt; have := s'.isLt; have := k'.isLt
  refine Prod.ext (Prod.ext (Fin.ext ?_) (Fin.ext ?_)) (Fin.ext ?_) <;> dsimp only <;> omega

/-- A family over the blocks is summed by SparseCore, subcore and trip. -/
theorem all_blocks (Φ : Fin 1024 → sProp 𝕄) :
    bigSep Finset.univ Φ = bigSep Finset.univ fun c : Fin 2 => bigSep Finset.univ fun s : Fin 16 =>
      bigSep (Ring.rangeSet 32 0 32) fun k => Φ (blk (Lat c s) k.val) := by
  rw [bigSep_univ_equiv (Equiv.ofBijective _ blk_bijective) Φ, bigSep_univ_prod, bigSep_univ_prod, Ring.rangeSet_univ]
  rfl

/-! ## The arrays as blocks -/

abbrev lbSet (b : Fin 1024) : Finset S1024x1x64.Idx := (Rect.unit (s := S1024x1x64) ![b.val, 0, 0] S1x1x64.size (inb_list b)).set
abbrev rbSet (b : Fin 1024) : Finset S65536x512.Idx := (Rect.unit (s := S65536x512) ![64 * b.val, 0] S64x512.size (inb_rows b)).set
theorem lbSet_eq (b : Fin 1024) : (listB b).view.set = lbSet b := by
  simp only [listB, Memref.view_squeeze, View.set_reshape]; exact View.set_slice_whole _ _
theorem rbSet_eq (b : Fin 1024) : (rowsB b).view.set = rbSet b := View.set_slice_whole _ _
theorem lbSet_disjoint (b b' : Fin 1024) (h : b ≠ b') : Disjoint (lbSet b) (lbSet b') :=
  Ring.lead_disjoint (s := S1024x1x64) (0 : Fin 3) 1 (fun b : Fin 1024 => (![b.val, 0, 0] : Fin 3 → Nat)) S1x1x64.size inb_list (fun b => by simp) rfl b b' h
theorem rbSet_disjoint (b b' : Fin 1024) (h : b ≠ b') : Disjoint (rbSet b) (rbSet b') :=
  Ring.lead_disjoint (s := S65536x512) (0 : Fin 2) 64 (fun b : Fin 1024 => (![64 * b.val, 0] : Fin 2 → Nat)) S64x512.size inb_rows (fun b => by simp [Nat.mul_comm]) rfl b b' h
theorem lbSet_cover : Finset.univ.biUnion lbSet = Finset.univ :=
  Ring.lead_cover (s := S1024x1x64) (0 : Fin 3) 1 (fun b : Fin 1024 => (![b.val, 0, 0] : Fin 3 → Nat)) S1x1x64.size inb_list (fun b => by simp)
    (fun j a ha => by fin_cases a <;> first | exact absurd rfl ha | rfl) rfl (fun a ha => by fin_cases a <;> first | exact absurd rfl ha | rfl) rfl
theorem rbSet_cover : Finset.univ.biUnion rbSet = Finset.univ :=
  Ring.lead_cover (s := S65536x512) (0 : Fin 2) 64 (fun b : Fin 1024 => (![64 * b.val, 0] : Fin 2 → Nat)) S64x512.size inb_rows (fun b => by simp [Nat.mul_comm])
    (fun j a ha => by fin_cases a <;> first | exact absurd rfl ha | rfl) rfl (fun a ha => by fin_cases a <;> first | exact absurd rfl ha | rfl) rfl

section Arrays
variable (d : Dev nD)

theorem list_blk (L : grid0.Coords) (v : Buf (Elt F) (vLoc d)) (b : Fin 1024) : LB d L v b = (vLoc d ↦[lbSet b]{fullShare} v : sProp 𝕄) := by
  unfold LB; rw [lbSet_eq]; rfl
theorem rows_blk (L : grid0.Coords) (f : Buf (Elt F) (oLoc d)) (b : Fin 1024) :
    ((rowsB b).view.loc (VT d L) ↦[(rowsB b).view.set]{fullShare} f : sProp 𝕄) = (oLoc d ↦[rbSet b]{fullShare} f : sProp 𝕄) := by
  rw [rbSet_eq]; rfl

/-- The list whole is every subcore's blocks of it. -/
theorem list_deal (v : Buf (Elt F) (vLoc d)) :
    (vLoc d ↦{fullShare} v : sProp 𝕄) = bigSep Finset.univ fun c : Fin 2 => bigSep Finset.univ fun s : Fin 16 => Ls d (Lat c s) v 0 32 := by
  have h : ∀ (c : Fin 2) (s : Fin 16), Ls d (Lat c s) v 0 32
      = bigSep (Ring.rangeSet 32 0 32) fun k => (vLoc d ↦[lbSet (blk (Lat c s) k.val)]{fullShare} v : sProp 𝕄) :=
    fun c s => congrArg (bigSep (Ring.rangeSet 32 0 32)) (funext fun k => list_blk d (Lat c s) v _)
  rw [Ring.pointsTo_blocks (ℓ := vLoc d) lbSet lbSet_disjoint lbSet_cover v, all_blocks]
  refine congrArg _ (funext fun c => congrArg _ (funext fun s => (h c s).symm))
/-- The result at one contents is every subcore's blocks of it at that; -/
theorem rows_deal (f : Buf (Elt F) (oLoc d)) :
    (oLoc d ↦{fullShare} f : sProp 𝕄) = bigSep Finset.univ fun c : Fin 2 => bigSep Finset.univ fun s : Fin 16 =>
      bigSep (Ring.rangeSet 32 0 32) fun k => (rowsB (blk (Lat c s) k.val)).view.loc (VT d (Lat c s)) ↦[(rowsB (blk (Lat c s) k.val)).view.set]{fullShare} f := by
  have h : ∀ (c : Fin 2) (s : Fin 16), (bigSep (Ring.rangeSet 32 0 32) fun k =>
        ((rowsB (blk (Lat c s) k.val)).view.loc (VT d (Lat c s)) ↦[(rowsB (blk (Lat c s) k.val)).view.set]{fullShare} f : sProp 𝕄))
      = bigSep (Ring.rangeSet 32 0 32) fun k => (oLoc d ↦[rbSet (blk (Lat c s) k.val)]{fullShare} f : sProp 𝕄) :=
    fun c s => congrArg (bigSep (Ring.rangeSet 32 0 32)) (funext fun k => rows_blk d (Lat c s) f _)
  rw [Ring.pointsTo_blocks (ℓ := oLoc d) rbSet rbSet_disjoint rbSet_cover f, all_blocks]
  refine congrArg _ (funext fun c => congrArg _ (funext fun s => (h c s).symm))
theorem rows_any (L : grid0.Coords) (f : Buf (Elt F) (oLoc d)) (b : Fin 1024) :
    ((rowsB b).view.loc (VT d L) ↦[(rowsB b).view.set]{fullShare} f : sProp 𝕄) ⊢ RB d L b := by
  iintro H; iexists f; iexact H
/-- so it gives each subcore its blocks at anything, -/
theorem rows_give (f : Buf (Elt F) (oLoc d)) :
    (oLoc d ↦{fullShare} f : sProp 𝕄) ⊢ bigSep Finset.univ fun c : Fin 2 => bigSep Finset.univ fun s : Fin 16 => Rs d (Lat c s) 0 32 := by
  rw [rows_deal]
  refine bigSep_mono fun c _ => bigSep_mono fun s _ => bigSep_mono fun k _ => rows_any d (Lat c s) f _
/-- and the blocks done are the result at the target. -/
theorem rows_take (y : Buf (Elt F) (yLoc d)) (v : Buf (Elt F) (vLoc d)) :
    (bigSep Finset.univ fun c : Fin 2 => bigSep Finset.univ fun s : Fin 16 => Ds d (Lat c s) y v 0 32 : sProp 𝕄) = (oLoc d ↦{fullShare} tgt d y v) :=
  (rows_deal d (tgt d y v)).symm

/-- The share of the table that subcore `s` of SparseCore `c` holds. -/
abbrev yq (L : grid0.Coords) : PosShare TreeShare := Transfers.shareTokN fullShare (16 * (L 0).val + (L 1).val)

theorem task_bijective : Function.Bijective fun p : Fin 2 × Fin 16 => (⟨16 * p.1.val + p.2.val, by have := p.1.isLt; have := p.2.isLt; omega⟩ : Fin 32) := by
  rw [Fintype.bijective_iff_injective_and_card]
  refine ⟨?_, by simp⟩
  rintro ⟨c, s⟩ ⟨c', s'⟩ h
  have h' : 16 * c.val + s.val = 16 * c'.val + s'.val := congrArg Fin.val h
  have := s.isLt; have := s'.isLt
  refine Prod.ext (Fin.ext ?_) (Fin.ext ?_) <;> dsimp only <;> omega

/-- The table whole is what is left of it and every subcore's share. -/
theorem table_deal (y : Buf (Elt F) (yLoc d)) :
    (yLoc d ↦{fullShare} y : sProp 𝕄) ⊣⊢ iprop((yLoc d ↦{Transfers.shareDrop fullShare 32} y)
      ∗ bigSep Finset.univ fun c : Fin 2 => bigSep Finset.univ fun s : Fin 16 => yLoc d ↦{yq (Lat c s)} y) := by
  have h : (yLoc d ↦{fullShare} y : sProp 𝕄) ⊣⊢ iprop((yLoc d ↦{Transfers.shareDrop fullShare 32} y)
      ∗ bigSep (Finset.range 32) fun i => yLoc d ↦{Transfers.shareTokN fullShare i} y) :=
    Transfers.pointsTo_toks_range (ℓ := yLoc d) (S := Finset.univ) (f := y) fullShare 32
  rw [← Ring.bigSep_fin_eq_range 32 (fun i : Fin 32 => (yLoc d ↦{Transfers.shareTokN fullShare i.val} y : sProp 𝕄)) _ (fun _ _ => rfl),
    bigSep_univ_equiv (Equiv.ofBijective _ task_bijective), bigSep_univ_prod] at h
  exact h

end Arrays

end Cert.Proof.Rows
-- ==== Proof.Launch.lean ====
/-
  The whole program: the two reshapes of the list on the TensorCore, the call on the SparseCores' subcores, and the run of
  it all. It ends with the table and the list as they were and the result at its target; every semaphore at zero.
-/
module

public import proofs.«01_k».proof.Proof.Deal
public import Idealize.ShloMosaic.Lib.StableHlo.Run

@[expose] public section

noncomputable section

namespace Cert.Proof.Rows

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Tactic

variable {F : FTy → Type} [FloatOps F]

local notation "yV" => (Memref.whole Cert.KernelIdeal.main_arg0_scv : Memref Cert.KernelIdeal.sig Kind.scVector Space.hbm Cert.KernelIdeal.S98304x512 EltTy.i32)
local notation "vV" => (Memref.whole Cert.KernelIdeal.main_v1_scv : Memref Cert.KernelIdeal.sig Kind.scVector Space.hbm Cert.KernelIdeal.S1024x1x64 EltTy.i32)
local notation "oV" => (Memref.whole Cert.KernelIdeal.main_v2_scv : Memref Cert.KernelIdeal.sig Kind.scVector Space.hbm Cert.KernelIdeal.S65536x512 EltTy.i32)
local notation "lV" => (Memref.whole Cert.KernelIdeal.cc0_scoped0 : Memref Cert.KernelIdeal.sig Kind.scVector Space.vmem Cert.KernelIdeal.S2x1x64 EltTy.i32)
local notation "tV" => (Memref.whole Cert.KernelIdeal.cc0_scoped2 : Memref Cert.KernelIdeal.sig Kind.scVector Space.vmem Cert.KernelIdeal.S2x64x512 EltTy.i32)
local notation "𝕄" => MT nD τ sig (HIx 1) (Elt F) ℕ UU ℕ

variable (m : (ℓ : Loc nD τ sig) → Buf (Elt F) ℓ) (ρ : Dev nD → PrngReg)

/-! ## @main's arrays and the two reshapes -/

abbrev y' : DevRef τ sig := Proc.devRef .tc (main_arg0 : Ref sig .tc)
abbrev g' : DevRef τ sig := Proc.devRef .tc (main_arg1 : Ref sig .tc)
abbrev w' : DevRef τ sig := Proc.devRef .tc (main_v0 : Ref sig .tc)
abbrev v' : DevRef τ sig := Proc.devRef .tc (main_v1 : Ref sig .tc)
abbrev o' : DevRef τ sig := Proc.devRef .tc (main_v2 : Ref sig .tc)
abbrev opFlat : HloOp τ sig (Elt F) := StableHlo.reshape main_arg1 main_v0 (rfl : (.i32 : EltTy) = .i32) shapeCasts_S2x32768_S65536
abbrev opBlocks : HloOp τ sig (Elt F) := StableHlo.reshape main_v0 main_v1 (rfl : (.i32 : EltTy) = .i32) shapeCasts_S65536_S1024x1x64

/-- The TensorCore's arrays. -/
abbrev S5 : Finset (DevRef τ sig) := {y', g', w', v', o'}

theorem held_S5 (d : Dev nD) (W : Valuation τ sig (Elt F)) :
    (held (T d) S5 W : sProp 𝕄) = iprop((yLoc d ↦{fullShare} W y') ∗ (gLoc d ↦{fullShare} W g') ∗ (wLoc d ↦{fullShare} W w')
      ∗ (vLoc d ↦{fullShare} W v') ∗ oLoc d ↦{fullShare} W o') := by
  unfold held S5
  rw [SparseCore.bigSep_insert' (by decide), SparseCore.bigSep_insert' (by decide), SparseCore.bigSep_insert' (by decide),
    SparseCore.bigSep_insert' (by decide), bigSep_singleton]

/-- The arrays at launch, after the first reshape and after the second. -/
def V0 (d : Dev nD) : Valuation τ sig (Elt F) := fun b => m (d, b)
def V1 (d : Dev nD) : Valuation τ sig (Elt F) := (opFlat (F := F)).result (V0 m d)
def V2 (d : Dev nD) : Valuation τ sig (Elt F) := (opBlocks (F := F)).result (V1 m d)
/-- The list in blocks. -/
def vBuf (d : Dev nD) : Buf (Elt F) (vLoc d) := V2 m d v'

theorem unscoped_held (d : Dev nD) : (unscopedBufs d (fun b => m ((SparseCore.T d).loc b)) : sProp 𝕄) = held (T d) S5 (V0 m d) := by
  rw [held_S5]
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide),
    SparseCore.bigSep_insert' (by decide), bigSep_singleton]
  rfl

/-- A reshape leaves the arrays it does not write. -/
theorem V2_of_ne (d : Dev nD) (b : DevRef τ sig) (hw : b ∉ ({w'} : Finset (DevRef τ sig))) (hv : b ∉ ({v'} : Finset (DevRef τ sig))) :
    V2 m d b = m (d, b) := by
  unfold V2
  rw [(opBlocks (F := F)).result_of_not_mem (V1 m d) (b := b) hv]
  unfold V1
  rw [(opFlat (F := F)).result_of_not_mem (V0 m d) (b := b) hw]
  rfl
theorem V2_y (d : Dev nD) : V2 m d y' = m (yLoc d) := V2_of_ne m d y' (by decide) (by decide)
theorem V2_g (d : Dev nD) : V2 m d g' = m (gLoc d) := V2_of_ne m d g' (by decide) (by decide)

theorem hFlat : (opFlat (F := F)).bufs ⊆ S5 := show ({g', w'} : Finset (DevRef τ sig)) ⊆ S5 by decide
theorem hBlocks : (opBlocks (F := F)).bufs ⊆ S5 := show ({w', v'} : Finset (DevRef τ sig)) ⊆ S5 by decide

/-! ## What the handshakes carry -/

/-- What a subcore is dealt, and what it hands back. -/
def goT (d : Dev nD) (L : grid0.Coords) : sProp 𝕄 :=
  iprop((yLoc d ↦{yq L} m (yLoc d)) ∗ Ls d L (vBuf m d) 0 32 ∗ Rs d L 0 32)
def tdT (d : Dev nD) (L : grid0.Coords) : sProp 𝕄 :=
  iprop((yLoc d ↦{yq L} m (yLoc d)) ∗ Ls d L (vBuf m d) 0 32 ∗ Ds d L (m (yLoc d)) (vBuf m d) 0 32)

instance LB_storable (d : Dev nD) (L : grid0.Coords) (v : Buf (Elt F) (vLoc d)) (b : Fin 1024) : BI.Storable (upEmb : UEmb _ 𝕄) (LB d L v b) := by
  rw [list_blk]; infer_instance
instance RD_storable (d : Dev nD) (L : grid0.Coords) (y : Buf (Elt F) (yLoc d)) (v : Buf (Elt F) (vLoc d)) (b : Fin 1024) :
    BI.Storable (upEmb : UEmb _ 𝕄) (RD d L y v b) := by
  unfold RD; rw [rows_blk]; infer_instance
instance goT_storable (d : Dev nD) (L : grid0.Coords) : BI.Storable (upEmb : UEmb _ 𝕄) (goT m d L) := by
  unfold goT; infer_instance
instance tdT_storable (d : Dev nD) (L : grid0.Coords) : BI.Storable (upEmb : UEmb _ 𝕄) (tdT m d L) := by
  unfold tdT; infer_instance

theorem nCore_zero : (K (F := F)).nCore 0 = 2 := rfl
theorem nSub_zero : (K (F := F)).nSub 0 = 16 := rfl
theorem sum_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)
theorem sum_subs (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- What a SparseCore takes and brings back: what its subcores do. -/
def stT (d : Dev nD) (c : Fin 2) : sProp 𝕄 := bigSep Finset.univ fun s : Fin 16 => goT m d (Lat c s)
def dnT (d : Dev nD) (c : Fin 2) : sProp 𝕄 := bigSep Finset.univ fun s : Fin 16 => tdT m d (Lat c s)
instance stT_storable (d : Dev nD) (c : Fin 2) : BI.Storable (upEmb : UEmb _ 𝕄) (stT m d c) := by
  unfold stT; infer_instance
instance dnT_storable (d : Dev nD) (c : Fin 2) : BI.Storable (upEmb : UEmb _ 𝕄) (dnT m d c) := by
  unfold dnT; infer_instance

/-- The call. -/
def P : (K (F := F)).Pay (nD := nD) (Val := Elt F) (Name := ℕ) (U := UU) where
  st := fun q d c => match q with | 0 => stT m d (Fin.cast nCore_zero c)
  dn := fun q d c => match q with | 0 => dnT m d (Fin.cast nCore_zero c)
  go := fun q d c i => match q with | 0 => goT m d (Lat (Fin.cast nCore_zero c) (Fin.cast nSub_zero i))
  td := fun q d c i => match q with | 0 => tdT m d (Lat (Fin.cast nCore_zero c) (Fin.cast nSub_zero i))
  x := fun _ _ => iprop(emp)

instance P_storable : (P (F := F) m).IsStorable where
  st q d c := match q with
    | 0 => stT_storable m d (Fin.cast nCore_zero c)
  dn q d c := match q with
    | 0 => dnT_storable m d (Fin.cast nCore_zero c)
  go q d c i := match q with
    | 0 => goT_storable m d (Lat (Fin.cast nCore_zero c) (Fin.cast nSub_zero i))
  td q d c i := match q with
    | 0 => tdT_storable m d (Lat (Fin.cast nCore_zero c) (Fin.cast nSub_zero i))

attribute [local irreducible] goT tdT Lat

/-- The calls' pieces, summed. -/
theorem st_sum (d : Dev nD) : (bigSep Finset.univ fun c : Fin ((K (F := F)).nCore 0) => (P m).st 0 d c) = bigSep Finset.univ (stT m d) :=
  sum_cores (F := F) (stT m d)
theorem dn_sum (d : Dev nD) : (bigSep Finset.univ fun c : Fin ((K (F := F)).nCore 0) => (P m).dn 0 d c) = bigSep Finset.univ (dnT m d) :=
  sum_cores (F := F) (dnT m d)
theorem go_sum (d : Dev nD) (c : Fin ((K (F := F)).nCore 0)) :
    (bigSep Finset.univ fun i : Fin ((K (F := F)).nSub 0) => (P m).go 0 d c i) = stT m d (Fin.cast nCore_zero c) :=
  sum_subs (F := F) (fun s => goT m d (Lat (Fin.cast nCore_zero c) s))
theorem td_sum (d : Dev nD) (c : Fin ((K (F := F)).nCore 0)) :
    (bigSep Finset.univ fun i : Fin ((K (F := F)).nSub 0) => (P m).td 0 d c i) = dnT m d (Fin.cast nCore_zero c) :=
  sum_subs (F := F) (fun s => tdT m d (Lat (Fin.cast nCore_zero c) s))
theorem split_eq {A A' B B' : sProp 𝕄} (hA : A = A') (hB : B = B') : A ⊢ |={Set.univ}=> iprop(A' ∗ (B -∗ B')) := by
  subst hA; subst hB
  iintro H; imodintro
  isplitl [H]; · iexact H
  iintro H; iexact H
theorem vecSplit : (K (F := F)).VecSplit' (P m) 0 := fun d c =>
  split_eq (go_sum m d c).symm (td_sum m d c)

attribute [local semireducible] goT tdT Lat

/-- What the proof asks of the launch memory: every word of the list names a row of the table. -/
def PreOK : Prop := ∀ (d : Dev nD) (j : S1024x1x64.Idx), (vBuf m d j : BitVec 32).toNat < 98304

/-! ## A subcore's task -/

section Task
variable (d : Dev nD) (L : grid0.Coords)

theorem tile_body (hF : (K (F := F)).Facts) (hpre : PreOK m) (O : CellTallies nD τ sig (HIx 1)) (W : Waits sig (HIx 1)) (hO : ∀ g, O g none = 0) :
    iprop(levAts (K (F := F)).L (K (F := F)).lev ∗ emp ∗ goT m d L ∗ scopedBufs (VT d L) ∗ scopedSems0 (VT d L) ∗ owes (VT d L) O W)
      ⊢ wp frame (wpE (defs₀ (F := F)) 𝒱₀ (VT d L) none) Set.univ
          (cc0_sc_gather_rows L yV (Memref.isWhole_whole _) vV (Memref.isWhole_whole _) oV (Memref.isWhole_whole _)
            lV (Memref.isWhole_whole _) cc0_scoped1 tV (Memref.isWhole_whole _) cc0_scoped3 cc0_scoped4 cc0_scoped5 cc0_scoped6 cc0_scoped7)
          fun _ => iprop(tdT m d L ∗ scopedBufs (VT d L) ∗ scopedSems0 (VT d L)
            ∗ ∃ W', ⌜∀ p ∈ W', p ∈ W ∨ p.2 = none ∨ p.2 = some (0 : Fin 1)⌝ ∗ owes (VT d L) O W') := by
  unfold goT tdT
  rw [(K (F := F)).scopedBufs_V hF d (cV L) (jV L), SparseCore.Cfg.scopedSems0_V (Val := Elt F) d (cV L) (jV L), ownSems0_V, ownBufs_V]
  iintro ⟨#Hlv, -, ⟨Hy, HLs, HRs⟩, ⟨HL, HT, Hbufs⟩, ⟨HC, Hsems⟩, HO⟩
  ihave Hmw := (show levAts (K (F := F)).L (K (F := F)).lev ⊢ Transfers.MayWaits (VT d L) (default : HIx 1) O from
    (K (F := F)).mayWaits_none (thr := VT d L) hO) $$ Hlv
  ihave HL' := (lSlots_in (F := F) d L) $$ HL
  icases HL' with ⟨HL0, HL1⟩
  ihave HT' := (tSlots_in (F := F) d L) $$ HT
  icases HT' with ⟨HT0, HT1⟩
  iapply (wp_wand_r Idealize.ShloMosaic.frame (wpE (defs₀ (F := F)) 𝒱₀ (VT d L) none) Set.univ)
  isplitl [Hy HLs HRs HL0 HL1 HT0 HT1 HC HO]
  · iapply (tile_run d L (m (yLoc d)) (vBuf m d) (yq L) (hpre d) O W)
    isplitr; · iexact Hmw
    isplitl [Hy]; · iexact Hy
    isplitl [HLs]; · iexact HLs
    isplitl [HRs]; · iexact HRs
    isplitl [HL0]; · iexact HL0
    isplitl [HL1]; · iexact HL1
    isplitl [HT0]; · iexact HT0
    isplitl [HT1]; · iexact HT1
    isplitl [HC]; · iexact HC
    iexact HO
  iintro %_ ⟨Hy, HLs, HDs, HL0, HL1, HT0, HT1, HC, ⟨%W', HO⟩⟩
  isplitl [Hy HLs HDs]
  · isplitl [Hy]; · iexact Hy
    isplitl [HLs]; · iexact HLs
    iexact HDs
  isplitl [HL0 HL1 HT0 HT1 Hbufs]
  · isplitl [HL0 HL1]
    · iapply (lSlots_out (F := F) d L); isplitl [HL0]; · iexact HL0
      iexact HL1
    isplitl [HT0 HT1]
    · iapply (tSlots_out (F := F) d L); isplitl [HT0]; · iexact HT0
      iexact HT1
    iexact Hbufs
  isplitl [HC Hsems]
  · isplitl [HC]; · iexact HC
    iexact Hsems
  iexists W'; isplitr
  · ipureintro; intro p _
    rcases p.2 with _ | q
    · exact .inr (.inl rfl)
    · exact .inr (.inr (congrArg some (Subsingleton.elim q 0)))
  · iexact HO

end Task

theorem defs₀_vector (c : Fin τ.nSC) (s : Fin τ.nSub) :
    defs₀ (F := F) (.scVector c s) 0 ()
      = SparseCore.onTile hcore0 hsub0 (fun c s => cc0_sc_gather_rows (coordsV c s)
          yV (Memref.isWhole_whole _) vV (Memref.isWhole_whole _) oV (Memref.isWhole_whole _)
          lV (Memref.isWhole_whole _) cc0_scoped1 tV (Memref.isWhole_whole _) cc0_scoped3 cc0_scoped4 cc0_scoped5 cc0_scoped6 cc0_scoped7) ⟨⟩ c s := rfl

theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m d (coordsV ⟨_, hci.1⟩ ⟨_, hci.2⟩) hF hpre O W hO

/-! ## The launch's ghost state -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

/-- What the two SparseCores are started with; what they bring back. -/
theorem st0_eq (d : Dev nD) : (bigSep Finset.univ fun c : Fin ((K (F := F)).nCore 0) => (P m).st 0 d c)
    = iprop((bigSep Finset.univ fun c : Fin 2 => bigSep Finset.univ fun s : Fin 16 => yLoc d ↦{yq (Lat c s)} m (yLoc d))
      ∗ (bigSep Finset.univ fun c : Fin 2 => bigSep Finset.univ fun s : Fin 16 => Ls d (Lat c s) (vBuf m d) 0 32)
      ∗ bigSep Finset.univ fun c : Fin 2 => bigSep Finset.univ fun s : Fin 16 => Rs d (Lat c s) 0 32) := by
  refine (st_sum m d).trans ?_
  unfold stT goT
  simp only [bigSep_sep']
theorem dn0_eq (d : Dev nD) : (bigSep Finset.univ fun c : Fin ((K (F := F)).nCore 0) => (P m).dn 0 d c)
    = iprop((bigSep Finset.univ fun c : Fin 2 => bigSep Finset.univ fun s : Fin 16 => yLoc d ↦{yq (Lat c s)} m (yLoc d))
      ∗ (bigSep Finset.univ fun c : Fin 2 => bigSep Finset.univ fun s : Fin 16 => Ls d (Lat c s) (vBuf m d) 0 32)
      ∗ bigSep Finset.univ fun c : Fin 2 => bigSep Finset.univ fun s : Fin 16 => Ds d (Lat c s) (m (yLoc d)) (vBuf m d) 0 32) := by
  refine (dn_sum m d).trans ?_
  unfold dnT tdT
  simp only [bigSep_sep']

/-- The result on device `d`. -/
def res (d : Dev nD) : Buf (Elt F) (oLoc d) := tgt d (m (yLoc d)) (vBuf m d)

/-- What @main leaves: the table and the list as they were, the result. -/
abbrev FIN (d : Dev nD) : sProp 𝕄 :=
  iprop((yLoc d ↦{fullShare} m (yLoc d)) ∗ (gLoc d ↦{fullShare} m (gLoc d)) ∗ oLoc d ↦{fullShare} res m d)

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  -- the list flat, then in blocks
  iapply (wp_hlo_within 𝒱 (SparseCore.T d) none Set.univ (op := opFlat) (S := S5) hFlat (V := V0 m d)) $$ [Hb Hheld]
  · isplitl [Hb]; · iexact Hb
    iexact Hheld
  iintro ⟨Hb, Hheld⟩
  rw [wp_ret]; imodintro
  iapply (wp_hlo_within 𝒱 (SparseCore.T d) none Set.univ (op := opBlocks) (S := S5) hBlocks (V := V1 m d)) $$ [Hb Hheld]
  · isplitl [Hb]; · iexact Hb
    iexact Hheld
  iintro ⟨Hb, Hheld⟩
  rw [wp_ret]; imodintro
  ihave Hh := (Entails.of_eq (show (held (T d) S5 ((opBlocks (F := F)).result (V1 m d)) : sProp 𝕄) = _ from held_S5 (F := F) d (V2 m d))) $$ Hheld
  icases Hh with ⟨Hy, Hg, -, Hv, Ho⟩
  rw [V2_y, V2_g]
  -- the call
  ihave Hy' := (table_deal d (m (yLoc d))).1 $$ Hy
  icases Hy' with ⟨Hyr, Hys⟩
  ihave Hvs := (Entails.of_eq (show (vLoc d ↦{fullShare} V2 m d v' : sProp 𝕄) = _ from list_deal d (vBuf m d))) $$ Hv
  ihave Hos := (rows_give d (V2 m d o')) $$ Ho
  iapply ((K (F := F)).wp_run (D (F := F)) 𝒱 (EH := EH) (P := P m) κ d 0) $$ [Hst Hys Hvs Hos Hyr Hg Hb Hts]
  isplitr; · iexact Hctx
  isplitl [Hst]; · iexact Hst
  isplitl [Hys Hvs Hos]
  · rw [st0_eq]
    isplitl [Hys]; · iexact Hys
    isplitl [Hvs]; · iexact Hvs
    iexact Hos
  iintro ⟨Hst, Hdn⟩
  ihave Hdn' := (Entails.of_eq (dn0_eq m d)) $$ Hdn
  icases Hdn' with ⟨Hys, -, Hos⟩
  ihave Ho := (Entails.of_eq (rows_take d (m (yLoc d)) (vBuf m d))) $$ Hos
  ihave Hy := (table_deal d (m (yLoc d))).2 $$ [Hyr Hys]
  · isplitl [Hyr]; · iexact Hyr
    iexact Hys
  imodintro
  isplitl [Hst]; · iexact Hst
  isplitr [Hb Hts]
  · isplitl [Hy]; · iexact Hy
    isplitl [Hg]; · iexact Hg
    iexact Ho
  isplitl [Hb] <;> iassumption

def fq (d : Dev nD) (s' : Phys nD τ sig (Elt F)) : Prop :=
  s'.mem.mem (oLoc d) = res m d ∧ s'.mem.mem (yLoc d) = m (yLoc d) ∧ s'.mem.mem (gLoc d) = m (gLoc d)

theorem hfin (d : Dev nD) (s' : Phys nD τ sig (Elt F)) : iprop(FIN m d ∗ SI s') ⊢ (⌜fq m d s'⌝ : sProp 𝕄) := by
  iintro ⟨⟨Hy, Hg, Ho⟩, HSI⟩
  ihave H := (persistent_entails_right (SI_pointsTo_agree (st := s') (ℓ := yLoc d) (I := Finset.univ) (q := fullShare) (f := m (yLoc d)))) $$ [HSI Hy]
  · isplitl [HSI] <;> iassumption
  icases H with ⟨%h1, HSI, -⟩
  ihave H := (persistent_entails_right (SI_pointsTo_agree (st := s') (ℓ := gLoc d) (I := Finset.univ) (q := fullShare) (f := m (gLoc d)))) $$ [HSI Hg]
  · isplitl [HSI] <;> iassumption
  icases H with ⟨%h2, HSI, -⟩
  ihave H := (SI_pointsTo_agree (st := s') (ℓ := oLoc d) (I := Finset.univ) (q := fullShare) (f := res m d)) $$ [HSI Ho]
  · isplitl [HSI] <;> iassumption
  icases H with %h3
  ipureintro
  exact ⟨funext fun i => h3 i (Finset.mem_univ i), funext fun i => h1 i (Finset.mem_univ i), funext fun i => h2 i (Finset.mem_univ i)⟩

/-! ## The program's run -/

def QC : PUnit × MemSt nD τ sig (Elt F) → Prop := fun r =>
  (∀ c : Dev nD, r.2.mem (oLoc c) = res m c ∧ r.2.mem (yLoc c) = m (yLoc c) ∧ r.2.mem (gLoc c) = m (gLoc c)) ∧ r.2.sem = fun _ => 0

theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Rows
-- ==== Proof.Value.lean ====
/-
  The values. The list in blocks is the index array read in row-major order; the precondition bounds every word of it; so the
  program's result and the reference's are one array: row `r` is the table's row that entry `r` of the flat list names.
-/
module

public import proofs.«01_k».proof.Defs
public import proofs.«01_k».proof.Proof.Launch
public import proofs.«01_k».proof.Proof.Gen.Pre_rows_named
public import proofs.«01_k».proof.Proof.Gen.ReferenceIdeal.Run
public import Idealize.ShloMosaic.Lib.Routing.Ops
public import Idealize.ShloMosaic.Lib.Pointwise.Reshape
public import Idealize.ShloMosaic.Lib.Quiescent

@[expose] public section

noncomputable section

namespace Cert.Proof.Rows

open Cert.KernelIdeal Cert.KernelIdeal.Gen
open Idealize.ShloMosaic Idealize.ShloMosaic.TcCoe Idealize.SL.Sem

variable {F : FTy → Type} [FloatOps F]

/-! ## The index array, flat and in blocks -/

/-- The index array's entry at row-major position `r`. -/
def nth (g : S2x32768.Idx → BitVec 32) (r : Fin 65536) : BitVec 32 := shapeCast S65536 g shapeCasts_S2x32768_S65536 (ValueIdx.ix1 r)

variable (m : (ℓ : Loc nD τ sig) → Buf (Elt F) ℓ)

/-- The list in blocks: the index array reshaped twice. -/
theorem vBuf_eq (d : Dev nD) :
    vBuf m d = shapeCast S1024x1x64 (shapeCast S65536 (m (gLoc d) : S2x32768.Idx → BitVec 32) shapeCasts_S2x32768_S65536) shapeCasts_S65536_S1024x1x64 := by
  have h1 : V1 m d w' = shapeCast S65536 (m (gLoc d) : S2x32768.Idx → BitVec 32) shapeCasts_S2x32768_S65536 :=
    StableHlo.reshape_result main_arg1 main_v0 _ _ _ _ (V0 m d)
  have h2 : V2 m d v' = shapeCast S1024x1x64 (V1 m d w' : S65536.Idx → BitVec 32) shapeCasts_S65536_S1024x1x64 :=
    StableHlo.reshape_result main_v0 main_v1 _ _ _ _ (V1 m d)
  exact h2.trans (congrArg (fun x => shapeCast S1024x1x64 x shapeCasts_S65536_S1024x1x64) h1)

/-- Word `r % 64` of block `r / 64` is entry `r` of the flat list. -/
theorem vBuf_vIx (d : Dev nD) (r : Fin 65536) : vBuf m d (vIx (r.val / 64) (r.val % 64)) = nth (m (gLoc d)) r := by
  refine (congrFun (vBuf_eq m d) _).trans ?_
  refine congrArg (shapeCast S65536 (m (gLoc d) : S2x32768.Idx → BitVec 32) shapeCasts_S2x32768_S65536) ?_
  refine Shape.reshapeEquiv_eq_of_rowMajor _ ?_
  refine (Shape.rowMajor_val_one _).trans (Eq.trans ?_ (Shape.rowMajor_val_three _).symm)
  have hr := r.isLt
  have h1 : (vIx (r.val / 64) (r.val % 64) 0 : ℕ) = r.val / 64 := Nat.mod_eq_of_lt (by omega)
  have h2 : (vIx (r.val / 64) (r.val % 64) 2 : ℕ) = r.val % 64 := Nat.mod_eq_of_lt (by omega)
  show r.val = ((vIx (r.val / 64) (r.val % 64) 0 : ℕ) * 1 + 0) * 64 + (vIx (r.val / 64) (r.val % 64) 2 : ℕ)
  rw [h1, h2]; omega

/-! ## What the precondition says -/

/-- Every word of the index array names a row of the table. -/
def Named (g : S2x32768.Idx → BitVec 32) : Prop := ∀ j, (g j).toNat < 98304

theorem named_of_pre {y : S98304x512.Idx → BitVec 32} {g : S2x32768.Idx → BitVec 32}
    (h : Cert.Pre_rows_named.fn (F := F) y g = fun _ => 1#1) : Named g := by
  have and_bool (p q : Bool) : IntOp.andi (BitVec.ofBool p) (BitVec.ofBool q) = BitVec.ofBool (p && q) := by
    cases p <;> cases q <;> decide
  have bool_one (p : Bool) : (BitVec.ofBool p = 1#1) ↔ p = true := by cases p <;> decide
  intro j
  have e := congrFun h j
  simp only [Cert.Pre_rows_named.fn, andi, cmpi, broadcastInDim, constantI] at e
  simp only [IntOp.cmpi, and_bool, bool_one, Bool.and_eq_true, BitVec.sle_eq_decide, BitVec.slt_eq_decide,
    decide_eq_true_eq, BitVec.toInt_eq_toNat_cond, BitVec.toNat_ofNat, Nat.reducePow, Nat.reduceMod] at e
  omega

theorem nth_lt {g : S2x32768.Idx → BitVec 32} (h : Named g) (r : Fin 65536) : (nth g r).toNat < 98304 := h _

theorem ok_of_named (h : ∀ d : Dev nD, Named (m (gLoc d))) : PreOK m := by
  intro d j
  rw [vBuf_eq]
  exact h d _

/-! ## The one array -/

/-- Row `r` is the table's row that entry `r` of the flat list names. -/
def rowsOf (y : S98304x512.Idx → BitVec 32) (g : S2x32768.Idx → BitVec 32) : S65536x512.Idx → BitVec 32 :=
  fun x => y (yIx (nth g (x 0)).toNat (x 1))

/-- The program's result. -/
theorem res_eq (d : Dev nD) : res m d = rowsOf (m (yLoc d)) (m (gLoc d)) :=
  funext fun x => congrArg (fun w : BitVec 32 => m (yLoc d) (yIx w.toNat (x 1))) (vBuf_vIx m d (x 0))

/-- What the reference computes: a negative index counted from the table's end, then the rows. -/
def gathered (y : S98304x512.Idx → BitVec 32) (g : S2x32768.Idx → BitVec 32) : S65536x512.Idx → BitVec 32 :=
  Host.gather Cert.ReferenceIdeal.gather_S98304x512_S65536x1_S65536x512_1_0_n_n_0_1_1512 y
    (broadcastInDim Cert.ReferenceIdeal.S65536x1 ![0] Cert.ReferenceIdeal.Facts₀.bcast_S65536_S65536x1_0
      (select (cmpi .slt (shapeCast _ g shapeCasts_S2x32768_S65536) (broadcastInDim S65536 ![] Cert.ReferenceIdeal.Facts₀.bcast_S_S65536 (constantI Cert.ReferenceIdeal.S_ 32 0#32)))
        (addi (shapeCast _ g shapeCasts_S2x32768_S65536) (broadcastInDim S65536 ![] Cert.ReferenceIdeal.Facts₀.bcast_S_S65536 (constantI Cert.ReferenceIdeal.S_ 32 98304#32)))
        (shapeCast _ g shapeCasts_S2x32768_S65536)))

theorem gathered_eq (y : S98304x512.Idx → BitVec 32) {g : S2x32768.Idx → BitVec 32} (h : Named g) : gathered y g = rowsOf y g := by
  funext x
  have hlt := nth_lt h (x 0)
  have hx : x = ValueIdx.ix2 (x 0) (x 1) := funext fun a => match a with | ⟨0, _⟩ => rfl | ⟨1, _⟩ => rfl
  have hneg : IntOp.cmpi .slt (nth g (x 0)) 0#32 = 0#1 := by
    have : BitVec.slt (nth g (x 0)) 0#32 = false := by
      simp only [BitVec.slt_eq_decide, BitVec.toInt_eq_toNat_cond, BitVec.toNat_ofNat, Nat.reducePow, Nat.reduceMod]
      simp only [decide_eq_false_iff_not]
      omega
    simp only [IntOp.cmpi, this]; rfl
  have hy : ValueIdx.ix2 (⟨(nth g (x 0)).toNat, hlt⟩ : Fin 98304) (x 1) = yIx (nth g (x 0)).toNat (x 1) :=
    funext fun a => match a with
    | ⟨0, _⟩ => Fin.ext (Nat.mod_eq_of_lt hlt).symm
    | ⟨1, _⟩ => rfl
  refine Eq.trans (congrArg (gathered y g) hx) (Eq.trans ?_ (congrArg y hy))
  refine Routing.gather_row (nb := 98304) (B := 512) (n := 65536) _ rfl rfl rfl rfl rfl y _ (x 0) (x 1) ⟨_, hlt⟩ ?_ (by decide)
  refine (Routing.bcCol (n := 65536) _ _ (x 0)).trans ?_
  show Scalar.select (IntOp.cmpi .slt (nth g (x 0)) 0#32) (IntOp.addi (nth g (x 0)) 98304#32) (nth g (x 0)) = BitVec.ofNat 32 (nth g (x 0)).toNat
  rw [hneg, BitVec.ofNat_toNat, BitVec.setWidth_eq]
  rfl

/-! ## The two runs -/

/-- The program, under the precondition: the rows, the table and the list as they were, every counter at zero. -/
theorem run_rows [∀ e, Nonempty (Elt F e)] (ρ : Dev nD → PrngReg) (h : ∀ d : Dev nD, Named (m (gLoc d))) :
    θ_run (Cert.KernelIdeal.defs (F := F)) (Cert.KernelIdeal.threads (F := F)) ⟨m, fun _ => 0, ρ⟩ fun r =>
      (∀ c : Dev nD, r.2.mem (oLoc c) = rowsOf (m (yLoc c)) (m (gLoc c)) ∧ r.2.mem (yLoc c) = m (yLoc c) ∧ r.2.mem (gLoc c) = m (gLoc c))
        ∧ r.2.sem = fun _ => 0 :=
  (θ_run (Cert.KernelIdeal.defs (F := F)) _ _).mono (fun _ q => ⟨fun c => ⟨(q.1 c).1.trans (res_eq m c), (q.1 c).2⟩, q.2⟩)
    (run_main m ρ (ok_of_named m h))

/-- The reference, from any memory. -/
theorem run_ref (m' : (ℓ : Loc Cert.ReferenceIdeal.nD Cert.ReferenceIdeal.τ Cert.ReferenceIdeal.sig) → Buf (Elt F) ℓ)
    (ρ' : Dev Cert.ReferenceIdeal.nD → PrngReg) :
    θ_run (Cert.ReferenceIdeal.defs (F := F)) (onTc (τ := Cert.ReferenceIdeal.τ) (Cert.ReferenceIdeal.main (F := F))) ⟨m', fun _ => 0, ρ'⟩ fun r =>
      (∀ c : Dev Cert.ReferenceIdeal.nD,
        r.2.mem ((c.tc : Thread Cert.ReferenceIdeal.nD Cert.ReferenceIdeal.τ).loc Cert.ReferenceIdeal.main_v7)
            = gathered (m' ((c.tc : Thread Cert.ReferenceIdeal.nD Cert.ReferenceIdeal.τ).loc Cert.ReferenceIdeal.main_arg0))
                (m' ((c.tc : Thread Cert.ReferenceIdeal.nD Cert.ReferenceIdeal.τ).loc Cert.ReferenceIdeal.main_arg1))
        ∧ r.2.mem ((c.tc : Thread Cert.ReferenceIdeal.nD Cert.ReferenceIdeal.τ).loc Cert.ReferenceIdeal.main_arg0)
            = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
            = m' ((c.tc : Thread Cert.ReferenceIdeal.nD Cert.ReferenceIdeal.τ).loc Cert.ReferenceIdeal.main_arg1))
        ∧ r.2.sem = fun _ => 0 :=
  (θ_run (Cert.ReferenceIdeal.defs (F := F)) _ _).mono (fun r q => ⟨q, sem_eq_zero_of_no_sems (by decide) r.2⟩)
    (Cert.ReferenceIdeal.Value.run m' ρ')

end Cert.Proof.Rows

end
-- ==== Proof.InSpec.lean ====
/-
  THE INPUT PROJECTION, at coordinates: what the two results of the second program hold, as plain functions of its
  arguments over the extended reals. A row of `x` is normalised by its root mean square, scaled by the norm weights,
  modulated by its batch's scale and shift, and multiplied by the projection's columns; two of the column groups pass
  through a three-tap convolution along the sequence, one of them gated before and after, the other with its silu after.
-/
module

public import Idealize.ShloMosaic.Lib.Pointwise

@[expose] public section

set_option maxRecDepth 16384

noncomputable section

namespace Cert.Proof.Inproj

open Idealize.ShloMosaic

/-- The arguments of the input projection, read at coordinates. -/
structure Args where
  /-- the layer's input: batch, position, lane -/
  x : Fin 4 → Fin 8192 → Fin 1024 → EReal
  /-- the modulation of a batch: row 0 is the shift, row 1 the scale -/
  md : Fin 4 → Fin 8 → Fin 1024 → EReal
  /-- the norm weights -/
  nw : Fin 1024 → EReal
  /-- the projection's matrix -/
  win : Fin 1024 → Fin 7176 → EReal
  /-- the taps and the bias of the gated convolution -/
  wa : Fin 3 → Fin 256 → EReal
  ba : Fin 256 → EReal
  /-- the taps and the bias of the convolution under the silu -/
  ws : Fin 3 → Fin 512 → EReal
  bs : Fin 512 → EReal

/-- A row normalised by its root mean square, weighted, scaled by `1 + sc` and shifted by `sh`. -/
def normRow (x w sc sh : Fin 1024 → EReal) (k : Fin 1024) : EReal :=
  x k * Ideal.rsqrt (Ideal.div (∑ l, x l * x l) (Ideal.ofBits .f32 0x44800000#32) + Ideal.ofBits .f32 0x358637BD#32)
    * w k * (1 + sc k) + sh k

/-- The row of the projection's input at a batch and a position. -/
def norm (a : Args) (b : Fin 4) (p : Fin 8192) : Fin 1024 → EReal :=
  normRow (a.x b p) a.nw (a.md b 1) (a.md b 0)

/-- Column `n` of the projection at a batch and a position. -/
def proj (a : Args) (b : Fin 4) (n : Fin 7176) (p : Fin 8192) : EReal :=
  ∑ k, norm a b p k * a.win k n

/-- The sequence one position earlier, zero before its start. -/
def before (u : Fin 8192 → EReal) (p : Fin 8192) : EReal :=
  if 0 < p.val then u ⟨p.val - 1, by omega⟩ else 0

/-- The sequence one position later, zero after its end. -/
def after (u : Fin 8192 → EReal) (p : Fin 8192) : EReal :=
  if h : p.val + 1 < 8192 then u ⟨p.val + 1, h⟩ else 0

/-- The three-tap convolution along a sequence. -/
def conv3 (u : Fin 8192 → EReal) (w0 w1 w2 b : EReal) (p : Fin 8192) : EReal :=
  before u p * w0 + u p * w1 + after u p * w2 + b

/-- `v` times its logistic. -/
def silu (v : EReal) : EReal := v * Ideal.div 1 (1 + Ideal.exp (-v))

/-- The gated convolution: column `l` of its slab. -/
def gated (a : Args) (b : Fin 4) (p : Fin 8192) (l : Fin 256) : EReal :=
  proj a b ⟨l.val, by omega⟩ p
    * conv3 (fun p => proj a b ⟨256 + l.val, by omega⟩ p * proj a b ⟨512 + l.val, by omega⟩ p)
        (a.wa 0 l) (a.wa 1 l) (a.wa 2 l) (a.ba l) p

/-- The convolution under the silu: column `l` of its two slabs. -/
def smooth (a : Args) (b : Fin 4) (p : Fin 8192) (l : Fin 512) : EReal :=
  silu (conv3 (proj a b ⟨2560 + l.val, by omega⟩) (a.ws 0 l) (a.ws 1 l) (a.ws 2 l) (a.bs l) p)

/-- The step sizes, one per head, each repeated over the head's 64 lanes: column `l` of their two slabs. -/
def step (a : Args) (b : Fin 4) (p : Fin 8192) (l : Fin 512) : EReal :=
  proj a b ⟨3072 + l.val / 64, by omega⟩ p

/-- The first result: slab `s` at a batch, a position and a lane. -/
def slab (a : Args) (s : Fin 11) (b : Fin 4) (p : Fin 8192) (l : Fin 256) : EReal :=
  match s with
  | 0 => gated a b p l
  | 1 => proj a b ⟨768 + l.val, by omega⟩ p
  | 2 => proj a b ⟨1024 + l.val, by omega⟩ p
  | 3 => proj a b ⟨1280 + l.val, by omega⟩ p
  | 4 => proj a b ⟨1536 + l.val, by omega⟩ p
  | 5 => proj a b ⟨1792 + l.val, by omega⟩ p
  | 6 => proj a b ⟨2304 + l.val, by omega⟩ p
  | 7 => smooth a b p ⟨l.val, by omega⟩
  | 8 => smooth a b p ⟨256 + l.val, by omega⟩
  | 9 => step a b p ⟨l.val, by omega⟩
  | 10 => step a b p ⟨256 + l.val, by omega⟩

/-- The second result: the columns kept apart from the slabs. -/
def four (a : Args) (b : Fin 4) (p : Fin 8192) (l : Fin 256) : EReal :=
  proj a b ⟨2048 + l.val, by omega⟩ p

end Cert.Proof.Inproj

end
end
-- ==== Proof.InPay.lean ====
/-
  THE INPUT PROJECTION'S BODY at coordinates: each vector its kernel computes, read at a row and a column, over
  arbitrary blocks.
-/
module

public import proofs.«01_k».proof.Proof.InSpec
public import proofs.«01_k».proof.Proof.Gen.Kernel2Ideal.Frame

@[expose] public section

set_option maxRecDepth 16384

noncomputable section

namespace Cert.Proof.Inproj

open Idealize.ShloMosaic Idealize.ShloMosaic.TcCoe Idealize.SL.Sem
open Cert.Kernel2Ideal Cert.Kernel2Ideal.Gen

/-- The tile's rows with the eight before and the eight after them. -/
def rows (v0 : Vec Ideal S1x8x1024 .f32) (v2 : Vec Ideal S1x512x1024 .f32) (v4 : Vec Ideal S1x8x1024 .f32)
    (r : Fin 528) (k : Fin 1024) : EReal :=
  if h : r.val < 8 then v0 (ix3 0 ⟨r.val, h⟩ k)
  else if h' : r.val - 8 < 512 then v2 (ix3 0 ⟨r.val - 8, h'⟩ k)
  else v4 (ix3 0 ⟨r.val - 8 - 512, by omega⟩ k)

/-- The normalised and modulated rows. -/
theorem pay4_at (v0 : Vec Ideal S1x8x1024 .f32) (v2 : Vec Ideal S1x512x1024 .f32) (v4 : Vec Ideal S1x8x1024 .f32)
    (v7 : Vec Ideal S1x1024 .f32) (v9 v11 : Vec Ideal S1x1x1024 .f32) (r : Fin 528) (k : Fin 1024) :
    k0_pay4 v0 v2 v4 v7 v9 v11 (ix2 r k)
      = normRow (rows v0 v2 v4 r) (fun k => v7 (ix2 0 k)) (fun k => v11 (ix3 0 0 k)) (fun k => v9 (ix3 0 0 k)) k := by
  pointwise [k0_pay4, normRow, rows]

/-- The product with the main columns. -/
theorem pay6_at (v31 : FVec Ideal S528x1024 .bf16) (v32 : Vec Ideal S1024x3072 .bf16) (r : Fin 528) (n : Fin 3072) :
    k0_pay6 v31 (k0_pay5 v32) (constant S528x3072 .f32 0x00000000#32) (ix2 r n)
      = ∑ k : Fin 1024, v31 (ix2 r k) * v32 (ix2 k n) := by
  pointwise [k0_pay6, k0_pay5]

/-- The product of the tile's own rows with the step-size columns. -/
theorem pay7_at (v31 : FVec Ideal S528x1024 .bf16) (v36 : Vec Ideal S1024x512 .bf16) (r : Fin 512) (n : Fin 512) :
    k0_pay7 v31 v36 (ix2 r n)
      = ∑ k : Fin 1024, v31 (ix2 ⟨8 + r.val, by omega⟩ k) * v36 (ix2 k n) := by
  pointwise [k0_pay7]

/-- The two comparisons of the mask, over the sixteen tiles of a sequence and the 528 rows of a tile. -/
theorem mask_word : ∀ (i : Fin 16) (r : Fin 528),
    IntOp.andi
        (IntOp.cmpi CmpIPredicate.sge (BitVec.ofNat 32 r.val)
          (Scalar.select (Scalar.cmpi CmpIPredicate.sgt (BitVec.ofNat 32 i.val) 0#32) 0#32 8#32))
        (IntOp.cmpi CmpIPredicate.slt (BitVec.ofNat 32 r.val)
          (Scalar.select (Scalar.cmpi CmpIPredicate.slt (BitVec.ofNat 32 i.val) 15#32) 528#32 520#32))
      = if 8 ≤ 512 * i.val + r.val ∧ 512 * i.val + r.val < 8200 then 1#1 else 0#1 := by
  decide +kernel

/-- The mask: 1 on the rows that lie inside the sequence, 0 on those before its start and after its end. -/
theorem pay8_at (i : Fin 16) (r : Fin 528) :
    k0_pay8 (F := Ideal) (BitVec.ofNat 32 i.val) (ix2 r 0)
      = if 8 ≤ 512 * i.val + r.val ∧ 512 * i.val + r.val < 8200 then (1 : EReal) else 0 := by
  pointwise [k0_pay8]
  rw [mask_word]
  split <;> rfl

/-- The gated convolution's second factor at a row and a lane. -/
theorem pay9_at (g : BitVec 32) (v31 : FVec Ideal S528x1024 .bf16) (v33 : FVec Ideal S1024x3072 .bf16)
    (z : FVec Ideal S528x3072 .f32) (w0 w1 w2 b : Vec Ideal S1x256 .f32) (r : Fin 512) (l : Fin 256)
    (u : Fin 528 → EReal)
    (hu : ∀ r : Fin 528, k0_pay6 v31 v33 z (ix2 r ⟨256 + l.val, by omega⟩)
        * k0_pay6 v31 v33 z (ix2 r ⟨512 + l.val, by omega⟩) * k0_pay8 g (ix2 r 0) = u r) :
    k0_pay9 g v31 v33 z w0 w1 w2 b (ix2 r l)
      = u ⟨7 + r.val, by omega⟩ * w0 (ix2 0 l) + u ⟨8 + r.val, by omega⟩ * w1 (ix2 0 l)
        + u ⟨9 + r.val, by omega⟩ * w2 (ix2 0 l) + b (ix2 0 l) := by
  pointwise [k0_pay9]
  rw [← hu, ← hu, ← hu]

/-- The convolution under the silu at a row and a lane. -/
theorem pay19_at (v34 : FVec Ideal S528x3072 .f32) (v51 : FVec Ideal S528x1 .f32)
    (w0 w1 w2 b : Vec Ideal S1x512 .f32) (r : Fin 512) (l : Fin 512) (u : Fin 528 → EReal)
    (hu : ∀ r : Fin 528, v34 (ix2 r ⟨2560 + l.val, by omega⟩) * v51 (ix2 r 0) = u r) :
    k0_pay19 v34 v51 w0 w1 w2 b (ix2 r l)
      = silu (u ⟨7 + r.val, by omega⟩ * w0 (ix2 0 l) + u ⟨8 + r.val, by omega⟩ * w1 (ix2 0 l)
        + u ⟨9 + r.val, by omega⟩ * w2 (ix2 0 l) + b (ix2 0 l)) := by
  pointwise [k0_pay19]
  rw [← hu, ← hu, ← hu, silu, zero_sub]

end Cert.Proof.Inproj

end
-- ==== Proof.InTile.lean ====
/-
  THE INPUT PROJECTION'S TILES: what each input window's block holds at a grid point, read at coordinates. A point is
  a batch and a tile of 512 rows of its sequence; three windows bring the tile's rows and the eight before and after
  them, the others the weights, whole.
-/
module

public import proofs.«01_k».proof.Proof.InPay
public import proofs.«01_k».proof.Proof.Gen.Kernel2Ideal.Value
public import Idealize.ShloMosaic.Lib.Pipeline.ValueKit

@[expose] public section

set_option maxRecDepth 16384

noncomputable section

namespace Cert.Proof.Inproj

open Idealize.ShloMosaic Idealize.ShloMosaic.TcCoe Idealize.SL.Sem
open Idealize.ShloMosaic.Pipeline (Dat)
open Cert.Kernel2Ideal Cert.Kernel2Ideal.Gen

variable (m : (ℓ : Loc nD τ sig) → Buf (Elt Ideal) ℓ)

/-- The kernel's arguments, read at coordinates. -/
def args (c : Dev nD) : Args where
  x b p k := (m ((c : Thread nD τ).loc main_arg0) : FVec Ideal S4x8192x1024 .f32) (ix3 b p k)
  md b j k := (m ((c : Thread nD τ).loc main_arg1) : FVec Ideal S4x8x1024 .f32) (ix3 b j k)
  nw k := (m ((c : Thread nD τ).loc main_arg2) : FVec Ideal S1024 .f32) (ix1 k)
  win k n := (m ((c : Thread nD τ).loc main_arg3) : FVec Ideal S1024x7176 .f32) (ix2 k n)
  wa j l := (m ((c : Thread nD τ).loc main_arg4) : FVec Ideal S3x256 .f32) (ix2 j l)
  ba l := (m ((c : Thread nD τ).loc main_arg5) : FVec Ideal S256 .f32) (ix1 l)
  ws j l := (m ((c : Thread nD τ).loc main_arg6) : FVec Ideal S3x512 .f32) (ix2 j l)
  bs l := (m ((c : Thread nD τ).loc main_arg7) : FVec Ideal S512 .f32) (ix1 l)

/-- The windows' index maps over the 64 grid points: batch `t / 16`, tile `t % 16`. -/
theorem idx : ∀ t : Fin cfg0.N,
    win0_0.index t = ![t.val / 16, t.val % 16, 0]
    ∧ win0_1.index t = ![t.val / 16, 64 * (t.val % 16) - 1, 0]
    ∧ win0_2.index t = ![t.val / 16, min (64 * (t.val % 16 + 1)) 1023, 0]
    ∧ win0_3.index t = ![t.val / 16, 0, 0]
    ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![0, t.val / 16, t.val % 16, 0]
    ∧ win0_12.index t = ![t.val / 16, t.val % 16, 0]
    ∧ (grid0.coords t 1).val = t.val % 16 ∧ t.val / 16 < 4 :=
  (by decide +kernel : ∀ t : Fin grid0.N, _)

theorem bat_lt (t : Fin cfg0.N) : t.val / 16 < 4 := (idx t).2.2.2.2.2.2.2.2.2.2.2.2.2.2

/-- The batch of a grid point. -/
def bat (t : Fin cfg0.N) : Fin 4 := ⟨t.val / 16, bat_lt t⟩

/-- The tile of a grid point within its batch's sequence. -/
def til (t : Fin cfg0.N) : Fin 16 := ⟨t.val % 16, by omega⟩

/-- Row `r` of the tile with its neighbours is the sequence's row `512 i + r - 8`, where there is one. -/
theorem rows_at (c : Dev nD) (t : Fin cfg0.N) (r : Fin 528) (p : Fin 8192) (hp : p.val + 8 = 512 * (t.val % 16) + r.val)
    (k : Fin 1024) :
    rows (iblk m c 1 t) (iblk m c 0 t) (iblk m c 2 t) r k = (args m c).x (bat t) p k := by
  unfold rows args bat
  split
  · blk_ext [iblk, V, idx t]
  · split
    · blk_ext [iblk, V, idx t]
    · blk_ext [iblk, V, idx t]

theorem w5_at (c : Dev nD) (t : Fin cfg0.N) (k : Fin 1024) (n : Fin 3072) :
    (iblk m c 5 t : FVec Ideal S1024x3072 .bf16) (ix2 k n) = (args m c).win k ⟨n.val, by omega⟩ := by
  unfold args
  blk_point [iblk, V, idx t]

theorem w6_at (c : Dev nD) (t : Fin cfg0.N) (k : Fin 1024) (n : Fin 512) :
    (iblk m c 6 t : FVec Ideal S1024x512 .bf16) (ix2 k n) = (args m c).win k ⟨3072 + n.val / 64, by omega⟩ := by
  unfold args
  blk_point [iblk, V, idx t]

theorem w4_at (c : Dev nD) (t : Fin cfg0.N) (k : Fin 1024) :
    (iblk m c 4 t : FVec Ideal S1x1024 .f32) (ix2 0 k) = (args m c).nw k := by
  unfold args
  blk_point [iblk, V, idx t]

theorem w3_at (c : Dev nD) (t : Fin cfg0.N) (j : Fin 8) (k : Fin 1024) :
    (iblk m c 3 t : FVec Ideal S1x8x1024 .f32) (ix3 0 j k) = (args m c).md (bat t) j k := by
  unfold args bat
  blk_point [iblk, V, idx t]

theorem w7_at (c : Dev nD) (t : Fin cfg0.N) (j : Fin 3) (l : Fin 256) :
    (iblk m c 7 t : FVec Ideal S3x256 .f32) (ix2 j l) = (args m c).wa j l := by
  unfold args
  blk_point [iblk, V, idx t]

theorem w8_at (c : Dev nD) (t : Fin cfg0.N) (l : Fin 256) :
    (iblk m c 8 t : FVec Ideal S1x256 .f32) (ix2 0 l) = (args m c).ba l := by
  unfold args
  blk_point [iblk, V, idx t]

theorem w9_at (c : Dev nD) (t : Fin cfg0.N) (j : Fin 3) (l : Fin 512) :
    (iblk m c 9 t : FVec Ideal S3x512 .f32) (ix2 j l) = (args m c).ws j l := by
  unfold args
  blk_point [iblk, V, idx t]

theorem w10_at (c : Dev nD) (t : Fin cfg0.N) (l : Fin 512) :
    (iblk m c 10 t : FVec Ideal S1x512 .f32) (ix2 0 l) = (args m c).bs l := by
  unfold args
  blk_point [iblk, V, idx t]

end Cert.Proof.Inproj

end
-- ==== Proof.InBody.lean ====
/-
  THE INPUT PROJECTION'S BODY ON A TILE: the vectors of its kernel over the blocks of a grid point are the
  specification's functions of the arguments.
-/
module

public import proofs.«01_k».proof.Proof.InTile

@[expose] public section

set_option maxRecDepth 16384

noncomputable section

namespace Cert.Proof.Inproj

open Idealize.ShloMosaic Idealize.ShloMosaic.TcCoe Idealize.SL.Sem
open Idealize.ShloMosaic.Pipeline (Dat)
open Cert.Kernel2Ideal Cert.Kernel2Ideal.Gen

variable (m : (ℓ : Loc nD τ sig) → Buf (Elt Ideal) ℓ)

/-- Equal rows and weights normalise alike. -/
theorem normRow_congr {x x' w w' sc sc' sh sh' : Fin 1024 → EReal} (hx : ∀ k, x k = x' k) (hw : ∀ k, w k = w' k)
    (hc : ∀ k, sc k = sc' k) (hs : ∀ k, sh k = sh' k) (k : Fin 1024) :
    normRow x w sc sh k = normRow x' w' sc' sh' k := by
  rw [funext hx, funext hw, funext hc, funext hs]

/-- The normalised rows of a tile are the sequence's. -/
theorem norm_at (c : Dev nD) (t : Fin cfg0.N) (r : Fin 528) (p : Fin 8192)
    (hp : p.val + 8 = 512 * (t.val % 16) + r.val) (k : Fin 1024) :
    k0_pay22 (F := Ideal) (grid0.coords t) (iblk m c 0 t) (iblk m c 1 t) (iblk m c 2 t) (iblk m c 3 t) (iblk m c 4 t)
      (iblk m c 5 t) (iblk m c 6 t) (iblk m c 7 t) (iblk m c 8 t) (iblk m c 9 t) (iblk m c 10 t) (ix2 r k)
      = norm (args m c) (bat t) p k := by
  unfold k0_pay22
  rw [pay4_at]
  frame_out
  refine normRow_congr (rows_at m c t r p hp) (fun k => ?_) (fun k => ?_) (fun k => ?_) k
  · pointwise
    exact w4_at m c t k
  · pointwise
    exact w3_at m c t 1 k
  · pointwise
    exact w3_at m c t 0 k

/-- The main columns of a tile's rows are the projection's. -/
theorem pr_at (c : Dev nD) (t : Fin cfg0.N) (r : Fin 528) (p : Fin 8192)
    (hp : p.val + 8 = 512 * (t.val % 16) + r.val) (n : Fin 3072) :
    k0_pay24 (F := Ideal) (grid0.coords t) (iblk m c 0 t) (iblk m c 1 t) (iblk m c 2 t) (iblk m c 3 t) (iblk m c 4 t)
      (iblk m c 5 t) (iblk m c 6 t) (iblk m c 7 t) (iblk m c 8 t) (iblk m c 9 t) (iblk m c 10 t) (ix2 r n)
      = proj (args m c) (bat t) ⟨n.val, by omega⟩ p := by
  unfold k0_pay24 k0_pay21 k0_pay23
  rw [pay6_at]
  refine Finset.sum_congr rfl fun k _ => ?_
  rw [norm_at m c t r p hp]
  refine Ideal.mul_congr rfl ?_
  pointwise
  exact w5_at m c t k n

/-- The repeated step-size columns of a tile's own rows. -/
theorem dt_at (c : Dev nD) (t : Fin cfg0.N) (r : Fin 512) (p : Fin 8192)
    (hp : p.val = 512 * (t.val % 16) + r.val) (n : Fin 512) :
    k0_pay25 (F := Ideal) (grid0.coords t) (iblk m c 0 t) (iblk m c 1 t) (iblk m c 2 t) (iblk m c 3 t) (iblk m c 4 t)
      (iblk m c 5 t) (iblk m c 6 t) (iblk m c 7 t) (iblk m c 8 t) (iblk m c 9 t) (iblk m c 10 t) (ix2 r n)
      = step (args m c) (bat t) p n := by
  unfold k0_pay25 step proj
  rw [pay7_at]
  refine Finset.sum_congr rfl fun k _ => ?_
  rw [norm_at m c t ⟨8 + r.val, by omega⟩ p (by simp only; omega)]
  refine Ideal.mul_congr rfl ?_
  pointwise
  exact w6_at m c t k n

/-- A sequence read at row `r` of tile `i` and its neighbours, zero outside. -/
def padded (u : Fin 8192 → EReal) (i : Fin 16) (r : Fin 528) : EReal :=
  if h : 8 ≤ 512 * i.val + r.val ∧ 512 * i.val + r.val < 8200 then u ⟨512 * i.val + r.val - 8, by omega⟩ else 0

/-- The three rows a convolution reads are the sequence before, at and after the position. -/
theorem padded_conv (u : Fin 8192 → EReal) (i : Fin 16) (r : Fin 512) (p : Fin 8192) (hp : p.val = 512 * i.val + r.val)
    (w0 w1 w2 b : EReal) :
    padded u i ⟨7 + r.val, by omega⟩ * w0 + padded u i ⟨8 + r.val, by omega⟩ * w1 + padded u i ⟨9 + r.val, by omega⟩ * w2 + b
      = conv3 u w0 w1 w2 b p := by
  have h0 : padded u i ⟨7 + r.val, by omega⟩ = before u p := by
    unfold padded before
    by_cases h : 0 < p.val
    · rw [dif_pos (by dsimp only; omega), if_pos h]
      exact congrArg u (Fin.ext (by dsimp only; omega))
    · rw [dif_neg (by dsimp only; omega), if_neg h]
  have h1 : padded u i ⟨8 + r.val, by omega⟩ = u p := by
    unfold padded
    rw [dif_pos (by dsimp only; omega)]
    exact congrArg u (Fin.ext (by dsimp only; omega))
  have h2 : padded u i ⟨9 + r.val, by omega⟩ = after u p := by
    unfold padded after
    by_cases h : p.val + 1 < 8192
    · rw [dif_pos (by dsimp only; omega), dif_pos h]
      exact congrArg u (Fin.ext (by dsimp only; omega))
    · rw [dif_neg (by dsimp only; omega), dif_neg h]
  rw [h0, h1, h2, conv3]

/-- A value that is the sequence's on the rows inside it, times the mask. -/
theorem mul_mask (u : Fin 8192 → EReal) (i : Fin 16) (r : Fin 528) (v : EReal)
    (hv : ∀ p : Fin 8192, p.val + 8 = 512 * i.val + r.val → v = u p) :
    v * k0_pay8 (F := Ideal) (BitVec.ofNat 32 i.val) (ix2 r 0) = padded u i r := by
  rw [pay8_at]
  unfold padded
  split
  · rw [mul_one]
    exact hv _ (by dsimp only; omega)
  · rw [mul_zero]

/-- The gated slab at a row of a tile. -/
theorem gated_at (c : Dev nD) (t : Fin cfg0.N) (r : Fin 512) (p : Fin 8192)
    (hp : p.val = 512 * (t.val % 16) + r.val) (l : Fin 256) :
    k0_pay9 (F := Ideal) (BitVec.ofNat 32 (grid0.coords t 1).val)
      (k0_pay22 (grid0.coords t) (iblk m c 0 t) (iblk m c 1 t) (iblk m c 2 t) (iblk m c 3 t) (iblk m c 4 t)
        (iblk m c 5 t) (iblk m c 6 t) (iblk m c 7 t) (iblk m c 8 t) (iblk m c 9 t) (iblk m c 10 t))
      (k0_pay23 (grid0.coords t) (iblk m c 0 t) (iblk m c 1 t) (iblk m c 2 t) (iblk m c 3 t) (iblk m c 4 t)
        (iblk m c 5 t) (iblk m c 6 t) (iblk m c 7 t) (iblk m c 8 t) (iblk m c 9 t) (iblk m c 10 t))
      (k0_pay21 (grid0.coords t) (iblk m c 0 t) (iblk m c 1 t) (iblk m c 2 t) (iblk m c 3 t) (iblk m c 4 t)
        (iblk m c 5 t) (iblk m c 6 t) (iblk m c 7 t) (iblk m c 8 t) (iblk m c 9 t) (iblk m c 10 t))
      (View.ld (iblk m c 7 t) r0_7) (View.ld (iblk m c 7 t) r0_8) (View.ld (iblk m c 7 t) r0_9)
      (View.ld (iblk m c 8 t) r0_10) (ix2 r l)
      = conv3 (fun p => proj (args m c) (bat t) ⟨256 + l.val, by omega⟩ p * proj (args m c) (bat t) ⟨512 + l.val, by omega⟩ p)
          ((args m c).wa 0 l) ((args m c).wa 1 l) ((args m c).wa 2 l) ((args m c).ba l) p := by
  have hi : (grid0.coords t 1).val = (til t).val := (idx t).2.2.2.2.2.2.2.2.2.2.2.2.2.1
  rw [hi, pay9_at _ _ _ _ _ _ _ _ r l (padded (fun p => proj (args m c) (bat t) ⟨256 + l.val, by omega⟩ p
    * proj (args m c) (bat t) ⟨512 + l.val, by omega⟩ p) (til t))]
  · rw [← padded_conv _ (til t) r p hp]
    refine Ideal.add_congr (Ideal.add_congr (Ideal.add_congr (Ideal.mul_congr rfl ?_) (Ideal.mul_congr rfl ?_))
      (Ideal.mul_congr rfl ?_)) ?_
    · pointwise
      exact w7_at m c t 0 l
    · pointwise
      exact w7_at m c t 1 l
    · pointwise
      exact w7_at m c t 2 l
    · pointwise
      exact w8_at m c t l
  · intro r
    refine mul_mask _ (til t) r _ fun p hp => ?_
    exact Ideal.mul_congr (pr_at m c t r p hp ⟨256 + l.val, by omega⟩) (pr_at m c t r p hp ⟨512 + l.val, by omega⟩)

/-- The slabs under the silu at a row of a tile. -/
theorem smooth_at (c : Dev nD) (t : Fin cfg0.N) (r : Fin 512) (p : Fin 8192)
    (hp : p.val = 512 * (t.val % 16) + r.val) (l : Fin 512) :
    k0_pay19 (F := Ideal)
      (k0_pay24 (grid0.coords t) (iblk m c 0 t) (iblk m c 1 t) (iblk m c 2 t) (iblk m c 3 t) (iblk m c 4 t)
        (iblk m c 5 t) (iblk m c 6 t) (iblk m c 7 t) (iblk m c 8 t) (iblk m c 9 t) (iblk m c 10 t))
      (k0_pay26 (grid0.coords t) (iblk m c 0 t) (iblk m c 1 t) (iblk m c 2 t) (iblk m c 3 t) (iblk m c 4 t)
        (iblk m c 5 t) (iblk m c 6 t) (iblk m c 7 t) (iblk m c 8 t) (iblk m c 9 t) (iblk m c 10 t))
      (View.ld (iblk m c 9 t) r0_19) (View.ld (iblk m c 9 t) r0_20) (View.ld (iblk m c 9 t) r0_21)
      (View.ld (iblk m c 10 t) r0_22) (ix2 r l)
      = smooth (args m c) (bat t) p l := by
  have hi : (grid0.coords t 1).val = (til t).val := (idx t).2.2.2.2.2.2.2.2.2.2.2.2.2.1
  unfold k0_pay26 smooth
  rw [hi, pay19_at _ _ _ _ _ _ r l (padded (proj (args m c) (bat t) ⟨2560 + l.val, by omega⟩) (til t))]
  · rw [← padded_conv _ (til t) r p hp]
    refine congrArg silu (Ideal.add_congr (Ideal.add_congr (Ideal.add_congr (Ideal.mul_congr rfl ?_) (Ideal.mul_congr rfl ?_))
      (Ideal.mul_congr rfl ?_)) ?_)
    · pointwise
      exact w9_at m c t 0 l
    · pointwise
      exact w9_at m c t 1 l
    · pointwise
      exact w9_at m c t 2 l
    · pointwise
      exact w10_at m c t l
  · intro r
    refine mul_mask _ (til t) r _ fun p hp => ?_
    exact pr_at m c t r p hp ⟨2560 + l.val, by omega⟩

end Cert.Proof.Inproj

end
-- ==== Proof.InKernel.lean ====
/-
  THE INPUT PROJECTION'S RESULTS: the blocks that the grid's points write back tile both result arrays, and each holds
  the specification's values, so after the run the arrays do.
-/
module

public import proofs.«01_k».proof.Proof.InBody

@[expose] public section

set_option maxRecDepth 16384

noncomputable section

namespace Cert.Proof.Inproj

open Idealize.ShloMosaic Idealize.ShloMosaic.TcCoe Idealize.SL.Sem
open Idealize.ShloMosaic.Pipeline (Dat)
open Cert.Kernel2Ideal Cert.Kernel2Ideal.Gen

variable (m : (ℓ : Loc nD τ sig) → Buf (Elt Ideal) ℓ)

/-- The position of a tile's row in its sequence. -/
def pos (t : Fin cfg0.N) (r : Fin 512) : Fin 8192 := ⟨512 * (t.val % 16) + r.val, by omega⟩

theorem pos_add (t : Fin cfg0.N) (r : Fin 512) : (pos t r).val + 8 = 512 * (t.val % 16) + (8 + r.val) := by
  unfold pos
  dsimp only
  omega

/-- What the body leaves of the slabs at a grid point. -/
theorem point11 (c : Dev nD) (t : Fin cfg0.N) (y : S11x1x512x256.Idx) :
    out0_11 (F := Ideal) (grid0.coords t) (iblk m c 0 t) (iblk m c 1 t) (iblk m c 2 t) (iblk m c 3 t) (iblk m c 4 t)
      (iblk m c 5 t) (iblk m c 6 t) (iblk m c 7 t) (iblk m c 8 t) (iblk m c 9 t) (iblk m c 10 t) y
      = slab (args m c) (y 0) (bat t) (pos t (y 2)) (y 3) := by
  canon_tiles x h
  · idx_vars x
    idx_vars y
    obtain rfl : y0 = 10 := Fin.ext (by simp at *; omega)
    obtain rfl : y2 = x2 := Fin.ext (by simpa using h2)
    obtain rfl : y3 = x3 := Fin.ext (by simpa using h3)
    pointwise [k0_pay3]
    exact dt_at m c t y2 (pos t y2) rfl ⟨256 + y3.val, by omega⟩
  · idx_vars x
    idx_vars y
    obtain rfl : y0 = 9 := Fin.ext (by simp at *; omega)
    obtain rfl : y2 = x2 := Fin.ext (by simpa using h2)
    obtain rfl : y3 = x3 := Fin.ext (by simpa using h3)
    pointwise [k0_pay2]
    exact dt_at m c t y2 (pos t y2) rfl ⟨y3.val, by omega⟩
  · idx_vars x
    idx_vars y
    obtain rfl : y0 = 8 := Fin.ext (by simp at *; omega)
    obtain rfl : y2 = x2 := Fin.ext (by simpa using h2)
    obtain rfl : y3 = x3 := Fin.ext (by simpa using h3)
    pointwise [k0_pay1]
    exact smooth_at m c t y2 (pos t y2) rfl ⟨256 + y3.val, by omega⟩
  · idx_vars x
    idx_vars y
    obtain rfl : y0 = 7 := Fin.ext (by simp at *; omega)
    obtain rfl : y2 = x2 := Fin.ext (by simpa using h2)
    obtain rfl : y3 = x3 := Fin.ext (by simpa using h3)
    pointwise [k0_pay20]
    exact smooth_at m c t y2 (pos t y2) rfl ⟨y3.val, by omega⟩
  · idx_vars x
    idx_vars y
    obtain rfl : y0 = 6 := Fin.ext (by simp at *; omega)
    obtain rfl : y2 = x2 := Fin.ext (by simpa using h2)
    obtain rfl : y3 = x3 := Fin.ext (by simpa using h3)
    pointwise [k0_pay18]
    exact pr_at m c t ⟨8 + y2.val, by omega⟩ (pos t y2) (pos_add t y2) ⟨2304 + y3.val, by omega⟩
  · idx_vars x
    idx_vars y
    obtain rfl : y0 = 5 := Fin.ext (by simp at *; omega)
    obtain rfl : y2 = x2 := Fin.ext (by simpa using h2)
    obtain rfl : y3 = x3 := Fin.ext (by simpa using h3)
    pointwise [k0_pay15]
    exact pr_at m c t ⟨8 + y2.val, by omega⟩ (pos t y2) (pos_add t y2) ⟨1792 + y3.val, by omega⟩
  · idx_vars x
    idx_vars y
    obtain rfl : y0 = 4 := Fin.ext (by simp at *; omega)
    obtain rfl : y2 = x2 := Fin.ext (by simpa using h2)
    obtain rfl : y3 = x3 := Fin.ext (by simpa using h3)
    pointwise [k0_pay14]
    exact pr_at m c t ⟨8 + y2.val, by omega⟩ (pos t y2) (pos_add t y2) ⟨1536 + y3.val, by omega⟩
  · idx_vars x
    idx_vars y
    obtain rfl : y0 = 3 := Fin.ext (by simp at *; omega)
    obtain rfl : y2 = x2 := Fin.ext (by simpa using h2)
    obtain rfl : y3 = x3 := Fin.ext (by simpa using h3)
    pointwise [k0_pay13]
    exact pr_at m c t ⟨8 + y2.val, by omega⟩ (pos t y2) (pos_add t y2) ⟨1280 + y3.val, by omega⟩
  · idx_vars x
    idx_vars y
    obtain rfl : y0 = 2 := Fin.ext (by simp at *; omega)
    obtain rfl : y2 = x2 := Fin.ext (by simpa using h2)
    obtain rfl : y3 = x3 := Fin.ext (by simpa using h3)
    pointwise [k0_pay12]
    exact pr_at m c t ⟨8 + y2.val, by omega⟩ (pos t y2) (pos_add t y2) ⟨1024 + y3.val, by omega⟩
  · idx_vars x
    idx_vars y
    obtain rfl : y0 = 1 := Fin.ext (by simp at *; omega)
    obtain rfl : y2 = x2 := Fin.ext (by simpa using h2)
    obtain rfl : y3 = x3 := Fin.ext (by simpa using h3)
    pointwise [k0_pay11]
    exact pr_at m c t ⟨8 + y2.val, by omega⟩ (pos t y2) (pos_add t y2) ⟨768 + y3.val, by omega⟩
  · idx_vars x
    idx_vars y
    obtain rfl : y0 = 0 := Fin.ext (by simp at *; omega)
    obtain rfl : y2 = x2 := Fin.ext (by simpa using h2)
    obtain rfl : y3 = x3 := Fin.ext (by simpa using h3)
    pointwise [k0_pay10]
    exact Ideal.mul_congr (pr_at m c t ⟨8 + y2.val, by omega⟩ (pos t y2) (pos_add t y2) ⟨y3.val, by omega⟩)
      (gated_at m c t y2 (pos t y2) rfl y3)

/-- What the body leaves of the columns kept apart. -/
theorem point12 (c : Dev nD) (t : Fin cfg0.N) (y : S1x512x256.Idx) :
    out0_12 (F := Ideal) (grid0.coords t) (iblk m c 0 t) (iblk m c 1 t) (iblk m c 2 t) (iblk m c 3 t) (iblk m c 4 t)
      (iblk m c 5 t) (iblk m c 6 t) (iblk m c 7 t) (iblk m c 8 t) (iblk m c 9 t) (iblk m c 10 t) y
      = four (args m c) (bat t) (pos t (y 1)) (y 2) := by
  canon_tiles x h
  · idx_vars x
    idx_vars y
    obtain rfl : y1 = x1 := Fin.ext (by simpa using h1)
    obtain rfl : y2 = x2 := Fin.ext (by simpa using h2)
    pointwise [k0_pay17, k0_pay16]
    exact pr_at m c t ⟨8 + y1.val, by omega⟩ (pos t y1) (pos_add t y1) ⟨2048 + y2.val, by omega⟩

/-- The slabs at equal coordinates. -/
theorem slab_congr (a : Args) {s s' : Fin 11} {b b' : Fin 4} {p p' : Fin 8192} {l l' : Fin 256}
    (hs : s.val = s'.val) (hb : b.val = b'.val) (hp : p.val = p'.val) (hl : l.val = l'.val) :
    slab a s b p l = slab a s' b' p' l' := by
  rw [Fin.ext hs, Fin.ext hb, Fin.ext hp, Fin.ext hl]

/-- The columns kept apart at equal coordinates. -/
theorem four_congr (a : Args) {b b' : Fin 4} {p p' : Fin 8192} {l l' : Fin 256}
    (hb : b.val = b'.val) (hp : p.val = p'.val) (hl : l.val = l'.val) :
    four a b p l = four a b' p' l' := by
  rw [Fin.ext hb, Fin.ext hp, Fin.ext hl]

/-- The array of slabs after the run. -/
theorem final11 (c : Dev nD) :
    (dats m 0 c).arrAt 11 cfg0.N = fun i => slab (args m c) (i 0) (i 1) (i 2) (i 3) := by
  refine (dats m 0 c).arrAt_eq_of_covers 11 _ (by decide +kernel) fun t _ y => ?_
  blk_simp
  rw [after0_11, point11]
  refine slab_congr _ ?_ ?_ ?_ ?_
  all_goals (blk_simp [idx t, bat, pos] <;> try exact congrArg (· + _) (Nat.mul_comm _ _))

/-- The array of the columns kept apart after the run. -/
theorem final12 (c : Dev nD) :
    (dats m 0 c).arrAt 12 cfg0.N = fun i => four (args m c) (i 0) (i 1) (i 2) := by
  refine (dats m 0 c).arrAt_eq_of_covers 12 _ (by decide +kernel) fun t _ y => ?_
  blk_simp
  rw [after0_12, point12]
  refine four_congr _ ?_ ?_ ?_
  all_goals (blk_simp [idx t, bat, pos] <;> try exact congrArg (· + _) (Nat.mul_comm _ _))

end Cert.Proof.Inproj

end
-- ==== Proof.InRefOps.lean ====
/-
  THE INPUT PROJECTION'S REFERENCE as a list of its host operations, cut where the mathematics cuts: the projection, the
  column groups with the gated convolution, the two halves of the convolution under the silu, and the stack of the slabs.
-/
module

public import proofs.«01_k».proof.Proof.Gen.Reference2Ideal
public import Idealize.ShloMosaic.Lib.StableHlo.Run

@[expose] public section

set_option maxRecDepth 8192
set_option maxHeartbeats 4000000

noncomputable section

namespace Cert.Proof.InprojRef

open Idealize.ShloMosaic Idealize.ShloMosaic.TcCoe Idealize.SL.Sem Idealize.ShloMosaic.StableHlo
open Cert.Reference2Ideal Cert.Reference2Ideal.Gen

variable {F : FTy → Type} [FloatOps F]

/-- A slab's axis in front. -/
abbrev front (v : FVec F S4x8192x256 .f32) : FVec F S1x4x8192x256 .f32 :=
  broadcastInDim S1x4x8192x256 ![1, 2, 3] bcast_S4x8192x256_S1x4x8192x256_1_2_3 v

/-- Eleven slabs stacked along the front axis. -/
def stack (u0 u1 u2 u3 u4 u5 u6 u7 u8 u9 u10 : FVec F S1x4x8192x256 .f32) : FVec F S11x4x8192x256 .f32 :=
  concatenate S11x4x8192x256 0
    [⟨S1x4x8192x256, u0⟩, ⟨S1x4x8192x256, u1⟩, ⟨S1x4x8192x256, u2⟩, ⟨S1x4x8192x256, u3⟩, ⟨S1x4x8192x256, u4⟩,
     ⟨S1x4x8192x256, u5⟩, ⟨S1x4x8192x256, u6⟩, ⟨S1x4x8192x256, u7⟩, ⟨S1x4x8192x256, u8⟩, ⟨S1x4x8192x256, u9⟩,
     ⟨S1x4x8192x256, u10⟩]
    concatenates_S1x4x8192x256_S1x4x8192x256_S1x4x8192x256_S1x4x8192x256_S1x4x8192x256_S1x4x8192x256_S1x4x8192x256_S1x4x8192x256_S1x4x8192x256_S1x4x8192x256_S1x4x8192x256_S11x4x8192x256_d0

/-- The projection: the rows normalised, modulated and multiplied by the columns. -/
def rowOps : List (HloOp τ sig (Elt F)) :=
  [ unary main_arg1 main_v0 ((extractStridedSlice S4x1x1024 ![0, 0, 0] · slices_S4x8x1024_S4x1x1024_0_0_0) : (⟨S4x8x1024, .f32⟩ : BufTy).Contents (Elt F) → (⟨S4x1x1024, .f32⟩ : BufTy).Contents (Elt F)),
    unary main_arg1 main_v1 ((extractStridedSlice S4x1x1024 ![0, 1, 0] · slices_S4x8x1024_S4x1x1024_0_1_0) : (⟨S4x8x1024, .f32⟩ : BufTy).Contents (Elt F) → (⟨S4x1x1024, .f32⟩ : BufTy).Contents (Elt F)),
    binary main_arg0 main_arg0 main_v2 (mulf : (⟨S4x8192x1024, .f32⟩ : BufTy).Contents (Elt F) → (⟨S4x8192x1024, .f32⟩ : BufTy).Contents (Elt F) → (⟨S4x8192x1024, .f32⟩ : BufTy).Contents (Elt F)),
    nullary main_cst (constant S_ .f32 0x00000000#32),
    binary main_v2 main_cst main_v3 ((fun x v => Host.reduceAdd x v reducesTo_S4x8192x1024_S4x8192_d2 h_S_) : (⟨S4x8192x1024, .f32⟩ : BufTy).Contents (Elt F) → (⟨S_, .f32⟩ : BufTy).Contents (Elt F) → (⟨S4x8192, .f32⟩ : BufTy).Contents (Elt F)),
    unary main_v3 main_v4 (broadcastInDim S4x8192x1 ![0, 1] bcast_S4x8192_S4x8192x1_0_1 : (⟨S4x8192, .f32⟩ : BufTy).Contents (Elt F) → (⟨S4x8192x1, .f32⟩ : BufTy).Contents (Elt F)),
    nullary main_cst_0 (constant S_ .f32 0x44800000#32),
    unary main_cst_0 main_v5 (broadcastInDim S4x8192x1 ![] bcast_S_S4x8192x1 : (⟨S_, .f32⟩ : BufTy).Contents (Elt F) → (⟨S4x8192x1, .f32⟩ : BufTy).Contents (Elt F)),
    binary main_v4 main_v5 main_v6 (Host.divf : (⟨S4x8192x1, .f32⟩ : BufTy).Contents (Elt F) → (⟨S4x8192x1, .f32⟩ : BufTy).Contents (Elt F) → (⟨S4x8192x1, .f32⟩ : BufTy).Contents (Elt F)),
    nullary main_cst_1 (constant S_ .f32 0x358637BD#32),
    unary main_cst_1 main_v7 (broadcastInDim S4x8192x1 ![] bcast_S_S4x8192x1 : (⟨S_, .f32⟩ : BufTy).Contents (Elt F) → (⟨S4x8192x1, .f32⟩ : BufTy).Contents (Elt F)),
    binary main_v6 main_v7 main_v8 (addf : (⟨S4x8192x1, .f32⟩ : BufTy).Contents (Elt F) → (⟨S4x8192x1, .f32⟩ : BufTy).Contents (Elt F) → (⟨S4x8192x1, .f32⟩ : BufTy).Contents (Elt F)),
    unary main_v8 main_v9 (Host.rsqrt : (⟨S4x8192x1, .f32⟩ : BufTy).Contents (Elt F) → (⟨S4x8192x1, .f32⟩ : BufTy).Contents (Elt F)),
    unary main_v9 main_v10 (broadcastInDim S4x8192x1024 ![0, 1, 2] bcast_S4x8192x1_S4x8192x1024_0_1_2 : (⟨S4x8192x1, .f32⟩ : BufTy).Contents (Elt F) → (⟨S4x8192x1024, .f32⟩ : BufTy).Contents (Elt F)),
    binary main_arg0 main_v10 main_v11 (mulf : (⟨S4x8192x1024, .f32⟩ : BufTy).Contents (Elt F) → (⟨S4x8192x1024, .f32⟩ : BufTy).Contents (Elt F) → (⟨S4x8192x1024, .f32⟩ : BufTy).Contents (Elt F)),
    unary main_arg2 main_v12 (broadcastInDim S1x1x1024 ![2] bcast_S1024_S1x1x1024_2 : (⟨S1024, .f32⟩ : BufTy).Contents (Elt F) → (⟨S1x1x1024, .f32⟩ : BufTy).Contents (Elt F)),
    unary main_v12 main_v13 (broadcastInDim S4x8192x1024 ![0, 1, 2] bcast_S1x1x1024_S4x8192x1024_0_1_2 : (⟨S1x1x1024, .f32⟩ : BufTy).Contents (Elt F) → (⟨S4x8192x1024, .f32⟩ : BufTy).Contents (Elt F)),
    binary main_v11 main_v13 main_v14 (mulf : (⟨S4x8192x1024, .f32⟩ : BufTy).Contents (Elt F) → (⟨S4x8192x1024, .f32⟩ : BufTy).Contents (Elt F) → (⟨S4x8192x1024, .f32⟩ : BufTy).Contents (Elt F)),
    nullary main_cst_2 (constant S_ .f32 0x3F800000#32),
    unary main_cst_2 main_v15 (broadcastInDim S4x1x1024 ![] bcast_S_S4x1x1024 : (⟨S_, .f32⟩ : BufTy).Contents (Elt F) → (⟨S4x1x1024, .f32⟩ : BufTy).Contents (Elt F)),
    binary main_v15 main_v1 main_v16 (addf : (⟨S4x1x1024, .f32⟩ : BufTy).Contents (Elt F) → (⟨S4x1x1024, .f32⟩ : BufTy).Contents (Elt F) → (⟨S4x1x1024, .f32⟩ : BufTy).Contents (Elt F)),
    unary main_v16 main_v17 (broadcastInDim S4x8192x1024 ![0, 1, 2] bcast_S4x1x1024_S4x8192x1024_0_1_2 : (⟨S4x1x1024, .f32⟩ : BufTy).Contents (Elt F) → (⟨S4x8192x1024, .f32⟩ : BufTy).Contents (Elt F)),
    binary main_v14 main_v17 main_v18 (mulf : (⟨S4x8192x1024, .f32⟩ : BufTy).Contents (Elt F) → (⟨S4x8192x1024, .f32⟩ : BufTy).Contents (Elt F) → (⟨S4x8192x1024, .f32⟩ : BufTy).Contents (Elt F)),
    unary main_v0 main_v19 (broadcastInDim S4x8192x1024 ![0, 1, 2] bcast_S4x1x1024_S4x8192x1024_0_1_2 : (⟨S4x1x1024, .f32⟩ : BufTy).Contents (Elt F) → (⟨S4x8192x1024, .f32⟩ : BufTy).Contents (Elt F)),
    binary main_v18 main_v19 main_v20 (addf : (⟨S4x8192x1024, .f32⟩ : BufTy).Contents (Elt F) → (⟨S4x8192x1024, .f32⟩ : BufTy).Contents (Elt F) → (⟨S4x8192x1024, .f32⟩ : BufTy).Contents (Elt F)),
    unary main_arg3 main_v21 ((extractStridedSlice S1024x3080 ![0, 0] · slices_S1024x7176_S1024x3080_0_0) : (⟨S1024x7176, .f32⟩ : BufTy).Contents (Elt F) → (⟨S1024x3080, .f32⟩ : BufTy).Contents (Elt F)),
    binary main_v20 main_v21 main_v22 ((fun l r => Host.dotGeneral dot_S4x8192x1024_S1024x3080_S4x8192x3080_2_0_01_1_n_n none l r) : (⟨S4x8192x1024, .f32⟩ : BufTy).Contents (Elt F) → (⟨S1024x3080, .f32⟩ : BufTy).Contents (Elt F) → (⟨S4x8192x3080, .f32⟩ : BufTy).Contents (Elt F)) ]

theorem rowOps_sub : (rowOps : List (HloOp τ sig (Elt F))).Forall fun op => op.bufs ⊆ tcRefs τ sig :=
  ⟨unary_bufs_sub .., unary_bufs_sub .., binary_bufs_sub .., nullary_bufs_sub .., binary_bufs_sub ..,
    unary_bufs_sub .., nullary_bufs_sub .., unary_bufs_sub .., binary_bufs_sub .., nullary_bufs_sub ..,
    unary_bufs_sub .., binary_bufs_sub .., unary_bufs_sub .., unary_bufs_sub .., binary_bufs_sub ..,
    unary_bufs_sub .., unary_bufs_sub .., binary_bufs_sub .., nullary_bufs_sub .., unary_bufs_sub ..,
    binary_bufs_sub .., unary_bufs_sub .., binary_bufs_sub .., unary_bufs_sub .., binary_bufs_sub ..,
    unary_bufs_sub .., binary_bufs_sub ..⟩

/-- The column groups, the step sizes and the gated convolution. -/
def gatedOps : List (HloOp τ sig (Elt F)) :=
  [ unary main_v22 main_v23 ((extractStridedSlice S4x8192x256 ![0, 0, 0] · slices_S4x8192x3080_S4x8192x256_0_0_0) : (⟨S4x8192x3080, .f32⟩ : BufTy).Contents (Elt F) → (⟨S4x8192x256, .f32⟩ : BufTy).Contents (Elt F)),
    unary main_v22 main_v24 ((extractStridedSlice S4x8192x256 ![0, 0, 256] · slices_S4x8192x3080_S4x8192x256_0_0_256) : (⟨S4x8192x3080, .f32⟩ : BufTy).Contents (Elt F) → (⟨S4x8192x256, .f32⟩ : BufTy).Contents (Elt F)),
    unary main_v22 main_v25 ((extractStridedSlice S4x8192x256 ![0, 0, 512] · slices_S4x8192x3080_S4x8192x256_0_0_512) : (⟨S4x8192x3080, .f32⟩ : BufTy).Contents (Elt F) → (⟨S4x8192x256, .f32⟩ : BufTy).Contents (Elt F)),
    unary main_v22 main_v26 ((extractStridedSlice S4x8192x256 ![0, 0, 768] · slices_S4x8192x3080_S4x8192x256_0_0_768) : (⟨S4x8192x3080, .f32⟩ : BufTy).Contents (Elt F) → (⟨S4x8192x256, .f32⟩ : BufTy).Contents (Elt F)),
    unary main_v22 main_v27 ((extractStridedSlice S4x8192x256 ![0, 0, 1024] · slices_S4x8192x3080_S4x8192x256_0_0_1024) : (⟨S4x8192x3080, .f32⟩ : BufTy).Contents (Elt F) → (⟨S4x8192x256, .f32⟩ : BufTy).Contents (Elt F)),
    unary main_v22 main_v28 ((extractStridedSlice S4x8192x256 ![0, 0, 1280] · slices_S4x8192x3080_S4x8192x256_0_0_1280) : (⟨S4x8192x3080, .f32⟩ : BufTy).Contents (Elt F) → (⟨S4x8192x256, .f32⟩ : BufTy).Contents (Elt F)),
    unary main_v22 main_v29 ((extractStridedSlice S4x8192x256 ![0, 0, 1536] · slices_S4x8192x3080_S4x8192x256_0_0_1536) : (⟨S4x8192x3080, .f32⟩ : BufTy).Contents (Elt F) → (⟨S4x8192x256, .f32⟩ : BufTy).Contents (Elt F)),
    unary main_v22 main_v30 ((extractStridedSlice S4x8192x256 ![0, 0, 1792] · slices_S4x8192x3080_S4x8192x256_0_0_1792) : (⟨S4x8192x3080, .f32⟩ : BufTy).Contents (Elt F) → (⟨S4x8192x256, .f32⟩ : BufTy).Contents (Elt F)),
    unary main_v22 main_v31 ((extractStridedSlice S4x8192x256 ![0, 0, 2048] · slices_S4x8192x3080_S4x8192x256_0_0_2048) : (⟨S4x8192x3080, .f32⟩ : BufTy).Contents (Elt F) → (⟨S4x8192x256, .f32⟩ : BufTy).Contents (Elt F)),
    unary main_v22 main_v32 ((extractStridedSlice S4x8192x256 ![0, 0, 2304] · slices_S4x8192x3080_S4x8192x256_0_0_2304) : (⟨S4x8192x3080, .f32⟩ : BufTy).Contents (Elt F) → (⟨S4x8192x256, .f32⟩ : BufTy).Contents (Elt F)),
    unary main_v22 main_v33 ((extractStridedSlice S4x8192x256 ![0, 0, 2560] · slices_S4x8192x3080_S4x8192x256_0_0_2560) : (⟨S4x8192x3080, .f32⟩ : BufTy).Contents (Elt F) → (⟨S4x8192x256, .f32⟩ : BufTy).Contents (Elt F)),
    unary main_v22 main_v34 ((extractStridedSlice S4x8192x256 ![0, 0, 2816] · slices_S4x8192x3080_S4x8192x256_0_0_2816) : (⟨S4x8192x3080, .f32⟩ : BufTy).Contents (Elt F) → (⟨S4x8192x256, .f32⟩ : BufTy).Contents (Elt F)),
    unary main_v22 main_v35 ((extractStridedSlice S4x8192x8 ![0, 0, 3072] · slices_S4x8192x3080_S4x8192x8_0_0_3072) : (⟨S4x8192x3080, .f32⟩ : BufTy).Contents (Elt F) → (⟨S4x8192x8, .f32⟩ : BufTy).Contents (Elt F)),
    unary main_v35 main_v36 (broadcastInDim S4x8192x8x64 ![0, 1, 2] bcast_S4x8192x8_S4x8192x8x64_0_1_2 : (⟨S4x8192x8, .f32⟩ : BufTy).Contents (Elt F) → (⟨S4x8192x8x64, .f32⟩ : BufTy).Contents (Elt F)),
    reshape main_v36 main_v37 (rfl : (.f32 : EltTy) = .f32) shapeCasts_S4x8192x8x64_S4x8192x512,
    binary main_v24 main_v25 main_v38 (mulf : (⟨S4x8192x256, .f32⟩ : BufTy).Contents (Elt F) → (⟨S4x8192x256, .f32⟩ : BufTy).Contents (Elt F) → (⟨S4x8192x256, .f32⟩ : BufTy).Contents (Elt F)),
    nullary main_c (constantI S_ 32 0#32),
    unary main_c main_call0_v0 ((sitofp .f32) : (⟨S_, .i32⟩ : BufTy).Contents (Elt F) → (⟨S_, .f32⟩ : BufTy).Contents (Elt F)),
    binary main_v38 main_call0_v0 main_v39 ((fun x v => pad S4x8194x256 ![0, 1, 0] ![0, 1, 0] ![0, 0, 0] x v pads_S4x8192x256_S4x8194x256_000_110_000 h_S_) : (⟨S4x8192x256, .f32⟩ : BufTy).Contents (Elt F) → (⟨S_, .f32⟩ : BufTy).Contents (Elt F) → (⟨S4x8194x256, .f32⟩ : BufTy).Contents (Elt F)),
    unary main_v39 main_v40 ((extractStridedSlice S4x8192x256 ![0, 0, 0] · slices_S4x8194x256_S4x8192x256_0_0_0) : (⟨S4x8194x256, .f32⟩ : BufTy).Contents (Elt F) → (⟨S4x8192x256, .f32⟩ : BufTy).Contents (Elt F)),
    unary main_arg4 main_v41 ((extractStridedSlice S1x256 ![0, 0] · slices_S3x256_S1x256_0_0) : (⟨S3x256, .f32⟩ : BufTy).Contents (Elt F) → (⟨S1x256, .f32⟩ : BufTy).Contents (Elt F)),
    reshape main_v41 main_v42 (rfl : (.f32 : EltTy) = .f32) shapeCasts_S1x256_S256,
    unary main_v42 main_v43 (broadcastInDim S1x1x256 ![2] bcast_S256_S1x1x256_2 : (⟨S256, .f32⟩ : BufTy).Contents (Elt F) → (⟨S1x1x256, .f32⟩ : BufTy).Contents (Elt F)),
    unary main_v43 main_v44 (broadcastInDim S4x8192x256 ![0, 1, 2] bcast_S1x1x256_S4x8192x256_0_1_2 : (⟨S1x1x256, .f32⟩ : BufTy).Contents (Elt F) → (⟨S4x8192x256, .f32⟩ : BufTy).Contents (Elt F)),
    binary main_v40 main_v44 main_v45 (mulf : (⟨S4x8192x256, .f32⟩ : BufTy).Contents (Elt F) → (⟨S4x8192x256, .f32⟩ : BufTy).Contents (Elt F) → (⟨S4x8192x256, .f32⟩ : BufTy).Contents (Elt F)),
    unary main_v39 main_v46 ((extractStridedSlice S4x8192x256 ![0, 1, 0] · slices_S4x8194x256_S4x8192x256_0_1_0) : (⟨S4x8194x256, .f32⟩ : BufTy).Contents (Elt F) → (⟨S4x8192x256, .f32⟩ : BufTy).Contents (Elt F)),
    unary main_arg4 main_v47 ((extractStridedSlice S1x256 ![1, 0] · slices_S3x256_S1x256_1_0) : (⟨S3x256, .f32⟩ : BufTy).Contents (Elt F) → (⟨S1x256, .f32⟩ : BufTy).Contents (Elt F)),
    reshape main_v47 main_v48 (rfl : (.f32 : EltTy) = .f32) shapeCasts_S1x256_S256,
    unary main_v48 main_v49 (broadcastInDim S1x1x256 ![2] bcast_S256_S1x1x256_2 : (⟨S256, .f32⟩ : BufTy).Contents (Elt F) → (⟨S1x1x256, .f32⟩ : BufTy).Contents (Elt F)),
    unary main_v49 main_v50 (broadcastInDim S4x8192x256 ![0, 1, 2] bcast_S1x1x256_S4x8192x256_0_1_2 : (⟨S1x1x256, .f32⟩ : BufTy).Contents (Elt F) → (⟨S4x8192x256, .f32⟩ : BufTy).Contents (Elt F)),
    binary main_v46 main_v50 main_v51 (mulf : (⟨S4x8192x256, .f32⟩ : BufTy).Contents (Elt F) → (⟨S4x8192x256, .f32⟩ : BufTy).Contents (Elt F) → (⟨S4x8192x256, .f32⟩ : BufTy).Contents (Elt F)),
    binary main_v45 main_v51 main_v52 (addf : (⟨S4x8192x256, .f32⟩ : BufTy).Contents (Elt F) → (⟨S4x8192x256, .f32⟩ : BufTy).Contents (Elt F) → (⟨S4x8192x256, .f32⟩ : BufTy).Contents (Elt F)),
    unary main_v39 main_v53 ((extractStridedSlice S4x8192x256 ![0, 2, 0] · slices_S4x8194x256_S4x8192x256_0_2_0) : (⟨S4x8194x256, .f32⟩ : BufTy).Contents (Elt F) → (⟨S4x8192x256, .f32⟩ : BufTy).Contents (Elt F)),
    unary main_arg4 main_v54 ((extractStridedSlice S1x256 ![2, 0] · slices_S3x256_S1x256_2_0) : (⟨S3x256, .f32⟩ : BufTy).Contents (Elt F) → (⟨S1x256, .f32⟩ : BufTy).Contents (Elt F)),
    reshape main_v54 main_v55 (rfl : (.f32 : EltTy) = .f32) shapeCasts_S1x256_S256,
    unary main_v55 main_v56 (broadcastInDim S1x1x256 ![2] bcast_S256_S1x1x256_2 : (⟨S256, .f32⟩ : BufTy).Contents (Elt F) → (⟨S1x1x256, .f32⟩ : BufTy).Contents (Elt F)),
    unary main_v56 main_v57 (broadcastInDim S4x8192x256 ![0, 1, 2] bcast_S1x1x256_S4x8192x256_0_1_2 : (⟨S1x1x256, .f32⟩ : BufTy).Contents (Elt F) → (⟨S4x8192x256, .f32⟩ : BufTy).Contents (Elt F)),
    binary main_v53 main_v57 main_v58 (mulf : (⟨S4x8192x256, .f32⟩ : BufTy).Contents (Elt F) → (⟨S4x8192x256, .f32⟩ : BufTy).Contents (Elt F) → (⟨S4x8192x256, .f32⟩ : BufTy).Contents (Elt F)),
    binary main_v52 main_v58 main_v59 (addf : (⟨S4x8192x256, .f32⟩ : BufTy).Contents (Elt F) → (⟨S4x8192x256, .f32⟩ : BufTy).Contents (Elt F) → (⟨S4x8192x256, .f32⟩ : BufTy).Contents (Elt F)),
    unary main_arg5 main_v60 (broadcastInDim S1x1x256 ![2] bcast_S256_S1x1x256_2 : (⟨S256, .f32⟩ : BufTy).Contents (Elt F) → (⟨S1x1x256, .f32⟩ : BufTy).Contents (Elt F)),
    unary main_v60 main_v61 (broadcastInDim S4x8192x256 ![0, 1, 2] bcast_S1x1x256_S4x8192x256_0_1_2 : (⟨S1x1x256, .f32⟩ : BufTy).Contents (Elt F) → (⟨S4x8192x256, .f32⟩ : BufTy).Contents (Elt F)),
    binary main_v59 main_v61 main_v62 (addf : (⟨S4x8192x256, .f32⟩ : BufTy).Contents (Elt F) → (⟨S4x8192x256, .f32⟩ : BufTy).Contents (Elt F) → (⟨S4x8192x256, .f32⟩ : BufTy).Contents (Elt F)),
    binary main_v23 main_v62 main_v63 (mulf : (⟨S4x8192x256, .f32⟩ : BufTy).Contents (Elt F) → (⟨S4x8192x256, .f32⟩ : BufTy).Contents (Elt F) → (⟨S4x8192x256, .f32⟩ : BufTy).Contents (Elt F)) ]

theorem gatedOps_sub : (gatedOps : List (HloOp τ sig (Elt F))).Forall fun op => op.bufs ⊆ tcRefs τ sig :=
  ⟨unary_bufs_sub .., unary_bufs_sub .., unary_bufs_sub .., unary_bufs_sub .., unary_bufs_sub ..,
    unary_bufs_sub .., unary_bufs_sub .., unary_bufs_sub .., unary_bufs_sub .., unary_bufs_sub ..,
    unary_bufs_sub .., unary_bufs_sub .., unary_bufs_sub .., unary_bufs_sub .., reshape_bufs_sub ..,
    binary_bufs_sub .., nullary_bufs_sub .., unary_bufs_sub .., binary_bufs_sub .., unary_bufs_sub ..,
    unary_bufs_sub .., reshape_bufs_sub .., unary_bufs_sub .., unary_bufs_sub .., binary_bufs_sub ..,
    unary_bufs_sub .., unary_bufs_sub .., reshape_bufs_sub .., unary_bufs_sub .., unary_bufs_sub ..,
    binary_bufs_sub .., binary_bufs_sub .., unary_bufs_sub .., unary_bufs_sub .., reshape_bufs_sub ..,
    unary_bufs_sub .., unary_bufs_sub .., binary_bufs_sub .., binary_bufs_sub .., unary_bufs_sub ..,
    unary_bufs_sub .., binary_bufs_sub .., binary_bufs_sub ..⟩

/-- The convolution under the silu, its first half. -/
def smoothOps : List (HloOp τ sig (Elt F)) :=
  [ unary main_arg6 main_v64 ((extractStridedSlice S3x256 ![0, 0] · slices_S3x512_S3x256_0_0) : (⟨S3x512, .f32⟩ : BufTy).Contents (Elt F) → (⟨S3x256, .f32⟩ : BufTy).Contents (Elt F)),
    unary main_arg7 main_v65 ((extractStridedSlice S256 ![0] · slices_S512_S256_0) : (⟨S512, .f32⟩ : BufTy).Contents (Elt F) → (⟨S256, .f32⟩ : BufTy).Contents (Elt F)),
    nullary main_c_3 (constantI S_ 32 0#32),
    unary main_c_3 main_call1_v0 ((sitofp .f32) : (⟨S_, .i32⟩ : BufTy).Contents (Elt F) → (⟨S_, .f32⟩ : BufTy).Contents (Elt F)),
    binary main_v33 main_call1_v0 main_v66 ((fun x v => pad S4x8194x256 ![0, 1, 0] ![0, 1, 0] ![0, 0, 0] x v pads_S4x8192x256_S4x8194x256_000_110_000 h_S_) : (⟨S4x8192x256, .f32⟩ : BufTy).Contents (Elt F) → (⟨S_, .f32⟩ : BufTy).Contents (Elt F) → (⟨S4x8194x256, .f32⟩ : BufTy).Contents (Elt F)),
    unary main_v66 main_v67 ((extractStridedSlice S4x8192x256 ![0, 0, 0] · slices_S4x8194x256_S4x8192x256_0_0_0) : (⟨S4x8194x256, .f32⟩ : BufTy).Contents (Elt F) → (⟨S4x8192x256, .f32⟩ : BufTy).Contents (Elt F)),
    unary main_v64 main_v68 ((extractStridedSlice S1x256 ![0, 0] · slices_S3x256_S1x256_0_0) : (⟨S3x256, .f32⟩ : BufTy).Contents (Elt F) → (⟨S1x256, .f32⟩ : BufTy).Contents (Elt F)),
    reshape main_v68 main_v69 (rfl : (.f32 : EltTy) = .f32) shapeCasts_S1x256_S256,
    unary main_v69 main_v70 (broadcastInDim S1x1x256 ![2] bcast_S256_S1x1x256_2 : (⟨S256, .f32⟩ : BufTy).Contents (Elt F) → (⟨S1x1x256, .f32⟩ : BufTy).Contents (Elt F)),
    unary main_v70 main_v71 (broadcastInDim S4x8192x256 ![0, 1, 2] bcast_S1x1x256_S4x8192x256_0_1_2 : (⟨S1x1x256, .f32⟩ : BufTy).Contents (Elt F) → (⟨S4x8192x256, .f32⟩ : BufTy).Contents (Elt F)),
    binary main_v67 main_v71 main_v72 (mulf : (⟨S4x8192x256, .f32⟩ : BufTy).Contents (Elt F) → (⟨S4x8192x256, .f32⟩ : BufTy).Contents (Elt F) → (⟨S4x8192x256, .f32⟩ : BufTy).Contents (Elt F)),
    unary main_v66 main_v73 ((extractStridedSlice S4x8192x256 ![0, 1, 0] · slices_S4x8194x256_S4x8192x256_0_1_0) : (⟨S4x8194x256, .f32⟩ : BufTy).Contents (Elt F) → (⟨S4x8192x256, .f32⟩ : BufTy).Contents (Elt F)),
    unary main_v64 main_v74 ((extractStridedSlice S1x256 ![1, 0] · slices_S3x256_S1x256_1_0) : (⟨S3x256, .f32⟩ : BufTy).Contents (Elt F) → (⟨S1x256, .f32⟩ : BufTy).Contents (Elt F)),
    reshape main_v74 main_v75 (rfl : (.f32 : EltTy) = .f32) shapeCasts_S1x256_S256,
    unary main_v75 main_v76 (broadcastInDim S1x1x256 ![2] bcast_S256_S1x1x256_2 : (⟨S256, .f32⟩ : BufTy).Contents (Elt F) → (⟨S1x1x256, .f32⟩ : BufTy).Contents (Elt F)),
    unary main_v76 main_v77 (broadcastInDim S4x8192x256 ![0, 1, 2] bcast_S1x1x256_S4x8192x256_0_1_2 : (⟨S1x1x256, .f32⟩ : BufTy).Contents (Elt F) → (⟨S4x8192x256, .f32⟩ : BufTy).Contents (Elt F)),
    binary main_v73 main_v77 main_v78 (mulf : (⟨S4x8192x256, .f32⟩ : BufTy).Contents (Elt F) → (⟨S4x8192x256, .f32⟩ : BufTy).Contents (Elt F) → (⟨S4x8192x256, .f32⟩ : BufTy).Contents (Elt F)),
    binary main_v72 main_v78 main_v79 (addf : (⟨S4x8192x256, .f32⟩ : BufTy).Contents (Elt F) → (⟨S4x8192x256, .f32⟩ : BufTy).Contents (Elt F) → (⟨S4x8192x256, .f32⟩ : BufTy).Contents (Elt F)),
    unary main_v66 main_v80 ((extractStridedSlice S4x8192x256 ![0, 2, 0] · slices_S4x8194x256_S4x8192x256_0_2_0) : (⟨S4x8194x256, .f32⟩ : BufTy).Contents (Elt F) → (⟨S4x8192x256, .f32⟩ : BufTy).Contents (Elt F)),
    unary main_v64 main_v81 ((extractStridedSlice S1x256 ![2, 0] · slices_S3x256_S1x256_2_0) : (⟨S3x256, .f32⟩ : BufTy).Contents (Elt F) → (⟨S1x256, .f32⟩ : BufTy).Contents (Elt F)),
    reshape main_v81 main_v82 (rfl : (.f32 : EltTy) = .f32) shapeCasts_S1x256_S256,
    unary main_v82 main_v83 (broadcastInDim S1x1x256 ![2] bcast_S256_S1x1x256_2 : (⟨S256, .f32⟩ : BufTy).Contents (Elt F) → (⟨S1x1x256, .f32⟩ : BufTy).Contents (Elt F)),
    unary main_v83 main_v84 (broadcastInDim S4x8192x256 ![0, 1, 2] bcast_S1x1x256_S4x8192x256_0_1_2 : (⟨S1x1x256, .f32⟩ : BufTy).Contents (Elt F) → (⟨S4x8192x256, .f32⟩ : BufTy).Contents (Elt F)),
    binary main_v80 main_v84 main_v85 (mulf : (⟨S4x8192x256, .f32⟩ : BufTy).Contents (Elt F) → (⟨S4x8192x256, .f32⟩ : BufTy).Contents (Elt F) → (⟨S4x8192x256, .f32⟩ : BufTy).Contents (Elt F)),
    binary main_v79 main_v85 main_v86 (addf : (⟨S4x8192x256, .f32⟩ : BufTy).Contents (Elt F) → (⟨S4x8192x256, .f32⟩ : BufTy).Contents (Elt F) → (⟨S4x8192x256, .f32⟩ : BufTy).Contents (Elt F)),
    unary main_v65 main_v87 (broadcastInDim S1x1x256 ![2] bcast_S256_S1x1x256_2 : (⟨S256, .f32⟩ : BufTy).Contents (Elt F) → (⟨S1x1x256, .f32⟩ : BufTy).Contents (Elt F)),
    unary main_v87 main_v88 (broadcastInDim S4x8192x256 ![0, 1, 2] bcast_S1x1x256_S4x8192x256_0_1_2 : (⟨S1x1x256, .f32⟩ : BufTy).Contents (Elt F) → (⟨S4x8192x256, .f32⟩ : BufTy).Contents (Elt F)),
    binary main_v86 main_v88 main_v89 (addf : (⟨S4x8192x256, .f32⟩ : BufTy).Contents (Elt F) → (⟨S4x8192x256, .f32⟩ : BufTy).Contents (Elt F) → (⟨S4x8192x256, .f32⟩ : BufTy).Contents (Elt F)),
    unary main_v89 main_v90 (Host.negf : (⟨S4x8192x256, .f32⟩ : BufTy).Contents (Elt F) → (⟨S4x8192x256, .f32⟩ : BufTy).Contents (Elt F)),
    unary main_v90 main_v91 (Host.exp : (⟨S4x8192x256, .f32⟩ : BufTy).Contents (Elt F) → (⟨S4x8192x256, .f32⟩ : BufTy).Contents (Elt F)),
    nullary main_cst_4 (constant S_ .f32 0x3F800000#32),
    unary main_cst_4 main_v92 (broadcastInDim S4x8192x256 ![] bcast_S_S4x8192x256 : (⟨S_, .f32⟩ : BufTy).Contents (Elt F) → (⟨S4x8192x256, .f32⟩ : BufTy).Contents (Elt F)),
    binary main_v92 main_v91 main_v93 (addf : (⟨S4x8192x256, .f32⟩ : BufTy).Contents (Elt F) → (⟨S4x8192x256, .f32⟩ : BufTy).Contents (Elt F) → (⟨S4x8192x256, .f32⟩ : BufTy).Contents (Elt F)),
    nullary main_cst_5 (constant S_ .f32 0x3F800000#32),
    unary main_cst_5 main_v94 (broadcastInDim S4x8192x256 ![] bcast_S_S4x8192x256 : (⟨S_, .f32⟩ : BufTy).Contents (Elt F) → (⟨S4x8192x256, .f32⟩ : BufTy).Contents (Elt F)),
    binary main_v94 main_v93 main_v95 (Host.divf : (⟨S4x8192x256, .f32⟩ : BufTy).Contents (Elt F) → (⟨S4x8192x256, .f32⟩ : BufTy).Contents (Elt F) → (⟨S4x8192x256, .f32⟩ : BufTy).Contents (Elt F)),
    binary main_v89 main_v95 main_v96 (mulf : (⟨S4x8192x256, .f32⟩ : BufTy).Contents (Elt F) → (⟨S4x8192x256, .f32⟩ : BufTy).Contents (Elt F) → (⟨S4x8192x256, .f32⟩ : BufTy).Contents (Elt F)) ]

theorem smoothOps_sub : (smoothOps : List (HloOp τ sig (Elt F))).Forall fun op => op.bufs ⊆ tcRefs τ sig :=
  ⟨unary_bufs_sub .., unary_bufs_sub .., nullary_bufs_sub .., unary_bufs_sub .., binary_bufs_sub ..,
    unary_bufs_sub .., unary_bufs_sub .., reshape_bufs_sub .., unary_bufs_sub .., unary_bufs_sub ..,
    binary_bufs_sub .., unary_bufs_sub .., unary_bufs_sub .., reshape_bufs_sub .., unary_bufs_sub ..,
    unary_bufs_sub .., binary_bufs_sub .., binary_bufs_sub .., unary_bufs_sub .., unary_bufs_sub ..,
    reshape_bufs_sub .., unary_bufs_sub .., unary_bufs_sub .., binary_bufs_sub .., binary_bufs_sub ..,
    unary_bufs_sub .., unary_bufs_sub .., binary_bufs_sub .., unary_bufs_sub .., unary_bufs_sub ..,
    nullary_bufs_sub .., unary_bufs_sub .., binary_bufs_sub .., nullary_bufs_sub .., unary_bufs_sub ..,
    binary_bufs_sub .., binary_bufs_sub ..⟩

/-- The convolution under the silu, its second half. -/
def smoothOps2 : List (HloOp τ sig (Elt F)) :=
  [ unary main_arg6 main_v97 ((extractStridedSlice S3x256 ![0, 256] · slices_S3x512_S3x256_0_256) : (⟨S3x512, .f32⟩ : BufTy).Contents (Elt F) → (⟨S3x256, .f32⟩ : BufTy).Contents (Elt F)),
    unary main_arg7 main_v98 ((extractStridedSlice S256 ![256] · slices_S512_S256_256) : (⟨S512, .f32⟩ : BufTy).Contents (Elt F) → (⟨S256, .f32⟩ : BufTy).Contents (Elt F)),
    nullary main_c_6 (constantI S_ 32 0#32),
    unary main_c_6 main_call2_v0 ((sitofp .f32) : (⟨S_, .i32⟩ : BufTy).Contents (Elt F) → (⟨S_, .f32⟩ : BufTy).Contents (Elt F)),
    binary main_v34 main_call2_v0 main_v99 ((fun x v => pad S4x8194x256 ![0, 1, 0] ![0, 1, 0] ![0, 0, 0] x v pads_S4x8192x256_S4x8194x256_000_110_000 h_S_) : (⟨S4x8192x256, .f32⟩ : BufTy).Contents (Elt F) → (⟨S_, .f32⟩ : BufTy).Contents (Elt F) → (⟨S4x8194x256, .f32⟩ : BufTy).Contents (Elt F)),
    unary main_v99 main_v100 ((extractStridedSlice S4x8192x256 ![0, 0, 0] · slices_S4x8194x256_S4x8192x256_0_0_0) : (⟨S4x8194x256, .f32⟩ : BufTy).Contents (Elt F) → (⟨S4x8192x256, .f32⟩ : BufTy).Contents (Elt F)),
    unary main_v97 main_v101 ((extractStridedSlice S1x256 ![0, 0] · slices_S3x256_S1x256_0_0) : (⟨S3x256, .f32⟩ : BufTy).Contents (Elt F) → (⟨S1x256, .f32⟩ : BufTy).Contents (Elt F)),
    reshape main_v101 main_v102 (rfl : (.f32 : EltTy) = .f32) shapeCasts_S1x256_S256,
    unary main_v102 main_v103 (broadcastInDim S1x1x256 ![2] bcast_S256_S1x1x256_2 : (⟨S256, .f32⟩ : BufTy).Contents (Elt F) → (⟨S1x1x256, .f32⟩ : BufTy).Contents (Elt F)),
    unary main_v103 main_v104 (broadcastInDim S4x8192x256 ![0, 1, 2] bcast_S1x1x256_S4x8192x256_0_1_2 : (⟨S1x1x256, .f32⟩ : BufTy).Contents (Elt F) → (⟨S4x8192x256, .f32⟩ : BufTy).Contents (Elt F)),
    binary main_v100 main_v104 main_v105 (mulf : (⟨S4x8192x256, .f32⟩ : BufTy).Contents (Elt F) → (⟨S4x8192x256, .f32⟩ : BufTy).Contents (Elt F) → (⟨S4x8192x256, .f32⟩ : BufTy).Contents (Elt F)),
    unary main_v99 main_v106 ((extractStridedSlice S4x8192x256 ![0, 1, 0] · slices_S4x8194x256_S4x8192x256_0_1_0) : (⟨S4x8194x256, .f32⟩ : BufTy).Contents (Elt F) → (⟨S4x8192x256, .f32⟩ : BufTy).Contents (Elt F)),
    unary main_v97 main_v107 ((extractStridedSlice S1x256 ![1, 0] · slices_S3x256_S1x256_1_0) : (⟨S3x256, .f32⟩ : BufTy).Contents (Elt F) → (⟨S1x256, .f32⟩ : BufTy).Contents (Elt F)),
    reshape main_v107 main_v108 (rfl : (.f32 : EltTy) = .f32) shapeCasts_S1x256_S256,
    unary main_v108 main_v109 (broadcastInDim S1x1x256 ![2] bcast_S256_S1x1x256_2 : (⟨S256, .f32⟩ : BufTy).Contents (Elt F) → (⟨S1x1x256, .f32⟩ : BufTy).Contents (Elt F)),
    unary main_v109 main_v110 (broadcastInDim S4x8192x256 ![0, 1, 2] bcast_S1x1x256_S4x8192x256_0_1_2 : (⟨S1x1x256, .f32⟩ : BufTy).Contents (Elt F) → (⟨S4x8192x256, .f32⟩ : BufTy).Contents (Elt F)),
    binary main_v106 main_v110 main_v111 (mulf : (⟨S4x8192x256, .f32⟩ : BufTy).Contents (Elt F) → (⟨S4x8192x256, .f32⟩ : BufTy).Contents (Elt F) → (⟨S4x8192x256, .f32⟩ : BufTy).Contents (Elt F)),
    binary main_v105 main_v111 main_v112 (addf : (⟨S4x8192x256, .f32⟩ : BufTy).Contents (Elt F) → (⟨S4x8192x256, .f32⟩ : BufTy).Contents (Elt F) → (⟨S4x8192x256, .f32⟩ : BufTy).Contents (Elt F)),
    unary main_v99 main_v113 ((extractStridedSlice S4x8192x256 ![0, 2, 0] · slices_S4x8194x256_S4x8192x256_0_2_0) : (⟨S4x8194x256, .f32⟩ : BufTy).Contents (Elt F) → (⟨S4x8192x256, .f32⟩ : BufTy).Contents (Elt F)),
    unary main_v97 main_v114 ((extractStridedSlice S1x256 ![2, 0] · slices_S3x256_S1x256_2_0) : (⟨S3x256, .f32⟩ : BufTy).Contents (Elt F) → (⟨S1x256, .f32⟩ : BufTy).Contents (Elt F)),
    reshape main_v114 main_v115 (rfl : (.f32 : EltTy) = .f32) shapeCasts_S1x256_S256,
    unary main_v115 main_v116 (broadcastInDim S1x1x256 ![2] bcast_S256_S1x1x256_2 : (⟨S256, .f32⟩ : BufTy).Contents (Elt F) → (⟨S1x1x256, .f32⟩ : BufTy).Contents (Elt F)),
    unary main_v116 main_v117 (broadcastInDim S4x8192x256 ![0, 1, 2] bcast_S1x1x256_S4x8192x256_0_1_2 : (⟨S1x1x256, .f32⟩ : BufTy).Contents (Elt F) → (⟨S4x8192x256, .f32⟩ : BufTy).Contents (Elt F)),
    binary main_v113 main_v117 main_v118 (mulf : (⟨S4x8192x256, .f32⟩ : BufTy).Contents (Elt F) → (⟨S4x8192x256, .f32⟩ : BufTy).Contents (Elt F) → (⟨S4x8192x256, .f32⟩ : BufTy).Contents (Elt F)),
    binary main_v112 main_v118 main_v119 (addf : (⟨S4x8192x256, .f32⟩ : BufTy).Contents (Elt F) → (⟨S4x8192x256, .f32⟩ : BufTy).Contents (Elt F) → (⟨S4x8192x256, .f32⟩ : BufTy).Contents (Elt F)),
    unary main_v98 main_v120 (broadcastInDim S1x1x256 ![2] bcast_S256_S1x1x256_2 : (⟨S256, .f32⟩ : BufTy).Contents (Elt F) → (⟨S1x1x256, .f32⟩ : BufTy).Contents (Elt F)),
    unary main_v120 main_v121 (broadcastInDim S4x8192x256 ![0, 1, 2] bcast_S1x1x256_S4x8192x256_0_1_2 : (⟨S1x1x256, .f32⟩ : BufTy).Contents (Elt F) → (⟨S4x8192x256, .f32⟩ : BufTy).Contents (Elt F)),
    binary main_v119 main_v121 main_v122 (addf : (⟨S4x8192x256, .f32⟩ : BufTy).Contents (Elt F) → (⟨S4x8192x256, .f32⟩ : BufTy).Contents (Elt F) → (⟨S4x8192x256, .f32⟩ : BufTy).Contents (Elt F)),
    unary main_v122 main_v123 (Host.negf : (⟨S4x8192x256, .f32⟩ : BufTy).Contents (Elt F) → (⟨S4x8192x256, .f32⟩ : BufTy).Contents (Elt F)),
    unary main_v123 main_v124 (Host.exp : (⟨S4x8192x256, .f32⟩ : BufTy).Contents (Elt F) → (⟨S4x8192x256, .f32⟩ : BufTy).Contents (Elt F)),
    nullary main_cst_7 (constant S_ .f32 0x3F800000#32),
    unary main_cst_7 main_v125 (broadcastInDim S4x8192x256 ![] bcast_S_S4x8192x256 : (⟨S_, .f32⟩ : BufTy).Contents (Elt F) → (⟨S4x8192x256, .f32⟩ : BufTy).Contents (Elt F)),
    binary main_v125 main_v124 main_v126 (addf : (⟨S4x8192x256, .f32⟩ : BufTy).Contents (Elt F) → (⟨S4x8192x256, .f32⟩ : BufTy).Contents (Elt F) → (⟨S4x8192x256, .f32⟩ : BufTy).Contents (Elt F)),
    nullary main_cst_8 (constant S_ .f32 0x3F800000#32),
    unary main_cst_8 main_v127 (broadcastInDim S4x8192x256 ![] bcast_S_S4x8192x256 : (⟨S_, .f32⟩ : BufTy).Contents (Elt F) → (⟨S4x8192x256, .f32⟩ : BufTy).Contents (Elt F)),
    binary main_v127 main_v126 main_v128 (Host.divf : (⟨S4x8192x256, .f32⟩ : BufTy).Contents (Elt F) → (⟨S4x8192x256, .f32⟩ : BufTy).Contents (Elt F) → (⟨S4x8192x256, .f32⟩ : BufTy).Contents (Elt F)),
    binary main_v122 main_v128 main_v129 (mulf : (⟨S4x8192x256, .f32⟩ : BufTy).Contents (Elt F) → (⟨S4x8192x256, .f32⟩ : BufTy).Contents (Elt F) → (⟨S4x8192x256, .f32⟩ : BufTy).Contents (Elt F)) ]

theorem smoothOps2_sub : (smoothOps2 : List (HloOp τ sig (Elt F))).Forall fun op => op.bufs ⊆ tcRefs τ sig :=
  ⟨unary_bufs_sub .., unary_bufs_sub .., nullary_bufs_sub .., unary_bufs_sub .., binary_bufs_sub ..,
    unary_bufs_sub .., unary_bufs_sub .., reshape_bufs_sub .., unary_bufs_sub .., unary_bufs_sub ..,
    binary_bufs_sub .., unary_bufs_sub .., unary_bufs_sub .., reshape_bufs_sub .., unary_bufs_sub ..,
    unary_bufs_sub .., binary_bufs_sub .., binary_bufs_sub .., unary_bufs_sub .., unary_bufs_sub ..,
    reshape_bufs_sub .., unary_bufs_sub .., unary_bufs_sub .., binary_bufs_sub .., binary_bufs_sub ..,
    unary_bufs_sub .., unary_bufs_sub .., binary_bufs_sub .., unary_bufs_sub .., unary_bufs_sub ..,
    nullary_bufs_sub .., unary_bufs_sub .., binary_bufs_sub .., nullary_bufs_sub .., unary_bufs_sub ..,
    binary_bufs_sub .., binary_bufs_sub ..⟩

/-- The eleven slabs. -/
def stackOps : List (HloOp τ sig (Elt F)) :=
  [ unary main_v37 main_v130 ((extractStridedSlice S4x8192x256 ![0, 0, 0] · slices_S4x8192x512_S4x8192x256_0_0_0) : (⟨S4x8192x512, .f32⟩ : BufTy).Contents (Elt F) → (⟨S4x8192x256, .f32⟩ : BufTy).Contents (Elt F)),
    unary main_v37 main_v131 ((extractStridedSlice S4x8192x256 ![0, 0, 256] · slices_S4x8192x512_S4x8192x256_0_0_256) : (⟨S4x8192x512, .f32⟩ : BufTy).Contents (Elt F) → (⟨S4x8192x256, .f32⟩ : BufTy).Contents (Elt F)),
    unary main_v63 main_v132 (broadcastInDim S1x4x8192x256 ![1, 2, 3] bcast_S4x8192x256_S1x4x8192x256_1_2_3 : (⟨S4x8192x256, .f32⟩ : BufTy).Contents (Elt F) → (⟨S1x4x8192x256, .f32⟩ : BufTy).Contents (Elt F)),
    unary main_v26 main_v133 (broadcastInDim S1x4x8192x256 ![1, 2, 3] bcast_S4x8192x256_S1x4x8192x256_1_2_3 : (⟨S4x8192x256, .f32⟩ : BufTy).Contents (Elt F) → (⟨S1x4x8192x256, .f32⟩ : BufTy).Contents (Elt F)),
    unary main_v27 main_v134 (broadcastInDim S1x4x8192x256 ![1, 2, 3] bcast_S4x8192x256_S1x4x8192x256_1_2_3 : (⟨S4x8192x256, .f32⟩ : BufTy).Contents (Elt F) → (⟨S1x4x8192x256, .f32⟩ : BufTy).Contents (Elt F)),
    unary main_v28 main_v135 (broadcastInDim S1x4x8192x256 ![1, 2, 3] bcast_S4x8192x256_S1x4x8192x256_1_2_3 : (⟨S4x8192x256, .f32⟩ : BufTy).Contents (Elt F) → (⟨S1x4x8192x256, .f32⟩ : BufTy).Contents (Elt F)),
    unary main_v29 main_v136 (broadcastInDim S1x4x8192x256 ![1, 2, 3] bcast_S4x8192x256_S1x4x8192x256_1_2_3 : (⟨S4x8192x256, .f32⟩ : BufTy).Contents (Elt F) → (⟨S1x4x8192x256, .f32⟩ : BufTy).Contents (Elt F)),
    unary main_v30 main_v137 (broadcastInDim S1x4x8192x256 ![1, 2, 3] bcast_S4x8192x256_S1x4x8192x256_1_2_3 : (⟨S4x8192x256, .f32⟩ : BufTy).Contents (Elt F) → (⟨S1x4x8192x256, .f32⟩ : BufTy).Contents (Elt F)),
    unary main_v32 main_v138 (broadcastInDim S1x4x8192x256 ![1, 2, 3] bcast_S4x8192x256_S1x4x8192x256_1_2_3 : (⟨S4x8192x256, .f32⟩ : BufTy).Contents (Elt F) → (⟨S1x4x8192x256, .f32⟩ : BufTy).Contents (Elt F)),
    unary main_v96 main_v139 (broadcastInDim S1x4x8192x256 ![1, 2, 3] bcast_S4x8192x256_S1x4x8192x256_1_2_3 : (⟨S4x8192x256, .f32⟩ : BufTy).Contents (Elt F) → (⟨S1x4x8192x256, .f32⟩ : BufTy).Contents (Elt F)),
    unary main_v129 main_v140 (broadcastInDim S1x4x8192x256 ![1, 2, 3] bcast_S4x8192x256_S1x4x8192x256_1_2_3 : (⟨S4x8192x256, .f32⟩ : BufTy).Contents (Elt F) → (⟨S1x4x8192x256, .f32⟩ : BufTy).Contents (Elt F)),
    unary main_v130 main_v141 (broadcastInDim S1x4x8192x256 ![1, 2, 3] bcast_S4x8192x256_S1x4x8192x256_1_2_3 : (⟨S4x8192x256, .f32⟩ : BufTy).Contents (Elt F) → (⟨S1x4x8192x256, .f32⟩ : BufTy).Contents (Elt F)),
    unary main_v131 main_v142 (broadcastInDim S1x4x8192x256 ![1, 2, 3] bcast_S4x8192x256_S1x4x8192x256_1_2_3 : (⟨S4x8192x256, .f32⟩ : BufTy).Contents (Elt F) → (⟨S1x4x8192x256, .f32⟩ : BufTy).Contents (Elt F)),
    nary ![main_v132, main_v133, main_v134, main_v135, main_v136, main_v137, main_v138, main_v139, main_v140, main_v141, main_v142] main_v143 (fun u => stack (F := F) (u 0) (u 1) (u 2) (u 3) (u 4) (u 5) (u 6) (u 7) (u 8) (u 9) (u 10)) ]

theorem stackOps_sub : (stackOps : List (HloOp τ sig (Elt F))).Forall fun op => op.bufs ⊆ tcRefs τ sig :=
  ⟨unary_bufs_sub .., unary_bufs_sub .., unary_bufs_sub .., unary_bufs_sub .., unary_bufs_sub ..,
    unary_bufs_sub .., unary_bufs_sub .., unary_bufs_sub .., unary_bufs_sub .., unary_bufs_sub ..,
    unary_bufs_sub .., unary_bufs_sub .., unary_bufs_sub .., nary_bufs_sub ..⟩

/-- The reference's operations, in order. -/
def ops : List (HloOp τ sig (Elt F)) := rowOps ++ (gatedOps ++ (smoothOps ++ (smoothOps2 ++ stackOps)))

theorem main_eq (c : Dev nD) : main (F := F) c = seq ops := rfl

theorem scoped_refs : (Finset.univ.filter fun b : Ref sig .tc => b.isScoped) = ∅ := by decide

theorem scoped_sems : (Finset.univ.filter fun sm : SemLoc sig => sm.isScoped .tc) = ∅ := by decide

theorem ops_sub : (ops : List (HloOp τ sig (Elt F))).Forall fun op => op.bufs ⊆ tcRefs τ sig := by
  simp only [ops, List.forall_append]
  exact ⟨rowOps_sub, gatedOps_sub, smoothOps_sub, smoothOps2_sub, stackOps_sub⟩

end Cert.Proof.InprojRef

end
-- ==== Proof.InRefRun.lean ====
/-
  THE INPUT PROJECTION'S REFERENCE, run: the projection, the convolution along the sequence, the silu and the step sizes as
  functions of whole arrays, and what every group of operations leaves in the buffers that a later group reads.
-/
module

public import proofs.«01_k».proof.Proof.InRefOps
public import Idealize.ShloMosaic.Lib.StableHlo.RunRead

@[expose] public section

set_option maxRecDepth 8192
set_option maxHeartbeats 4000000

noncomputable section

namespace Cert.Proof.InprojRef

open Idealize.ShloMosaic Idealize.ShloMosaic.TcCoe Idealize.SL.Sem Idealize.ShloMosaic.StableHlo
open Cert.Reference2Ideal Cert.Reference2Ideal.Gen

variable {F : FTy → Type} [FloatOps F]

/-- The projection of the normalised and modulated rows. -/
def projR (X : FVec F S4x8192x1024 .f32) (M : FVec F S4x8x1024 .f32) (N : FVec F S1024 .f32)
    (W : FVec F S1024x7176 .f32) : FVec F S4x8192x3080 .f32 :=
  Host.dotGeneral dot_S4x8192x1024_S1024x3080_S4x8192x3080_2_0_01_1_n_n none
    (addf (mulf (mulf (mulf X
      (broadcastInDim S4x8192x1024 ![0, 1, 2] bcast_S4x8192x1_S4x8192x1024_0_1_2
        (Host.rsqrt (addf
          (Host.divf
            (broadcastInDim S4x8192x1 ![0, 1] bcast_S4x8192_S4x8192x1_0_1
              (Host.reduceAdd (mulf X X) (constant S_ .f32 0x00000000#32) reducesTo_S4x8192x1024_S4x8192_d2 h_S_))
            (broadcastInDim S4x8192x1 ![] bcast_S_S4x8192x1 (constant S_ .f32 0x44800000#32)))
          (broadcastInDim S4x8192x1 ![] bcast_S_S4x8192x1 (constant S_ .f32 0x358637BD#32))))))
      (broadcastInDim S4x8192x1024 ![0, 1, 2] bcast_S1x1x1024_S4x8192x1024_0_1_2
        (broadcastInDim S1x1x1024 ![2] bcast_S1024_S1x1x1024_2 N)))
      (broadcastInDim S4x8192x1024 ![0, 1, 2] bcast_S4x1x1024_S4x8192x1024_0_1_2
        (addf (broadcastInDim S4x1x1024 ![] bcast_S_S4x1x1024 (constant S_ .f32 0x3F800000#32))
          (extractStridedSlice S4x1x1024 ![0, 1, 0] M slices_S4x8x1024_S4x1x1024_0_1_0))))
      (broadcastInDim S4x8192x1024 ![0, 1, 2] bcast_S4x1x1024_S4x8192x1024_0_1_2
        (extractStridedSlice S4x1x1024 ![0, 0, 0] M slices_S4x8x1024_S4x1x1024_0_0_0)))
    (extractStridedSlice S1024x3080 ![0, 0] W slices_S1024x7176_S1024x3080_0_0)

/-- The sequence with a zero row before and after it. -/
def padR (u : FVec F S4x8192x256 .f32) : FVec F S4x8194x256 .f32 :=
  pad S4x8194x256 ![0, 1, 0] ![0, 1, 0] ![0, 0, 0] u (sitofp .f32 (constantI S_ 32 0#32))
    pads_S4x8192x256_S4x8194x256_000_110_000 h_S_

/-- A row of 256 weights, repeated over batches and positions. -/
def overR (w : FVec F S256 .f32) : FVec F S4x8192x256 .f32 :=
  broadcastInDim S4x8192x256 ![0, 1, 2] bcast_S1x1x256_S4x8192x256_0_1_2
    (broadcastInDim S1x1x256 ![2] bcast_S256_S1x1x256_2 w)

/-- The three-tap convolution along the sequence. -/
def convR (u : FVec F S4x8192x256 .f32) (w : FVec F S3x256 .f32) (b : FVec F S256 .f32) :
    FVec F S4x8192x256 .f32 :=
  addf (addf (addf
    (mulf (extractStridedSlice S4x8192x256 ![0, 0, 0] (padR u) slices_S4x8194x256_S4x8192x256_0_0_0)
      (overR (shapeCast _ (extractStridedSlice S1x256 ![0, 0] w slices_S3x256_S1x256_0_0) shapeCasts_S1x256_S256)))
    (mulf (extractStridedSlice S4x8192x256 ![0, 1, 0] (padR u) slices_S4x8194x256_S4x8192x256_0_1_0)
      (overR (shapeCast _ (extractStridedSlice S1x256 ![1, 0] w slices_S3x256_S1x256_1_0) shapeCasts_S1x256_S256))))
    (mulf (extractStridedSlice S4x8192x256 ![0, 2, 0] (padR u) slices_S4x8194x256_S4x8192x256_0_2_0)
      (overR (shapeCast _ (extractStridedSlice S1x256 ![2, 0] w slices_S3x256_S1x256_2_0) shapeCasts_S1x256_S256))))
    (overR b)

/-- The silu of every element. -/
def siluR (v : FVec F S4x8192x256 .f32) : FVec F S4x8192x256 .f32 :=
  mulf v (Host.divf (broadcastInDim S4x8192x256 ![] bcast_S_S4x8192x256 (constant S_ .f32 0x3F800000#32))
    (addf (broadcastInDim S4x8192x256 ![] bcast_S_S4x8192x256 (constant S_ .f32 0x3F800000#32)) (Host.exp (Host.negf v))))

/-- The step sizes, each repeated over its head's lanes. -/
def stepR (P : FVec F S4x8192x3080 .f32) : FVec F S4x8192x512 .f32 :=
  shapeCast _ (broadcastInDim S4x8192x8x64 ![0, 1, 2] bcast_S4x8192x8_S4x8192x8x64_0_1_2
    (extractStridedSlice S4x8192x8 ![0, 0, 3072] P slices_S4x8192x3080_S4x8192x8_0_0_3072)) shapeCasts_S4x8192x8x64_S4x8192x512

/-- A column group of the projection: 256 columns. -/
abbrev cols (o : Fin 3 → ℕ) (h : S4x8192x3080.Slices o S4x8192x256) (P : FVec F S4x8192x3080 .f32) : FVec F S4x8192x256 .f32 :=
  extractStridedSlice S4x8192x256 o P h

/-- The gated convolution. -/
def gatedR (P : FVec F S4x8192x3080 .f32) (wa : FVec F S3x256 .f32) (ba : FVec F S256 .f32) : FVec F S4x8192x256 .f32 :=
  mulf (cols ![0, 0, 0] slices_S4x8192x3080_S4x8192x256_0_0_0 P)
    (convR (mulf (cols ![0, 0, 256] slices_S4x8192x3080_S4x8192x256_0_0_256 P)
      (cols ![0, 0, 512] slices_S4x8192x3080_S4x8192x256_0_0_512 P)) wa ba)

/-- The eleven slabs, from the projection and the convolutions' weights. -/
def slabsR (P : FVec F S4x8192x3080 .f32) (wa : FVec F S3x256 .f32) (ba : FVec F S256 .f32)
    (ws : FVec F S3x512 .f32) (bs : FVec F S512 .f32) : FVec F S11x4x8192x256 .f32 :=
  stack (front (gatedR P wa ba))
    (front (cols ![0, 0, 768] slices_S4x8192x3080_S4x8192x256_0_0_768 P))
    (front (cols ![0, 0, 1024] slices_S4x8192x3080_S4x8192x256_0_0_1024 P))
    (front (cols ![0, 0, 1280] slices_S4x8192x3080_S4x8192x256_0_0_1280 P))
    (front (cols ![0, 0, 1536] slices_S4x8192x3080_S4x8192x256_0_0_1536 P))
    (front (cols ![0, 0, 1792] slices_S4x8192x3080_S4x8192x256_0_0_1792 P))
    (front (cols ![0, 0, 2304] slices_S4x8192x3080_S4x8192x256_0_0_2304 P))
    (front (siluR (convR (cols ![0, 0, 2560] slices_S4x8192x3080_S4x8192x256_0_0_2560 P)
      (extractStridedSlice S3x256 ![0, 0] ws slices_S3x512_S3x256_0_0) (extractStridedSlice S256 ![0] bs slices_S512_S256_0))))
    (front (siluR (convR (cols ![0, 0, 2816] slices_S4x8192x3080_S4x8192x256_0_0_2816 P)
      (extractStridedSlice S3x256 ![0, 256] ws slices_S3x512_S3x256_0_256) (extractStridedSlice S256 ![256] bs slices_S512_S256_256))))
    (front (extractStridedSlice S4x8192x256 ![0, 0, 0] (stepR P) slices_S4x8192x512_S4x8192x256_0_0_0))
    (front (extractStridedSlice S4x8192x256 ![0, 0, 256] (stepR P) slices_S4x8192x512_S4x8192x256_0_0_256))

/-! ## What a group of operations leaves -/

variable (V : Valuation τ sig (Elt F))

theorem row_v22 : after rowOps V (no_index (Proc.devRef .tc main_v22)) = projR (V (Proc.devRef .tc main_arg0)) (V (Proc.devRef .tc main_arg1)) (V (Proc.devRef .tc main_arg2)) (V (Proc.devRef .tc main_arg3)) := by
  after_reads_simp; rfl

theorem row_arg0 : after rowOps V (no_index (Proc.devRef .tc main_arg0)) = (V (Proc.devRef .tc main_arg0)) := by
  after_reads_simp

theorem row_arg1 : after rowOps V (no_index (Proc.devRef .tc main_arg1)) = (V (Proc.devRef .tc main_arg1)) := by
  after_reads_simp

theorem row_arg2 : after rowOps V (no_index (Proc.devRef .tc main_arg2)) = (V (Proc.devRef .tc main_arg2)) := by
  after_reads_simp

theorem row_arg3 : after rowOps V (no_index (Proc.devRef .tc main_arg3)) = (V (Proc.devRef .tc main_arg3)) := by
  after_reads_simp

theorem row_arg4 : after rowOps V (no_index (Proc.devRef .tc main_arg4)) = (V (Proc.devRef .tc main_arg4)) := by
  after_reads_simp

theorem row_arg5 : after rowOps V (no_index (Proc.devRef .tc main_arg5)) = (V (Proc.devRef .tc main_arg5)) := by
  after_reads_simp

theorem row_arg6 : after rowOps V (no_index (Proc.devRef .tc main_arg6)) = (V (Proc.devRef .tc main_arg6)) := by
  after_reads_simp

theorem row_arg7 : after rowOps V (no_index (Proc.devRef .tc main_arg7)) = (V (Proc.devRef .tc main_arg7)) := by
  after_reads_simp

theorem gated_v63 : after gatedOps V (no_index (Proc.devRef .tc main_v63)) = gatedR (V (Proc.devRef .tc main_v22)) (V (Proc.devRef .tc main_arg4)) (V (Proc.devRef .tc main_arg5)) := by
  after_reads_simp; rfl

theorem gated_v26 : after gatedOps V (no_index (Proc.devRef .tc main_v26)) = cols ![0, 0, 768] slices_S4x8192x3080_S4x8192x256_0_0_768 (V (Proc.devRef .tc main_v22)) := by
  after_reads_simp

theorem gated_v27 : after gatedOps V (no_index (Proc.devRef .tc main_v27)) = cols ![0, 0, 1024] slices_S4x8192x3080_S4x8192x256_0_0_1024 (V (Proc.devRef .tc main_v22)) := by
  after_reads_simp

theorem gated_v28 : after gatedOps V (no_index (Proc.devRef .tc main_v28)) = cols ![0, 0, 1280] slices_S4x8192x3080_S4x8192x256_0_0_1280 (V (Proc.devRef .tc main_v22)) := by
  after_reads_simp

theorem gated_v29 : after gatedOps V (no_index (Proc.devRef .tc main_v29)) = cols ![0, 0, 1536] slices_S4x8192x3080_S4x8192x256_0_0_1536 (V (Proc.devRef .tc main_v22)) := by
  after_reads_simp

theorem gated_v30 : after gatedOps V (no_index (Proc.devRef .tc main_v30)) = cols ![0, 0, 1792] slices_S4x8192x3080_S4x8192x256_0_0_1792 (V (Proc.devRef .tc main_v22)) := by
  after_reads_simp

theorem gated_v31 : after gatedOps V (no_index (Proc.devRef .tc main_v31)) = cols ![0, 0, 2048] slices_S4x8192x3080_S4x8192x256_0_0_2048 (V (Proc.devRef .tc main_v22)) := by
  after_reads_simp

theorem gated_v32 : after gatedOps V (no_index (Proc.devRef .tc main_v32)) = cols ![0, 0, 2304] slices_S4x8192x3080_S4x8192x256_0_0_2304 (V (Proc.devRef .tc main_v22)) := by
  after_reads_simp

theorem gated_v33 : after gatedOps V (no_index (Proc.devRef .tc main_v33)) = cols ![0, 0, 2560] slices_S4x8192x3080_S4x8192x256_0_0_2560 (V (Proc.devRef .tc main_v22)) := by
  after_reads_simp

theorem gated_v34 : after gatedOps V (no_index (Proc.devRef .tc main_v34)) = cols ![0, 0, 2816] slices_S4x8192x3080_S4x8192x256_0_0_2816 (V (Proc.devRef .tc main_v22)) := by
  after_reads_simp

theorem gated_v37 : after gatedOps V (no_index (Proc.devRef .tc main_v37)) = stepR (V (Proc.devRef .tc main_v22)) := by
  after_reads_simp; rfl

theorem gated_arg0 : after gatedOps V (no_index (Proc.devRef .tc main_arg0)) = (V (Proc.devRef .tc main_arg0)) := by
  after_reads_simp

theorem gated_arg1 : after gatedOps V (no_index (Proc.devRef .tc main_arg1)) = (V (Proc.devRef .tc main_arg1)) := by
  after_reads_simp

theorem gated_arg2 : after gatedOps V (no_index (Proc.devRef .tc main_arg2)) = (V (Proc.devRef .tc main_arg2)) := by
  after_reads_simp

theorem gated_arg3 : after gatedOps V (no_index (Proc.devRef .tc main_arg3)) = (V (Proc.devRef .tc main_arg3)) := by
  after_reads_simp

theorem gated_arg4 : after gatedOps V (no_index (Proc.devRef .tc main_arg4)) = (V (Proc.devRef .tc main_arg4)) := by
  after_reads_simp

theorem gated_arg5 : after gatedOps V (no_index (Proc.devRef .tc main_arg5)) = (V (Proc.devRef .tc main_arg5)) := by
  after_reads_simp

theorem gated_arg6 : after gatedOps V (no_index (Proc.devRef .tc main_arg6)) = (V (Proc.devRef .tc main_arg6)) := by
  after_reads_simp

theorem gated_arg7 : after gatedOps V (no_index (Proc.devRef .tc main_arg7)) = (V (Proc.devRef .tc main_arg7)) := by
  after_reads_simp

theorem smooth_v96 : after smoothOps V (no_index (Proc.devRef .tc main_v96)) = siluR (convR (V (Proc.devRef .tc main_v33))
      (extractStridedSlice S3x256 ![0, 0] (V (Proc.devRef .tc main_arg6)) slices_S3x512_S3x256_0_0)
      (extractStridedSlice S256 ![0] (V (Proc.devRef .tc main_arg7)) slices_S512_S256_0)) := by
  after_reads_simp; rfl

theorem smooth_v63 : after smoothOps V (no_index (Proc.devRef .tc main_v63)) = (V (Proc.devRef .tc main_v63)) := by
  after_reads_simp

theorem smooth_v26 : after smoothOps V (no_index (Proc.devRef .tc main_v26)) = (V (Proc.devRef .tc main_v26)) := by
  after_reads_simp

theorem smooth_v27 : after smoothOps V (no_index (Proc.devRef .tc main_v27)) = (V (Proc.devRef .tc main_v27)) := by
  after_reads_simp

theorem smooth_v28 : after smoothOps V (no_index (Proc.devRef .tc main_v28)) = (V (Proc.devRef .tc main_v28)) := by
  after_reads_simp

theorem smooth_v29 : after smoothOps V (no_index (Proc.devRef .tc main_v29)) = (V (Proc.devRef .tc main_v29)) := by
  after_reads_simp

theorem smooth_v30 : after smoothOps V (no_index (Proc.devRef .tc main_v30)) = (V (Proc.devRef .tc main_v30)) := by
  after_reads_simp

theorem smooth_v31 : after smoothOps V (no_index (Proc.devRef .tc main_v31)) = (V (Proc.devRef .tc main_v31)) := by
  after_reads_simp

theorem smooth_v32 : after smoothOps V (no_index (Proc.devRef .tc main_v32)) = (V (Proc.devRef .tc main_v32)) := by
  after_reads_simp

theorem smooth_v34 : after smoothOps V (no_index (Proc.devRef .tc main_v34)) = (V (Proc.devRef .tc main_v34)) := by
  after_reads_simp

theorem smooth_v37 : after smoothOps V (no_index (Proc.devRef .tc main_v37)) = (V (Proc.devRef .tc main_v37)) := by
  after_reads_simp

theorem smooth_arg0 : after smoothOps V (no_index (Proc.devRef .tc main_arg0)) = (V (Proc.devRef .tc main_arg0)) := by
  after_reads_simp

theorem smooth_arg1 : after smoothOps V (no_index (Proc.devRef .tc main_arg1)) = (V (Proc.devRef .tc main_arg1)) := by
  after_reads_simp

theorem smooth_arg2 : after smoothOps V (no_index (Proc.devRef .tc main_arg2)) = (V (Proc.devRef .tc main_arg2)) := by
  after_reads_simp

theorem smooth_arg3 : after smoothOps V (no_index (Proc.devRef .tc main_arg3)) = (V (Proc.devRef .tc main_arg3)) := by
  after_reads_simp

theorem smooth_arg4 : after smoothOps V (no_index (Proc.devRef .tc main_arg4)) = (V (Proc.devRef .tc main_arg4)) := by
  after_reads_simp

theorem smooth_arg5 : after smoothOps V (no_index (Proc.devRef .tc main_arg5)) = (V (Proc.devRef .tc main_arg5)) := by
  after_reads_simp

theorem smooth_arg6 : after smoothOps V (no_index (Proc.devRef .tc main_arg6)) = (V (Proc.devRef .tc main_arg6)) := by
  after_reads_simp

theorem smooth_arg7 : after smoothOps V (no_index (Proc.devRef .tc main_arg7)) = (V (Proc.devRef .tc main_arg7)) := by
  after_reads_simp

theorem smooth2_v129 : after smoothOps2 V (no_index (Proc.devRef .tc main_v129)) = siluR (convR (V (Proc.devRef .tc main_v34))
      (extractStridedSlice S3x256 ![0, 256] (V (Proc.devRef .tc main_arg6)) slices_S3x512_S3x256_0_256)
      (extractStridedSlice S256 ![256] (V (Proc.devRef .tc main_arg7)) slices_S512_S256_256)) := by
  after_reads_simp; rfl

theorem smooth2_v63 : after smoothOps2 V (no_index (Proc.devRef .tc main_v63)) = (V (Proc.devRef .tc main_v63)) := by
  after_reads_simp

theorem smooth2_v26 : after smoothOps2 V (no_index (Proc.devRef .tc main_v26)) = (V (Proc.devRef .tc main_v26)) := by
  after_reads_simp

theorem smooth2_v27 : after smoothOps2 V (no_index (Proc.devRef .tc main_v27)) = (V (Proc.devRef .tc main_v27)) := by
  after_reads_simp

theorem smooth2_v28 : after smoothOps2 V (no_index (Proc.devRef .tc main_v28)) = (V (Proc.devRef .tc main_v28)) := by
  after_reads_simp

theorem smooth2_v29 : after smoothOps2 V (no_index (Proc.devRef .tc main_v29)) = (V (Proc.devRef .tc main_v29)) := by
  after_reads_simp

theorem smooth2_v30 : after smoothOps2 V (no_index (Proc.devRef .tc main_v30)) = (V (Proc.devRef .tc main_v30)) := by
  after_reads_simp

theorem smooth2_v31 : after smoothOps2 V (no_index (Proc.devRef .tc main_v31)) = (V (Proc.devRef .tc main_v31)) := by
  after_reads_simp

theorem smooth2_v32 : after smoothOps2 V (no_index (Proc.devRef .tc main_v32)) = (V (Proc.devRef .tc main_v32)) := by
  after_reads_simp

theorem smooth2_v37 : after smoothOps2 V (no_index (Proc.devRef .tc main_v37)) = (V (Proc.devRef .tc main_v37)) := by
  after_reads_simp

theorem smooth2_v96 : after smoothOps2 V (no_index (Proc.devRef .tc main_v96)) = (V (Proc.devRef .tc main_v96)) := by
  after_reads_simp

theorem smooth2_arg0 : after smoothOps2 V (no_index (Proc.devRef .tc main_arg0)) = (V (Proc.devRef .tc main_arg0)) := by
  after_reads_simp

theorem smooth2_arg1 : after smoothOps2 V (no_index (Proc.devRef .tc main_arg1)) = (V (Proc.devRef .tc main_arg1)) := by
  after_reads_simp

theorem smooth2_arg2 : after smoothOps2 V (no_index (Proc.devRef .tc main_arg2)) = (V (Proc.devRef .tc main_arg2)) := by
  after_reads_simp

theorem smooth2_arg3 : after smoothOps2 V (no_index (Proc.devRef .tc main_arg3)) = (V (Proc.devRef .tc main_arg3)) := by
  after_reads_simp

theorem smooth2_arg4 : after smoothOps2 V (no_index (Proc.devRef .tc main_arg4)) = (V (Proc.devRef .tc main_arg4)) := by
  after_reads_simp

theorem smooth2_arg5 : after smoothOps2 V (no_index (Proc.devRef .tc main_arg5)) = (V (Proc.devRef .tc main_arg5)) := by
  after_reads_simp

theorem smooth2_arg6 : after smoothOps2 V (no_index (Proc.devRef .tc main_arg6)) = (V (Proc.devRef .tc main_arg6)) := by
  after_reads_simp

theorem smooth2_arg7 : after smoothOps2 V (no_index (Proc.devRef .tc main_arg7)) = (V (Proc.devRef .tc main_arg7)) := by
  after_reads_simp

theorem stack_v143 : after stackOps V (no_index (Proc.devRef .tc main_v143)) = stack (front (V (Proc.devRef .tc main_v63))) (front (V (Proc.devRef .tc main_v26)))
      (front (V (Proc.devRef .tc main_v27))) (front (V (Proc.devRef .tc main_v28))) (front (V (Proc.devRef .tc main_v29)))
      (front (V (Proc.devRef .tc main_v30))) (front (V (Proc.devRef .tc main_v32))) (front (V (Proc.devRef .tc main_v96)))
      (front (V (Proc.devRef .tc main_v129)))
      (front (extractStridedSlice S4x8192x256 ![0, 0, 0] (V (Proc.devRef .tc main_v37)) slices_S4x8192x512_S4x8192x256_0_0_0))
      (front (extractStridedSlice S4x8192x256 ![0, 0, 256] (V (Proc.devRef .tc main_v37)) slices_S4x8192x512_S4x8192x256_0_0_256)) := by
  after_reads_simp; dsimp only [Matrix.cons_val]; after_reads_simp

theorem stack_v31 : after stackOps V (no_index (Proc.devRef .tc main_v31)) = (V (Proc.devRef .tc main_v31)) := by
  after_reads_simp

theorem stack_arg0 : after stackOps V (no_index (Proc.devRef .tc main_arg0)) = (V (Proc.devRef .tc main_arg0)) := by
  after_reads_simp

theorem stack_arg1 : after stackOps V (no_index (Proc.devRef .tc main_arg1)) = (V (Proc.devRef .tc main_arg1)) := by
  after_reads_simp

theorem stack_arg2 : after stackOps V (no_index (Proc.devRef .tc main_arg2)) = (V (Proc.devRef .tc main_arg2)) := by
  after_reads_simp

theorem stack_arg3 : after stackOps V (no_index (Proc.devRef .tc main_arg3)) = (V (Proc.devRef .tc main_arg3)) := by
  after_reads_simp

theorem stack_arg4 : after stackOps V (no_index (Proc.devRef .tc main_arg4)) = (V (Proc.devRef .tc main_arg4)) := by
  after_reads_simp

theorem stack_arg5 : after stackOps V (no_index (Proc.devRef .tc main_arg5)) = (V (Proc.devRef .tc main_arg5)) := by
  after_reads_simp

theorem stack_arg6 : after stackOps V (no_index (Proc.devRef .tc main_arg6)) = (V (Proc.devRef .tc main_arg6)) := by
  after_reads_simp

theorem stack_arg7 : after stackOps V (no_index (Proc.devRef .tc main_arg7)) = (V (Proc.devRef .tc main_arg7)) := by
  after_reads_simp

/-! ## The whole line -/

/-- One list of operations after another. -/
theorem after_two (l k : List (HloOp τ sig (Elt F))) (V : Valuation τ sig (Elt F)) :
    after (l ++ k) V = after k (after l V) := by
  induction l generalizing V with
  | nil => rfl
  | cons o l ih => exact ih _

theorem ops_slabs : after ops V (Proc.devRef .tc main_v143)
    = slabsR (projR (V (Proc.devRef .tc main_arg0)) (V (Proc.devRef .tc main_arg1)) (V (Proc.devRef .tc main_arg2))
        (V (Proc.devRef .tc main_arg3)))
      (V (Proc.devRef .tc main_arg4)) (V (Proc.devRef .tc main_arg5)) (V (Proc.devRef .tc main_arg6))
      (V (Proc.devRef .tc main_arg7)) := by
  simp only [ops, after_two, stack_v143,
    smooth2_v129, smooth2_v63, smooth2_v26, smooth2_v27, smooth2_v28, smooth2_v29, smooth2_v30, smooth2_v32, smooth2_v37, smooth2_v96,
    smooth_v96, smooth_v63, smooth_v26, smooth_v27, smooth_v28, smooth_v29, smooth_v30, smooth_v32, smooth_v34, smooth_v37, smooth_arg6, smooth_arg7,
    gated_v63, gated_v26, gated_v27, gated_v28, gated_v29, gated_v30, gated_v32, gated_v33, gated_v34, gated_v37, gated_arg6, gated_arg7,
    row_v22, row_arg4, row_arg5, row_arg6, row_arg7, slabsR]

theorem ops_four : after ops V (Proc.devRef .tc main_v31)
    = cols ![0, 0, 2048] slices_S4x8192x3080_S4x8192x256_0_0_2048
      (projR (V (Proc.devRef .tc main_arg0)) (V (Proc.devRef .tc main_arg1)) (V (Proc.devRef .tc main_arg2))
        (V (Proc.devRef .tc main_arg3))) := by
  simp only [ops, after_two, stack_v31, smooth2_v31, smooth_v31, gated_v31, row_v22]

theorem ops_arg0 : after ops V (Proc.devRef .tc main_arg0) = V (Proc.devRef .tc main_arg0) := by
  simp only [ops, after_two, stack_arg0, smooth2_arg0, smooth_arg0, gated_arg0, row_arg0]

theorem ops_arg1 : after ops V (Proc.devRef .tc main_arg1) = V (Proc.devRef .tc main_arg1) := by
  simp only [ops, after_two, stack_arg1, smooth2_arg1, smooth_arg1, gated_arg1, row_arg1]

theorem ops_arg2 : after ops V (Proc.devRef .tc main_arg2) = V (Proc.devRef .tc main_arg2) := by
  simp only [ops, after_two, stack_arg2, smooth2_arg2, smooth_arg2, gated_arg2, row_arg2]

theorem ops_arg3 : after ops V (Proc.devRef .tc main_arg3) = V (Proc.devRef .tc main_arg3) := by
  simp only [ops, after_two, stack_arg3, smooth2_arg3, smooth_arg3, gated_arg3, row_arg3]

theorem ops_arg4 : after ops V (Proc.devRef .tc main_arg4) = V (Proc.devRef .tc main_arg4) := by
  simp only [ops, after_two, stack_arg4, smooth2_arg4, smooth_arg4, gated_arg4, row_arg4]

theorem ops_arg5 : after ops V (Proc.devRef .tc main_arg5) = V (Proc.devRef .tc main_arg5) := by
  simp only [ops, after_two, stack_arg5, smooth2_arg5, smooth_arg5, gated_arg5, row_arg5]

theorem ops_arg6 : after ops V (Proc.devRef .tc main_arg6) = V (Proc.devRef .tc main_arg6) := by
  simp only [ops, after_two, stack_arg6, smooth2_arg6, smooth_arg6, gated_arg6, row_arg6]

theorem ops_arg7 : after ops V (Proc.devRef .tc main_arg7) = V (Proc.devRef .tc main_arg7) := by
  simp only [ops, after_two, stack_arg7, smooth2_arg7, smooth_arg7, gated_arg7, row_arg7]

/-- The run of the reference: its two results as functions of the arguments, which are unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v143)
          = slabsR (projR (m ((c.tc : Thread nD τ).loc main_arg0)) (m ((c.tc : Thread nD τ).loc main_arg1))
              (m ((c.tc : Thread nD τ).loc main_arg2)) (m ((c.tc : Thread nD τ).loc main_arg3)))
            (m ((c.tc : Thread nD τ).loc main_arg4)) (m ((c.tc : Thread nD τ).loc main_arg5))
            (m ((c.tc : Thread nD τ).loc main_arg6)) (m ((c.tc : Thread nD τ).loc main_arg7))
      ∧ r.2.mem ((c.tc : Thread nD τ).loc main_v31)
          = cols ![0, 0, 2048] slices_S4x8192x3080_S4x8192x256_0_0_2048
            (projR (m ((c.tc : Thread nD τ).loc main_arg0)) (m ((c.tc : Thread nD τ).loc main_arg1))
              (m ((c.tc : Thread nD τ).loc main_arg2)) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v143).trans (ops_slabs _), (h c main_v31).trans (ops_four _),
      (h c main_arg0).trans (ops_arg0 _),
      (h c main_arg1).trans (ops_arg1 _),
      (h c main_arg2).trans (ops_arg2 _),
      (h c main_arg3).trans (ops_arg3 _),
      (h c main_arg4).trans (ops_arg4 _),
      (h c main_arg5).trans (ops_arg5 _),
      (h c main_arg6).trans (ops_arg6 _),
      (h c main_arg7).trans (ops_arg7 _)⟩)
    (run_seq scoped_refs scoped_sems defs main (fun _ => ops) main_eq (fun _ => ops_sub) m ρ)

end Cert.Proof.InprojRef

end
-- ==== Proof.InRef.lean ====
/-
  THE INPUT PROJECTION'S REFERENCE at coordinates: its projection, its convolution along the sequence and its silu, read at
  an element, are the specification's.
-/
module

public import proofs.«01_k».proof.Proof.InSpec
public import proofs.«01_k».proof.Proof.InRefRun

@[expose] public section

set_option maxRecDepth 16384

noncomputable section

namespace Cert.Proof.InprojRef

open Idealize.ShloMosaic Idealize.ShloMosaic.TcCoe Idealize.SL.Sem
open Cert.Reference2Ideal Cert.Reference2Ideal.Gen
open Cert.Proof.Inproj (Args normRow norm proj before after conv3 silu gated smooth step slab four)

/-- The arguments read at coordinates. -/
def argsR (X : FVec Ideal S4x8192x1024 .f32) (M : FVec Ideal S4x8x1024 .f32) (N : FVec Ideal S1024 .f32)
    (W : FVec Ideal S1024x7176 .f32) (wa : FVec Ideal S3x256 .f32) (ba : FVec Ideal S256 .f32)
    (ws : FVec Ideal S3x512 .f32) (bs : FVec Ideal S512 .f32) : Args where
  x b p k := X (ix3 b p k)
  md b j k := M (ix3 b j k)
  nw k := N (ix1 k)
  win k n := W (ix2 k n)
  wa j l := wa (ix2 j l)
  ba l := ba (ix1 l)
  ws j l := ws (ix2 j l)
  bs l := bs (ix1 l)

variable (X : FVec Ideal S4x8192x1024 .f32) (M : FVec Ideal S4x8x1024 .f32) (N : FVec Ideal S1024 .f32)
    (W : FVec Ideal S1024x7176 .f32) (wa : FVec Ideal S3x256 .f32) (ba : FVec Ideal S256 .f32)
    (ws : FVec Ideal S3x512 .f32) (bs : FVec Ideal S512 .f32)

theorem projR_at (b : Fin 4) (p : Fin 8192) (n : Fin 3080) :
    projR X M N W (ix3 b p n) = proj (argsR X M N W wa ba ws bs) b ⟨n.val, by omega⟩ p := by
  pointwise [projR, proj, Inproj.norm, normRow, argsR]

theorem zero_word : FloatOps.sitofp (F := Ideal) .f32 (0#32 : BitVec 32) = 0 := by
  simp [FloatOps.sitofp]

theorem convR_at (u : FVec Ideal S4x8192x256 .f32) (w : FVec Ideal S3x256 .f32) (v : FVec Ideal S256 .f32)
    (b : Fin 4) (p : Fin 8192) (l : Fin 256) :
    convR u w v (ix3 b p l)
      = conv3 (fun p => u (ix3 b p l)) (w (ix2 0 l)) (w (ix2 1 l)) (w (ix2 2 l)) (v (ix1 l)) p := by
  pointwise [convR, padR, overR, conv3, before, after]
  have h0 : (if h : 1 ≤ p.val ∧ p.val - 1 < 8192 then u (ix3 b ⟨p.val - 1, h.2⟩ l) else FloatOps.sitofp .f32 0#32)
      = if 0 < p.val then u (ix3 b ⟨p.val - 1, by omega⟩ l) else 0 := by
    split_ifs with h h' h'
    · rfl
    · omega
    · omega
    · exact zero_word
  have h2 : (if h : 1 ≤ 2 + p.val ∧ 2 + p.val - 1 < 8192 then u (ix3 b ⟨2 + p.val - 1, h.2⟩ l)
        else FloatOps.sitofp .f32 0#32)
      = if h : p.val + 1 < 8192 then u (ix3 b ⟨p.val + 1, h⟩ l) else 0 := by
    split_ifs with h h' h'
    · exact congrArg (fun q => u (ix3 b q l)) (Fin.ext (by show 2 + p.val - 1 = p.val + 1; omega))
    · omega
    · omega
    · exact zero_word
  rw [h0, h2]

theorem siluR_at (v : FVec Ideal S4x8192x256 .f32) (b : Fin 4) (p : Fin 8192) (l : Fin 256) :
    siluR v (ix3 b p l) = silu (v (ix3 b p l)) := by
  pointwise [siluR, silu]

theorem stepR_at (P : FVec Ideal S4x8192x3080 .f32) (b : Fin 4) (p : Fin 8192) (l : Fin 512) :
    stepR P (ix3 b p l) = P (ix3 b p ⟨3072 + l.val / 64, by omega⟩) := by
  pointwise [stepR]

theorem gatedR_at (b : Fin 4) (p : Fin 8192) (l : Fin 256) :
    gatedR (projR X M N W) wa ba (ix3 b p l) = gated (argsR X M N W wa ba ws bs) b p l := by
  pointwise [gatedR, gated]
  rw [convR_at, projR_at X M N W wa ba ws bs]
  unfold conv3 before after
  pointwise [projR_at X M N W wa ba ws bs]
  rfl

theorem smoothR_at (b : Fin 4) (p : Fin 8192) (l : Fin 256) :
    siluR (convR (cols ![0, 0, 2560] slices_S4x8192x3080_S4x8192x256_0_0_2560 (projR X M N W))
      (extractStridedSlice S3x256 ![0, 0] ws slices_S3x512_S3x256_0_0) (extractStridedSlice S256 ![0] bs slices_S512_S256_0))
      (ix3 b p l) = smooth (argsR X M N W wa ba ws bs) b p ⟨l.val, by omega⟩ := by
  rw [siluR_at, convR_at]
  unfold smooth conv3 before after
  pointwise [projR_at X M N W wa ba ws bs]
  rfl

theorem smoothR_at2 (b : Fin 4) (p : Fin 8192) (l : Fin 256) :
    siluR (convR (cols ![0, 0, 2816] slices_S4x8192x3080_S4x8192x256_0_0_2816 (projR X M N W))
      (extractStridedSlice S3x256 ![0, 256] ws slices_S3x512_S3x256_0_256) (extractStridedSlice S256 ![256] bs slices_S512_S256_256))
      (ix3 b p l) = smooth (argsR X M N W wa ba ws bs) b p ⟨256 + l.val, by omega⟩ := by
  rw [siluR_at, convR_at]
  unfold smooth conv3 before after
  pointwise [projR_at X M N W wa ba ws bs]
  simp only [← Nat.add_assoc, Nat.reduceAdd]
  rfl

theorem stepR_slab (b : Fin 4) (p : Fin 8192) (l : Fin 512) :
    stepR (projR X M N W) (ix3 b p l) = step (argsR X M N W wa ba ws bs) b p l := by
  rw [stepR_at]
  exact projR_at X M N W wa ba ws bs b p _

/-- The first result is the specification's slabs. -/
theorem slabsR_at (s : Fin 11) (b : Fin 4) (p : Fin 8192) (l : Fin 256) :
    slabsR (projR X M N W) wa ba ws bs (ix4 s b p l) = slab (argsR X M N W wa ba ws bs) s b p l := by
  unfold slabsR stack
  generalize hg : gatedR (projR X M N W) wa ba = g
  generalize hu : siluR (convR (cols ![0, 0, 2560] slices_S4x8192x3080_S4x8192x256_0_0_2560 (projR X M N W)) _ _) = u
  generalize hv : siluR (convR (cols ![0, 0, 2816] slices_S4x8192x3080_S4x8192x256_0_0_2816 (projR X M N W)) _ _) = v
  pointwise
  fin_vals s with hs
  all_goals subst hg hu hv
  · obtain rfl : s = 0 := Fin.ext hs
    exact gatedR_at X M N W wa ba ws bs b p l
  · obtain rfl : s = 1 := Fin.ext hs
    exact projR_at X M N W wa ba ws bs b p ⟨768 + l.val, by omega⟩
  · obtain rfl : s = 2 := Fin.ext hs
    exact projR_at X M N W wa ba ws bs b p ⟨1024 + l.val, by omega⟩
  · obtain rfl : s = 3 := Fin.ext hs
    exact projR_at X M N W wa ba ws bs b p ⟨1280 + l.val, by omega⟩
  · obtain rfl : s = 4 := Fin.ext hs
    exact projR_at X M N W wa ba ws bs b p ⟨1536 + l.val, by omega⟩
  · obtain rfl : s = 5 := Fin.ext hs
    exact projR_at X M N W wa ba ws bs b p ⟨1792 + l.val, by omega⟩
  · obtain rfl : s = 6 := Fin.ext hs
    exact projR_at X M N W wa ba ws bs b p ⟨2304 + l.val, by omega⟩
  · obtain rfl : s = 7 := Fin.ext hs
    exact smoothR_at X M N W wa ba ws bs b p l
  · obtain rfl : s = 8 := Fin.ext hs
    exact smoothR_at2 X M N W wa ba ws bs b p l
  · obtain rfl : s = 9 := Fin.ext hs
    exact stepR_slab X M N W wa ba ws bs b p ⟨l.val, by omega⟩
  · obtain rfl : s = 10 := Fin.ext hs
    exact stepR_slab X M N W wa ba ws bs b p ⟨256 + l.val, by omega⟩

/-- The second result is the specification's. -/
theorem fourR_at (b : Fin 4) (p : Fin 8192) (l : Fin 256) :
    cols ![0, 0, 2048] slices_S4x8192x3080_S4x8192x256_0_0_2048 (projR X M N W) (ix3 b p l)
      = four (argsR X M N W wa ba ws bs) b p l := by
  pointwise [four]
  exact projR_at X M N W wa ba ws bs b p ⟨2048 + l.val, by omega⟩

end Cert.Proof.InprojRef

end
-- ==== Proof.MgBlocks.lean ====
/-
  THE MERGE'S RUN, its data: the arrays when the grid's region is entered, each window's block at a grid point, what the body leaves
  in each output window, and the pipeline's proof data. All of it is stated for any float values, so that one run serves
  the program as printed and the idealized one.
-/
module

public import proofs.«01_k».proof.Proof.Gen.Kernel3Ideal.Launch
public import proofs.«01_k».proof.Proof.Gen.Kernel3Ideal.Skeleton
public import proofs.«01_k».proof.Proof.Gen.Kernel3Ideal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.Proof.MergeRun

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s TensorCore buffers when the region is entered: after the host operations `hostOps0` that stand before it. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg11`: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg12`: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg13`: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg14`: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg15`: the region finds it as launched. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg16`: the region finds it as launched. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg17`: the region finds it as launched. -/
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg18`: the region finds it as launched. -/
theorem V_main_arg18 (c : Dev nD) : V m c main_arg18 = m ((c : Thread nD τ).loc main_arg18) :=
  StableHlo.after_of_forall_not_mem (b := Proc.devRef .tc main_arg18) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg19`: the region finds it as launched. -/
theorem V_main_arg19 (c : Dev nD) : V m c main_arg19 = m ((c : Thread nD τ).loc main_arg19) :=
  StableHlo.after_of_forall_not_mem (b := Proc.devRef .tc main_arg19) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg20`: the region finds it as launched. -/
theorem V_main_arg20 (c : Dev nD) : V m c main_arg20 = m ((c : Thread nD τ).loc main_arg20) :=
  StableHlo.after_of_forall_not_mem (b := Proc.devRef .tc main_arg20) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg21`: the region finds it as launched. -/
theorem V_main_arg21 (c : Dev nD) : V m c main_arg21 = m ((c : Thread nD τ).loc main_arg21) :=
  StableHlo.after_of_forall_not_mem (b := Proc.devRef .tc main_arg21) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof
    data whose array is `V`'s (`hA`) and whose body leaves the block in place (`hafter`):
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for any proof
    data whose array is `V`'s (`hA`) and whose body leaves the block in place (`hafter`):
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for any proof
    data whose array is `V`'s (`hA`) and whose body leaves the block in place (`hafter`):
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for any proof
    data whose array is `V`'s (`hA`) and whose body leaves the block in place (`hafter`):
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for any proof
    data whose array is `V`'s (`hA`) and whose body leaves the block in place (`hafter`):
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for any proof
    data whose array is `V`'s (`hA`) and whose body leaves the block in place (`hafter`):
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for any proof
    data whose array is `V`'s (`hA`) and whose body leaves the block in place (`hafter`):
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for any proof
    data whose array is `V`'s (`hA`) and whose body leaves the block in place (`hafter`):
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for any proof
    data whose array is `V`'s (`hA`) and whose body leaves the block in place (`hafter`):
    `Dat.before_in_eq_fetched` (unfetched, the index has not moved), the window uncut and never idle. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for any proof
    data whose array is `V`'s (`hA`) and whose body leaves the block in place (`hafter`):
    `Dat.before_in_eq_fetched` (unfetched, the index has not moved), the window uncut and never idle. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for any proof
    data whose array is `V`'s (`hA`) and whose body leaves the block in place (`hafter`):
    `Dat.before_in_eq_fetched` (unfetched, the index has not moved), the window uncut and never idle. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not, for any proof
    data whose array is `V`'s (`hA`) and whose body leaves the block in place (`hafter`):
    `Dat.before_in_eq_fetched` (unfetched, the index has not moved), the window uncut and never idle. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current staging buffer holds its block at every point, fetched there or not, for any proof
    data whose array is `V`'s (`hA`) and whose body leaves the block in place (`hafter`):
    `Dat.before_in_eq_fetched` (unfetched, the index has not moved), the window uncut and never idle. -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13's current staging buffer holds its block at every point, fetched there or not, for any proof
    data whose array is `V`'s (`hA`) and whose body leaves the block in place (`hafter`):
    `Dat.before_in_eq_fetched` (unfetched, the index has not moved), the window uncut and never idle. -/
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
/-- Input window 14's current staging buffer holds its block at every point, fetched there or not, for any proof
    data whose array is `V`'s (`hA`) and whose body leaves the block in place (`hafter`):
    `Dat.before_in_eq_fetched` (unfetched, the index has not moved), the window uncut and never idle. -/
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
/-- Input window 15's current staging buffer holds its block at every point, fetched there or not, for any proof
    data whose array is `V`'s (`hA`) and whose body leaves the block in place (`hafter`):
    `Dat.before_in_eq_fetched` (unfetched, the index has not moved), the window uncut and never idle. -/
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
/-- Input window 16's current staging buffer holds its block at every point, fetched there or not, for any proof
    data whose array is `V`'s (`hA`) and whose body leaves the block in place (`hafter`):
    `Dat.before_in_eq_fetched` (unfetched, the index has not moved), the window uncut and never idle. -/
theorem before0_16_of {c : Dev nD} (dat : Dat τ (Elt F) Unit ℕ (UR sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)
/-- Input window 17's current staging buffer holds its block at every point, fetched there or not, for any proof
    data whose array is `V`'s (`hA`) and whose body leaves the block in place (`hafter`):
    `Dat.before_in_eq_fetched` (unfetched, the index has not moved), the window uncut and never idle. -/
theorem before0_17_of {c : Dev nD} (dat : Dat τ (Elt F) Unit ℕ (UR sig nD τ) ℕ cfg0 c) (hA : dat.A 17 = V m c (Pipeline.arrRef spec0 17))
    (hafter : ∀ t, dat.after 17 t = iblk m c 17 t) (t : Fin cfg0.N) (d) : dat.before 17 t d = iblk m c 17 t :=
  (dat.before_in_eq_fetched 17 rfl (fun _ => rfl) (fun _ _ _ => rfl) (fun t => by rw [hafter]; unfold Dat.blockOf iblk; rw [hA]; try rfl) t d).trans
    (by unfold Dat.fetched Dat.blockOf iblk; rw [hA]; try rfl)
/-- Input window 18's current staging buffer holds its block at every point, fetched there or not, for any proof
    data whose array is `V`'s (`hA`) and whose body leaves the block in place (`hafter`):
    `Dat.before_in_eq_fetched` (unfetched, the index has not moved), the window uncut and never idle. -/
theorem before0_18_of {c : Dev nD} (dat : Dat τ (Elt F) Unit ℕ (UR sig nD τ) ℕ cfg0 c) (hA : dat.A 18 = V m c (Pipeline.arrRef spec0 18))
    (hafter : ∀ t, dat.after 18 t = iblk m c 18 t) (t : Fin cfg0.N) (d) : dat.before 18 t d = iblk m c 18 t :=
  (dat.before_in_eq_fetched 18 rfl (fun _ => rfl) (fun _ _ _ => rfl) (fun t => by rw [hafter]; unfold Dat.blockOf iblk; rw [hA]; try rfl) t d).trans
    (by unfold Dat.fetched Dat.blockOf iblk; rw [hA]; try rfl)
/-- Input window 19's current staging buffer holds its block at every point, fetched there or not, for any proof
    data whose array is `V`'s (`hA`) and whose body leaves the block in place (`hafter`):
    `Dat.before_in_eq_fetched` (unfetched, the index has not moved), the window uncut and never idle. -/
theorem before0_19_of {c : Dev nD} (dat : Dat τ (Elt F) Unit ℕ (UR sig nD τ) ℕ cfg0 c) (hA : dat.A 19 = V m c (Pipeline.arrRef spec0 19))
    (hafter : ∀ t, dat.after 19 t = iblk m c 19 t) (t : Fin cfg0.N) (d) : dat.before 19 t d = iblk m c 19 t :=
  (dat.before_in_eq_fetched 19 rfl (fun _ => rfl) (fun _ _ _ => rfl) (fun t => by rw [hafter]; unfold Dat.blockOf iblk; rw [hA]; try rfl) t d).trans
    (by unfold Dat.fetched Dat.blockOf iblk; rw [hA]; try rfl)
/-- Input window 20's current staging buffer holds its block at every point, fetched there or not, for any proof
    data whose array is `V`'s (`hA`) and whose body leaves the block in place (`hafter`):
    `Dat.before_in_eq_fetched` (unfetched, the index has not moved), the window uncut and never idle. -/
theorem before0_20_of {c : Dev nD} (dat : Dat τ (Elt F) Unit ℕ (UR sig nD τ) ℕ cfg0 c) (hA : dat.A 20 = V m c (Pipeline.arrRef spec0 20))
    (hafter : ∀ t, dat.after 20 t = iblk m c 20 t) (t : Fin cfg0.N) (d) : dat.before 20 t d = iblk m c 20 t :=
  (dat.before_in_eq_fetched 20 rfl (fun _ => rfl) (fun _ _ _ => rfl) (fun t => by rw [hafter]; unfold Dat.blockOf iblk; rw [hA]; try rfl) t d).trans
    (by unfold Dat.fetched Dat.blockOf iblk; rw [hA]; try rfl)
/-- Input window 21's current staging buffer holds its block at every point, fetched there or not, for any proof
    data whose array is `V`'s (`hA`) and whose body leaves the block in place (`hafter`):
    `Dat.before_in_eq_fetched` (unfetched, the index has not moved), the window uncut and never idle. -/
theorem before0_21_of {c : Dev nD} (dat : Dat τ (Elt F) Unit ℕ (UR sig nD τ) ℕ cfg0 c) (hA : dat.A 21 = V m c (Pipeline.arrRef spec0 21))
    (hafter : ∀ t, dat.after 21 t = iblk m c 21 t) (t : Fin cfg0.N) (d) : dat.before 21 t d = iblk m c 21 t :=
  (dat.before_in_eq_fetched 21 rfl (fun _ => rfl) (fun _ _ _ => rfl) (fun t => by rw [hafter]; unfold Dat.blockOf iblk; rw [hA]; try rfl) t d).trans
    (by unfold Dat.fetched Dat.blockOf iblk; rw [hA]; try rfl)
/-- Input window 22's current staging buffer holds its block at every point, fetched there or not, for any proof
    data whose array is `V`'s (`hA`) and whose body leaves the block in place (`hafter`):
    `Dat.before_in_eq_fetched` (unfetched, the index has not moved), the window uncut and never idle. -/
theorem before0_22_of {c : Dev nD} (dat : Dat τ (Elt F) Unit ℕ (UR sig nD τ) ℕ cfg0 c) (hA : dat.A 22 = V m c (Pipeline.arrRef spec0 22))
    (hafter : ∀ t, dat.after 22 t = iblk m c 22 t) (t : Fin cfg0.N) (d) : dat.before 22 t d = iblk m c 22 t :=
  (dat.before_in_eq_fetched 22 rfl (fun _ => rfl) (fun _ _ _ => rfl) (fun t => by rw [hafter]; unfold Dat.blockOf iblk; rw [hA]; try rfl) t d).trans
    (by unfold Dat.fetched Dat.blockOf iblk; rw [hA]; try rfl)
/-- Input window 23's current staging buffer holds its block at every point, fetched there or not, for any proof
    data whose array is `V`'s (`hA`) and whose body leaves the block in place (`hafter`):
    `Dat.before_in_eq_fetched` (unfetched, the index has not moved), the window uncut and never idle. -/
theorem before0_23_of {c : Dev nD} (dat : Dat τ (Elt F) Unit ℕ (UR sig nD τ) ℕ cfg0 c) (hA : dat.A 23 = V m c (Pipeline.arrRef spec0 23))
    (hafter : ∀ t, dat.after 23 t = iblk m c 23 t) (t : Fin cfg0.N) (d) : dat.before 23 t d = iblk m c 23 t :=
  (dat.before_in_eq_fetched 23 rfl (fun _ => rfl) (fun _ _ _ => rfl) (fun t => by rw [hafter]; unfold Dat.blockOf iblk; rw [hA]; try rfl) t d).trans
    (by unfold Dat.fetched Dat.blockOf iblk; rw [hA]; try rfl)
/-- Input window 24's current staging buffer holds its block at every point, fetched there or not, for any proof
    data whose array is `V`'s (`hA`) and whose body leaves the block in place (`hafter`):
    `Dat.before_in_eq_fetched` (unfetched, the index has not moved), the window uncut and never idle. -/
theorem before0_24_of {c : Dev nD} (dat : Dat τ (Elt F) Unit ℕ (UR sig nD τ) ℕ cfg0 c) (hA : dat.A 24 = V m c (Pipeline.arrRef spec0 24))
    (hafter : ∀ t, dat.after 24 t = iblk m c 24 t) (t : Fin cfg0.N) (d) : dat.before 24 t d = iblk m c 24 t :=
  (dat.before_in_eq_fetched 24 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

abbrev r0_0 : Rect S1x512x1024 := Rect.unit (s := S1x512x1024) ![0, 0, 0] S1x512x1024.size inb_S1x512x1024_S1x512x1024_0_0_0
abbrev r0_1 : Rect S1x1024 := Rect.unit (s := S1x1024) ![0, 0] S1x1024.size inb_S1x1024_S1x1024_0_0
abbrev r0_2 : Rect S1x8x1024 := Rect.unit (s := S1x8x1024) ![0, 0, 0] S1x1x1024.size inb_S1x8x1024_S1x1x1024_0_0_0
abbrev r0_3 : Rect S1x8x1024 := Rect.unit (s := S1x8x1024) ![0, 1, 0] S1x1x1024.size inb_S1x8x1024_S1x1x1024_0_1_0
abbrev r0_4 : Rect S1x1x512x256 := Rect.unit (s := S1x1x512x256) ![0, 0, 0, 0] S1x1x512x256.size inb_S1x1x512x256_S1x1x512x256_0_0_0_0
abbrev r0_5 : Rect S1x512x256 := Rect.unit (s := S1x512x256) ![0, 0, 0] S1x512x256.size inb_S1x512x256_S1x512x256_0_0_0
abbrev r0_6 : Rect S256x256 := Rect.unit (s := S256x256) ![0, 0] S256x256.size inb_S256x256_S256x256_0_0
abbrev r0_7 : Rect S1x256 := Rect.unit (s := S1x256) ![0, 0] S1x256.size inb_S1x256_S1x256_0_0
abbrev r0_8 : Rect S1024x4096 := Rect.unit (s := S1024x4096) ![0, 0] S1024x1024.size inb_S1024x4096_S1024x1024_0_0
abbrev r0_9 : Rect S4x256x1024 := Rect.unit (s := S4x256x1024) ![0, 0, 0] S1x256x1024.size inb_S4x256x1024_S1x256x1024_0_0_0
abbrev r0_10 : Rect S1024x4096 := Rect.unit (s := S1024x4096) ![0, 1024] S1024x1024.size inb_S1024x4096_S1024x1024_0_1024
abbrev r0_11 : Rect S4x256x1024 := Rect.unit (s := S4x256x1024) ![1, 0, 0] S1x256x1024.size inb_S4x256x1024_S1x256x1024_1_0_0
abbrev r0_12 : Rect S1024x4096 := Rect.unit (s := S1024x4096) ![0, 2048] S1024x1024.size inb_S1024x4096_S1024x1024_0_2048
abbrev r0_13 : Rect S4x256x1024 := Rect.unit (s := S4x256x1024) ![2, 0, 0] S1x256x1024.size inb_S4x256x1024_S1x256x1024_2_0_0
abbrev r0_14 : Rect S1024x4096 := Rect.unit (s := S1024x4096) ![0, 3072] S1024x1024.size inb_S1024x4096_S1024x1024_0_3072
abbrev r0_15 : Rect S4x256x1024 := Rect.unit (s := S4x256x1024) ![3, 0, 0] S1x256x1024.size inb_S4x256x1024_S1x256x1024_3_0_0
abbrev r0_16 : Rect S1024x1024 := Rect.unit (s := S1024x1024) ![0, 0] S1024x1024.size inb_S1024x1024_S1024x1024_0_0
abbrev r0_17 : Rect S1x8x1024 := Rect.unit (s := S1x8x1024) ![0, 2, 0] S1x1x1024.size inb_S1x8x1024_S1x1x1024_0_2_0
abbrev r0_18 : Rect S1x8x1024 := Rect.unit (s := S1x8x1024) ![0, 3, 0] S1x1x1024.size inb_S1x8x1024_S1x1x1024_0_3_0
abbrev r0_19 : Rect S1x8x1024 := Rect.unit (s := S1x8x1024) ![0, 4, 0] S1x1x1024.size inb_S1x8x1024_S1x1x1024_0_4_0
abbrev r0_20 : Rect S512x1024 := Rect.unit (s := S512x1024) ![0, 0] S512x1024.size inb_S512x1024_S512x1024_0_0
abbrev r0_21 : Rect S40x1024 := Rect.unit (s := S40x1024) ![0, 0] S40x1024.size inb_S40x1024_S40x1024_0_0
abbrev r0_22 : Rect S40x1 := Rect.unit (s := S40x1) ![0, 0] S40x1.size inb_S40x1_S40x1_0_0
abbrev r0_23 : Rect S8x512 := Rect.unit (s := S8x512) ![0, 0] S8x512.size inb_S8x512_S8x512_0_0

/-! ## What the body leaves in each output window's buffer -/

/-! ### Values of the body that the stores read more than once, over the input windows' blocks -/

def k0_pay39 (x0 : Vec F S1x512x1024 .f32) (x1 : Vec F S1x1x512x256 .f32) (x2 : Vec F S1x1x512x256 .f32) (x3 : Vec F S1x1x512x256 .f32) (x4 : Vec F S1x1x512x256 .f32) (x5 : Vec F S1x512x256 .f32) (x6 : Vec F S1x512x256 .f32) (x7 : Vec F S1x512x256 .f32) (x8 : Vec F S1x512x256 .f32) (x9 : Vec F S1x512x256 .f32) (x10 : Vec F S1x512x256 .f32) (x11 : Vec F S1x512x256 .f32) (x12 : Vec F S1x8x1024 .f32) (x13 : Vec F S1x1024 .f32) (x14 : Vec F S1x1024 .f32) (x15 : Vec F S1024x4096 .bf16) (x16 : Vec F S4x256x1024 .bf16) (x17 : Vec F S1024x1024 .bf16) (x18 : Vec F S1x256 .f32) (x19 : Vec F S1x256 .f32) (x20 : Vec F S1x256 .f32) (x21 : Vec F S256x256 .bf16) (x22 : Vec F S256x256 .bf16) (x23 : Vec F S40x1024 .f32) (x24 : Vec F S40x1 .f32) : FVec F S512x1024 .bf16 :=
  k0_pay3 (View.ld x0 r0_0) (View.ld x13 r0_1) (View.ld x12 r0_2) (View.ld x12 r0_3) -- `v26`
def k0_pay40 (x0 : Vec F S1x512x1024 .f32) (x1 : Vec F S1x1x512x256 .f32) (x2 : Vec F S1x1x512x256 .f32) (x3 : Vec F S1x1x512x256 .f32) (x4 : Vec F S1x1x512x256 .f32) (x5 : Vec F S1x512x256 .f32) (x6 : Vec F S1x512x256 .f32) (x7 : Vec F S1x512x256 .f32) (x8 : Vec F S1x512x256 .f32) (x9 : Vec F S1x512x256 .f32) (x10 : Vec F S1x512x256 .f32) (x11 : Vec F S1x512x256 .f32) (x12 : Vec F S1x8x1024 .f32) (x13 : Vec F S1x1024 .f32) (x14 : Vec F S1x1024 .f32) (x15 : Vec F S1024x4096 .bf16) (x16 : Vec F S4x256x1024 .bf16) (x17 : Vec F S1024x1024 .bf16) (x18 : Vec F S1x256 .f32) (x19 : Vec F S1x256 .f32) (x20 : Vec F S1x256 .f32) (x21 : Vec F S256x256 .bf16) (x22 : Vec F S256x256 .bf16) (x23 : Vec F S40x1024 .f32) (x24 : Vec F S40x1 .f32) : FVec F S512x1024 .f32 :=
  k0_pay15 (k0_pay2 (View.ld x0 r0_0)) (k0_pay39 x0 x1 x2 x3 x4 x5 x6 x7 x8 x9 x10 x11 x12 x13 x14 x15 x16 x17 x18 x19 x20 x21 x22 x23 x24) (k0_pay10 (k0_pay8 (View.ld x3 r0_4)) (k0_pay9 (View.ld x8 r0_5) (View.ld x9 r0_5)) (View.ld x10 r0_5) (View.ld x19 r0_7) (View.ld x4 r0_4) (View.ld x22 r0_6) (View.ld x20 r0_7)) (k0_pay12 (View.ld x11 r0_5)) (k0_pay13 (k0_pay39 x0 x1 x2 x3 x4 x5 x6 x7 x8 x9 x10 x11 x12 x13 x14 x15 x16 x17 x18 x19 x20 x21 x22 x23 x24) (k0_pay7 (k0_pay4 (View.ld x2 r0_4)) (k0_pay5 (View.ld x5 r0_5)) (k0_pay6 (View.ld x6 r0_5)) (View.ld x7 r0_5) (View.ld x21 r0_6) (View.ld x18 r0_7)) (k0_pay11 (View.ld x1 r0_4)) (View.ld x15 r0_8) (View.ld x16 r0_9) (View.ld x15 r0_10) (View.ld x16 r0_11)) (k0_pay14 (k0_pay39 x0 x1 x2 x3 x4 x5 x6 x7 x8 x9 x10 x11 x12 x13 x14 x15 x16 x17 x18 x19 x20 x21 x22 x23 x24) (View.ld x15 r0_12)) (Scalar.ofBits .f32 0x00000000#32) (View.ld x16 r0_13) (View.ld x15 r0_14) (View.ld x16 r0_15) (View.ld x17 r0_16) (View.ld x12 r0_17) -- `v177`
def k0_pay41 (x0 : Vec F S1x512x1024 .f32) (x1 : Vec F S1x1x512x256 .f32) (x2 : Vec F S1x1x512x256 .f32) (x3 : Vec F S1x1x512x256 .f32) (x4 : Vec F S1x1x512x256 .f32) (x5 : Vec F S1x512x256 .f32) (x6 : Vec F S1x512x256 .f32) (x7 : Vec F S1x512x256 .f32) (x8 : Vec F S1x512x256 .f32) (x9 : Vec F S1x512x256 .f32) (x10 : Vec F S1x512x256 .f32) (x11 : Vec F S1x512x256 .f32) (x12 : Vec F S1x8x1024 .f32) (x13 : Vec F S1x1024 .f32) (x14 : Vec F S1x1024 .f32) (x15 : Vec F S1024x4096 .bf16) (x16 : Vec F S4x256x1024 .bf16) (x17 : Vec F S1024x1024 .bf16) (x18 : Vec F S1x256 .f32) (x19 : Vec F S1x256 .f32) (x20 : Vec F S1x256 .f32) (x21 : Vec F S256x256 .bf16) (x22 : Vec F S256x256 .bf16) (x23 : Vec F S40x1024 .f32) (x24 : Vec F S40x1 .f32) : FVec F S512x1024 .bf16 :=
  k0_pay19 (k0_pay40 x0 x1 x2 x3 x4 x5 x6 x7 x8 x9 x10 x11 x12 x13 x14 x15 x16 x17 x18 x19 x20 x21 x22 x23 x24) (View.ld x14 r0_1) (View.ld x12 r0_18) (View.ld x12 r0_19) -- `v207`
def k0_pay42 (x0 : Vec F S1x512x1024 .f32) (x1 : Vec F S1x1x512x256 .f32) (x2 : Vec F S1x1x512x256 .f32) (x3 : Vec F S1x1x512x256 .f32) (x4 : Vec F S1x1x512x256 .f32) (x5 : Vec F S1x512x256 .f32) (x6 : Vec F S1x512x256 .f32) (x7 : Vec F S1x512x256 .f32) (x8 : Vec F S1x512x256 .f32) (x9 : Vec F S1x512x256 .f32) (x10 : Vec F S1x512x256 .f32) (x11 : Vec F S1x512x256 .f32) (x12 : Vec F S1x8x1024 .f32) (x13 : Vec F S1x1024 .f32) (x14 : Vec F S1x1024 .f32) (x15 : Vec F S1024x4096 .bf16) (x16 : Vec F S4x256x1024 .bf16) (x17 : Vec F S1024x1024 .bf16) (x18 : Vec F S1x256 .f32) (x19 : Vec F S1x256 .f32) (x20 : Vec F S1x256 .f32) (x21 : Vec F S256x256 .bf16) (x22 : Vec F S256x256 .bf16) (x23 : Vec F S40x1024 .f32) (x24 : Vec F S40x1 .f32) : FVec F S512x1024 .bf16 :=
  k0_pay20 (k0_pay40 x0 x1 x2 x3 x4 x5 x6 x7 x8 x9 x10 x11 x12 x13 x14 x15 x16 x17 x18 x19 x20 x21 x22 x23 x24) (View.ld x14 r0_1) (View.ld x12 r0_18) (View.ld x12 r0_19) -- `v210`
def k0_pay43 (x0 : Vec F S1x512x1024 .f32) (x1 : Vec F S1x1x512x256 .f32) (x2 : Vec F S1x1x512x256 .f32) (x3 : Vec F S1x1x512x256 .f32) (x4 : Vec F S1x1x512x256 .f32) (x5 : Vec F S1x512x256 .f32) (x6 : Vec F S1x512x256 .f32) (x7 : Vec F S1x512x256 .f32) (x8 : Vec F S1x512x256 .f32) (x9 : Vec F S1x512x256 .f32) (x10 : Vec F S1x512x256 .f32) (x11 : Vec F S1x512x256 .f32) (x12 : Vec F S1x8x1024 .f32) (x13 : Vec F S1x1024 .f32) (x14 : Vec F S1x1024 .f32) (x15 : Vec F S1024x4096 .bf16) (x16 : Vec F S4x256x1024 .bf16) (x17 : Vec F S1024x1024 .bf16) (x18 : Vec F S1x256 .f32) (x19 : Vec F S1x256 .f32) (x20 : Vec F S1x256 .f32) (x21 : Vec F S256x256 .bf16) (x22 : Vec F S256x256 .bf16) (x23 : Vec F S40x1024 .f32) (x24 : Vec F S40x1 .f32) : FVec F S40x1024 .bf16 :=
  k0_pay22 (View.ld x23 r0_21) -- `v213`
def k0_pay44 (x0 : Vec F S1x512x1024 .f32) (x1 : Vec F S1x1x512x256 .f32) (x2 : Vec F S1x1x512x256 .f32) (x3 : Vec F S1x1x512x256 .f32) (x4 : Vec F S1x1x512x256 .f32) (x5 : Vec F S1x512x256 .f32) (x6 : Vec F S1x512x256 .f32) (x7 : Vec F S1x512x256 .f32) (x8 : Vec F S1x512x256 .f32) (x9 : Vec F S1x512x256 .f32) (x10 : Vec F S1x512x256 .f32) (x11 : Vec F S1x512x256 .f32) (x12 : Vec F S1x8x1024 .f32) (x13 : Vec F S1x1024 .f32) (x14 : Vec F S1x1024 .f32) (x15 : Vec F S1024x4096 .bf16) (x16 : Vec F S4x256x1024 .bf16) (x17 : Vec F S1024x1024 .bf16) (x18 : Vec F S1x256 .f32) (x19 : Vec F S1x256 .f32) (x20 : Vec F S1x256 .f32) (x21 : Vec F S256x256 .bf16) (x22 : Vec F S256x256 .bf16) (x23 : Vec F S40x1024 .f32) (x24 : Vec F S40x1 .f32) : FVec F S40x1024 .bf16 :=
  k0_pay23 (View.ld x23 r0_21) -- `v216`
def k0_pay45 (x0 : Vec F S1x512x1024 .f32) (x1 : Vec F S1x1x512x256 .f32) (x2 : Vec F S1x1x512x256 .f32) (x3 : Vec F S1x1x512x256 .f32) (x4 : Vec F S1x1x512x256 .f32) (x5 : Vec F S1x512x256 .f32) (x6 : Vec F S1x512x256 .f32) (x7 : Vec F S1x512x256 .f32) (x8 : Vec F S1x512x256 .f32) (x9 : Vec F S1x512x256 .f32) (x10 : Vec F S1x512x256 .f32) (x11 : Vec F S1x512x256 .f32) (x12 : Vec F S1x8x1024 .f32) (x13 : Vec F S1x1024 .f32) (x14 : Vec F S1x1024 .f32) (x15 : Vec F S1024x4096 .bf16) (x16 : Vec F S4x256x1024 .bf16) (x17 : Vec F S1024x1024 .bf16) (x18 : Vec F S1x256 .f32) (x19 : Vec F S1x256 .f32) (x20 : Vec F S1x256 .f32) (x21 : Vec F S256x256 .bf16) (x22 : Vec F S256x256 .bf16) (x23 : Vec F S40x1024 .f32) (x24 : Vec F S40x1 .f32) : FVec F S8x512 .f32 :=
  k0_pay29 (k0_pay41 x0 x1 x2 x3 x4 x5 x6 x7 x8 x9 x10 x11 x12 x13 x14 x15 x16 x17 x18 x19 x20 x21 x22 x23 x24) (k0_pay42 x0 x1 x2 x3 x4 x5 x6 x7 x8 x9 x10 x11 x12 x13 x14 x15 x16 x17 x18 x19 x20 x21 x22 x23 x24) (k0_pay43 x0 x1 x2 x3 x4 x5 x6 x7 x8 x9 x10 x11 x12 x13 x14 x15 x16 x17 x18 x19 x20 x21 x22 x23 x24) (k0_pay44 x0 x1 x2 x3 x4 x5 x6 x7 x8 x9 x10 x11 x12 x13 x14 x15 x16 x17 x18 x19 x20 x21 x22 x23 x24) (View.ld x24 r0_22) -- `v259`
def k0_pay46 (x0 : Vec F S1x512x1024 .f32) (x1 : Vec F S1x1x512x256 .f32) (x2 : Vec F S1x1x512x256 .f32) (x3 : Vec F S1x1x512x256 .f32) (x4 : Vec F S1x1x512x256 .f32) (x5 : Vec F S1x512x256 .f32) (x6 : Vec F S1x512x256 .f32) (x7 : Vec F S1x512x256 .f32) (x8 : Vec F S1x512x256 .f32) (x9 : Vec F S1x512x256 .f32) (x10 : Vec F S1x512x256 .f32) (x11 : Vec F S1x512x256 .f32) (x12 : Vec F S1x8x1024 .f32) (x13 : Vec F S1x1024 .f32) (x14 : Vec F S1x1024 .f32) (x15 : Vec F S1024x4096 .bf16) (x16 : Vec F S4x256x1024 .bf16) (x17 : Vec F S1024x1024 .bf16) (x18 : Vec F S1x256 .f32) (x19 : Vec F S1x256 .f32) (x20 : Vec F S1x256 .f32) (x21 : Vec F S256x256 .bf16) (x22 : Vec F S256x256 .bf16) (x23 : Vec F S40x1024 .f32) (x24 : Vec F S40x1 .f32) : FVec F S8x512 .f32 :=
  k0_pay30 (k0_pay41 x0 x1 x2 x3 x4 x5 x6 x7 x8 x9 x10 x11 x12 x13 x14 x15 x16 x17 x18 x19 x20 x21 x22 x23 x24) (k0_pay42 x0 x1 x2 x3 x4 x5 x6 x7 x8 x9 x10 x11 x12 x13 x14 x15 x16 x17 x18 x19 x20 x21 x22 x23 x24) (k0_pay43 x0 x1 x2 x3 x4 x5 x6 x7 x8 x9 x10 x11 x12 x13 x14 x15 x16 x17 x18 x19 x20 x21 x22 x23 x24) (k0_pay44 x0 x1 x2 x3 x4 x5 x6 x7 x8 x9 x10 x11 x12 x13 x14 x15 x16 x17 x18 x19 x20 x21 x22 x23 x24) (View.ld x24 r0_22) -- `v262`
def k0_pay47 (x0 : Vec F S1x512x1024 .f32) (x1 : Vec F S1x1x512x256 .f32) (x2 : Vec F S1x1x512x256 .f32) (x3 : Vec F S1x1x512x256 .f32) (x4 : Vec F S1x1x512x256 .f32) (x5 : Vec F S1x512x256 .f32) (x6 : Vec F S1x512x256 .f32) (x7 : Vec F S1x512x256 .f32) (x8 : Vec F S1x512x256 .f32) (x9 : Vec F S1x512x256 .f32) (x10 : Vec F S1x512x256 .f32) (x11 : Vec F S1x512x256 .f32) (x12 : Vec F S1x8x1024 .f32) (x13 : Vec F S1x1024 .f32) (x14 : Vec F S1x1024 .f32) (x15 : Vec F S1024x4096 .bf16) (x16 : Vec F S4x256x1024 .bf16) (x17 : Vec F S1024x1024 .bf16) (x18 : Vec F S1x256 .f32) (x19 : Vec F S1x256 .f32) (x20 : Vec F S1x256 .f32) (x21 : Vec F S256x256 .bf16) (x22 : Vec F S256x256 .bf16) (x23 : Vec F S40x1024 .f32) (x24 : Vec F S40x1 .f32) : IVec S1x512 1 :=
  k0_pay31 (k0_pay41 x0 x1 x2 x3 x4 x5 x6 x7 x8 x9 x10 x11 x12 x13 x14 x15 x16 x17 x18 x19 x20 x21 x22 x23 x24) (k0_pay42 x0 x1 x2 x3 x4 x5 x6 x7 x8 x9 x10 x11 x12 x13 x14 x15 x16 x17 x18 x19 x20 x21 x22 x23 x24) (k0_pay43 x0 x1 x2 x3 x4 x5 x6 x7 x8 x9 x10 x11 x12 x13 x14 x15 x16 x17 x18 x19 x20 x21 x22 x23 x24) (k0_pay44 x0 x1 x2 x3 x4 x5 x6 x7 x8 x9 x10 x11 x12 x13 x14 x15 x16 x17 x18 x19 x20 x21 x22 x23 x24) (View.ld x24 r0_22) -- `v263`

/-- Window 25's staging buffer after the body, from the input windows' blocks: its 1 store as pieces, last
    FIRST. -/
def out0_25 (x0 : Vec F S1x512x1024 .f32) (x1 : Vec F S1x1x512x256 .f32) (x2 : Vec F S1x1x512x256 .f32) (x3 : Vec F S1x1x512x256 .f32) (x4 : Vec F S1x1x512x256 .f32) (x5 : Vec F S1x512x256 .f32) (x6 : Vec F S1x512x256 .f32) (x7 : Vec F S1x512x256 .f32) (x8 : Vec F S1x512x256 .f32) (x9 : Vec F S1x512x256 .f32) (x10 : Vec F S1x512x256 .f32) (x11 : Vec F S1x512x256 .f32) (x12 : Vec F S1x8x1024 .f32) (x13 : Vec F S1x1024 .f32) (x14 : Vec F S1x1024 .f32) (x15 : Vec F S1024x4096 .bf16) (x16 : Vec F S4x256x1024 .bf16) (x17 : Vec F S1024x1024 .bf16) (x18 : Vec F S1x256 .f32) (x19 : Vec F S1x256 .f32) (x20 : Vec F S1x256 .f32) (x21 : Vec F S256x256 .bf16) (x22 : Vec F S256x256 .bf16) (x23 : Vec F S40x1024 .f32) (x24 : Vec F S40x1 .f32) : Vec F S1x512x1024 .f32 :=
  View.canon [⟨r0_0, k0_pay16 (k0_pay40 x0 x1 x2 x3 x4 x5 x6 x7 x8 x9 x10 x11 x12 x13 x14 x15 x16 x17 x18 x19 x20 x21 x22 x23 x24)⟩]

/-- Its stores tile the buffer (checked by evaluation), so they cover it. -/
theorem cover0_25 (p0 : Vec F S1x512x1024 .f32) (y : S1x512x1024.Idx) :
    ∃ pc ∈ ([⟨r0_0, p0⟩] : List (View.Piece (Elt F) S1x512x1024 .f32)), y ∈ pc.1.set :=
  View.cover_of_tiled [⟨r0_0, p0⟩] S1x512x1024.size (by rfl) y

/-- Window 26's staging buffer after the body, from the input windows' blocks: its 1 store as pieces, last
    FIRST. -/
def out0_26 (x0 : Vec F S1x512x1024 .f32) (x1 : Vec F S1x1x512x256 .f32) (x2 : Vec F S1x1x512x256 .f32) (x3 : Vec F S1x1x512x256 .f32) (x4 : Vec F S1x1x512x256 .f32) (x5 : Vec F S1x512x256 .f32) (x6 : Vec F S1x512x256 .f32) (x7 : Vec F S1x512x256 .f32) (x8 : Vec F S1x512x256 .f32) (x9 : Vec F S1x512x256 .f32) (x10 : Vec F S1x512x256 .f32) (x11 : Vec F S1x512x256 .f32) (x12 : Vec F S1x8x1024 .f32) (x13 : Vec F S1x1024 .f32) (x14 : Vec F S1x1024 .f32) (x15 : Vec F S1024x4096 .bf16) (x16 : Vec F S4x256x1024 .bf16) (x17 : Vec F S1024x1024 .bf16) (x18 : Vec F S1x256 .f32) (x19 : Vec F S1x256 .f32) (x20 : Vec F S1x256 .f32) (x21 : Vec F S256x256 .bf16) (x22 : Vec F S256x256 .bf16) (x23 : Vec F S40x1024 .f32) (x24 : Vec F S40x1 .f32) : Vec F S512x1024 .bf16 :=
  View.canon [⟨r0_20, k0_pay18 (k0_pay40 x0 x1 x2 x3 x4 x5 x6 x7 x8 x9 x10 x11 x12 x13 x14 x15 x16 x17 x18 x19 x20 x21 x22 x23 x24) (View.ld x14 r0_1) (View.ld x12 r0_18) (View.ld x12 r0_19)⟩]

/-- Its stores tile the buffer (checked by evaluation), so they cover it. -/
theorem cover0_26 (p0 : Vec F S512x1024 .bf16) (y : S512x1024.Idx) :
    ∃ pc ∈ ([⟨r0_20, p0⟩] : List (View.Piece (Elt F) S512x1024 .bf16)), y ∈ pc.1.set :=
  View.cover_of_tiled [⟨r0_20, p0⟩] S512x1024.size (by rfl) y

/-- Window 27's staging buffer after the body, from the input windows' blocks: its 1 store as pieces, last
    FIRST. -/
def out0_27 (x0 : Vec F S1x512x1024 .f32) (x1 : Vec F S1x1x512x256 .f32) (x2 : Vec F S1x1x512x256 .f32) (x3 : Vec F S1x1x512x256 .f32) (x4 : Vec F S1x1x512x256 .f32) (x5 : Vec F S1x512x256 .f32) (x6 : Vec F S1x512x256 .f32) (x7 : Vec F S1x512x256 .f32) (x8 : Vec F S1x512x256 .f32) (x9 : Vec F S1x512x256 .f32) (x10 : Vec F S1x512x256 .f32) (x11 : Vec F S1x512x256 .f32) (x12 : Vec F S1x8x1024 .f32) (x13 : Vec F S1x1024 .f32) (x14 : Vec F S1x1024 .f32) (x15 : Vec F S1024x4096 .bf16) (x16 : Vec F S4x256x1024 .bf16) (x17 : Vec F S1024x1024 .bf16) (x18 : Vec F S1x256 .f32) (x19 : Vec F S1x256 .f32) (x20 : Vec F S1x256 .f32) (x21 : Vec F S256x256 .bf16) (x22 : Vec F S256x256 .bf16) (x23 : Vec F S40x1024 .f32) (x24 : Vec F S40x1 .f32) : Vec F S8x512 .i32 :=
  View.canon [⟨r0_23, k0_pay38 (k0_pay27 (k0_pay41 x0 x1 x2 x3 x4 x5 x6 x7 x8 x9 x10 x11 x12 x13 x14 x15 x16 x17 x18 x19 x20 x21 x22 x23 x24) (k0_pay42 x0 x1 x2 x3 x4 x5 x6 x7 x8 x9 x10 x11 x12 x13 x14 x15 x16 x17 x18 x19 x20 x21 x22 x23 x24) (k0_pay43 x0 x1 x2 x3 x4 x5 x6 x7 x8 x9 x10 x11 x12 x13 x14 x15 x16 x17 x18 x19 x20 x21 x22 x23 x24) (k0_pay44 x0 x1 x2 x3 x4 x5 x6 x7 x8 x9 x10 x11 x12 x13 x14 x15 x16 x17 x18 x19 x20 x21 x22 x23 x24) (View.ld x24 r0_22)) (k0_pay45 x0 x1 x2 x3 x4 x5 x6 x7 x8 x9 x10 x11 x12 x13 x14 x15 x16 x17 x18 x19 x20 x21 x22 x23 x24) (k0_pay46 x0 x1 x2 x3 x4 x5 x6 x7 x8 x9 x10 x11 x12 x13 x14 x15 x16 x17 x18 x19 x20 x21 x22 x23 x24) (k0_pay47 x0 x1 x2 x3 x4 x5 x6 x7 x8 x9 x10 x11 x12 x13 x14 x15 x16 x17 x18 x19 x20 x21 x22 x23 x24)⟩]

/-- Its stores tile the buffer (checked by evaluation), so they cover it. -/
theorem cover0_27 (p0 : Vec F S8x512 .i32) (y : S8x512.Idx) :
    ∃ pc ∈ ([⟨r0_23, p0⟩] : List (View.Piece (Elt F) S8x512 .i32)), y ∈ pc.1.set :=
  View.cover_of_tiled [⟨r0_23, p0⟩] S8x512.size (by rfl) y

/-- Window 28's staging buffer after the body, from the input windows' blocks: its 1 store as pieces, last
    FIRST. -/
def out0_28 (x0 : Vec F S1x512x1024 .f32) (x1 : Vec F S1x1x512x256 .f32) (x2 : Vec F S1x1x512x256 .f32) (x3 : Vec F S1x1x512x256 .f32) (x4 : Vec F S1x1x512x256 .f32) (x5 : Vec F S1x512x256 .f32) (x6 : Vec F S1x512x256 .f32) (x7 : Vec F S1x512x256 .f32) (x8 : Vec F S1x512x256 .f32) (x9 : Vec F S1x512x256 .f32) (x10 : Vec F S1x512x256 .f32) (x11 : Vec F S1x512x256 .f32) (x12 : Vec F S1x8x1024 .f32) (x13 : Vec F S1x1024 .f32) (x14 : Vec F S1x1024 .f32) (x15 : Vec F S1024x4096 .bf16) (x16 : Vec F S4x256x1024 .bf16) (x17 : Vec F S1024x1024 .bf16) (x18 : Vec F S1x256 .f32) (x19 : Vec F S1x256 .f32) (x20 : Vec F S1x256 .f32) (x21 : Vec F S256x256 .bf16) (x22 : Vec F S256x256 .bf16) (x23 : Vec F S40x1024 .f32) (x24 : Vec F S40x1 .f32) : Vec F S8x512 .f32 :=
  View.canon [⟨r0_23, k0_pay1 (k0_pay28 (k0_pay41 x0 x1 x2 x3 x4 x5 x6 x7 x8 x9 x10 x11 x12 x13 x14 x15 x16 x17 x18 x19 x20 x21 x22 x23 x24) (k0_pay42 x0 x1 x2 x3 x4 x5 x6 x7 x8 x9 x10 x11 x12 x13 x14 x15 x16 x17 x18 x19 x20 x21 x22 x23 x24) (k0_pay43 x0 x1 x2 x3 x4 x5 x6 x7 x8 x9 x10 x11 x12 x13 x14 x15 x16 x17 x18 x19 x20 x21 x22 x23 x24) (k0_pay44 x0 x1 x2 x3 x4 x5 x6 x7 x8 x9 x10 x11 x12 x13 x14 x15 x16 x17 x18 x19 x20 x21 x22 x23 x24) (View.ld x24 r0_22)) (k0_pay37 (k0_pay45 x0 x1 x2 x3 x4 x5 x6 x7 x8 x9 x10 x11 x12 x13 x14 x15 x16 x17 x18 x19 x20 x21 x22 x23 x24) (k0_pay46 x0 x1 x2 x3 x4 x5 x6 x7 x8 x9 x10 x11 x12 x13 x14 x15 x16 x17 x18 x19 x20 x21 x22 x23 x24) (k0_pay47 x0 x1 x2 x3 x4 x5 x6 x7 x8 x9 x10 x11 x12 x13 x14 x15 x16 x17 x18 x19 x20 x21 x22 x23 x24)) (iota .tc S8x512 32 [0] iota_S8x512_d0_w32)⟩]

/-- Its stores tile the buffer (checked by evaluation), so they cover it. -/
theorem cover0_28 (p0 : Vec F S8x512 .f32) (y : S8x512.Idx) :
    ∃ pc ∈ ([⟨r0_23, p0⟩] : List (View.Piece (Elt F) S8x512 .f32)), y ∈ pc.1.set :=
  View.cover_of_tiled [⟨r0_23, p0⟩] S8x512.size (by rfl) y
/-! ## The pipeline's proof data -/

/-- The proof data of the one pipeline on core `c`: the arrays as the region finds them (`V`); after the body at
    point `t` each input's buffer at its block and each output's at `out0_W` of the input blocks; the invariant the
    class's; nothing owed;
    each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => out0_25 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t)
    | ⟨26, _⟩ => out0_26 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t)
    | ⟨27, _⟩ => out0_27 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t)
    | ⟨28, _⟩ => out0_28 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t)
    | ⟨_ + 29, h⟩ => absurd h (Nat.not_lt.2 (Nat.le_add_left _ _))
  Φ _ := Pipeline.ΦA spec0 c
  q w := Pipeline.shareOf spec0 w
  owed _ := 0

/-- The proof data's arrays are the region-entry contents, and
    `V` need not be unfolded to see it. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) : (dats m 0 c).after 23 t = iblk m c 23 t := by dsimp only [dats]
theorem after0_24 (c : Dev nD) (t : Fin cfg0.N) : (dats m 0 c).after 24 t = iblk m c 24 t := by dsimp only [dats]
theorem after0_25 (c : Dev nD) (t : Fin cfg0.N) : (dats m 0 c).after 25 t = out0_25 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) := by dsimp only [dats]
theorem after0_26 (c : Dev nD) (t : Fin cfg0.N) : (dats m 0 c).after 26 t = out0_26 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) := by dsimp only [dats]
theorem after0_27 (c : Dev nD) (t : Fin cfg0.N) : (dats m 0 c).after 27 t = out0_27 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) := by dsimp only [dats]
theorem after0_28 (c : Dev nD) (t : Fin cfg0.N) : (dats m 0 c).after 28 t = out0_28 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d
theorem before0_22 (c : Dev nD) (t : Fin cfg0.N) (d) : (dats m 0 c).before 22 t d = iblk m c 22 t :=
  before0_22_of m (dats m 0 c) (A_eq m c 22) (after0_22 m c) t d
theorem before0_23 (c : Dev nD) (t : Fin cfg0.N) (d) : (dats m 0 c).before 23 t d = iblk m c 23 t :=
  before0_23_of m (dats m 0 c) (A_eq m c 23) (after0_23 m c) t d
theorem before0_24 (c : Dev nD) (t : Fin cfg0.N) (d) : (dats m 0 c).before 24 t d = iblk m c 24 t :=
  before0_24_of m (dats m 0 c) (A_eq m c 24) (after0_24 m c) t d

end Cert.Proof.MergeRun

end
-- ==== Proof.MgRun.lean ====
/-
  THE MERGE'S RUN: the body at a grid point, and the whole program's run from any memory: every fair execution ends, its two
  results are what the grid's points wrote back, its arguments are unchanged and its semaphore counters are zero.
-/
module

public import proofs.«01_k».proof.Proof.MgBlocks

@[expose] public section

set_option maxRecDepth 16384

noncomputable section

namespace Cert.Proof.MergeRun

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs, through every part call. -/
theorem sound_kernel (c : Dev nD) (E : Set ℕ) (i : grid0.Coords) (arg2 : Memref sig .tc .vmem S1x512x1024 .f32) (harg2 : arg2.IsWhole) (arg3 : Memref sig .tc .vmem S1x1x512x256 .f32) (harg3 : arg3.IsWhole) (arg4 : Memref sig .tc .vmem S1x1x512x256 .f32) (harg4 : arg4.IsWhole) (arg5 : Memref sig .tc .vmem S1x1x512x256 .f32) (harg5 : arg5.IsWhole) (arg6 : Memref sig .tc .vmem S1x1x512x256 .f32) (harg6 : arg6.IsWhole) (arg7 : Memref sig .tc .vmem S1x512x256 .f32) (harg7 : arg7.IsWhole) (arg8 : Memref sig .tc .vmem S1x512x256 .f32) (harg8 : arg8.IsWhole) (arg9 : Memref sig .tc .vmem S1x512x256 .f32) (harg9 : arg9.IsWhole) (arg10 : Memref sig .tc .vmem S1x512x256 .f32) (harg10 : arg10.IsWhole) (arg11 : Memref sig .tc .vmem S1x512x256 .f32) (harg11 : arg11.IsWhole) (arg12 : Memref sig .tc .vmem S1x512x256 .f32) (harg12 : arg12.IsWhole) (arg13 : Memref sig .tc .vmem S1x512x256 .f32) (harg13 : arg13.IsWhole) (arg14 : Memref sig .tc .vmem S1x8x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1024x4096 .bf16) (harg17 : arg17.IsWhole) (arg18 : Memref sig .tc .vmem S4x256x1024 .bf16) (harg18 : arg18.IsWhole) (arg19 : Memref sig .tc .vmem S1024x1024 .bf16) (harg19 : arg19.IsWhole) (arg20 : Memref sig .tc .vmem S1x256 .f32) (harg20 : arg20.IsWhole) (arg21 : Memref sig .tc .vmem S1x256 .f32) (harg21 : arg21.IsWhole) (arg22 : Memref sig .tc .vmem S1x256 .f32) (harg22 : arg22.IsWhole) (arg23 : Memref sig .tc .vmem S256x256 .bf16) (harg23 : arg23.IsWhole) (arg24 : Memref sig .tc .vmem S256x256 .bf16) (harg24 : arg24.IsWhole) (arg25 : Memref sig .tc .vmem S40x1024 .f32) (harg25 : arg25.IsWhole) (arg26 : Memref sig .tc .vmem S40x1 .f32) (harg26 : arg26.IsWhole) (arg27 : Memref sig .tc .vmem S1x512x1024 .f32) (harg27 : arg27.IsWhole) (arg28 : Memref sig .tc .vmem S512x1024 .bf16) (harg28 : arg28.IsWhole) (arg29 : Memref sig .tc .vmem S8x512 .i32) (harg29 : arg29.IsWhole) (arg30 : Memref sig .tc .vmem S8x512 .f32) (harg30 : arg30.IsWhole)
    (x0 : Vec F S1x512x1024 .f32) (x1 : Vec F S1x1x512x256 .f32) (x2 : Vec F S1x1x512x256 .f32) (x3 : Vec F S1x1x512x256 .f32) (x4 : Vec F S1x1x512x256 .f32) (x5 : Vec F S1x512x256 .f32) (x6 : Vec F S1x512x256 .f32) (x7 : Vec F S1x512x256 .f32) (x8 : Vec F S1x512x256 .f32) (x9 : Vec F S1x512x256 .f32) (x10 : Vec F S1x512x256 .f32) (x11 : Vec F S1x512x256 .f32) (x12 : Vec F S1x8x1024 .f32) (x13 : Vec F S1x1024 .f32) (x14 : Vec F S1x1024 .f32) (x15 : Vec F S1024x4096 .bf16) (x16 : Vec F S4x256x1024 .bf16) (x17 : Vec F S1024x1024 .bf16) (x18 : Vec F S1x256 .f32) (x19 : Vec F S1x256 .f32) (x20 : Vec F S1x256 .f32) (x21 : Vec F S256x256 .bf16) (x22 : Vec F S256x256 .bf16) (x23 : Vec F S40x1024 .f32) (x24 : Vec F S40x1 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ owns (c : Thread nD τ) arg24 fullShare x22 ∗ owns (c : Thread nD τ) arg25 fullShare x23 ∗ owns (c : Thread nD τ) arg26 fullShare x24 ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ owns (c : Thread nD τ) arg24 fullShare x22 ∗ owns (c : Thread nD τ) arg25 fullShare x23 ∗ owns (c : Thread nD τ) arg26 fullShare x24 ∗ owns (c : Thread nD τ) arg27 fullShare (out0_25 x0 x1 x2 x3 x4 x5 x6 x7 x8 x9 x10 x11 x12 x13 x14 x15 x16 x17 x18 x19 x20 x21 x22 x23 x24) ∗ owns (c : Thread nD τ) arg28 fullShare (out0_26 x0 x1 x2 x3 x4 x5 x6 x7 x8 x9 x10 x11 x12 x13 x14 x15 x16 x17 x18 x19 x20 x21 x22 x23 x24) ∗ owns (c : Thread nD τ) arg29 fullShare (out0_27 x0 x1 x2 x3 x4 x5 x6 x7 x8 x9 x10 x11 x12 x13 x14 x15 x16 x17 x18 x19 x20 x21 x22 x23 x24) ∗ owns (c : Thread nD τ) arg30 fullShare (out0_28 x0 x1 x2 x3 x4 x5 x6 x7 x8 x9 x10 x11 x12 x13 x14 x15 x16 x17 x18 x19 x20 x21 x22 x23 x24)) -∗ K ⟨⟩))
      ⊢ wp frame (wpE (defs₀ (F := F)) Variants.none c none) E (cc0_merge_router i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30) K := by
  simp only [cc0_merge_router_eq_skeleton]; unfold cc0_merge_router_skel
  simp only [k0_part1_eq_skeleton, k0_part2_eq_skeleton, k0_part3_eq_skeleton, k0_part4_eq_skeleton, k0_part5_eq_skeleton, k0_part6_eq_skeleton, k0_part7_eq_skeleton, k0_part8_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%d25, %f25, -, H25⟩, ⟨%d26, %f26, -, H26⟩, ⟨%d27, %f27, -, H27⟩, ⟨%d28, %f28, -, H28⟩, Hk⟩
  subst hf0 hf1 hf2 hf3 hf4 hf5 hf6 hf7 hf8 hf9 hf10 hf11 hf12 hf13 hf14 hf15 hf16 hf17 hf18 hf19 hf20 hf21 hf22 hf23 hf24
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists f23; isplitr; · ipureintro; rfl
    iexact H23
  isplitl [H24]
  · iexists f24; isplitr; · ipureintro; rfl
    iexact H24
  isplitl [H25]
  · iexists _; isplitr
    swap; · iexact H25
    ipureintro
    refine (View.read_writes_eq_canon _ _ _ (cover0_25 _)).trans ?_
    rfl
  isplitl [H26]
  · iexists _; isplitr
    swap; · iexact H26
    ipureintro
    refine (View.read_writes_eq_canon _ _ _ (cover0_26 _)).trans ?_
    rfl
  isplitl [H27]
  · iexists _; isplitr
    swap; · iexact H27
    ipureintro
    refine (View.read_writes_eq_canon _ _ _ (cover0_27 _)).trans ?_
    rfl
  iexists _; isplitr
  swap; · iexact H28
  ipureintro
  refine (View.read_writes_eq_canon _ _ _ (cover0_28 _)).trans ?_
  rfl

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d))
    ∗ (∃ d, owns (c : Thread nD τ) (st0_27 t) fullShare ((dats m 0 c).before 27 t d))
    ∗ (∃ d, owns (c : Thread nD τ) (st0_28 t) fullShare ((dats m 0 c).before 28 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t)
    ∗ owns (c : Thread nD τ) (st0_27 t) fullShare ((dats m 0 c).after 27 t)
    ∗ owns (c : Thread nD τ) (st0_28 t) fullShare ((dats m 0 c).after 28 t))

set_option maxHeartbeats 4000000 in
/-- The body at any point: the inputs' memrefs hold their blocks (`before0_W`), so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23, before0_24]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexists _; iexact H25
  isplitl [H26]; · iexists _; iexact H26
  isplitl [H27]; · iexists _; iexact H27
  isplitl [H28]; · iexists _; iexact H28
  iintro ⟨H0, H1, H2, H3, H4, H5, H6, H7, H8, H9, H10, H11, H12, H13, H14, H15, H16, H17, H18, H19, H20, H21, H22, H23, H24, H25, H26, H27, H28⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  iexact H28

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 4000000 in
/-- The library's body obligation, at every point: the body's triple restated. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_shared`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

set_option maxHeartbeats 4000000 in
/-- The run, its results named and its arguments unchanged. -/
theorem run : θ_run defs (onTc (τ := τ) (main (F := F))) ⟨m, fun _ => 0, ρ⟩ (fun r => (∀ c : Dev nD,
      r.2.mem ((c.tc : Thread nD τ).loc main_v35_0) = (dats m 0 c).arrAt 25 cfg0.N
      ∧ r.2.mem ((c.tc : Thread nD τ).loc main_v35_1) = (dats m 0 c).arrAt 26 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21))
      ∧ r.2.sem = fun _ => 0) :=
  (θ_run defs _ _).mono (fun r h => ⟨fun c => ⟨(h.1 c).1 25, (h.1 c).1 26,
      ((h.1 c).1 0).trans (((dats m 0 c).arrAt_in 0 rfl _).trans ((A_eq m c 0).trans (V_main_arg0 m c))),
      ((h.1 c).1 4).trans (((dats m 0 c).arrAt_in 4 rfl _).trans ((A_eq m c 4).trans (V_main_arg1 m c))),
      ((h.1 c).1 5).trans (((dats m 0 c).arrAt_in 5 rfl _).trans ((A_eq m c 5).trans (V_main_arg2 m c))),
      ((h.1 c).1 6).trans (((dats m 0 c).arrAt_in 6 rfl _).trans ((A_eq m c 6).trans (V_main_arg3 m c))),
      ((h.1 c).1 7).trans (((dats m 0 c).arrAt_in 7 rfl _).trans ((A_eq m c 7).trans (V_main_arg4 m c))),
      ((h.1 c).1 8).trans (((dats m 0 c).arrAt_in 8 rfl _).trans ((A_eq m c 8).trans (V_main_arg5 m c))),
      ((h.1 c).1 9).trans (((dats m 0 c).arrAt_in 9 rfl _).trans ((A_eq m c 9).trans (V_main_arg6 m c))),
      ((h.1 c).1 10).trans (((dats m 0 c).arrAt_in 10 rfl _).trans ((A_eq m c 10).trans (V_main_arg7 m c))),
      ((h.1 c).1 11).trans (((dats m 0 c).arrAt_in 11 rfl _).trans ((A_eq m c 11).trans (V_main_arg8 m c))),
      ((h.1 c).1 12).trans (((dats m 0 c).arrAt_in 12 rfl _).trans ((A_eq m c 12).trans (V_main_arg9 m c))),
      ((h.1 c).2 main_arg10 (Pipeline.mem_restRefs_of main_arg10 (by decide) (by decide))).trans (V_main_arg10 m c),
      ((h.1 c).2 main_arg11 (Pipeline.mem_restRefs_of main_arg11 (by decide) (by decide))).trans (V_main_arg11 m c),
      ((h.1 c).2 main_arg12 (Pipeline.mem_restRefs_of main_arg12 (by decide) (by decide))).trans (V_main_arg12 m c),
      ((h.1 c).2 main_arg13 (Pipeline.mem_restRefs_of main_arg13 (by decide) (by decide))).trans (V_main_arg13 m c),
      ((h.1 c).2 main_arg14 (Pipeline.mem_restRefs_of main_arg14 (by decide) (by decide))).trans (V_main_arg14 m c),
      ((h.1 c).2 main_arg15 (Pipeline.mem_restRefs_of main_arg15 (by decide) (by decide))).trans (V_main_arg15 m c),
      ((h.1 c).2 main_arg16 (Pipeline.mem_restRefs_of main_arg16 (by decide) (by decide))).trans (V_main_arg16 m c),
      ((h.1 c).2 main_arg17 (Pipeline.mem_restRefs_of main_arg17 (by decide) (by decide))).trans (V_main_arg17 m c),
      ((h.1 c).2 main_arg18 (Pipeline.mem_restRefs_of main_arg18 (by decide) (by decide))).trans (V_main_arg18 m c),
      ((h.1 c).2 main_arg19 (Pipeline.mem_restRefs_of main_arg19 (by decide) (by decide))).trans (V_main_arg19 m c),
      ((h.1 c).2 main_arg20 (Pipeline.mem_restRefs_of main_arg20 (by decide) (by decide))).trans (V_main_arg20 m c),
      ((h.1 c).2 main_arg21 (Pipeline.mem_restRefs_of main_arg21 (by decide) (by decide))).trans (V_main_arg21 m c)⟩, h.2⟩) (run_main_quiescent m ρ)

end Cert.Proof.MergeRun

end
-- ==== Proof.MgSame.lean ====
/-
  THE MERGE'S PRINTED PROGRAM: its text is the idealized program's, so its frame is the run's at the words.
-/
module

public import proofs.«01_k».proof.Defs
public import proofs.«01_k».proof.Proof.Gen.Kernel3
public import proofs.«01_k».proof.Proof.MgRun
public import Idealize.ShloMosaic.Lib.Pipeline.Regions

@[expose] public section

set_option maxRecDepth 16384

noncomputable section

namespace Cert.Proof.MergeRun

open Idealize.ShloMosaic Idealize.ShloMosaic.TcCoe Idealize.SL.Sem
open Cert.Kernel3Ideal Cert.Kernel3Ideal.Gen

/-- The frame of the idealized program's text at the words. -/
def FrameBits : Prop :=
  ∀ (m : (ℓ : Loc nD τ sig) → Buf (Elt Bits) ℓ) (g : Dev nD → PrngReg), True →
    θ_run (defs (F := Bits)) (onTc (τ := τ) (main (F := Bits))) ⟨m, fun _ => 0, g⟩ (fun r =>
      (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21))
      ∧ r.2.sem = fun _ => 0)

theorem frame_bits : FrameBits := fun m g _ =>
  (θ_run defs _ _).mono (fun _ h => ⟨fun c => (h.1 c).2.2, h.2⟩) (run (F := Bits) m g)

/-- The printed program's frame is that statement: the two texts unfold to one. -/
theorem frame_same : Cert.quiescent_Kernel3 (hKernel3 := Cert.Kernel3.Gen.facts) = FrameBits := by
  chain_rfl

end Cert.Proof.MergeRun

end
-- ==== Proof.MgSpec.lean ====
/-
  THE MERGE, at coordinates: what the two results of the third program hold, as plain functions of its arguments over the
  extended reals. Four branches of 256 lanes are each multiplied by a matrix of their own and by a logistic gate of the
  normalised input, and added; the sum is multiplied by the output matrix, scaled by its batch's modulation and added
  to the input. That is the first result; the second is the first, normalised and modulated again. Two of the branches
  are built here: the sum of three scans over heads of 64 lanes, and the sum of three scans and a skip over groups of
  128 lanes, each normalised group by group and gated by a silu.
-/
module

public import proofs.«01_k».proof.Proof.InSpec

@[expose] public section

set_option maxRecDepth 16384

noncomputable section

namespace Cert.Proof.Merge

open Idealize.ShloMosaic
open Cert.Proof.Inproj (normRow silu)

/-- The arguments of the merge that its two results depend on, read at coordinates. -/
structure Args where
  /-- the layer's input: batch, position, lane -/
  x : Fin 4 → Fin 8192 → Fin 1024 → EReal
  /-- the slabs of the input projection -/
  sl : Fin 11 → Fin 4 → Fin 8192 → Fin 256 → EReal
  /-- the scans summed in the second branch -/
  h0 : Fin 4 → Fin 8192 → Fin 256 → EReal
  h1 : Fin 4 → Fin 8192 → Fin 256 → EReal
  h2 : Fin 4 → Fin 8192 → Fin 256 → EReal
  /-- the scans summed in the fourth branch -/
  s0 : Fin 4 → Fin 8192 → Fin 256 → EReal
  s1 : Fin 4 → Fin 8192 → Fin 256 → EReal
  s2 : Fin 4 → Fin 8192 → Fin 256 → EReal
  /-- the third branch -/
  yc : Fin 4 → Fin 8192 → Fin 256 → EReal
  /-- the modulation of a batch: rows 0 and 1 for the input, 2 for the sum, 3 and 4 for the second result -/
  md : Fin 4 → Fin 8 → Fin 1024 → EReal
  /-- the norm weights before and after -/
  nm : Fin 1024 → EReal
  nf : Fin 1024 → EReal
  /-- the projection's matrix, whose last 4096 columns are the gates' -/
  win : Fin 1024 → Fin 7176 → EReal
  /-- the branches' matrices and the output's -/
  wb : Fin 4 → Fin 256 → Fin 1024 → EReal
  wo : Fin 1024 → Fin 1024 → EReal
  /-- the norm weights of a head, the skip of a head, the norm weights of the fourth branch -/
  hw : Fin 64 → EReal
  sd : Fin 4 → EReal
  sw : Fin 256 → EReal

/-- The logistic. -/
def sigm (v : EReal) : EReal := Ideal.div 1 (1 + Ideal.exp (-v))

/-- The sum of the squares of the `n` lanes from lane `o`. -/
def squares (v : Fin 256 → EReal) (o n : ℕ) (h : o + n ≤ 256) : EReal :=
  ∑ j : Fin n, v ⟨o + j.val, by omega⟩ * v ⟨o + j.val, by omega⟩

/-- A row divided by the root mean square of its heads of 64 lanes. -/
def rms64 (v : Fin 256 → EReal) (l : Fin 256) : EReal :=
  v l * Ideal.rsqrt (Ideal.div (squares v (l.val / 64 * 64) 64 (by omega)) (Ideal.ofBits .f32 0x42800000#32)
    + Ideal.ofBits .f32 0x358637BD#32)

/-- A row divided by the root mean square of its groups of 128 lanes. -/
def rms128 (v : Fin 256 → EReal) (l : Fin 256) : EReal :=
  v l * Ideal.rsqrt (Ideal.div (squares v (l.val / 128 * 128) 128 (by omega)) (Ideal.ofBits .f32 0x43000000#32)
    + Ideal.ofBits .f32 0x358637BD#32)

variable (a : Args) (b : Fin 4) (p : Fin 8192)

/-- The gates' input at a batch and a position. -/
def norm : Fin 1024 → EReal := normRow (a.x b p) a.nm (a.md b 1) (a.md b 0)

/-- Gate column `n`. -/
def gate (n : Fin 4096) : EReal := sigm (∑ k, norm a b p k * a.win k ⟨3080 + n.val, by omega⟩)

/-- The second branch. -/
def yb (l : Fin 256) : EReal :=
  rms64 (fun l => a.h0 b p l + a.h1 b p l + a.h2 b p l) l * a.hw ⟨l.val % 64, by omega⟩ * silu (a.sl 5 b p l)

/-- The fourth branch before its normalisation. -/
def yd0 (l : Fin 256) : EReal :=
  (a.s0 b p l + a.s1 b p l + a.s2 b p l + a.sd ⟨l.val / 64, by omega⟩ * a.sl 7 b p l) * silu (a.sl 6 b p l)

/-- The fourth branch. -/
def yd (l : Fin 256) : EReal := rms128 (yd0 a b p) l * a.sw l

/-- One branch's term of the merged sum: its row times its matrix, under its gate. -/
def term (k : Fin 4) (v : Fin 256 → EReal) (n : Fin 1024) : EReal :=
  gate a b p ⟨1024 * k.val + n.val, by omega⟩ * ∑ l, v l * a.wb k l n

/-- The merged branches. -/
def merged (n : Fin 1024) : EReal :=
  term a b p 0 (a.sl 0 b p) n + term a b p 1 (yb a b p) n + term a b p 2 (a.yc b p) n + term a b p 3 (yd a b p) n

/-- The first result. -/
def xo (n : Fin 1024) : EReal := a.x b p n + a.md b 2 n * ∑ k, merged a b p k * a.wo k n

/-- The second result. -/
def ff : Fin 1024 → EReal := normRow (xo a b p) a.nf (a.md b 4) (a.md b 3)

/-- The 0/1 matrix of equal groups sums a group's lanes. -/
theorem sum_group (v : Fin 256 → EReal) (o n : ℕ) (h : o + n ≤ 256) (e : Fin 256 → EReal)
    (h1 : ∀ j : Fin 256, o ≤ j.val → j.val < o + n → e j = 1) (h0 : ∀ j : Fin 256, j.val < o ∨ o + n ≤ j.val → e j = 0) :
    ∑ j : Fin 256, v j * v j * e j = squares v o n h := by
  unfold squares
  refine (Finset.sum_of_injOn (fun j : Fin n => (⟨o + j.val, by omega⟩ : Fin 256)) ?_ ?_ ?_ ?_).symm
  · intro i _ j _ hij
    exact Fin.ext (by simpa using congrArg Fin.val hij)
  · intro _ _
    simp
  · intro j _ hj
    rw [h0 j, mul_zero]
    by_contra hc
    exact hj ⟨⟨j.val - o, by omega⟩, by simp, Fin.ext (by simp; omega)⟩
  · intro j _
    rw [h1 _ (by simp) (by simp), mul_one]

end Cert.Proof.Merge

end
end
-- ==== Proof.MgPay.lean ====
/-
  THE MERGE'S BODY at coordinates: each vector its kernel computes, read at a row and a column, over arbitrary blocks.
-/
module

public import proofs.«01_k».proof.Proof.MgSpec
public import proofs.«01_k».proof.Proof.MgBlocks

@[expose] public section

set_option maxRecDepth 16384

noncomputable section

namespace Cert.Proof.Merge

open Idealize.ShloMosaic Idealize.ShloMosaic.TcCoe Idealize.SL.Sem
open Cert.Kernel3Ideal Cert.Kernel3Ideal.Gen Cert.Proof.MergeRun
open Cert.Proof.Inproj (normRow silu)

/-- The normalised and modulated rows before. -/
theorem pay3_at (v0 : Vec Ideal S1x512x1024 .f32) (v2 : Vec Ideal S1x1024 .f32) (v4 v6 : Vec Ideal S1x1x1024 .f32)
    (r : Fin 512) (k : Fin 1024) :
    k0_pay3 v0 v2 v4 v6 (ix2 r k)
      = normRow (fun k => v0 (ix3 0 r k)) (fun k => v2 (ix2 0 k)) (fun k => v6 (ix3 0 0 k)) (fun k => v4 (ix3 0 0 k)) k := by
  pointwise [k0_pay3, k0_pay2, normRow]

/-- The normalised and modulated rows after. -/
theorem pay18_at (v : FVec Ideal S512x1024 .f32) (v2 : Vec Ideal S1x1024 .f32) (v4 v6 : Vec Ideal S1x1x1024 .f32)
    (r : Fin 512) (k : Fin 1024) :
    k0_pay18 v v2 v4 v6 (ix2 r k)
      = normRow (fun k => v (ix2 r k)) (fun k => v2 (ix2 0 k)) (fun k => v6 (ix3 0 0 k)) (fun k => v4 (ix3 0 0 k)) k := by
  pointwise [k0_pay18, k0_pay17, normRow]

/-- The second branch: its heads' mean squares are a product with a matrix. -/
theorem pay7_at (g : Vec Ideal S1x1x512x256 .f32) (a b c : Vec Ideal S1x512x256 .f32) (e : Vec Ideal S256x256 .bf16)
    (w : Vec Ideal S1x256 .f32) (r : Fin 512) (l : Fin 256) :
    k0_pay7 (k0_pay4 g) (k0_pay5 a) (k0_pay6 b) c e w (ix2 r l)
      = (a (ix3 0 r l) + b (ix3 0 r l) + c (ix3 0 r l))
          * Ideal.rsqrt ((∑ j : Fin 256, (a (ix3 0 r j) + b (ix3 0 r j) + c (ix3 0 r j))
              * (a (ix3 0 r j) + b (ix3 0 r j) + c (ix3 0 r j)) * e (ix2 j l)) * Ideal.ofBits .f32 0x3C800000#32
            + Ideal.ofBits .f32 0x358637BD#32)
          * w (ix2 0 l) * silu (g (ix4 0 0 r l)) := by
  pointwise [k0_pay7, k0_pay4, k0_pay5, k0_pay6, silu]
  simp only [zero_sub]

/-- The fourth branch before its normalisation, over blocks. -/
def raw (z x : Vec Ideal S1x1x512x256 .f32) (a b c : Vec Ideal S1x512x256 .f32) (d : Vec Ideal S1x256 .f32) (r : Fin 512)
    (l : Fin 256) : EReal :=
  (a (ix3 0 r l) + b (ix3 0 r l) + c (ix3 0 r l) + d (ix2 0 l) * x (ix4 0 0 r l)) * silu (z (ix4 0 0 r l))

/-- The fourth branch: its groups' mean squares are a product with a matrix. -/
theorem pay10_at (z x : Vec Ideal S1x1x512x256 .f32) (a b c : Vec Ideal S1x512x256 .f32) (d : Vec Ideal S1x256 .f32)
    (e : Vec Ideal S256x256 .bf16) (w : Vec Ideal S1x256 .f32) (r : Fin 512) (l : Fin 256) :
    k0_pay10 (k0_pay8 z) (k0_pay9 a b) c d x e w (ix2 r l)
      = raw z x a b c d r l
          * Ideal.rsqrt ((∑ j : Fin 256, raw z x a b c d r j * raw z x a b c d r j * e (ix2 j l))
              * Ideal.ofBits .f32 0x3C000000#32 + Ideal.ofBits .f32 0x358637BD#32)
          * w (ix2 0 l) := by
  pointwise [k0_pay10, k0_pay8, k0_pay9, silu, raw]
  simp only [zero_sub]

/-- A gated product over blocks. -/
def part (h : FVec Ideal S512x1024 .bf16) (g : Vec Ideal S1024x1024 .bf16) (y : FVec Ideal S512x256 .f32)
    (w : Vec Ideal S1x256x1024 .bf16) (r : Fin 512) (n : Fin 1024) : EReal :=
  sigm (∑ k : Fin 1024, h (ix2 r k) * g (ix2 k n)) * ∑ l : Fin 256, y (ix2 r l) * w (ix3 0 l n)

/-- The first two gated products. -/
theorem pay13_at (h : FVec Ideal S512x1024 .bf16) (yb ya : FVec Ideal S512x256 .f32) (g0 : Vec Ideal S1024x1024 .bf16)
    (w0 : Vec Ideal S1x256x1024 .bf16) (g1 : Vec Ideal S1024x1024 .bf16) (w1 : Vec Ideal S1x256x1024 .bf16) (r : Fin 512)
    (n : Fin 1024) :
    k0_pay13 h yb ya g0 w0 g1 w1 (ix2 r n) = part h g0 ya w0 r n + part h g1 yb w1 r n := by
  pointwise [k0_pay13, part, sigm]
  simp only [zero_sub]

/-- The first result over blocks. -/
theorem pay15_at (x : Vec Ideal S1x512x1024 .f32) (h : FVec Ideal S512x1024 .bf16) (yd yc : FVec Ideal S512x256 .f32)
    (s : FVec Ideal S512x1024 .f32) (g2 : Vec Ideal S1024x1024 .bf16) (w2 : Vec Ideal S1x256x1024 .bf16)
    (g3 : Vec Ideal S1024x1024 .bf16) (w3 : Vec Ideal S1x256x1024 .bf16) (wo : Vec Ideal S1024x1024 .bf16)
    (m : Vec Ideal S1x1x1024 .f32) (r : Fin 512) (n : Fin 1024) :
    k0_pay15 (k0_pay2 x) h yd yc s (k0_pay14 h g2) (Scalar.ofBits .f32 0x00000000#32) w2 g3 w3 wo m (ix2 r n)
      = x (ix3 0 r n) + m (ix3 0 0 n) * ∑ k : Fin 1024,
          (s (ix2 r k) + part h g2 yc w2 r k + part h g3 yd w3 r k) * wo (ix2 k n) := by
  pointwise [k0_pay15, k0_pay14, k0_pay2, part, sigm]
  simp only [zero_sub]

end Cert.Proof.Merge

end
-- ==== Proof.MgTile.lean ====
/-
  THE MERGE'S TILES: what each input window's block holds at a grid point, read at coordinates. A point is a batch and a tile
  of 512 rows of its sequence; twelve windows bring the tile's rows, one its batch's modulation, the others the weights,
  whole.
-/
module

public import proofs.«01_k».proof.Proof.MgPay
public import Idealize.ShloMosaic.Lib.Pipeline.ValueKit

@[expose] public section

set_option maxRecDepth 16384

noncomputable section

namespace Cert.Proof.Merge

open Idealize.ShloMosaic Idealize.ShloMosaic.TcCoe Idealize.SL.Sem
open Idealize.ShloMosaic.Pipeline (Dat)
open Cert.Kernel3Ideal Cert.Kernel3Ideal.Gen Cert.Proof.MergeRun

variable (m : (ℓ : Loc nD τ sig) → Buf (Elt Ideal) ℓ)

/-- The kernel's arguments, read at coordinates. -/
def args (c : Dev nD) : Args where
  x b p k := (m ((c : Thread nD τ).loc main_arg0) : FVec Ideal S4x8192x1024 .f32) (ix3 b p k)
  sl s b p l := (m ((c : Thread nD τ).loc main_arg1) : FVec Ideal S11x4x8192x256 .f32) (ix4 s b p l)
  h0 b p l := (m ((c : Thread nD τ).loc main_arg2) : FVec Ideal S4x8192x256 .f32) (ix3 b p l)
  h1 b p l := (m ((c : Thread nD τ).loc main_arg3) : FVec Ideal S4x8192x256 .f32) (ix3 b p l)
  h2 b p l := (m ((c : Thread nD τ).loc main_arg4) : FVec Ideal S4x8192x256 .f32) (ix3 b p l)
  s0 b p l := (m ((c : Thread nD τ).loc main_arg5) : FVec Ideal S4x8192x256 .f32) (ix3 b p l)
  s1 b p l := (m ((c : Thread nD τ).loc main_arg6) : FVec Ideal S4x8192x256 .f32) (ix3 b p l)
  s2 b p l := (m ((c : Thread nD τ).loc main_arg7) : FVec Ideal S4x8192x256 .f32) (ix3 b p l)
  yc b p l := (m ((c : Thread nD τ).loc main_arg8) : FVec Ideal S4x8192x256 .f32) (ix3 b p l)
  md b j k := (m ((c : Thread nD τ).loc main_arg9) : FVec Ideal S4x8x1024 .f32) (ix3 b j k)
  nm k := (m ((c : Thread nD τ).loc main_arg10) : FVec Ideal S1024 .f32) (ix1 k)
  nf k := (m ((c : Thread nD τ).loc main_arg11) : FVec Ideal S1024 .f32) (ix1 k)
  win k n := (m ((c : Thread nD τ).loc main_arg12) : FVec Ideal S1024x7176 .f32) (ix2 k n)
  wb k l n := (m ((c : Thread nD τ).loc main_arg13) : FVec Ideal S4x256x1024 .f32) (ix3 k l n)
  wo k n := (m ((c : Thread nD τ).loc main_arg14) : FVec Ideal S1024x1024 .f32) (ix2 k n)
  hw l := (m ((c : Thread nD τ).loc main_arg15) : FVec Ideal S64 .f32) (ix1 l)
  sd l := (m ((c : Thread nD τ).loc main_arg16) : FVec Ideal S4 .f32) (ix1 l)
  sw l := (m ((c : Thread nD τ).loc main_arg17) : FVec Ideal S256 .f32) (ix1 l)

/-- The windows' index maps over the 64 grid points: batch `t / 16`, tile `t % 16`. -/
theorem idx : ∀ t : Fin cfg0.N,
    win0_0.index t = ![t.val / 16, t.val % 16, 0]
    ∧ win0_1.index t = ![0, t.val / 16, t.val % 16, 0]
    ∧ win0_2.index t = ![5, t.val / 16, t.val % 16, 0]
    ∧ win0_3.index t = ![6, t.val / 16, t.val % 16, 0]
    ∧ win0_4.index t = ![7, t.val / 16, t.val % 16, 0]
    ∧ win0_5.index t = ![t.val / 16, t.val % 16, 0]
    ∧ win0_6.index t = ![t.val / 16, t.val % 16, 0]
    ∧ win0_7.index t = ![t.val / 16, t.val % 16, 0]
    ∧ win0_8.index t = ![t.val / 16, t.val % 16, 0]
    ∧ win0_9.index t = ![t.val / 16, t.val % 16, 0]
    ∧ win0_10.index t = ![t.val / 16, t.val % 16, 0]
    ∧ win0_11.index t = ![t.val / 16, t.val % 16, 0]
    ∧ win0_12.index t = ![t.val / 16, 0, 0]
    ∧ win0_13.index t = ![0, 0]
    ∧ win0_14.index t = ![0, 0]
    ∧ win0_15.index t = ![0, 0]
    ∧ win0_16.index t = ![0, 0, 0]
    ∧ win0_17.index t = ![0, 0]
    ∧ win0_18.index t = ![0, 0]
    ∧ win0_19.index t = ![0, 0]
    ∧ win0_20.index t = ![0, 0]
    ∧ win0_25.index t = ![t.val / 16, t.val % 16, 0]
    ∧ win0_26.index t = ![t.val, 0]
    ∧ t.val / 16 < 4 :=
  (by decide +kernel : ∀ t : Fin grid0.N, _)

theorem bat_lt (t : Fin cfg0.N) : t.val / 16 < 4 := (idx t).2.2.2.2.2.2.2.2.2.2.2.2.2.2.2.2.2.2.2.2.2.2.2

/-- The batch of a grid point. -/
def bat (t : Fin cfg0.N) : Fin 4 := ⟨t.val / 16, bat_lt t⟩

/-- The position of a tile's row in its sequence. -/
def pos (t : Fin cfg0.N) (r : Fin 512) : Fin 8192 := ⟨512 * (t.val % 16) + r.val, by omega⟩

theorem w0_at (c : Dev nD) (t : Fin cfg0.N) (r : Fin 512) (k : Fin 1024) :
    (iblk m c 0 t : FVec Ideal S1x512x1024 .f32) (ix3 0 r k) = (args m c).x (bat t) (pos t r) k := by
  unfold args bat pos
  blk_point [iblk, V, idx t]

theorem w1_at (c : Dev nD) (t : Fin cfg0.N) (r : Fin 512) (l : Fin 256) :
    (iblk m c 1 t : FVec Ideal S1x1x512x256 .f32) (ix4 0 0 r l) = (args m c).sl 0 (bat t) (pos t r) l := by
  unfold args bat pos
  blk_point [iblk, V, idx t]

theorem w2_at (c : Dev nD) (t : Fin cfg0.N) (r : Fin 512) (l : Fin 256) :
    (iblk m c 2 t : FVec Ideal S1x1x512x256 .f32) (ix4 0 0 r l) = (args m c).sl 5 (bat t) (pos t r) l := by
  unfold args bat pos
  blk_point [iblk, V, idx t]

theorem w3_at (c : Dev nD) (t : Fin cfg0.N) (r : Fin 512) (l : Fin 256) :
    (iblk m c 3 t : FVec Ideal S1x1x512x256 .f32) (ix4 0 0 r l) = (args m c).sl 6 (bat t) (pos t r) l := by
  unfold args bat pos
  blk_point [iblk, V, idx t]

theorem w4_at (c : Dev nD) (t : Fin cfg0.N) (r : Fin 512) (l : Fin 256) :
    (iblk m c 4 t : FVec Ideal S1x1x512x256 .f32) (ix4 0 0 r l) = (args m c).sl 7 (bat t) (pos t r) l := by
  unfold args bat pos
  blk_point [iblk, V, idx t]

theorem w5_at (c : Dev nD) (t : Fin cfg0.N) (r : Fin 512) (l : Fin 256) :
    (iblk m c 5 t : FVec Ideal S1x512x256 .f32) (ix3 0 r l) = (args m c).h0 (bat t) (pos t r) l := by
  unfold args bat pos
  blk_point [iblk, V, idx t]

theorem w6_at (c : Dev nD) (t : Fin cfg0.N) (r : Fin 512) (l : Fin 256) :
    (iblk m c 6 t : FVec Ideal S1x512x256 .f32) (ix3 0 r l) = (args m c).h1 (bat t) (pos t r) l := by
  unfold args bat pos
  blk_point [iblk, V, idx t]

theorem w7_at (c : Dev nD) (t : Fin cfg0.N) (r : Fin 512) (l : Fin 256) :
    (iblk m c 7 t : FVec Ideal S1x512x256 .f32) (ix3 0 r l) = (args m c).h2 (bat t) (pos t r) l := by
  unfold args bat pos
  blk_point [iblk, V, idx t]

theorem w8_at (c : Dev nD) (t : Fin cfg0.N) (r : Fin 512) (l : Fin 256) :
    (iblk m c 8 t : FVec Ideal S1x512x256 .f32) (ix3 0 r l) = (args m c).s0 (bat t) (pos t r) l := by
  unfold args bat pos
  blk_point [iblk, V, idx t]

theorem w9_at (c : Dev nD) (t : Fin cfg0.N) (r : Fin 512) (l : Fin 256) :
    (iblk m c 9 t : FVec Ideal S1x512x256 .f32) (ix3 0 r l) = (args m c).s1 (bat t) (pos t r) l := by
  unfold args bat pos
  blk_point [iblk, V, idx t]

theorem w10_at (c : Dev nD) (t : Fin cfg0.N) (r : Fin 512) (l : Fin 256) :
    (iblk m c 10 t : FVec Ideal S1x512x256 .f32) (ix3 0 r l) = (args m c).s2 (bat t) (pos t r) l := by
  unfold args bat pos
  blk_point [iblk, V, idx t]

theorem w11_at (c : Dev nD) (t : Fin cfg0.N) (r : Fin 512) (l : Fin 256) :
    (iblk m c 11 t : FVec Ideal S1x512x256 .f32) (ix3 0 r l) = (args m c).yc (bat t) (pos t r) l := by
  unfold args bat pos
  blk_point [iblk, V, idx t]

theorem w12_at (c : Dev nD) (t : Fin cfg0.N) (j : Fin 8) (k : Fin 1024) :
    (iblk m c 12 t : FVec Ideal S1x8x1024 .f32) (ix3 0 j k) = (args m c).md (bat t) j k := by
  unfold args bat
  blk_point [iblk, V, idx t]

theorem w13_at (c : Dev nD) (t : Fin cfg0.N) (k : Fin 1024) :
    (iblk m c 13 t : FVec Ideal S1x1024 .f32) (ix2 0 k) = (args m c).nm k := by
  unfold args
  blk_point [iblk, V, idx t]

theorem w14_at (c : Dev nD) (t : Fin cfg0.N) (k : Fin 1024) :
    (iblk m c 14 t : FVec Ideal S1x1024 .f32) (ix2 0 k) = (args m c).nf k := by
  unfold args
  blk_point [iblk, V, idx t]

theorem w15_at (c : Dev nD) (t : Fin cfg0.N) (k : Fin 1024) (n : Fin 4096) :
    (iblk m c 15 t : FVec Ideal S1024x4096 .bf16) (ix2 k n) = (args m c).win k ⟨3080 + n.val, by omega⟩ := by
  unfold args
  blk_point [iblk, V, idx t]

theorem w16_at (c : Dev nD) (t : Fin cfg0.N) (k : Fin 4) (l : Fin 256) (n : Fin 1024) :
    (iblk m c 16 t : FVec Ideal S4x256x1024 .bf16) (ix3 k l n) = (args m c).wb k l n := by
  unfold args
  blk_point [iblk, V, idx t]

theorem w17_at (c : Dev nD) (t : Fin cfg0.N) (k n : Fin 1024) :
    (iblk m c 17 t : FVec Ideal S1024x1024 .bf16) (ix2 k n) = (args m c).wo k n := by
  unfold args
  blk_point [iblk, V, idx t]

theorem w18_at (c : Dev nD) (t : Fin cfg0.N) (l : Fin 256) :
    (iblk m c 18 t : FVec Ideal S1x256 .f32) (ix2 0 l) = (args m c).hw ⟨l.val % 64, by omega⟩ := by
  unfold args
  blk_point [iblk, V, idx t]

theorem w19_at (c : Dev nD) (t : Fin cfg0.N) (l : Fin 256) :
    (iblk m c 19 t : FVec Ideal S1x256 .f32) (ix2 0 l) = (args m c).sd ⟨l.val / 64, by omega⟩ := by
  unfold args
  blk_point [iblk, V, idx t]

theorem w20_at (c : Dev nD) (t : Fin cfg0.N) (l : Fin 256) :
    (iblk m c 20 t : FVec Ideal S1x256 .f32) (ix2 0 l) = (args m c).sw l := by
  unfold args
  blk_point [iblk, V, idx t]

end Cert.Proof.Merge

end
-- ==== Proof.MgMask.lean ====
/-
  THE MERGE'S 0/1 MATRICES: two windows bring, whole, the matrices that sum equal groups of 64 and of 128 lanes. The host
  builds them by comparing shifted row and column numbers.
-/
module

public import proofs.«01_k».proof.Proof.MgBlocks
public import Idealize.ShloMosaic.Lib.Pipeline.ValueKit

@[expose] public section

set_option maxRecDepth 16384

noncomputable section

namespace Cert.Proof.Merge

open Idealize.ShloMosaic Idealize.ShloMosaic.TcCoe Idealize.SL.Sem
open Idealize.ShloMosaic.Pipeline (Dat)
open Cert.Kernel3Ideal Cert.Kernel3Ideal.Gen Cert.Proof.MergeRun

variable (m : (ℓ : Loc nD τ sig) → Buf (Elt Ideal) ℓ)

/-- The two windows are at the origin. -/
theorem idx_mask : ∀ t : Fin cfg0.N, win0_21.index t = ![0, 0] ∧ win0_22.index t = ![0, 0] :=
  (by decide +kernel : ∀ t : Fin grid0.N, _)

/-- Shifting a lane's number right divides it. -/
theorem shr6 : ∀ j : Fin 256, IntOp.shrsi .host (BitVec.ofNat 32 j.val) 6#32 = BitVec.ofNat 32 (j.val / 64) := by
  decide +kernel

theorem shr7 : ∀ j : Fin 256, IntOp.shrsi .host (BitVec.ofNat 32 j.val) 7#32 = BitVec.ofNat 32 (j.val / 128) := by
  decide +kernel

/-- Comparing two group numbers. -/
theorem cmp_groups : ∀ a b : Fin 4, IntOp.cmpi .eq (BitVec.ofNat 32 a.val) (BitVec.ofNat 32 b.val)
    = if a.val = b.val then 1#1 else 0#1 := by
  decide +kernel

/-- A comparison's bit as a number. -/
theorem bit_real (p : Prop) [Decidable p] :
    FloatOps.uitofp (F := Ideal) .bf16 (if p then 1#1 else 0#1) = if p then (1 : EReal) else 0 := by
  split
  · show (((1#1).toNat : ℝ) : EReal) = 1
    simp
  · show (((0#1).toNat : ℝ) : EReal) = 0
    simp

/-- The matrix of equal groups of 64 lanes. -/
theorem w21_at (c : Dev nD) (t : Fin cfg0.N) (j l : Fin 256) :
    (iblk m c 21 t : FVec Ideal S256x256 .bf16) (ix2 j l) = if j.val / 64 = l.val / 64 then (1 : EReal) else 0 := by
  blk_simp [iblk, V, idx_mask t]
  entry_read
  pointwise
  blk_simp [idx_mask t]
  rw [shr6, shr6]
  exact (congrArg _ (cmp_groups ⟨j.val / 64, by omega⟩ ⟨l.val / 64, by omega⟩)).trans (bit_real _)

/-- The matrix of equal groups of 128 lanes. -/
theorem w22_at (c : Dev nD) (t : Fin cfg0.N) (j l : Fin 256) :
    (iblk m c 22 t : FVec Ideal S256x256 .bf16) (ix2 j l) = if j.val / 128 = l.val / 128 then (1 : EReal) else 0 := by
  blk_simp [iblk, V, idx_mask t]
  entry_read
  pointwise
  blk_simp [idx_mask t]
  rw [shr7, shr7]
  exact (congrArg _ (cmp_groups ⟨j.val / 128, by omega⟩ ⟨l.val / 128, by omega⟩)).trans (bit_real _)

end Cert.Proof.Merge

end
-- ==== Proof.MgBody.lean ====
/-
  THE MERGE'S BODY ON A TILE: the vectors of its kernel over the blocks of a grid point are the specification's functions
  of the arguments. A group's mean square, computed as a product with a 0/1 matrix and a power of two, is the sum of the
  group's squares divided by its length.
-/
module

public import proofs.«01_k».proof.Proof.MgTile
public import proofs.«01_k».proof.Proof.MgMask

@[expose] public section

set_option maxRecDepth 16384

noncomputable section

namespace Cert.Proof.Merge

open Idealize.ShloMosaic Idealize.ShloMosaic.TcCoe Idealize.SL.Sem
open Idealize.ShloMosaic.Pipeline (Dat)
open Cert.Kernel3Ideal Cert.Kernel3Ideal.Gen Cert.Proof.MergeRun
open Cert.Proof.Inproj (normRow silu)

variable (m : (ℓ : Loc nD τ sig) → Buf (Elt Ideal) ℓ)

/-- Equal rows and weights normalise alike. -/
theorem normRow_congr {x x' w w' sc sc' sh sh' : Fin 1024 → EReal} (hx : ∀ k, x k = x' k) (hw : ∀ k, w k = w' k)
    (hc : ∀ k, sc k = sc' k) (hs : ∀ k, sh k = sh' k) (k : Fin 1024) :
    normRow x w sc sh k = normRow x' w' sc' sh' k := by
  rw [funext hx, funext hw, funext hc, funext hs]

/-- Multiplying by 1/64 is dividing by 64. -/
theorem mul_inv64 (x : EReal) : x * Ideal.ofBits .f32 0x3C800000#32 = Ideal.div x (Ideal.ofBits .f32 0x42800000#32) := by
  have h64 : Ideal.ofBits .f32 0x42800000#32 = ((64 : ℝ) : EReal) := by
    simp [Ideal.ofBits, Ideal.ieee, -EReal.coe_mul]
    norm_num
  have h1 : Ideal.ofBits .f32 0x3C800000#32 = ((1 / 64 : ℝ) : EReal) := by
    simp [Ideal.ofBits, Ideal.ieee, -EReal.coe_mul]
    norm_num
  rw [h64, h1, Ideal.div_coe (by norm_num)]

/-- Multiplying by 1/128 is dividing by 128. -/
theorem mul_inv128 (x : EReal) : x * Ideal.ofBits .f32 0x3C000000#32 = Ideal.div x (Ideal.ofBits .f32 0x43000000#32) := by
  have h128 : Ideal.ofBits .f32 0x43000000#32 = ((128 : ℝ) : EReal) := by
    simp [Ideal.ofBits, Ideal.ieee, -EReal.coe_mul]
    norm_num
  have h1 : Ideal.ofBits .f32 0x3C000000#32 = ((1 / 128 : ℝ) : EReal) := by
    simp [Ideal.ofBits, Ideal.ieee, -EReal.coe_mul]
    norm_num
  rw [h128, h1, Ideal.div_coe (by norm_num)]

/-- The mean square of a head, from the product with the 0/1 matrix. -/
theorem mean64 (v : Fin 256 → EReal) (e : Fin 256 → EReal) (l : Fin 256)
    (he : ∀ j : Fin 256, e j = if j.val / 64 = l.val / 64 then (1 : EReal) else 0) :
    (∑ j : Fin 256, v j * v j * e j) * Ideal.ofBits .f32 0x3C800000#32
      = Ideal.div (squares v (l.val / 64 * 64) 64 (by omega)) (Ideal.ofBits .f32 0x42800000#32) := by
  rw [mul_inv64, sum_group v (l.val / 64 * 64) 64 (by omega) e]
  · intro j _ _
    rw [he, if_pos (by omega)]
  · intro j _
    rw [he, if_neg (by omega)]

/-- The mean square of a group of 128 lanes. -/
theorem mean128 (v : Fin 256 → EReal) (e : Fin 256 → EReal) (l : Fin 256)
    (he : ∀ j : Fin 256, e j = if j.val / 128 = l.val / 128 then (1 : EReal) else 0) :
    (∑ j : Fin 256, v j * v j * e j) * Ideal.ofBits .f32 0x3C000000#32
      = Ideal.div (squares v (l.val / 128 * 128) 128 (by omega)) (Ideal.ofBits .f32 0x43000000#32) := by
  rw [mul_inv128, sum_group v (l.val / 128 * 128) 128 (by omega) e]
  · intro j _ _
    rw [he, if_pos (by omega)]
  · intro j _
    rw [he, if_neg (by omega)]

/-- The normalised rows of a tile are the sequence's. -/
theorem norm_at (c : Dev nD) (t : Fin cfg0.N) (r : Fin 512) (k : Fin 1024) :
    k0_pay3 (F := Ideal) (View.ld (iblk m c 0 t) r0_0) (View.ld (iblk m c 13 t) r0_1) (View.ld (iblk m c 12 t) r0_2)
      (View.ld (iblk m c 12 t) r0_3) (ix2 r k)
      = norm (args m c) (bat t) (pos t r) k := by
  rw [pay3_at]
  refine normRow_congr (fun k => ?_) (fun k => ?_) (fun k => ?_) (fun k => ?_) k
  · pointwise
    exact w0_at m c t r k
  · pointwise
    exact w13_at m c t k
  · pointwise
    exact w12_at m c t 1 k
  · pointwise
    exact w12_at m c t 0 k

/-- The second branch on a tile. -/
theorem yb_at (c : Dev nD) (t : Fin cfg0.N) (r : Fin 512) (l : Fin 256) :
    k0_pay7 (F := Ideal) (k0_pay4 (View.ld (iblk m c 2 t) r0_4)) (k0_pay5 (View.ld (iblk m c 5 t) r0_5))
      (k0_pay6 (View.ld (iblk m c 6 t) r0_5)) (View.ld (iblk m c 7 t) r0_5) (View.ld (iblk m c 21 t) r0_6)
      (View.ld (iblk m c 18 t) r0_7) (ix2 r l)
      = yb (args m c) (bat t) (pos t r) l := by
  have hv : ∀ j : Fin 256, (fun a b c : EReal => a + b + c) (View.ld (iblk m c 5 t) r0_5 (ix3 0 r j))
      (View.ld (iblk m c 6 t) r0_5 (ix3 0 r j)) (View.ld (iblk m c 7 t) r0_5 (ix3 0 r j))
      = (args m c).h0 (bat t) (pos t r) j + (args m c).h1 (bat t) (pos t r) j + (args m c).h2 (bat t) (pos t r) j := by
    intro j
    refine Ideal.add_congr (Ideal.add_congr ?_ ?_) ?_
    · pointwise
      exact w5_at m c t r j
    · pointwise
      exact w6_at m c t r j
    · pointwise
      exact w7_at m c t r j
  rw [pay7_at]
  unfold yb rms64
  rw [← mean64 _ (fun j => if j.val / 64 = l.val / 64 then (1 : EReal) else 0) l fun _ => rfl]
  refine Ideal.mul_congr (Ideal.mul_congr (Ideal.mul_congr (hv l) (congrArg Ideal.rsqrt (Ideal.add_congr (Ideal.mul_congr
    (Finset.sum_congr rfl fun j _ => Ideal.mul_congr (Ideal.mul_congr (hv j) (hv j)) ?_) rfl) rfl))) ?_) (congrArg silu ?_)
  · pointwise
    exact w21_at m c t j l
  · pointwise
    exact w18_at m c t l
  · pointwise
    exact w2_at m c t r l

/-- The fourth branch before its normalisation, on a tile. -/
theorem raw_at (c : Dev nD) (t : Fin cfg0.N) (r : Fin 512) (l : Fin 256) :
    raw (View.ld (iblk m c 3 t) r0_4) (View.ld (iblk m c 4 t) r0_4) (View.ld (iblk m c 8 t) r0_5)
      (View.ld (iblk m c 9 t) r0_5) (View.ld (iblk m c 10 t) r0_5) (View.ld (iblk m c 19 t) r0_7) r l
      = yd0 (args m c) (bat t) (pos t r) l := by
  unfold raw yd0
  refine Ideal.mul_congr (Ideal.add_congr (Ideal.add_congr (Ideal.add_congr ?_ ?_) ?_) (Ideal.mul_congr ?_ ?_))
    (congrArg silu ?_)
  · pointwise
    exact w8_at m c t r l
  · pointwise
    exact w9_at m c t r l
  · pointwise
    exact w10_at m c t r l
  · pointwise
    exact w19_at m c t l
  · pointwise
    exact w4_at m c t r l
  · pointwise
    exact w3_at m c t r l

/-- The fourth branch on a tile. -/
theorem yd_at (c : Dev nD) (t : Fin cfg0.N) (r : Fin 512) (l : Fin 256) :
    k0_pay10 (F := Ideal) (k0_pay8 (View.ld (iblk m c 3 t) r0_4)) (k0_pay9 (View.ld (iblk m c 8 t) r0_5)
      (View.ld (iblk m c 9 t) r0_5)) (View.ld (iblk m c 10 t) r0_5) (View.ld (iblk m c 19 t) r0_7)
      (View.ld (iblk m c 4 t) r0_4) (View.ld (iblk m c 22 t) r0_6) (View.ld (iblk m c 20 t) r0_7) (ix2 r l)
      = yd (args m c) (bat t) (pos t r) l := by
  rw [pay10_at]
  unfold yd rms128
  rw [← mean128 _ (fun j => if j.val / 128 = l.val / 128 then (1 : EReal) else 0) l fun _ => rfl]
  refine Ideal.mul_congr (Ideal.mul_congr (raw_at m c t r l) (congrArg Ideal.rsqrt (Ideal.add_congr (Ideal.mul_congr
    (Finset.sum_congr rfl fun j _ => Ideal.mul_congr (Ideal.mul_congr (raw_at m c t r j) (raw_at m c t r j)) ?_) rfl) rfl)))
    ?_
  · pointwise
    exact w22_at m c t j l
  · pointwise
    exact w20_at m c t l

/-- A gated product on a tile is the branch's term. -/
theorem part_at (c : Dev nD) (t : Fin cfg0.N) (r : Fin 512) (n : Fin 1024) (b : Fin 4) (h : FVec Ideal S512x1024 .bf16)
    (g : Vec Ideal S1024x1024 .bf16) (y : FVec Ideal S512x256 .f32) (w : Vec Ideal S1x256x1024 .bf16) (v : Fin 256 → EReal)
    (hh : ∀ k, h (ix2 r k) = norm (args m c) (bat t) (pos t r) k)
    (hg : ∀ k, g (ix2 k n) = (args m c).win k ⟨3080 + (1024 * b.val + n.val), by omega⟩)
    (hy : ∀ l, y (ix2 r l) = v l) (hw : ∀ l, w (ix3 0 l n) = (args m c).wb b l n) :
    part h g y w r n = term (args m c) (bat t) (pos t r) b v n := by
  unfold part term gate
  refine Ideal.mul_congr (congrArg sigm (Finset.sum_congr rfl fun k _ => Ideal.mul_congr (hh k) (hg k)))
    (Finset.sum_congr rfl fun l _ => Ideal.mul_congr (hy l) (hw l))

/-- The first result on a tile. -/
theorem xo_at (c : Dev nD) (t : Fin cfg0.N) (r : Fin 512) (n : Fin 1024) :
    k0_pay40 (F := Ideal) (iblk m c 0 t) (iblk m c 1 t) (iblk m c 2 t) (iblk m c 3 t) (iblk m c 4 t) (iblk m c 5 t)
      (iblk m c 6 t) (iblk m c 7 t) (iblk m c 8 t) (iblk m c 9 t) (iblk m c 10 t) (iblk m c 11 t) (iblk m c 12 t)
      (iblk m c 13 t) (iblk m c 14 t) (iblk m c 15 t) (iblk m c 16 t) (iblk m c 17 t) (iblk m c 18 t) (iblk m c 19 t)
      (iblk m c 20 t) (iblk m c 21 t) (iblk m c 22 t) (iblk m c 23 t) (iblk m c 24 t) (ix2 r n)
      = xo (args m c) (bat t) (pos t r) n := by
  unfold k0_pay40 k0_pay39 xo merged
  rw [pay15_at]
  refine Ideal.add_congr ?_ (Ideal.mul_congr ?_ (Finset.sum_congr rfl fun k _ => Ideal.mul_congr ?_ ?_))
  · pointwise
    exact w0_at m c t r n
  · pointwise
    exact w12_at m c t 2 n
  · rw [pay13_at]
    refine Ideal.add_congr (Ideal.add_congr (Ideal.add_congr ?_ ?_) ?_) ?_
    · refine part_at m c t r k 0 _ _ _ _ _ (norm_at m c t r) (fun k => ?_) (fun l => ?_) (fun l => ?_)
      · pointwise
        exact w15_at m c t k _
      · pointwise [k0_pay11]
        exact w1_at m c t r l
      · pointwise
        exact w16_at m c t 0 l k
    · refine part_at m c t r k 1 _ _ _ _ _ (norm_at m c t r) (fun k => ?_) (yb_at m c t r) (fun l => ?_)
      · pointwise
        exact w15_at m c t k _
      · pointwise
        exact w16_at m c t 1 l k
    · refine part_at m c t r k 2 _ _ _ _ _ (norm_at m c t r) (fun k => ?_) (fun l => ?_) (fun l => ?_)
      · pointwise
        exact w15_at m c t k _
      · pointwise [k0_pay12]
        exact w11_at m c t r l
      · pointwise
        exact w16_at m c t 2 l k
    · refine part_at m c t r k 3 _ _ _ _ _ (norm_at m c t r) (fun k => ?_) (yd_at m c t r) (fun l => ?_)
      · pointwise
        exact w15_at m c t k _
      · pointwise
        exact w16_at m c t 3 l k
  · pointwise
    exact w17_at m c t k n

end Cert.Proof.Merge

end
-- ==== Proof.MgKernel.lean ====
/-
  THE MERGE'S RESULTS: the blocks that the grid's points write back tile both result arrays, and each holds the
  specification's values, so after the run the arrays do. The second array's rows are the batches' sequences one after
  another, 8192 rows each.
-/
module

public import proofs.«01_k».proof.Proof.MgBody

@[expose] public section

set_option maxRecDepth 16384

noncomputable section

namespace Cert.Proof.Merge

open Idealize.ShloMosaic Idealize.ShloMosaic.TcCoe Idealize.SL.Sem
open Idealize.ShloMosaic.Pipeline (Dat)
open Cert.Kernel3Ideal Cert.Kernel3Ideal.Gen Cert.Proof.MergeRun

variable (m : (ℓ : Loc nD τ sig) → Buf (Elt Ideal) ℓ)

/-- What the body leaves of the first result at a grid point. -/
theorem point25 (c : Dev nD) (t : Fin cfg0.N) (y : S1x512x1024.Idx) :
    out0_25 (F := Ideal) (iblk m c 0 t) (iblk m c 1 t) (iblk m c 2 t) (iblk m c 3 t) (iblk m c 4 t) (iblk m c 5 t)
      (iblk m c 6 t) (iblk m c 7 t) (iblk m c 8 t) (iblk m c 9 t) (iblk m c 10 t) (iblk m c 11 t) (iblk m c 12 t)
      (iblk m c 13 t) (iblk m c 14 t) (iblk m c 15 t) (iblk m c 16 t) (iblk m c 17 t) (iblk m c 18 t) (iblk m c 19 t)
      (iblk m c 20 t) (iblk m c 21 t) (iblk m c 22 t) (iblk m c 23 t) (iblk m c 24 t) y
      = xo (args m c) (bat t) (pos t (y 1)) (y 2) := by
  canon_tiles x h
  · idx_vars x
    idx_vars y
    obtain rfl : y1 = x1 := Fin.ext (by simpa using h1)
    obtain rfl : y2 = x2 := Fin.ext (by simpa using h2)
    pointwise [k0_pay16]
    exact xo_at m c t y1 y2

/-- What the body leaves of the second result at a grid point. -/
theorem point26 (c : Dev nD) (t : Fin cfg0.N) (y : S512x1024.Idx) :
    out0_26 (F := Ideal) (iblk m c 0 t) (iblk m c 1 t) (iblk m c 2 t) (iblk m c 3 t) (iblk m c 4 t) (iblk m c 5 t)
      (iblk m c 6 t) (iblk m c 7 t) (iblk m c 8 t) (iblk m c 9 t) (iblk m c 10 t) (iblk m c 11 t) (iblk m c 12 t)
      (iblk m c 13 t) (iblk m c 14 t) (iblk m c 15 t) (iblk m c 16 t) (iblk m c 17 t) (iblk m c 18 t) (iblk m c 19 t)
      (iblk m c 20 t) (iblk m c 21 t) (iblk m c 22 t) (iblk m c 23 t) (iblk m c 24 t) y
      = ff (args m c) (bat t) (pos t (y 0)) (y 1) := by
  canon_tiles x h
  · idx_vars x
    idx_vars y
    obtain rfl : y0 = x0 := Fin.ext (by simpa using h0)
    obtain rfl : y1 = x1 := Fin.ext (by simpa using h1)
    refine (pay18_at _ _ _ _ y0 y1).trans ?_
    unfold ff
    refine normRow_congr (xo_at m c t y0) (fun k => ?_) (fun k => ?_) (fun k => ?_) y1
    · pointwise
      exact w14_at m c t k
    · pointwise
      exact w12_at m c t 4 k
    · pointwise
      exact w12_at m c t 3 k

/-- The first result at equal coordinates. -/
theorem xo_congr (a : Args) {b b' : Fin 4} {p p' : Fin 8192} {n n' : Fin 1024}
    (hb : b.val = b'.val) (hp : p.val = p'.val) (hn : n.val = n'.val) : xo a b p n = xo a b' p' n' := by
  rw [Fin.ext hb, Fin.ext hp, Fin.ext hn]

/-- The second result at equal coordinates. -/
theorem ff_congr (a : Args) {b b' : Fin 4} {p p' : Fin 8192} {n n' : Fin 1024}
    (hb : b.val = b'.val) (hp : p.val = p'.val) (hn : n.val = n'.val) : ff a b p n = ff a b' p' n' := by
  rw [Fin.ext hb, Fin.ext hp, Fin.ext hn]

/-- The first result's array after the run. -/
theorem final25 (c : Dev nD) :
    (dats m 0 c).arrAt 25 cfg0.N = fun i => xo (args m c) (i 0) (i 1) (i 2) := by
  refine (dats m 0 c).arrAt_eq_of_covers 25 _ (by decide +kernel) fun t _ y => ?_
  blk_simp
  rw [after0_25, point25]
  refine xo_congr _ ?_ ?_ ?_
  all_goals (blk_simp [idx t, bat, pos] <;> try exact congrArg (· + _) (Nat.mul_comm _ _))

/-- A row of the second result's array is a batch and a position. -/
def rowB (r : Fin 32768) : Fin 4 := ⟨r.val / 8192, by omega⟩
def rowP (r : Fin 32768) : Fin 8192 := ⟨r.val % 8192, by omega⟩

/-- The second result's array after the run. -/
theorem final26 (c : Dev nD) :
    (dats m 0 c).arrAt 26 cfg0.N = fun i => ff (args m c) (rowB (i 0)) (rowP (i 0)) (i 1) := by
  refine (dats m 0 c).arrAt_eq_of_covers 26 _ (by decide +kernel) fun t _ y => ?_
  blk_simp
  rw [after0_26, point26]
  refine ff_congr _ ?_ ?_ ?_
  · blk_simp [idx t, bat, pos, rowB, rowP]
    have hy : (y 0).val < 512 := (y 0).isLt
    dsimp only
    omega
  · blk_simp [idx t, bat, pos, rowB, rowP]
    have hy : (y 0).val < 512 := (y 0).isLt
    dsimp only
    omega
  · blk_simp [idx t, bat, pos, rowB, rowP]

end Cert.Proof.Merge

end
-- ==== Proof.MgRefOps.lean ====
/-
  THE MERGE'S REFERENCE as a list of its host operations, cut where the mathematics cuts: the normalised rows, the slabs,
  the two branches built here, the gates, the merged sum and the two results.
-/
module

public import proofs.«01_k».proof.Proof.Gen.Reference3Ideal
public import Idealize.ShloMosaic.Lib.StableHlo.Run

@[expose] public section

set_option maxRecDepth 8192
set_option maxHeartbeats 4000000

noncomputable section

namespace Cert.Proof.MergeRef

open Idealize.ShloMosaic Idealize.ShloMosaic.TcCoe Idealize.SL.Sem Idealize.ShloMosaic.StableHlo
open Cert.Reference3Ideal Cert.Reference3Ideal.Gen

variable {F : FTy → Type} [FloatOps F]

/-- The rows normalised and modulated. -/
def rowOps : List (HloOp τ sig (Elt F)) :=
  [ unary main_arg9 main_v0 ((extractStridedSlice S4x1x1024 ![0, 0, 0] · slices_S4x8x1024_S4x1x1024_0_0_0) : (⟨S4x8x1024, .f32⟩ : BufTy).Contents (Elt F) → (⟨S4x1x1024, .f32⟩ : BufTy).Contents (Elt F)),
    unary main_arg9 main_v1 ((extractStridedSlice S4x1x1024 ![0, 1, 0] · slices_S4x8x1024_S4x1x1024_0_1_0) : (⟨S4x8x1024, .f32⟩ : BufTy).Contents (Elt F) → (⟨S4x1x1024, .f32⟩ : BufTy).Contents (Elt F)),
    unary main_arg9 main_v2 ((extractStridedSlice S4x1x1024 ![0, 2, 0] · slices_S4x8x1024_S4x1x1024_0_2_0) : (⟨S4x8x1024, .f32⟩ : BufTy).Contents (Elt F) → (⟨S4x1x1024, .f32⟩ : BufTy).Contents (Elt F)),
    unary main_arg9 main_v3 ((extractStridedSlice S4x1x1024 ![0, 3, 0] · slices_S4x8x1024_S4x1x1024_0_3_0) : (⟨S4x8x1024, .f32⟩ : BufTy).Contents (Elt F) → (⟨S4x1x1024, .f32⟩ : BufTy).Contents (Elt F)),
    unary main_arg9 main_v4 ((extractStridedSlice S4x1x1024 ![0, 4, 0] · slices_S4x8x1024_S4x1x1024_0_4_0) : (⟨S4x8x1024, .f32⟩ : BufTy).Contents (Elt F) → (⟨S4x1x1024, .f32⟩ : BufTy).Contents (Elt F)),
    binary main_arg0 main_arg0 main_v5 (mulf : (⟨S4x8192x1024, .f32⟩ : BufTy).Contents (Elt F) → (⟨S4x8192x1024, .f32⟩ : BufTy).Contents (Elt F) → (⟨S4x8192x1024, .f32⟩ : BufTy).Contents (Elt F)),
    nullary main_cst (constant S_ .f32 0x00000000#32),
    binary main_v5 main_cst main_v6 ((fun x v => Host.reduceAdd x v reducesTo_S4x8192x1024_S4x8192_d2 h_S_) : (⟨S4x8192x1024, .f32⟩ : BufTy).Contents (Elt F) → (⟨S_, .f32⟩ : BufTy).Contents (Elt F) → (⟨S4x8192, .f32⟩ : BufTy).Contents (Elt F)),
    unary main_v6 main_v7 (broadcastInDim S4x8192x1 ![0, 1] bcast_S4x8192_S4x8192x1_0_1 : (⟨S4x8192, .f32⟩ : BufTy).Contents (Elt F) → (⟨S4x8192x1, .f32⟩ : BufTy).Contents (Elt F)),
    nullary main_cst_0 (constant S_ .f32 0x44800000#32),
    unary main_cst_0 main_v8 (broadcastInDim S4x8192x1 ![] bcast_S_S4x8192x1 : (⟨S_, .f32⟩ : BufTy).Contents (Elt F) → (⟨S4x8192x1, .f32⟩ : BufTy).Contents (Elt F)),
    binary main_v7 main_v8 main_v9 (Host.divf : (⟨S4x8192x1, .f32⟩ : BufTy).Contents (Elt F) → (⟨S4x8192x1, .f32⟩ : BufTy).Contents (Elt F) → (⟨S4x8192x1, .f32⟩ : BufTy).Contents (Elt F)),
    nullary main_cst_1 (constant S_ .f32 0x358637BD#32),
    unary main_cst_1 main_v10 (broadcastInDim S4x8192x1 ![] bcast_S_S4x8192x1 : (⟨S_, .f32⟩ : BufTy).Contents (Elt F) → (⟨S4x8192x1, .f32⟩ : BufTy).Contents (Elt F)),
    binary main_v9 main_v10 main_v11 (addf : (⟨S4x8192x1, .f32⟩ : BufTy).Contents (Elt F) → (⟨S4x8192x1, .f32⟩ : BufTy).Contents (Elt F) → (⟨S4x8192x1, .f32⟩ : BufTy).Contents (Elt F)),
    unary main_v11 main_v12 (Host.rsqrt : (⟨S4x8192x1, .f32⟩ : BufTy).Contents (Elt F) → (⟨S4x8192x1, .f32⟩ : BufTy).Contents (Elt F)),
    unary main_v12 main_v13 (broadcastInDim S4x8192x1024 ![0, 1, 2] bcast_S4x8192x1_S4x8192x1024_0_1_2 : (⟨S4x8192x1, .f32⟩ : BufTy).Contents (Elt F) → (⟨S4x8192x1024, .f32⟩ : BufTy).Contents (Elt F)),
    binary main_arg0 main_v13 main_v14 (mulf : (⟨S4x8192x1024, .f32⟩ : BufTy).Contents (Elt F) → (⟨S4x8192x1024, .f32⟩ : BufTy).Contents (Elt F) → (⟨S4x8192x1024, .f32⟩ : BufTy).Contents (Elt F)),
    unary main_arg10 main_v15 (broadcastInDim S1x1x1024 ![2] bcast_S1024_S1x1x1024_2 : (⟨S1024, .f32⟩ : BufTy).Contents (Elt F) → (⟨S1x1x1024, .f32⟩ : BufTy).Contents (Elt F)),
    unary main_v15 main_v16 (broadcastInDim S4x8192x1024 ![0, 1, 2] bcast_S1x1x1024_S4x8192x1024_0_1_2 : (⟨S1x1x1024, .f32⟩ : BufTy).Contents (Elt F) → (⟨S4x8192x1024, .f32⟩ : BufTy).Contents (Elt F)),
    binary main_v14 main_v16 main_v17 (mulf : (⟨S4x8192x1024, .f32⟩ : BufTy).Contents (Elt F) → (⟨S4x8192x1024, .f32⟩ : BufTy).Contents (Elt F) → (⟨S4x8192x1024, .f32⟩ : BufTy).Contents (Elt F)),
    nullary main_cst_2 (constant S_ .f32 0x3F800000#32),
    unary main_cst_2 main_v18 (broadcastInDim S4x1x1024 ![] bcast_S_S4x1x1024 : (⟨S_, .f32⟩ : BufTy).Contents (Elt F) → (⟨S4x1x1024, .f32⟩ : BufTy).Contents (Elt F)),
    binary main_v18 main_v1 main_v19 (addf : (⟨S4x1x1024, .f32⟩ : BufTy).Contents (Elt F) → (⟨S4x1x1024, .f32⟩ : BufTy).Contents (Elt F) → (⟨S4x1x1024, .f32⟩ : BufTy).Contents (Elt F)),
    unary main_v19 main_v20 (broadcastInDim S4x8192x1024 ![0, 1, 2] bcast_S4x1x1024_S4x8192x1024_0_1_2 : (⟨S4x1x1024, .f32⟩ : BufTy).Contents (Elt F) → (⟨S4x8192x1024, .f32⟩ : BufTy).Contents (Elt F)),
    binary main_v17 main_v20 main_v21 (mulf : (⟨S4x8192x1024, .f32⟩ : BufTy).Contents (Elt F) → (⟨S4x8192x1024, .f32⟩ : BufTy).Contents (Elt F) → (⟨S4x8192x1024, .f32⟩ : BufTy).Contents (Elt F)),
    unary main_v0 main_v22 (broadcastInDim S4x8192x1024 ![0, 1, 2] bcast_S4x1x1024_S4x8192x1024_0_1_2 : (⟨S4x1x1024, .f32⟩ : BufTy).Contents (Elt F) → (⟨S4x8192x1024, .f32⟩ : BufTy).Contents (Elt F)),
    binary main_v21 main_v22 main_v23 (addf : (⟨S4x8192x1024, .f32⟩ : BufTy).Contents (Elt F) → (⟨S4x8192x1024, .f32⟩ : BufTy).Contents (Elt F) → (⟨S4x8192x1024, .f32⟩ : BufTy).Contents (Elt F)) ]

theorem rowOps_sub : (rowOps : List (HloOp τ sig (Elt F))).Forall fun op => op.bufs ⊆ tcRefs τ sig :=
  ⟨unary_bufs_sub .., unary_bufs_sub .., unary_bufs_sub .., unary_bufs_sub .., unary_bufs_sub ..,
    binary_bufs_sub .., nullary_bufs_sub .., binary_bufs_sub .., unary_bufs_sub .., nullary_bufs_sub ..,
    unary_bufs_sub .., binary_bufs_sub .., nullary_bufs_sub .., unary_bufs_sub .., binary_bufs_sub ..,
    unary_bufs_sub .., unary_bufs_sub .., binary_bufs_sub .., unary_bufs_sub .., unary_bufs_sub ..,
    binary_bufs_sub .., nullary_bufs_sub .., unary_bufs_sub .., binary_bufs_sub .., unary_bufs_sub ..,
    binary_bufs_sub .., unary_bufs_sub .., binary_bufs_sub ..⟩

/-- The slabs of the input projection that are read. -/
def slabOps : List (HloOp τ sig (Elt F)) :=
  [ unary main_arg1 main_v24 ((extractStridedSlice S1x4x8192x256 ![0, 0, 0, 0] · slices_S11x4x8192x256_S1x4x8192x256_0_0_0_0) : (⟨S11x4x8192x256, .f32⟩ : BufTy).Contents (Elt F) → (⟨S1x4x8192x256, .f32⟩ : BufTy).Contents (Elt F)),
    reshape main_v24 main_v25 (rfl : (.f32 : EltTy) = .f32) shapeCasts_S1x4x8192x256_S4x8192x256,
    unary main_arg1 main_v26 ((extractStridedSlice S1x4x8192x256 ![5, 0, 0, 0] · slices_S11x4x8192x256_S1x4x8192x256_5_0_0_0) : (⟨S11x4x8192x256, .f32⟩ : BufTy).Contents (Elt F) → (⟨S1x4x8192x256, .f32⟩ : BufTy).Contents (Elt F)),
    reshape main_v26 main_v27 (rfl : (.f32 : EltTy) = .f32) shapeCasts_S1x4x8192x256_S4x8192x256,
    unary main_arg1 main_v28 ((extractStridedSlice S1x4x8192x256 ![6, 0, 0, 0] · slices_S11x4x8192x256_S1x4x8192x256_6_0_0_0) : (⟨S11x4x8192x256, .f32⟩ : BufTy).Contents (Elt F) → (⟨S1x4x8192x256, .f32⟩ : BufTy).Contents (Elt F)),
    reshape main_v28 main_v29 (rfl : (.f32 : EltTy) = .f32) shapeCasts_S1x4x8192x256_S4x8192x256,
    unary main_arg1 main_v30 ((extractStridedSlice S1x4x8192x256 ![7, 0, 0, 0] · slices_S11x4x8192x256_S1x4x8192x256_7_0_0_0) : (⟨S11x4x8192x256, .f32⟩ : BufTy).Contents (Elt F) → (⟨S1x4x8192x256, .f32⟩ : BufTy).Contents (Elt F)),
    reshape main_v30 main_v31 (rfl : (.f32 : EltTy) = .f32) shapeCasts_S1x4x8192x256_S4x8192x256 ]

theorem slabOps_sub : (slabOps : List (HloOp τ sig (Elt F))).Forall fun op => op.bufs ⊆ tcRefs τ sig :=
  ⟨unary_bufs_sub .., reshape_bufs_sub .., unary_bufs_sub .., reshape_bufs_sub .., unary_bufs_sub ..,
    reshape_bufs_sub .., unary_bufs_sub .., reshape_bufs_sub ..⟩

/-- The second branch, head by head. -/
def headOps : List (HloOp τ sig (Elt F)) :=
  [ binary main_arg2 main_arg3 main_v32 (addf : (⟨S4x8192x256, .f32⟩ : BufTy).Contents (Elt F) → (⟨S4x8192x256, .f32⟩ : BufTy).Contents (Elt F) → (⟨S4x8192x256, .f32⟩ : BufTy).Contents (Elt F)),
    binary main_v32 main_arg4 main_v33 (addf : (⟨S4x8192x256, .f32⟩ : BufTy).Contents (Elt F) → (⟨S4x8192x256, .f32⟩ : BufTy).Contents (Elt F) → (⟨S4x8192x256, .f32⟩ : BufTy).Contents (Elt F)),
    reshape main_v33 main_v34 (rfl : (.f32 : EltTy) = .f32) shapeCasts_S4x8192x256_S4x8192x4x64,
    binary main_v34 main_v34 main_v35 (mulf : (⟨S4x8192x4x64, .f32⟩ : BufTy).Contents (Elt F) → (⟨S4x8192x4x64, .f32⟩ : BufTy).Contents (Elt F) → (⟨S4x8192x4x64, .f32⟩ : BufTy).Contents (Elt F)),
    nullary main_cst_3 (constant S_ .f32 0x00000000#32),
    binary main_v35 main_cst_3 main_v36 ((fun x v => Host.reduceAdd x v reducesTo_S4x8192x4x64_S4x8192x4_d3 h_S_) : (⟨S4x8192x4x64, .f32⟩ : BufTy).Contents (Elt F) → (⟨S_, .f32⟩ : BufTy).Contents (Elt F) → (⟨S4x8192x4, .f32⟩ : BufTy).Contents (Elt F)),
    unary main_v36 main_v37 (broadcastInDim S4x8192x4x1 ![0, 1, 2] bcast_S4x8192x4_S4x8192x4x1_0_1_2 : (⟨S4x8192x4, .f32⟩ : BufTy).Contents (Elt F) → (⟨S4x8192x4x1, .f32⟩ : BufTy).Contents (Elt F)),
    nullary main_cst_4 (constant S_ .f32 0x42800000#32),
    unary main_cst_4 main_v38 (broadcastInDim S4x8192x4x1 ![] bcast_S_S4x8192x4x1 : (⟨S_, .f32⟩ : BufTy).Contents (Elt F) → (⟨S4x8192x4x1, .f32⟩ : BufTy).Contents (Elt F)),
    binary main_v37 main_v38 main_v39 (Host.divf : (⟨S4x8192x4x1, .f32⟩ : BufTy).Contents (Elt F) → (⟨S4x8192x4x1, .f32⟩ : BufTy).Contents (Elt F) → (⟨S4x8192x4x1, .f32⟩ : BufTy).Contents (Elt F)),
    nullary main_cst_5 (constant S_ .f32 0x358637BD#32),
    unary main_cst_5 main_v40 (broadcastInDim S4x8192x4x1 ![] bcast_S_S4x8192x4x1 : (⟨S_, .f32⟩ : BufTy).Contents (Elt F) → (⟨S4x8192x4x1, .f32⟩ : BufTy).Contents (Elt F)),
    binary main_v39 main_v40 main_v41 (addf : (⟨S4x8192x4x1, .f32⟩ : BufTy).Contents (Elt F) → (⟨S4x8192x4x1, .f32⟩ : BufTy).Contents (Elt F) → (⟨S4x8192x4x1, .f32⟩ : BufTy).Contents (Elt F)),
    unary main_v41 main_v42 (Host.rsqrt : (⟨S4x8192x4x1, .f32⟩ : BufTy).Contents (Elt F) → (⟨S4x8192x4x1, .f32⟩ : BufTy).Contents (Elt F)),
    unary main_v42 main_v43 (broadcastInDim S4x8192x4x64 ![0, 1, 2, 3] bcast_S4x8192x4x1_S4x8192x4x64_0_1_2_3 : (⟨S4x8192x4x1, .f32⟩ : BufTy).Contents (Elt F) → (⟨S4x8192x4x64, .f32⟩ : BufTy).Contents (Elt F)),
    binary main_v34 main_v43 main_v44 (mulf : (⟨S4x8192x4x64, .f32⟩ : BufTy).Contents (Elt F) → (⟨S4x8192x4x64, .f32⟩ : BufTy).Contents (Elt F) → (⟨S4x8192x4x64, .f32⟩ : BufTy).Contents (Elt F)),
    unary main_arg15 main_v45 (broadcastInDim S1x1x1x64 ![3] bcast_S64_S1x1x1x64_3 : (⟨S64, .f32⟩ : BufTy).Contents (Elt F) → (⟨S1x1x1x64, .f32⟩ : BufTy).Contents (Elt F)),
    unary main_v45 main_v46 (broadcastInDim S4x8192x4x64 ![0, 1, 2, 3] bcast_S1x1x1x64_S4x8192x4x64_0_1_2_3 : (⟨S1x1x1x64, .f32⟩ : BufTy).Contents (Elt F) → (⟨S4x8192x4x64, .f32⟩ : BufTy).Contents (Elt F)),
    binary main_v44 main_v46 main_v47 (mulf : (⟨S4x8192x4x64, .f32⟩ : BufTy).Contents (Elt F) → (⟨S4x8192x4x64, .f32⟩ : BufTy).Contents (Elt F) → (⟨S4x8192x4x64, .f32⟩ : BufTy).Contents (Elt F)),
    unary main_v27 main_v48 (Host.negf : (⟨S4x8192x256, .f32⟩ : BufTy).Contents (Elt F) → (⟨S4x8192x256, .f32⟩ : BufTy).Contents (Elt F)),
    unary main_v48 main_v49 (Host.exp : (⟨S4x8192x256, .f32⟩ : BufTy).Contents (Elt F) → (⟨S4x8192x256, .f32⟩ : BufTy).Contents (Elt F)),
    nullary main_cst_6 (constant S_ .f32 0x3F800000#32),
    unary main_cst_6 main_v50 (broadcastInDim S4x8192x256 ![] bcast_S_S4x8192x256 : (⟨S_, .f32⟩ : BufTy).Contents (Elt F) → (⟨S4x8192x256, .f32⟩ : BufTy).Contents (Elt F)),
    binary main_v50 main_v49 main_v51 (addf : (⟨S4x8192x256, .f32⟩ : BufTy).Contents (Elt F) → (⟨S4x8192x256, .f32⟩ : BufTy).Contents (Elt F) → (⟨S4x8192x256, .f32⟩ : BufTy).Contents (Elt F)),
    nullary main_cst_7 (constant S_ .f32 0x3F800000#32),
    unary main_cst_7 main_v52 (broadcastInDim S4x8192x256 ![] bcast_S_S4x8192x256 : (⟨S_, .f32⟩ : BufTy).Contents (Elt F) → (⟨S4x8192x256, .f32⟩ : BufTy).Contents (Elt F)),
    binary main_v52 main_v51 main_v53 (Host.divf : (⟨S4x8192x256, .f32⟩ : BufTy).Contents (Elt F) → (⟨S4x8192x256, .f32⟩ : BufTy).Contents (Elt F) → (⟨S4x8192x256, .f32⟩ : BufTy).Contents (Elt F)),
    binary main_v27 main_v53 main_v54 (mulf : (⟨S4x8192x256, .f32⟩ : BufTy).Contents (Elt F) → (⟨S4x8192x256, .f32⟩ : BufTy).Contents (Elt F) → (⟨S4x8192x256, .f32⟩ : BufTy).Contents (Elt F)),
    reshape main_v54 main_v55 (rfl : (.f32 : EltTy) = .f32) shapeCasts_S4x8192x256_S4x8192x4x64,
    binary main_v47 main_v55 main_v56 (mulf : (⟨S4x8192x4x64, .f32⟩ : BufTy).Contents (Elt F) → (⟨S4x8192x4x64, .f32⟩ : BufTy).Contents (Elt F) → (⟨S4x8192x4x64, .f32⟩ : BufTy).Contents (Elt F)) ]

theorem headOps_sub : (headOps : List (HloOp τ sig (Elt F))).Forall fun op => op.bufs ⊆ tcRefs τ sig :=
  ⟨binary_bufs_sub .., binary_bufs_sub .., reshape_bufs_sub .., binary_bufs_sub .., nullary_bufs_sub ..,
    binary_bufs_sub .., unary_bufs_sub .., nullary_bufs_sub .., unary_bufs_sub .., binary_bufs_sub ..,
    nullary_bufs_sub .., unary_bufs_sub .., binary_bufs_sub .., unary_bufs_sub .., unary_bufs_sub ..,
    binary_bufs_sub .., unary_bufs_sub .., unary_bufs_sub .., binary_bufs_sub .., unary_bufs_sub ..,
    unary_bufs_sub .., nullary_bufs_sub .., unary_bufs_sub .., binary_bufs_sub .., nullary_bufs_sub ..,
    unary_bufs_sub .., binary_bufs_sub .., binary_bufs_sub .., reshape_bufs_sub .., binary_bufs_sub ..⟩

/-- The fourth branch, group by group; both branches as rows. -/
def groupOps : List (HloOp τ sig (Elt F)) :=
  [ binary main_arg5 main_arg6 main_v57 (addf : (⟨S4x8192x256, .f32⟩ : BufTy).Contents (Elt F) → (⟨S4x8192x256, .f32⟩ : BufTy).Contents (Elt F) → (⟨S4x8192x256, .f32⟩ : BufTy).Contents (Elt F)),
    binary main_v57 main_arg7 main_v58 (addf : (⟨S4x8192x256, .f32⟩ : BufTy).Contents (Elt F) → (⟨S4x8192x256, .f32⟩ : BufTy).Contents (Elt F) → (⟨S4x8192x256, .f32⟩ : BufTy).Contents (Elt F)),
    reshape main_v58 main_v59 (rfl : (.f32 : EltTy) = .f32) shapeCasts_S4x8192x256_S4x8192x4x64,
    unary main_arg16 main_v60 (broadcastInDim S4x1 ![0] bcast_S4_S4x1_0 : (⟨S4, .f32⟩ : BufTy).Contents (Elt F) → (⟨S4x1, .f32⟩ : BufTy).Contents (Elt F)),
    reshape main_v31 main_v61 (rfl : (.f32 : EltTy) = .f32) shapeCasts_S4x8192x256_S4x8192x4x64,
    unary main_v60 main_v62 (broadcastInDim S1x1x4x1 ![2, 3] bcast_S4x1_S1x1x4x1_2_3 : (⟨S4x1, .f32⟩ : BufTy).Contents (Elt F) → (⟨S1x1x4x1, .f32⟩ : BufTy).Contents (Elt F)),
    unary main_v62 main_v63 (broadcastInDim S4x8192x4x64 ![0, 1, 2, 3] bcast_S1x1x4x1_S4x8192x4x64_0_1_2_3 : (⟨S1x1x4x1, .f32⟩ : BufTy).Contents (Elt F) → (⟨S4x8192x4x64, .f32⟩ : BufTy).Contents (Elt F)),
    binary main_v63 main_v61 main_v64 (mulf : (⟨S4x8192x4x64, .f32⟩ : BufTy).Contents (Elt F) → (⟨S4x8192x4x64, .f32⟩ : BufTy).Contents (Elt F) → (⟨S4x8192x4x64, .f32⟩ : BufTy).Contents (Elt F)),
    binary main_v59 main_v64 main_v65 (addf : (⟨S4x8192x4x64, .f32⟩ : BufTy).Contents (Elt F) → (⟨S4x8192x4x64, .f32⟩ : BufTy).Contents (Elt F) → (⟨S4x8192x4x64, .f32⟩ : BufTy).Contents (Elt F)),
    reshape main_v65 main_v66 (rfl : (.f32 : EltTy) = .f32) shapeCasts_S4x8192x4x64_S4x8192x256,
    unary main_v29 main_v67 (Host.negf : (⟨S4x8192x256, .f32⟩ : BufTy).Contents (Elt F) → (⟨S4x8192x256, .f32⟩ : BufTy).Contents (Elt F)),
    unary main_v67 main_v68 (Host.exp : (⟨S4x8192x256, .f32⟩ : BufTy).Contents (Elt F) → (⟨S4x8192x256, .f32⟩ : BufTy).Contents (Elt F)),
    nullary main_cst_8 (constant S_ .f32 0x3F800000#32),
    unary main_cst_8 main_v69 (broadcastInDim S4x8192x256 ![] bcast_S_S4x8192x256 : (⟨S_, .f32⟩ : BufTy).Contents (Elt F) → (⟨S4x8192x256, .f32⟩ : BufTy).Contents (Elt F)),
    binary main_v69 main_v68 main_v70 (addf : (⟨S4x8192x256, .f32⟩ : BufTy).Contents (Elt F) → (⟨S4x8192x256, .f32⟩ : BufTy).Contents (Elt F) → (⟨S4x8192x256, .f32⟩ : BufTy).Contents (Elt F)),
    nullary main_cst_9 (constant S_ .f32 0x3F800000#32),
    unary main_cst_9 main_v71 (broadcastInDim S4x8192x256 ![] bcast_S_S4x8192x256 : (⟨S_, .f32⟩ : BufTy).Contents (Elt F) → (⟨S4x8192x256, .f32⟩ : BufTy).Contents (Elt F)),
    binary main_v71 main_v70 main_v72 (Host.divf : (⟨S4x8192x256, .f32⟩ : BufTy).Contents (Elt F) → (⟨S4x8192x256, .f32⟩ : BufTy).Contents (Elt F) → (⟨S4x8192x256, .f32⟩ : BufTy).Contents (Elt F)),
    binary main_v29 main_v72 main_v73 (mulf : (⟨S4x8192x256, .f32⟩ : BufTy).Contents (Elt F) → (⟨S4x8192x256, .f32⟩ : BufTy).Contents (Elt F) → (⟨S4x8192x256, .f32⟩ : BufTy).Contents (Elt F)),
    binary main_v66 main_v73 main_v74 (mulf : (⟨S4x8192x256, .f32⟩ : BufTy).Contents (Elt F) → (⟨S4x8192x256, .f32⟩ : BufTy).Contents (Elt F) → (⟨S4x8192x256, .f32⟩ : BufTy).Contents (Elt F)),
    reshape main_v74 main_v75 (rfl : (.f32 : EltTy) = .f32) shapeCasts_S4x8192x256_S4x8192x2x128,
    reshape main_arg17 main_v76 (rfl : (.f32 : EltTy) = .f32) shapeCasts_S256_S2x128,
    binary main_v75 main_v75 main_v77 (mulf : (⟨S4x8192x2x128, .f32⟩ : BufTy).Contents (Elt F) → (⟨S4x8192x2x128, .f32⟩ : BufTy).Contents (Elt F) → (⟨S4x8192x2x128, .f32⟩ : BufTy).Contents (Elt F)),
    nullary main_cst_10 (constant S_ .f32 0x00000000#32),
    binary main_v77 main_cst_10 main_v78 ((fun x v => Host.reduceAdd x v reducesTo_S4x8192x2x128_S4x8192x2_d3 h_S_) : (⟨S4x8192x2x128, .f32⟩ : BufTy).Contents (Elt F) → (⟨S_, .f32⟩ : BufTy).Contents (Elt F) → (⟨S4x8192x2, .f32⟩ : BufTy).Contents (Elt F)),
    unary main_v78 main_v79 (broadcastInDim S4x8192x2x1 ![0, 1, 2] bcast_S4x8192x2_S4x8192x2x1_0_1_2 : (⟨S4x8192x2, .f32⟩ : BufTy).Contents (Elt F) → (⟨S4x8192x2x1, .f32⟩ : BufTy).Contents (Elt F)),
    nullary main_cst_11 (constant S_ .f32 0x43000000#32),
    unary main_cst_11 main_v80 (broadcastInDim S4x8192x2x1 ![] bcast_S_S4x8192x2x1 : (⟨S_, .f32⟩ : BufTy).Contents (Elt F) → (⟨S4x8192x2x1, .f32⟩ : BufTy).Contents (Elt F)),
    binary main_v79 main_v80 main_v81 (Host.divf : (⟨S4x8192x2x1, .f32⟩ : BufTy).Contents (Elt F) → (⟨S4x8192x2x1, .f32⟩ : BufTy).Contents (Elt F) → (⟨S4x8192x2x1, .f32⟩ : BufTy).Contents (Elt F)),
    nullary main_cst_12 (constant S_ .f32 0x358637BD#32),
    unary main_cst_12 main_v82 (broadcastInDim S4x8192x2x1 ![] bcast_S_S4x8192x2x1 : (⟨S_, .f32⟩ : BufTy).Contents (Elt F) → (⟨S4x8192x2x1, .f32⟩ : BufTy).Contents (Elt F)),
    binary main_v81 main_v82 main_v83 (addf : (⟨S4x8192x2x1, .f32⟩ : BufTy).Contents (Elt F) → (⟨S4x8192x2x1, .f32⟩ : BufTy).Contents (Elt F) → (⟨S4x8192x2x1, .f32⟩ : BufTy).Contents (Elt F)),
    unary main_v83 main_v84 (Host.rsqrt : (⟨S4x8192x2x1, .f32⟩ : BufTy).Contents (Elt F) → (⟨S4x8192x2x1, .f32⟩ : BufTy).Contents (Elt F)),
    unary main_v84 main_v85 (broadcastInDim S4x8192x2x128 ![0, 1, 2, 3] bcast_S4x8192x2x1_S4x8192x2x128_0_1_2_3 : (⟨S4x8192x2x1, .f32⟩ : BufTy).Contents (Elt F) → (⟨S4x8192x2x128, .f32⟩ : BufTy).Contents (Elt F)),
    binary main_v75 main_v85 main_v86 (mulf : (⟨S4x8192x2x128, .f32⟩ : BufTy).Contents (Elt F) → (⟨S4x8192x2x128, .f32⟩ : BufTy).Contents (Elt F) → (⟨S4x8192x2x128, .f32⟩ : BufTy).Contents (Elt F)),
    unary main_v76 main_v87 (broadcastInDim S1x1x2x128 ![2, 3] bcast_S2x128_S1x1x2x128_2_3 : (⟨S2x128, .f32⟩ : BufTy).Contents (Elt F) → (⟨S1x1x2x128, .f32⟩ : BufTy).Contents (Elt F)),
    unary main_v87 main_v88 (broadcastInDim S4x8192x2x128 ![0, 1, 2, 3] bcast_S1x1x2x128_S4x8192x2x128_0_1_2_3 : (⟨S1x1x2x128, .f32⟩ : BufTy).Contents (Elt F) → (⟨S4x8192x2x128, .f32⟩ : BufTy).Contents (Elt F)),
    binary main_v86 main_v88 main_v89 (mulf : (⟨S4x8192x2x128, .f32⟩ : BufTy).Contents (Elt F) → (⟨S4x8192x2x128, .f32⟩ : BufTy).Contents (Elt F) → (⟨S4x8192x2x128, .f32⟩ : BufTy).Contents (Elt F)),
    reshape main_v56 main_v90 (rfl : (.f32 : EltTy) = .f32) shapeCasts_S4x8192x4x64_S4x8192x256,
    reshape main_v89 main_v91 (rfl : (.f32 : EltTy) = .f32) shapeCasts_S4x8192x2x128_S4x8192x256 ]

theorem groupOps_sub : (groupOps : List (HloOp τ sig (Elt F))).Forall fun op => op.bufs ⊆ tcRefs τ sig :=
  ⟨binary_bufs_sub .., binary_bufs_sub .., reshape_bufs_sub .., unary_bufs_sub .., reshape_bufs_sub ..,
    unary_bufs_sub .., unary_bufs_sub .., binary_bufs_sub .., binary_bufs_sub .., reshape_bufs_sub ..,
    unary_bufs_sub .., unary_bufs_sub .., nullary_bufs_sub .., unary_bufs_sub .., binary_bufs_sub ..,
    nullary_bufs_sub .., unary_bufs_sub .., binary_bufs_sub .., binary_bufs_sub .., binary_bufs_sub ..,
    reshape_bufs_sub .., reshape_bufs_sub .., binary_bufs_sub .., nullary_bufs_sub .., binary_bufs_sub ..,
    unary_bufs_sub .., nullary_bufs_sub .., unary_bufs_sub .., binary_bufs_sub .., nullary_bufs_sub ..,
    unary_bufs_sub .., binary_bufs_sub .., unary_bufs_sub .., unary_bufs_sub .., binary_bufs_sub ..,
    unary_bufs_sub .., unary_bufs_sub .., binary_bufs_sub .., reshape_bufs_sub .., reshape_bufs_sub ..⟩

/-- The gates. -/
def gateOps : List (HloOp τ sig (Elt F)) :=
  [ unary main_arg12 main_v92 ((extractStridedSlice S1024x4096 ![0, 3080] · slices_S1024x7176_S1024x4096_0_3080) : (⟨S1024x7176, .f32⟩ : BufTy).Contents (Elt F) → (⟨S1024x4096, .f32⟩ : BufTy).Contents (Elt F)),
    binary main_v23 main_v92 main_v93 ((fun l r => Host.dotGeneral dot_S4x8192x1024_S1024x4096_S4x8192x4096_2_0_01_1_n_n none l r) : (⟨S4x8192x1024, .f32⟩ : BufTy).Contents (Elt F) → (⟨S1024x4096, .f32⟩ : BufTy).Contents (Elt F) → (⟨S4x8192x4096, .f32⟩ : BufTy).Contents (Elt F)),
    unary main_v93 main_v94 (Host.negf : (⟨S4x8192x4096, .f32⟩ : BufTy).Contents (Elt F) → (⟨S4x8192x4096, .f32⟩ : BufTy).Contents (Elt F)),
    unary main_v94 main_v95 (Host.exp : (⟨S4x8192x4096, .f32⟩ : BufTy).Contents (Elt F) → (⟨S4x8192x4096, .f32⟩ : BufTy).Contents (Elt F)),
    nullary main_cst_13 (constant S_ .f32 0x3F800000#32),
    unary main_cst_13 main_v96 (broadcastInDim S4x8192x4096 ![] bcast_S_S4x8192x4096 : (⟨S_, .f32⟩ : BufTy).Contents (Elt F) → (⟨S4x8192x4096, .f32⟩ : BufTy).Contents (Elt F)),
    binary main_v96 main_v95 main_v97 (addf : (⟨S4x8192x4096, .f32⟩ : BufTy).Contents (Elt F) → (⟨S4x8192x4096, .f32⟩ : BufTy).Contents (Elt F) → (⟨S4x8192x4096, .f32⟩ : BufTy).Contents (Elt F)),
    nullary main_cst_14 (constant S_ .f32 0x3F800000#32),
    unary main_cst_14 main_v98 (broadcastInDim S4x8192x4096 ![] bcast_S_S4x8192x4096 : (⟨S_, .f32⟩ : BufTy).Contents (Elt F) → (⟨S4x8192x4096, .f32⟩ : BufTy).Contents (Elt F)),
    binary main_v98 main_v97 main_v99 (Host.divf : (⟨S4x8192x4096, .f32⟩ : BufTy).Contents (Elt F) → (⟨S4x8192x4096, .f32⟩ : BufTy).Contents (Elt F) → (⟨S4x8192x4096, .f32⟩ : BufTy).Contents (Elt F)) ]

theorem gateOps_sub : (gateOps : List (HloOp τ sig (Elt F))).Forall fun op => op.bufs ⊆ tcRefs τ sig :=
  ⟨unary_bufs_sub .., binary_bufs_sub .., unary_bufs_sub .., unary_bufs_sub .., nullary_bufs_sub ..,
    unary_bufs_sub .., binary_bufs_sub .., nullary_bufs_sub .., unary_bufs_sub .., binary_bufs_sub ..⟩

/-- The four branches merged. -/
def mergeOps : List (HloOp τ sig (Elt F)) :=
  [ unary main_v99 main_v100 ((extractStridedSlice S4x8192x1024 ![0, 0, 0] · slices_S4x8192x4096_S4x8192x1024_0_0_0) : (⟨S4x8192x4096, .f32⟩ : BufTy).Contents (Elt F) → (⟨S4x8192x1024, .f32⟩ : BufTy).Contents (Elt F)),
    unary main_arg13 main_v101 ((extractStridedSlice S1x256x1024 ![0, 0, 0] · slices_S4x256x1024_S1x256x1024_0_0_0) : (⟨S4x256x1024, .f32⟩ : BufTy).Contents (Elt F) → (⟨S1x256x1024, .f32⟩ : BufTy).Contents (Elt F)),
    reshape main_v101 main_v102 (rfl : (.f32 : EltTy) = .f32) shapeCasts_S1x256x1024_S256x1024,
    binary main_v25 main_v102 main_v103 ((fun l r => Host.dotGeneral dot_S4x8192x256_S256x1024_S4x8192x1024_2_0_01_1_n_n none l r) : (⟨S4x8192x256, .f32⟩ : BufTy).Contents (Elt F) → (⟨S256x1024, .f32⟩ : BufTy).Contents (Elt F) → (⟨S4x8192x1024, .f32⟩ : BufTy).Contents (Elt F)),
    binary main_v100 main_v103 main_v104 (mulf : (⟨S4x8192x1024, .f32⟩ : BufTy).Contents (Elt F) → (⟨S4x8192x1024, .f32⟩ : BufTy).Contents (Elt F) → (⟨S4x8192x1024, .f32⟩ : BufTy).Contents (Elt F)),
    unary main_v99 main_v105 ((extractStridedSlice S4x8192x1024 ![0, 0, 1024] · slices_S4x8192x4096_S4x8192x1024_0_0_1024) : (⟨S4x8192x4096, .f32⟩ : BufTy).Contents (Elt F) → (⟨S4x8192x1024, .f32⟩ : BufTy).Contents (Elt F)),
    unary main_arg13 main_v106 ((extractStridedSlice S1x256x1024 ![1, 0, 0] · slices_S4x256x1024_S1x256x1024_1_0_0) : (⟨S4x256x1024, .f32⟩ : BufTy).Contents (Elt F) → (⟨S1x256x1024, .f32⟩ : BufTy).Contents (Elt F)),
    reshape main_v106 main_v107 (rfl : (.f32 : EltTy) = .f32) shapeCasts_S1x256x1024_S256x1024,
    binary main_v90 main_v107 main_v108 ((fun l r => Host.dotGeneral dot_S4x8192x256_S256x1024_S4x8192x1024_2_0_01_1_n_n none l r) : (⟨S4x8192x256, .f32⟩ : BufTy).Contents (Elt F) → (⟨S256x1024, .f32⟩ : BufTy).Contents (Elt F) → (⟨S4x8192x1024, .f32⟩ : BufTy).Contents (Elt F)),
    binary main_v105 main_v108 main_v109 (mulf : (⟨S4x8192x1024, .f32⟩ : BufTy).Contents (Elt F) → (⟨S4x8192x1024, .f32⟩ : BufTy).Contents (Elt F) → (⟨S4x8192x1024, .f32⟩ : BufTy).Contents (Elt F)),
    binary main_v104 main_v109 main_v110 (addf : (⟨S4x8192x1024, .f32⟩ : BufTy).Contents (Elt F) → (⟨S4x8192x1024, .f32⟩ : BufTy).Contents (Elt F) → (⟨S4x8192x1024, .f32⟩ : BufTy).Contents (Elt F)),
    unary main_v99 main_v111 ((extractStridedSlice S4x8192x1024 ![0, 0, 2048] · slices_S4x8192x4096_S4x8192x1024_0_0_2048) : (⟨S4x8192x4096, .f32⟩ : BufTy).Contents (Elt F) → (⟨S4x8192x1024, .f32⟩ : BufTy).Contents (Elt F)),
    unary main_arg13 main_v112 ((extractStridedSlice S1x256x1024 ![2, 0, 0] · slices_S4x256x1024_S1x256x1024_2_0_0) : (⟨S4x256x1024, .f32⟩ : BufTy).Contents (Elt F) → (⟨S1x256x1024, .f32⟩ : BufTy).Contents (Elt F)),
    reshape main_v112 main_v113 (rfl : (.f32 : EltTy) = .f32) shapeCasts_S1x256x1024_S256x1024,
    binary main_arg8 main_v113 main_v114 ((fun l r => Host.dotGeneral dot_S4x8192x256_S256x1024_S4x8192x1024_2_0_01_1_n_n none l r) : (⟨S4x8192x256, .f32⟩ : BufTy).Contents (Elt F) → (⟨S256x1024, .f32⟩ : BufTy).Contents (Elt F) → (⟨S4x8192x1024, .f32⟩ : BufTy).Contents (Elt F)),
    binary main_v111 main_v114 main_v115 (mulf : (⟨S4x8192x1024, .f32⟩ : BufTy).Contents (Elt F) → (⟨S4x8192x1024, .f32⟩ : BufTy).Contents (Elt F) → (⟨S4x8192x1024, .f32⟩ : BufTy).Contents (Elt F)),
    binary main_v110 main_v115 main_v116 (addf : (⟨S4x8192x1024, .f32⟩ : BufTy).Contents (Elt F) → (⟨S4x8192x1024, .f32⟩ : BufTy).Contents (Elt F) → (⟨S4x8192x1024, .f32⟩ : BufTy).Contents (Elt F)),
    unary main_v99 main_v117 ((extractStridedSlice S4x8192x1024 ![0, 0, 3072] · slices_S4x8192x4096_S4x8192x1024_0_0_3072) : (⟨S4x8192x4096, .f32⟩ : BufTy).Contents (Elt F) → (⟨S4x8192x1024, .f32⟩ : BufTy).Contents (Elt F)),
    unary main_arg13 main_v118 ((extractStridedSlice S1x256x1024 ![3, 0, 0] · slices_S4x256x1024_S1x256x1024_3_0_0) : (⟨S4x256x1024, .f32⟩ : BufTy).Contents (Elt F) → (⟨S1x256x1024, .f32⟩ : BufTy).Contents (Elt F)),
    reshape main_v118 main_v119 (rfl : (.f32 : EltTy) = .f32) shapeCasts_S1x256x1024_S256x1024,
    binary main_v91 main_v119 main_v120 ((fun l r => Host.dotGeneral dot_S4x8192x256_S256x1024_S4x8192x1024_2_0_01_1_n_n none l r) : (⟨S4x8192x256, .f32⟩ : BufTy).Contents (Elt F) → (⟨S256x1024, .f32⟩ : BufTy).Contents (Elt F) → (⟨S4x8192x1024, .f32⟩ : BufTy).Contents (Elt F)),
    binary main_v117 main_v120 main_v121 (mulf : (⟨S4x8192x1024, .f32⟩ : BufTy).Contents (Elt F) → (⟨S4x8192x1024, .f32⟩ : BufTy).Contents (Elt F) → (⟨S4x8192x1024, .f32⟩ : BufTy).Contents (Elt F)),
    binary main_v116 main_v121 main_v122 (addf : (⟨S4x8192x1024, .f32⟩ : BufTy).Contents (Elt F) → (⟨S4x8192x1024, .f32⟩ : BufTy).Contents (Elt F) → (⟨S4x8192x1024, .f32⟩ : BufTy).Contents (Elt F)) ]

theorem mergeOps_sub : (mergeOps : List (HloOp τ sig (Elt F))).Forall fun op => op.bufs ⊆ tcRefs τ sig :=
  ⟨unary_bufs_sub .., unary_bufs_sub .., reshape_bufs_sub .., binary_bufs_sub .., binary_bufs_sub ..,
    unary_bufs_sub .., unary_bufs_sub .., reshape_bufs_sub .., binary_bufs_sub .., binary_bufs_sub ..,
    binary_bufs_sub .., unary_bufs_sub .., unary_bufs_sub .., reshape_bufs_sub .., binary_bufs_sub ..,
    binary_bufs_sub .., binary_bufs_sub .., unary_bufs_sub .., unary_bufs_sub .., reshape_bufs_sub ..,
    binary_bufs_sub .., binary_bufs_sub .., binary_bufs_sub ..⟩

/-- The first result. -/
def outOps : List (HloOp τ sig (Elt F)) :=
  [ binary main_v122 main_arg14 main_v123 ((fun l r => Host.dotGeneral dot_S4x8192x1024_S1024x1024_S4x8192x1024_2_0_01_1_n_n none l r) : (⟨S4x8192x1024, .f32⟩ : BufTy).Contents (Elt F) → (⟨S1024x1024, .f32⟩ : BufTy).Contents (Elt F) → (⟨S4x8192x1024, .f32⟩ : BufTy).Contents (Elt F)),
    unary main_v2 main_v124 (broadcastInDim S4x8192x1024 ![0, 1, 2] bcast_S4x1x1024_S4x8192x1024_0_1_2 : (⟨S4x1x1024, .f32⟩ : BufTy).Contents (Elt F) → (⟨S4x8192x1024, .f32⟩ : BufTy).Contents (Elt F)),
    binary main_v124 main_v123 main_v125 (mulf : (⟨S4x8192x1024, .f32⟩ : BufTy).Contents (Elt F) → (⟨S4x8192x1024, .f32⟩ : BufTy).Contents (Elt F) → (⟨S4x8192x1024, .f32⟩ : BufTy).Contents (Elt F)),
    binary main_arg0 main_v125 main_v126 (addf : (⟨S4x8192x1024, .f32⟩ : BufTy).Contents (Elt F) → (⟨S4x8192x1024, .f32⟩ : BufTy).Contents (Elt F) → (⟨S4x8192x1024, .f32⟩ : BufTy).Contents (Elt F)) ]

theorem outOps_sub : (outOps : List (HloOp τ sig (Elt F))).Forall fun op => op.bufs ⊆ tcRefs τ sig :=
  ⟨binary_bufs_sub .., unary_bufs_sub .., binary_bufs_sub .., binary_bufs_sub ..⟩

/-- The second result. -/
def normOps : List (HloOp τ sig (Elt F)) :=
  [ binary main_v126 main_v126 main_v127 (mulf : (⟨S4x8192x1024, .f32⟩ : BufTy).Contents (Elt F) → (⟨S4x8192x1024, .f32⟩ : BufTy).Contents (Elt F) → (⟨S4x8192x1024, .f32⟩ : BufTy).Contents (Elt F)),
    nullary main_cst_15 (constant S_ .f32 0x00000000#32),
    binary main_v127 main_cst_15 main_v128 ((fun x v => Host.reduceAdd x v reducesTo_S4x8192x1024_S4x8192_d2 h_S_) : (⟨S4x8192x1024, .f32⟩ : BufTy).Contents (Elt F) → (⟨S_, .f32⟩ : BufTy).Contents (Elt F) → (⟨S4x8192, .f32⟩ : BufTy).Contents (Elt F)),
    unary main_v128 main_v129 (broadcastInDim S4x8192x1 ![0, 1] bcast_S4x8192_S4x8192x1_0_1 : (⟨S4x8192, .f32⟩ : BufTy).Contents (Elt F) → (⟨S4x8192x1, .f32⟩ : BufTy).Contents (Elt F)),
    nullary main_cst_16 (constant S_ .f32 0x44800000#32),
    unary main_cst_16 main_v130 (broadcastInDim S4x8192x1 ![] bcast_S_S4x8192x1 : (⟨S_, .f32⟩ : BufTy).Contents (Elt F) → (⟨S4x8192x1, .f32⟩ : BufTy).Contents (Elt F)),
    binary main_v129 main_v130 main_v131 (Host.divf : (⟨S4x8192x1, .f32⟩ : BufTy).Contents (Elt F) → (⟨S4x8192x1, .f32⟩ : BufTy).Contents (Elt F) → (⟨S4x8192x1, .f32⟩ : BufTy).Contents (Elt F)),
    nullary main_cst_17 (constant S_ .f32 0x358637BD#32),
    unary main_cst_17 main_v132 (broadcastInDim S4x8192x1 ![] bcast_S_S4x8192x1 : (⟨S_, .f32⟩ : BufTy).Contents (Elt F) → (⟨S4x8192x1, .f32⟩ : BufTy).Contents (Elt F)),
    binary main_v131 main_v132 main_v133 (addf : (⟨S4x8192x1, .f32⟩ : BufTy).Contents (Elt F) → (⟨S4x8192x1, .f32⟩ : BufTy).Contents (Elt F) → (⟨S4x8192x1, .f32⟩ : BufTy).Contents (Elt F)),
    unary main_v133 main_v134 (Host.rsqrt : (⟨S4x8192x1, .f32⟩ : BufTy).Contents (Elt F) → (⟨S4x8192x1, .f32⟩ : BufTy).Contents (Elt F)),
    unary main_v134 main_v135 (broadcastInDim S4x8192x1024 ![0, 1, 2] bcast_S4x8192x1_S4x8192x1024_0_1_2 : (⟨S4x8192x1, .f32⟩ : BufTy).Contents (Elt F) → (⟨S4x8192x1024, .f32⟩ : BufTy).Contents (Elt F)),
    binary main_v126 main_v135 main_v136 (mulf : (⟨S4x8192x1024, .f32⟩ : BufTy).Contents (Elt F) → (⟨S4x8192x1024, .f32⟩ : BufTy).Contents (Elt F) → (⟨S4x8192x1024, .f32⟩ : BufTy).Contents (Elt F)),
    unary main_arg11 main_v137 (broadcastInDim S1x1x1024 ![2] bcast_S1024_S1x1x1024_2 : (⟨S1024, .f32⟩ : BufTy).Contents (Elt F) → (⟨S1x1x1024, .f32⟩ : BufTy).Contents (Elt F)),
    unary main_v137 main_v138 (broadcastInDim S4x8192x1024 ![0, 1, 2] bcast_S1x1x1024_S4x8192x1024_0_1_2 : (⟨S1x1x1024, .f32⟩ : BufTy).Contents (Elt F) → (⟨S4x8192x1024, .f32⟩ : BufTy).Contents (Elt F)),
    binary main_v136 main_v138 main_v139 (mulf : (⟨S4x8192x1024, .f32⟩ : BufTy).Contents (Elt F) → (⟨S4x8192x1024, .f32⟩ : BufTy).Contents (Elt F) → (⟨S4x8192x1024, .f32⟩ : BufTy).Contents (Elt F)),
    nullary main_cst_18 (constant S_ .f32 0x3F800000#32),
    unary main_cst_18 main_v140 (broadcastInDim S4x1x1024 ![] bcast_S_S4x1x1024 : (⟨S_, .f32⟩ : BufTy).Contents (Elt F) → (⟨S4x1x1024, .f32⟩ : BufTy).Contents (Elt F)),
    binary main_v140 main_v4 main_v141 (addf : (⟨S4x1x1024, .f32⟩ : BufTy).Contents (Elt F) → (⟨S4x1x1024, .f32⟩ : BufTy).Contents (Elt F) → (⟨S4x1x1024, .f32⟩ : BufTy).Contents (Elt F)),
    unary main_v141 main_v142 (broadcastInDim S4x8192x1024 ![0, 1, 2] bcast_S4x1x1024_S4x8192x1024_0_1_2 : (⟨S4x1x1024, .f32⟩ : BufTy).Contents (Elt F) → (⟨S4x8192x1024, .f32⟩ : BufTy).Contents (Elt F)),
    binary main_v139 main_v142 main_v143 (mulf : (⟨S4x8192x1024, .f32⟩ : BufTy).Contents (Elt F) → (⟨S4x8192x1024, .f32⟩ : BufTy).Contents (Elt F) → (⟨S4x8192x1024, .f32⟩ : BufTy).Contents (Elt F)),
    unary main_v3 main_v144 (broadcastInDim S4x8192x1024 ![0, 1, 2] bcast_S4x1x1024_S4x8192x1024_0_1_2 : (⟨S4x1x1024, .f32⟩ : BufTy).Contents (Elt F) → (⟨S4x8192x1024, .f32⟩ : BufTy).Contents (Elt F)),
    binary main_v143 main_v144 main_v145 (addf : (⟨S4x8192x1024, .f32⟩ : BufTy).Contents (Elt F) → (⟨S4x8192x1024, .f32⟩ : BufTy).Contents (Elt F) → (⟨S4x8192x1024, .f32⟩ : BufTy).Contents (Elt F)),
    reshape main_v145 main_v146 (rfl : (.f32 : EltTy) = .f32) shapeCasts_S4x8192x1024_S32768x1024,
    unary main_v146 main_v147 ((truncf .bf16 · bitsLt_bf16_f32) : (⟨S32768x1024, .f32⟩ : BufTy).Contents (Elt F) → (⟨S32768x1024, .bf16⟩ : BufTy).Contents (Elt F)) ]

theorem normOps_sub : (normOps : List (HloOp τ sig (Elt F))).Forall fun op => op.bufs ⊆ tcRefs τ sig :=
  ⟨binary_bufs_sub .., nullary_bufs_sub .., binary_bufs_sub .., unary_bufs_sub .., nullary_bufs_sub ..,
    unary_bufs_sub .., binary_bufs_sub .., nullary_bufs_sub .., unary_bufs_sub .., binary_bufs_sub ..,
    unary_bufs_sub .., unary_bufs_sub .., binary_bufs_sub .., unary_bufs_sub .., unary_bufs_sub ..,
    binary_bufs_sub .., nullary_bufs_sub .., unary_bufs_sub .., binary_bufs_sub .., unary_bufs_sub ..,
    binary_bufs_sub .., unary_bufs_sub .., binary_bufs_sub .., reshape_bufs_sub .., unary_bufs_sub ..⟩

/-- The reference's operations, in order. -/
def ops : List (HloOp τ sig (Elt F)) :=
  rowOps ++ (slabOps ++ (headOps ++ (groupOps ++ (gateOps ++ (mergeOps ++ (outOps ++ normOps))))))

theorem main_eq (c : Dev nD) : main (F := F) c = seq ops := rfl

theorem scoped_refs : (Finset.univ.filter fun b : Ref sig .tc => b.isScoped) = ∅ := by decide

theorem scoped_sems : (Finset.univ.filter fun sm : SemLoc sig => sm.isScoped .tc) = ∅ := by decide

theorem ops_sub : (ops : List (HloOp τ sig (Elt F))).Forall fun op => op.bufs ⊆ tcRefs τ sig := by
  simp only [ops, List.forall_append]
  exact ⟨rowOps_sub, slabOps_sub, headOps_sub, groupOps_sub, gateOps_sub, mergeOps_sub, outOps_sub, normOps_sub⟩

end Cert.Proof.MergeRef

end
-- ==== Proof.MgRefRun.lean ====
/-
  THE MERGE'S REFERENCE, run: its normalisations, branches, gates and sums as functions of whole arrays, and what every
  group of operations leaves in the buffers that a later group reads.
-/
module

public import proofs.«01_k».proof.Proof.MgRefOps
public import Idealize.ShloMosaic.Lib.StableHlo.RunRead

@[expose] public section

set_option maxRecDepth 8192
set_option maxHeartbeats 4000000

noncomputable section

namespace Cert.Proof.MergeRef

open Idealize.ShloMosaic Idealize.ShloMosaic.TcCoe Idealize.SL.Sem Idealize.ShloMosaic.StableHlo
open Cert.Reference3Ideal Cert.Reference3Ideal.Gen

variable {F : FTy → Type} [FloatOps F]

/-- One row of every batch's modulation. -/
abbrev modR (o : Fin 3 → ℕ) (h : S4x8x1024.Slices o S4x1x1024) (M : FVec F S4x8x1024 .f32) : FVec F S4x1x1024 .f32 :=
  extractStridedSlice S4x1x1024 o M h

/-- Rows divided by their root mean square, weighted, scaled and shifted. -/
def normR (X : FVec F S4x8192x1024 .f32) (N : FVec F S1024 .f32) (sc sh : FVec F S4x1x1024 .f32) :
    FVec F S4x8192x1024 .f32 :=
  addf (mulf (mulf (mulf X
    (broadcastInDim S4x8192x1024 ![0, 1, 2] bcast_S4x8192x1_S4x8192x1024_0_1_2
      (Host.rsqrt (addf
        (Host.divf
          (broadcastInDim S4x8192x1 ![0, 1] bcast_S4x8192_S4x8192x1_0_1
            (Host.reduceAdd (mulf X X) (constant S_ .f32 0x00000000#32) reducesTo_S4x8192x1024_S4x8192_d2 h_S_))
          (broadcastInDim S4x8192x1 ![] bcast_S_S4x8192x1 (constant S_ .f32 0x44800000#32)))
        (broadcastInDim S4x8192x1 ![] bcast_S_S4x8192x1 (constant S_ .f32 0x358637BD#32))))))
    (broadcastInDim S4x8192x1024 ![0, 1, 2] bcast_S1x1x1024_S4x8192x1024_0_1_2
      (broadcastInDim S1x1x1024 ![2] bcast_S1024_S1x1x1024_2 N)))
    (broadcastInDim S4x8192x1024 ![0, 1, 2] bcast_S4x1x1024_S4x8192x1024_0_1_2
      (addf (broadcastInDim S4x1x1024 ![] bcast_S_S4x1x1024 (constant S_ .f32 0x3F800000#32)) sc)))
    (broadcastInDim S4x8192x1024 ![0, 1, 2] bcast_S4x1x1024_S4x8192x1024_0_1_2 sh)

/-- One slab. -/
abbrev slabR (o : Fin 4 → ℕ) (h : S11x4x8192x256.Slices o S1x4x8192x256) (P : FVec F S11x4x8192x256 .f32) :
    FVec F S4x8192x256 .f32 :=
  shapeCast _ (extractStridedSlice S1x4x8192x256 o P h) shapeCasts_S1x4x8192x256_S4x8192x256

/-- The silu of every element. -/
def siluR (v : FVec F S4x8192x256 .f32) : FVec F S4x8192x256 .f32 :=
  mulf v (Host.divf (broadcastInDim S4x8192x256 ![] bcast_S_S4x8192x256 (constant S_ .f32 0x3F800000#32))
    (addf (broadcastInDim S4x8192x256 ![] bcast_S_S4x8192x256 (constant S_ .f32 0x3F800000#32)) (Host.exp (Host.negf v))))

/-- The lanes as four heads of 64. -/
abbrev heads (v : FVec F S4x8192x256 .f32) : FVec F S4x8192x4x64 .f32 :=
  shapeCast _ v shapeCasts_S4x8192x256_S4x8192x4x64

/-- Every head divided by its root mean square. -/
def rmsHeadR (U : FVec F S4x8192x4x64 .f32) : FVec F S4x8192x4x64 .f32 :=
  mulf U (broadcastInDim S4x8192x4x64 ![0, 1, 2, 3] bcast_S4x8192x4x1_S4x8192x4x64_0_1_2_3
    (Host.rsqrt (addf
      (Host.divf
        (broadcastInDim S4x8192x4x1 ![0, 1, 2] bcast_S4x8192x4_S4x8192x4x1_0_1_2
          (Host.reduceAdd (mulf U U) (constant S_ .f32 0x00000000#32) reducesTo_S4x8192x4x64_S4x8192x4_d3 h_S_))
        (broadcastInDim S4x8192x4x1 ![] bcast_S_S4x8192x4x1 (constant S_ .f32 0x42800000#32)))
      (broadcastInDim S4x8192x4x1 ![] bcast_S_S4x8192x4x1 (constant S_ .f32 0x358637BD#32)))))

/-- The second branch, by heads. -/
def headR (H0 H1 H2 G : FVec F S4x8192x256 .f32) (W : FVec F S64 .f32) : FVec F S4x8192x4x64 .f32 :=
  mulf (mulf (rmsHeadR (heads (addf (addf H0 H1) H2)))
      (broadcastInDim S4x8192x4x64 ![0, 1, 2, 3] bcast_S1x1x1x64_S4x8192x4x64_0_1_2_3
        (broadcastInDim S1x1x1x64 ![3] bcast_S64_S1x1x1x64_3 W)))
    (heads (siluR G))

/-- The second branch, by rows. -/
abbrev ybR (U : FVec F S4x8192x4x64 .f32) : FVec F S4x8192x256 .f32 :=
  shapeCast _ U shapeCasts_S4x8192x4x64_S4x8192x256

/-- The fourth branch before its normalisation. -/
def rawR (s0 s1 s2 X Z : FVec F S4x8192x256 .f32) (D : FVec F S4 .f32) : FVec F S4x8192x256 .f32 :=
  mulf (shapeCast _ (addf (heads (addf (addf s0 s1) s2))
      (mulf (broadcastInDim S4x8192x4x64 ![0, 1, 2, 3] bcast_S1x1x4x1_S4x8192x4x64_0_1_2_3
          (broadcastInDim S1x1x4x1 ![2, 3] bcast_S4x1_S1x1x4x1_2_3 (broadcastInDim S4x1 ![0] bcast_S4_S4x1_0 D)))
        (heads X))) shapeCasts_S4x8192x4x64_S4x8192x256)
    (siluR Z)

/-- Every group of 128 lanes divided by its root mean square. -/
def rmsGroupR (U : FVec F S4x8192x2x128 .f32) : FVec F S4x8192x2x128 .f32 :=
  mulf U (broadcastInDim S4x8192x2x128 ![0, 1, 2, 3] bcast_S4x8192x2x1_S4x8192x2x128_0_1_2_3
    (Host.rsqrt (addf
      (Host.divf
        (broadcastInDim S4x8192x2x1 ![0, 1, 2] bcast_S4x8192x2_S4x8192x2x1_0_1_2
          (Host.reduceAdd (mulf U U) (constant S_ .f32 0x00000000#32) reducesTo_S4x8192x2x128_S4x8192x2_d3 h_S_))
        (broadcastInDim S4x8192x2x1 ![] bcast_S_S4x8192x2x1 (constant S_ .f32 0x43000000#32)))
      (broadcastInDim S4x8192x2x1 ![] bcast_S_S4x8192x2x1 (constant S_ .f32 0x358637BD#32)))))

/-- The fourth branch. -/
def ydR (v : FVec F S4x8192x256 .f32) (W : FVec F S256 .f32) : FVec F S4x8192x256 .f32 :=
  shapeCast _ (mulf (rmsGroupR (shapeCast _ v shapeCasts_S4x8192x256_S4x8192x2x128))
      (broadcastInDim S4x8192x2x128 ![0, 1, 2, 3] bcast_S1x1x2x128_S4x8192x2x128_0_1_2_3
        (broadcastInDim S1x1x2x128 ![2, 3] bcast_S2x128_S1x1x2x128_2_3 (shapeCast S2x128 W shapeCasts_S256_S2x128))))
    shapeCasts_S4x8192x2x128_S4x8192x256

/-- The gates. -/
def gateR (H : FVec F S4x8192x1024 .f32) (W : FVec F S1024x7176 .f32) : FVec F S4x8192x4096 .f32 :=
  Host.divf (broadcastInDim S4x8192x4096 ![] bcast_S_S4x8192x4096 (constant S_ .f32 0x3F800000#32))
    (addf (broadcastInDim S4x8192x4096 ![] bcast_S_S4x8192x4096 (constant S_ .f32 0x3F800000#32))
      (Host.exp (Host.negf (Host.dotGeneral dot_S4x8192x1024_S1024x4096_S4x8192x4096_2_0_01_1_n_n none H
        (extractStridedSlice S1024x4096 ![0, 3080] W slices_S1024x7176_S1024x4096_0_3080)))))

/-- One branch's term. -/
def termR (og : Fin 3 → ℕ) (hg : S4x8192x4096.Slices og S4x8192x1024) (ow : Fin 3 → ℕ)
    (hw : S4x256x1024.Slices ow S1x256x1024) (G : FVec F S4x8192x4096 .f32) (W : FVec F S4x256x1024 .f32)
    (Y : FVec F S4x8192x256 .f32) : FVec F S4x8192x1024 .f32 :=
  mulf (extractStridedSlice S4x8192x1024 og G hg)
    (Host.dotGeneral dot_S4x8192x256_S256x1024_S4x8192x1024_2_0_01_1_n_n none Y
      (shapeCast S256x1024 (extractStridedSlice S1x256x1024 ow W hw) shapeCasts_S1x256x1024_S256x1024))

/-- The four branches merged. -/
def mergedR (G : FVec F S4x8192x4096 .f32) (W : FVec F S4x256x1024 .f32) (A B C D : FVec F S4x8192x256 .f32) :
    FVec F S4x8192x1024 .f32 :=
  addf (addf (addf
    (termR ![0, 0, 0] slices_S4x8192x4096_S4x8192x1024_0_0_0 ![0, 0, 0] slices_S4x256x1024_S1x256x1024_0_0_0 G W A)
    (termR ![0, 0, 1024] slices_S4x8192x4096_S4x8192x1024_0_0_1024 ![1, 0, 0] slices_S4x256x1024_S1x256x1024_1_0_0 G W B))
    (termR ![0, 0, 2048] slices_S4x8192x4096_S4x8192x1024_0_0_2048 ![2, 0, 0] slices_S4x256x1024_S1x256x1024_2_0_0 G W C))
    (termR ![0, 0, 3072] slices_S4x8192x4096_S4x8192x1024_0_0_3072 ![3, 0, 0] slices_S4x256x1024_S1x256x1024_3_0_0 G W D)

/-- The first result. -/
def outR (X Y : FVec F S4x8192x1024 .f32) (W : FVec F S1024x1024 .f32) (s : FVec F S4x1x1024 .f32) :
    FVec F S4x8192x1024 .f32 :=
  addf X (mulf (broadcastInDim S4x8192x1024 ![0, 1, 2] bcast_S4x1x1024_S4x8192x1024_0_1_2 s)
    (Host.dotGeneral dot_S4x8192x1024_S1024x1024_S4x8192x1024_2_0_01_1_n_n none Y W))

/-- The second result: rows of all batches under one another, rounded. -/
def flatR (X : FVec F S4x8192x1024 .f32) : FVec F S32768x1024 .bf16 :=
  truncf .bf16 (shapeCast S32768x1024 X shapeCasts_S4x8192x1024_S32768x1024) bitsLt_bf16_f32

/-! ## What a group of operations leaves -/

variable (V : Valuation τ sig (Elt F))

theorem row_v2 : after rowOps V (no_index (Proc.devRef .tc main_v2)) = (modR ![0, 2, 0] slices_S4x8x1024_S4x1x1024_0_2_0 (V (Proc.devRef .tc main_arg9))) := by
  after_reads_simp

theorem row_v3 : after rowOps V (no_index (Proc.devRef .tc main_v3)) = (modR ![0, 3, 0] slices_S4x8x1024_S4x1x1024_0_3_0 (V (Proc.devRef .tc main_arg9))) := by
  after_reads_simp

theorem row_v4 : after rowOps V (no_index (Proc.devRef .tc main_v4)) = (modR ![0, 4, 0] slices_S4x8x1024_S4x1x1024_0_4_0 (V (Proc.devRef .tc main_arg9))) := by
  after_reads_simp

theorem row_v23 : after rowOps V (no_index (Proc.devRef .tc main_v23)) = normR (V (Proc.devRef .tc main_arg0)) (V (Proc.devRef .tc main_arg10))
      (modR ![0, 1, 0] slices_S4x8x1024_S4x1x1024_0_1_0 (V (Proc.devRef .tc main_arg9)))
      (modR ![0, 0, 0] slices_S4x8x1024_S4x1x1024_0_0_0 (V (Proc.devRef .tc main_arg9))) := by
  after_reads_simp; rfl

theorem row_arg0 : after rowOps V (no_index (Proc.devRef .tc main_arg0)) = (V (Proc.devRef .tc main_arg0)) := by
  after_reads_simp

theorem row_arg1 : after rowOps V (no_index (Proc.devRef .tc main_arg1)) = (V (Proc.devRef .tc main_arg1)) := by
  after_reads_simp

theorem row_arg2 : after rowOps V (no_index (Proc.devRef .tc main_arg2)) = (V (Proc.devRef .tc main_arg2)) := by
  after_reads_simp

theorem row_arg3 : after rowOps V (no_index (Proc.devRef .tc main_arg3)) = (V (Proc.devRef .tc main_arg3)) := by
  after_reads_simp

theorem row_arg4 : after rowOps V (no_index (Proc.devRef .tc main_arg4)) = (V (Proc.devRef .tc main_arg4)) := by
  after_reads_simp

theorem row_arg5 : after rowOps V (no_index (Proc.devRef .tc main_arg5)) = (V (Proc.devRef .tc main_arg5)) := by
  after_reads_simp

theorem row_arg6 : after rowOps V (no_index (Proc.devRef .tc main_arg6)) = (V (Proc.devRef .tc main_arg6)) := by
  after_reads_simp

theorem row_arg7 : after rowOps V (no_index (Proc.devRef .tc main_arg7)) = (V (Proc.devRef .tc main_arg7)) := by
  after_reads_simp

theorem row_arg8 : after rowOps V (no_index (Proc.devRef .tc main_arg8)) = (V (Proc.devRef .tc main_arg8)) := by
  after_reads_simp

theorem row_arg9 : after rowOps V (no_index (Proc.devRef .tc main_arg9)) = (V (Proc.devRef .tc main_arg9)) := by
  after_reads_simp

theorem row_arg10 : after rowOps V (no_index (Proc.devRef .tc main_arg10)) = (V (Proc.devRef .tc main_arg10)) := by
  after_reads_simp

theorem row_arg11 : after rowOps V (no_index (Proc.devRef .tc main_arg11)) = (V (Proc.devRef .tc main_arg11)) := by
  after_reads_simp

theorem row_arg12 : after rowOps V (no_index (Proc.devRef .tc main_arg12)) = (V (Proc.devRef .tc main_arg12)) := by
  after_reads_simp

theorem row_arg13 : after rowOps V (no_index (Proc.devRef .tc main_arg13)) = (V (Proc.devRef .tc main_arg13)) := by
  after_reads_simp

theorem row_arg14 : after rowOps V (no_index (Proc.devRef .tc main_arg14)) = (V (Proc.devRef .tc main_arg14)) := by
  after_reads_simp

theorem row_arg15 : after rowOps V (no_index (Proc.devRef .tc main_arg15)) = (V (Proc.devRef .tc main_arg15)) := by
  after_reads_simp

theorem row_arg16 : after rowOps V (no_index (Proc.devRef .tc main_arg16)) = (V (Proc.devRef .tc main_arg16)) := by
  after_reads_simp

theorem row_arg17 : after rowOps V (no_index (Proc.devRef .tc main_arg17)) = (V (Proc.devRef .tc main_arg17)) := by
  after_reads_simp

theorem row_arg18 : after rowOps V (no_index (Proc.devRef .tc main_arg18)) = (V (Proc.devRef .tc main_arg18)) := by
  after_reads_simp

theorem row_arg19 : after rowOps V (no_index (Proc.devRef .tc main_arg19)) = (V (Proc.devRef .tc main_arg19)) := by
  after_reads_simp

theorem row_arg20 : after rowOps V (no_index (Proc.devRef .tc main_arg20)) = (V (Proc.devRef .tc main_arg20)) := by
  after_reads_simp

theorem row_arg21 : after rowOps V (no_index (Proc.devRef .tc main_arg21)) = (V (Proc.devRef .tc main_arg21)) := by
  after_reads_simp

theorem slab_v2 : after slabOps V (no_index (Proc.devRef .tc main_v2)) = (V (Proc.devRef .tc main_v2)) := by
  after_reads_simp

theorem slab_v3 : after slabOps V (no_index (Proc.devRef .tc main_v3)) = (V (Proc.devRef .tc main_v3)) := by
  after_reads_simp

theorem slab_v4 : after slabOps V (no_index (Proc.devRef .tc main_v4)) = (V (Proc.devRef .tc main_v4)) := by
  after_reads_simp

theorem slab_v23 : after slabOps V (no_index (Proc.devRef .tc main_v23)) = (V (Proc.devRef .tc main_v23)) := by
  after_reads_simp

theorem slab_v25 : after slabOps V (no_index (Proc.devRef .tc main_v25)) = (slabR ![0, 0, 0, 0] slices_S11x4x8192x256_S1x4x8192x256_0_0_0_0 (V (Proc.devRef .tc main_arg1))) := by
  after_reads_simp; rfl

theorem slab_v27 : after slabOps V (no_index (Proc.devRef .tc main_v27)) = (slabR ![5, 0, 0, 0] slices_S11x4x8192x256_S1x4x8192x256_5_0_0_0 (V (Proc.devRef .tc main_arg1))) := by
  after_reads_simp; rfl

theorem slab_v29 : after slabOps V (no_index (Proc.devRef .tc main_v29)) = (slabR ![6, 0, 0, 0] slices_S11x4x8192x256_S1x4x8192x256_6_0_0_0 (V (Proc.devRef .tc main_arg1))) := by
  after_reads_simp; rfl

theorem slab_v31 : after slabOps V (no_index (Proc.devRef .tc main_v31)) = (slabR ![7, 0, 0, 0] slices_S11x4x8192x256_S1x4x8192x256_7_0_0_0 (V (Proc.devRef .tc main_arg1))) := by
  after_reads_simp; rfl

theorem slab_arg0 : after slabOps V (no_index (Proc.devRef .tc main_arg0)) = (V (Proc.devRef .tc main_arg0)) := by
  after_reads_simp

theorem slab_arg1 : after slabOps V (no_index (Proc.devRef .tc main_arg1)) = (V (Proc.devRef .tc main_arg1)) := by
  after_reads_simp

theorem slab_arg2 : after slabOps V (no_index (Proc.devRef .tc main_arg2)) = (V (Proc.devRef .tc main_arg2)) := by
  after_reads_simp

theorem slab_arg3 : after slabOps V (no_index (Proc.devRef .tc main_arg3)) = (V (Proc.devRef .tc main_arg3)) := by
  after_reads_simp

theorem slab_arg4 : after slabOps V (no_index (Proc.devRef .tc main_arg4)) = (V (Proc.devRef .tc main_arg4)) := by
  after_reads_simp

theorem slab_arg5 : after slabOps V (no_index (Proc.devRef .tc main_arg5)) = (V (Proc.devRef .tc main_arg5)) := by
  after_reads_simp

theorem slab_arg6 : after slabOps V (no_index (Proc.devRef .tc main_arg6)) = (V (Proc.devRef .tc main_arg6)) := by
  after_reads_simp

theorem slab_arg7 : after slabOps V (no_index (Proc.devRef .tc main_arg7)) = (V (Proc.devRef .tc main_arg7)) := by
  after_reads_simp

theorem slab_arg8 : after slabOps V (no_index (Proc.devRef .tc main_arg8)) = (V (Proc.devRef .tc main_arg8)) := by
  after_reads_simp

theorem slab_arg9 : after slabOps V (no_index (Proc.devRef .tc main_arg9)) = (V (Proc.devRef .tc main_arg9)) := by
  after_reads_simp

theorem slab_arg10 : after slabOps V (no_index (Proc.devRef .tc main_arg10)) = (V (Proc.devRef .tc main_arg10)) := by
  after_reads_simp

theorem slab_arg11 : after slabOps V (no_index (Proc.devRef .tc main_arg11)) = (V (Proc.devRef .tc main_arg11)) := by
  after_reads_simp

theorem slab_arg12 : after slabOps V (no_index (Proc.devRef .tc main_arg12)) = (V (Proc.devRef .tc main_arg12)) := by
  after_reads_simp

theorem slab_arg13 : after slabOps V (no_index (Proc.devRef .tc main_arg13)) = (V (Proc.devRef .tc main_arg13)) := by
  after_reads_simp

theorem slab_arg14 : after slabOps V (no_index (Proc.devRef .tc main_arg14)) = (V (Proc.devRef .tc main_arg14)) := by
  after_reads_simp

theorem slab_arg15 : after slabOps V (no_index (Proc.devRef .tc main_arg15)) = (V (Proc.devRef .tc main_arg15)) := by
  after_reads_simp

theorem slab_arg16 : after slabOps V (no_index (Proc.devRef .tc main_arg16)) = (V (Proc.devRef .tc main_arg16)) := by
  after_reads_simp

theorem slab_arg17 : after slabOps V (no_index (Proc.devRef .tc main_arg17)) = (V (Proc.devRef .tc main_arg17)) := by
  after_reads_simp

theorem slab_arg18 : after slabOps V (no_index (Proc.devRef .tc main_arg18)) = (V (Proc.devRef .tc main_arg18)) := by
  after_reads_simp

theorem slab_arg19 : after slabOps V (no_index (Proc.devRef .tc main_arg19)) = (V (Proc.devRef .tc main_arg19)) := by
  after_reads_simp

theorem slab_arg20 : after slabOps V (no_index (Proc.devRef .tc main_arg20)) = (V (Proc.devRef .tc main_arg20)) := by
  after_reads_simp

theorem slab_arg21 : after slabOps V (no_index (Proc.devRef .tc main_arg21)) = (V (Proc.devRef .tc main_arg21)) := by
  after_reads_simp

theorem head_v2 : after headOps V (no_index (Proc.devRef .tc main_v2)) = (V (Proc.devRef .tc main_v2)) := by
  after_reads_simp

theorem head_v3 : after headOps V (no_index (Proc.devRef .tc main_v3)) = (V (Proc.devRef .tc main_v3)) := by
  after_reads_simp

theorem head_v4 : after headOps V (no_index (Proc.devRef .tc main_v4)) = (V (Proc.devRef .tc main_v4)) := by
  after_reads_simp

theorem head_v23 : after headOps V (no_index (Proc.devRef .tc main_v23)) = (V (Proc.devRef .tc main_v23)) := by
  after_reads_simp

theorem head_v25 : after headOps V (no_index (Proc.devRef .tc main_v25)) = (V (Proc.devRef .tc main_v25)) := by
  after_reads_simp

theorem head_v29 : after headOps V (no_index (Proc.devRef .tc main_v29)) = (V (Proc.devRef .tc main_v29)) := by
  after_reads_simp

theorem head_v31 : after headOps V (no_index (Proc.devRef .tc main_v31)) = (V (Proc.devRef .tc main_v31)) := by
  after_reads_simp

theorem head_v56 : after headOps V (no_index (Proc.devRef .tc main_v56)) = headR (V (Proc.devRef .tc main_arg2)) (V (Proc.devRef .tc main_arg3)) (V (Proc.devRef .tc main_arg4)) (V (Proc.devRef .tc main_v27))
      (V (Proc.devRef .tc main_arg15)) := by
  after_reads_simp; rfl

theorem head_arg0 : after headOps V (no_index (Proc.devRef .tc main_arg0)) = (V (Proc.devRef .tc main_arg0)) := by
  after_reads_simp

theorem head_arg1 : after headOps V (no_index (Proc.devRef .tc main_arg1)) = (V (Proc.devRef .tc main_arg1)) := by
  after_reads_simp

theorem head_arg2 : after headOps V (no_index (Proc.devRef .tc main_arg2)) = (V (Proc.devRef .tc main_arg2)) := by
  after_reads_simp

theorem head_arg3 : after headOps V (no_index (Proc.devRef .tc main_arg3)) = (V (Proc.devRef .tc main_arg3)) := by
  after_reads_simp

theorem head_arg4 : after headOps V (no_index (Proc.devRef .tc main_arg4)) = (V (Proc.devRef .tc main_arg4)) := by
  after_reads_simp

theorem head_arg5 : after headOps V (no_index (Proc.devRef .tc main_arg5)) = (V (Proc.devRef .tc main_arg5)) := by
  after_reads_simp

theorem head_arg6 : after headOps V (no_index (Proc.devRef .tc main_arg6)) = (V (Proc.devRef .tc main_arg6)) := by
  after_reads_simp

theorem head_arg7 : after headOps V (no_index (Proc.devRef .tc main_arg7)) = (V (Proc.devRef .tc main_arg7)) := by
  after_reads_simp

theorem head_arg8 : after headOps V (no_index (Proc.devRef .tc main_arg8)) = (V (Proc.devRef .tc main_arg8)) := by
  after_reads_simp

theorem head_arg9 : after headOps V (no_index (Proc.devRef .tc main_arg9)) = (V (Proc.devRef .tc main_arg9)) := by
  after_reads_simp

theorem head_arg10 : after headOps V (no_index (Proc.devRef .tc main_arg10)) = (V (Proc.devRef .tc main_arg10)) := by
  after_reads_simp

theorem head_arg11 : after headOps V (no_index (Proc.devRef .tc main_arg11)) = (V (Proc.devRef .tc main_arg11)) := by
  after_reads_simp

theorem head_arg12 : after headOps V (no_index (Proc.devRef .tc main_arg12)) = (V (Proc.devRef .tc main_arg12)) := by
  after_reads_simp

theorem head_arg13 : after headOps V (no_index (Proc.devRef .tc main_arg13)) = (V (Proc.devRef .tc main_arg13)) := by
  after_reads_simp

theorem head_arg14 : after headOps V (no_index (Proc.devRef .tc main_arg14)) = (V (Proc.devRef .tc main_arg14)) := by
  after_reads_simp

theorem head_arg15 : after headOps V (no_index (Proc.devRef .tc main_arg15)) = (V (Proc.devRef .tc main_arg15)) := by
  after_reads_simp

theorem head_arg16 : after headOps V (no_index (Proc.devRef .tc main_arg16)) = (V (Proc.devRef .tc main_arg16)) := by
  after_reads_simp

theorem head_arg17 : after headOps V (no_index (Proc.devRef .tc main_arg17)) = (V (Proc.devRef .tc main_arg17)) := by
  after_reads_simp

theorem head_arg18 : after headOps V (no_index (Proc.devRef .tc main_arg18)) = (V (Proc.devRef .tc main_arg18)) := by
  after_reads_simp

theorem head_arg19 : after headOps V (no_index (Proc.devRef .tc main_arg19)) = (V (Proc.devRef .tc main_arg19)) := by
  after_reads_simp

theorem head_arg20 : after headOps V (no_index (Proc.devRef .tc main_arg20)) = (V (Proc.devRef .tc main_arg20)) := by
  after_reads_simp

theorem head_arg21 : after headOps V (no_index (Proc.devRef .tc main_arg21)) = (V (Proc.devRef .tc main_arg21)) := by
  after_reads_simp

theorem group_v2 : after groupOps V (no_index (Proc.devRef .tc main_v2)) = (V (Proc.devRef .tc main_v2)) := by
  after_reads_simp

theorem group_v3 : after groupOps V (no_index (Proc.devRef .tc main_v3)) = (V (Proc.devRef .tc main_v3)) := by
  after_reads_simp

theorem group_v4 : after groupOps V (no_index (Proc.devRef .tc main_v4)) = (V (Proc.devRef .tc main_v4)) := by
  after_reads_simp

theorem group_v23 : after groupOps V (no_index (Proc.devRef .tc main_v23)) = (V (Proc.devRef .tc main_v23)) := by
  after_reads_simp

theorem group_v25 : after groupOps V (no_index (Proc.devRef .tc main_v25)) = (V (Proc.devRef .tc main_v25)) := by
  after_reads_simp

theorem group_v90 : after groupOps V (no_index (Proc.devRef .tc main_v90)) = ybR (V (Proc.devRef .tc main_v56)) := by
  after_reads_simp; rfl

theorem group_v91 : after groupOps V (no_index (Proc.devRef .tc main_v91)) = ydR (rawR (V (Proc.devRef .tc main_arg5)) (V (Proc.devRef .tc main_arg6)) (V (Proc.devRef .tc main_arg7))
      (V (Proc.devRef .tc main_v31)) (V (Proc.devRef .tc main_v29)) (V (Proc.devRef .tc main_arg16))) (V (Proc.devRef .tc main_arg17)) := by
  after_reads_simp; rfl

theorem group_arg0 : after groupOps V (no_index (Proc.devRef .tc main_arg0)) = (V (Proc.devRef .tc main_arg0)) := by
  after_reads_simp

theorem group_arg1 : after groupOps V (no_index (Proc.devRef .tc main_arg1)) = (V (Proc.devRef .tc main_arg1)) := by
  after_reads_simp

theorem group_arg2 : after groupOps V (no_index (Proc.devRef .tc main_arg2)) = (V (Proc.devRef .tc main_arg2)) := by
  after_reads_simp

theorem group_arg3 : after groupOps V (no_index (Proc.devRef .tc main_arg3)) = (V (Proc.devRef .tc main_arg3)) := by
  after_reads_simp

theorem group_arg4 : after groupOps V (no_index (Proc.devRef .tc main_arg4)) = (V (Proc.devRef .tc main_arg4)) := by
  after_reads_simp

theorem group_arg5 : after groupOps V (no_index (Proc.devRef .tc main_arg5)) = (V (Proc.devRef .tc main_arg5)) := by
  after_reads_simp

theorem group_arg6 : after groupOps V (no_index (Proc.devRef .tc main_arg6)) = (V (Proc.devRef .tc main_arg6)) := by
  after_reads_simp

theorem group_arg7 : after groupOps V (no_index (Proc.devRef .tc main_arg7)) = (V (Proc.devRef .tc main_arg7)) := by
  after_reads_simp

theorem group_arg8 : after groupOps V (no_index (Proc.devRef .tc main_arg8)) = (V (Proc.devRef .tc main_arg8)) := by
  after_reads_simp

theorem group_arg9 : after groupOps V (no_index (Proc.devRef .tc main_arg9)) = (V (Proc.devRef .tc main_arg9)) := by
  after_reads_simp

theorem group_arg10 : after groupOps V (no_index (Proc.devRef .tc main_arg10)) = (V (Proc.devRef .tc main_arg10)) := by
  after_reads_simp

theorem group_arg11 : after groupOps V (no_index (Proc.devRef .tc main_arg11)) = (V (Proc.devRef .tc main_arg11)) := by
  after_reads_simp

theorem group_arg12 : after groupOps V (no_index (Proc.devRef .tc main_arg12)) = (V (Proc.devRef .tc main_arg12)) := by
  after_reads_simp

theorem group_arg13 : after groupOps V (no_index (Proc.devRef .tc main_arg13)) = (V (Proc.devRef .tc main_arg13)) := by
  after_reads_simp

theorem group_arg14 : after groupOps V (no_index (Proc.devRef .tc main_arg14)) = (V (Proc.devRef .tc main_arg14)) := by
  after_reads_simp

theorem group_arg15 : after groupOps V (no_index (Proc.devRef .tc main_arg15)) = (V (Proc.devRef .tc main_arg15)) := by
  after_reads_simp

theorem group_arg16 : after groupOps V (no_index (Proc.devRef .tc main_arg16)) = (V (Proc.devRef .tc main_arg16)) := by
  after_reads_simp

theorem group_arg17 : after groupOps V (no_index (Proc.devRef .tc main_arg17)) = (V (Proc.devRef .tc main_arg17)) := by
  after_reads_simp

theorem group_arg18 : after groupOps V (no_index (Proc.devRef .tc main_arg18)) = (V (Proc.devRef .tc main_arg18)) := by
  after_reads_simp

theorem group_arg19 : after groupOps V (no_index (Proc.devRef .tc main_arg19)) = (V (Proc.devRef .tc main_arg19)) := by
  after_reads_simp

theorem group_arg20 : after groupOps V (no_index (Proc.devRef .tc main_arg20)) = (V (Proc.devRef .tc main_arg20)) := by
  after_reads_simp

theorem group_arg21 : after groupOps V (no_index (Proc.devRef .tc main_arg21)) = (V (Proc.devRef .tc main_arg21)) := by
  after_reads_simp

theorem gate_v2 : after gateOps V (no_index (Proc.devRef .tc main_v2)) = (V (Proc.devRef .tc main_v2)) := by
  after_reads_simp

theorem gate_v3 : after gateOps V (no_index (Proc.devRef .tc main_v3)) = (V (Proc.devRef .tc main_v3)) := by
  after_reads_simp

theorem gate_v4 : after gateOps V (no_index (Proc.devRef .tc main_v4)) = (V (Proc.devRef .tc main_v4)) := by
  after_reads_simp

theorem gate_v25 : after gateOps V (no_index (Proc.devRef .tc main_v25)) = (V (Proc.devRef .tc main_v25)) := by
  after_reads_simp

theorem gate_v90 : after gateOps V (no_index (Proc.devRef .tc main_v90)) = (V (Proc.devRef .tc main_v90)) := by
  after_reads_simp

theorem gate_v91 : after gateOps V (no_index (Proc.devRef .tc main_v91)) = (V (Proc.devRef .tc main_v91)) := by
  after_reads_simp

theorem gate_v99 : after gateOps V (no_index (Proc.devRef .tc main_v99)) = gateR (V (Proc.devRef .tc main_v23)) (V (Proc.devRef .tc main_arg12)) := by
  after_reads_simp; rfl

theorem gate_arg0 : after gateOps V (no_index (Proc.devRef .tc main_arg0)) = (V (Proc.devRef .tc main_arg0)) := by
  after_reads_simp

theorem gate_arg1 : after gateOps V (no_index (Proc.devRef .tc main_arg1)) = (V (Proc.devRef .tc main_arg1)) := by
  after_reads_simp

theorem gate_arg2 : after gateOps V (no_index (Proc.devRef .tc main_arg2)) = (V (Proc.devRef .tc main_arg2)) := by
  after_reads_simp

theorem gate_arg3 : after gateOps V (no_index (Proc.devRef .tc main_arg3)) = (V (Proc.devRef .tc main_arg3)) := by
  after_reads_simp

theorem gate_arg4 : after gateOps V (no_index (Proc.devRef .tc main_arg4)) = (V (Proc.devRef .tc main_arg4)) := by
  after_reads_simp

theorem gate_arg5 : after gateOps V (no_index (Proc.devRef .tc main_arg5)) = (V (Proc.devRef .tc main_arg5)) := by
  after_reads_simp

theorem gate_arg6 : after gateOps V (no_index (Proc.devRef .tc main_arg6)) = (V (Proc.devRef .tc main_arg6)) := by
  after_reads_simp

theorem gate_arg7 : after gateOps V (no_index (Proc.devRef .tc main_arg7)) = (V (Proc.devRef .tc main_arg7)) := by
  after_reads_simp

theorem gate_arg8 : after gateOps V (no_index (Proc.devRef .tc main_arg8)) = (V (Proc.devRef .tc main_arg8)) := by
  after_reads_simp

theorem gate_arg9 : after gateOps V (no_index (Proc.devRef .tc main_arg9)) = (V (Proc.devRef .tc main_arg9)) := by
  after_reads_simp

theorem gate_arg10 : after gateOps V (no_index (Proc.devRef .tc main_arg10)) = (V (Proc.devRef .tc main_arg10)) := by
  after_reads_simp

theorem gate_arg11 : after gateOps V (no_index (Proc.devRef .tc main_arg11)) = (V (Proc.devRef .tc main_arg11)) := by
  after_reads_simp

theorem gate_arg12 : after gateOps V (no_index (Proc.devRef .tc main_arg12)) = (V (Proc.devRef .tc main_arg12)) := by
  after_reads_simp

theorem gate_arg13 : after gateOps V (no_index (Proc.devRef .tc main_arg13)) = (V (Proc.devRef .tc main_arg13)) := by
  after_reads_simp

theorem gate_arg14 : after gateOps V (no_index (Proc.devRef .tc main_arg14)) = (V (Proc.devRef .tc main_arg14)) := by
  after_reads_simp

theorem gate_arg15 : after gateOps V (no_index (Proc.devRef .tc main_arg15)) = (V (Proc.devRef .tc main_arg15)) := by
  after_reads_simp

theorem gate_arg16 : after gateOps V (no_index (Proc.devRef .tc main_arg16)) = (V (Proc.devRef .tc main_arg16)) := by
  after_reads_simp

theorem gate_arg17 : after gateOps V (no_index (Proc.devRef .tc main_arg17)) = (V (Proc.devRef .tc main_arg17)) := by
  after_reads_simp

theorem gate_arg18 : after gateOps V (no_index (Proc.devRef .tc main_arg18)) = (V (Proc.devRef .tc main_arg18)) := by
  after_reads_simp

theorem gate_arg19 : after gateOps V (no_index (Proc.devRef .tc main_arg19)) = (V (Proc.devRef .tc main_arg19)) := by
  after_reads_simp

theorem gate_arg20 : after gateOps V (no_index (Proc.devRef .tc main_arg20)) = (V (Proc.devRef .tc main_arg20)) := by
  after_reads_simp

theorem gate_arg21 : after gateOps V (no_index (Proc.devRef .tc main_arg21)) = (V (Proc.devRef .tc main_arg21)) := by
  after_reads_simp

theorem merge_v2 : after mergeOps V (no_index (Proc.devRef .tc main_v2)) = (V (Proc.devRef .tc main_v2)) := by
  after_reads_simp

theorem merge_v3 : after mergeOps V (no_index (Proc.devRef .tc main_v3)) = (V (Proc.devRef .tc main_v3)) := by
  after_reads_simp

theorem merge_v4 : after mergeOps V (no_index (Proc.devRef .tc main_v4)) = (V (Proc.devRef .tc main_v4)) := by
  after_reads_simp

theorem merge_v122 : after mergeOps V (no_index (Proc.devRef .tc main_v122)) = mergedR (V (Proc.devRef .tc main_v99)) (V (Proc.devRef .tc main_arg13))
      (V (Proc.devRef .tc main_v25)) (V (Proc.devRef .tc main_v90)) (V (Proc.devRef .tc main_arg8)) (V (Proc.devRef .tc main_v91)) := by
  after_reads_simp; rfl

theorem merge_arg0 : after mergeOps V (no_index (Proc.devRef .tc main_arg0)) = (V (Proc.devRef .tc main_arg0)) := by
  after_reads_simp

theorem merge_arg1 : after mergeOps V (no_index (Proc.devRef .tc main_arg1)) = (V (Proc.devRef .tc main_arg1)) := by
  after_reads_simp

theorem merge_arg2 : after mergeOps V (no_index (Proc.devRef .tc main_arg2)) = (V (Proc.devRef .tc main_arg2)) := by
  after_reads_simp

theorem merge_arg3 : after mergeOps V (no_index (Proc.devRef .tc main_arg3)) = (V (Proc.devRef .tc main_arg3)) := by
  after_reads_simp

theorem merge_arg4 : after mergeOps V (no_index (Proc.devRef .tc main_arg4)) = (V (Proc.devRef .tc main_arg4)) := by
  after_reads_simp

theorem merge_arg5 : after mergeOps V (no_index (Proc.devRef .tc main_arg5)) = (V (Proc.devRef .tc main_arg5)) := by
  after_reads_simp

theorem merge_arg6 : after mergeOps V (no_index (Proc.devRef .tc main_arg6)) = (V (Proc.devRef .tc main_arg6)) := by
  after_reads_simp

theorem merge_arg7 : after mergeOps V (no_index (Proc.devRef .tc main_arg7)) = (V (Proc.devRef .tc main_arg7)) := by
  after_reads_simp

theorem merge_arg8 : after mergeOps V (no_index (Proc.devRef .tc main_arg8)) = (V (Proc.devRef .tc main_arg8)) := by
  after_reads_simp

theorem merge_arg9 : after mergeOps V (no_index (Proc.devRef .tc main_arg9)) = (V (Proc.devRef .tc main_arg9)) := by
  after_reads_simp

theorem merge_arg10 : after mergeOps V (no_index (Proc.devRef .tc main_arg10)) = (V (Proc.devRef .tc main_arg10)) := by
  after_reads_simp

theorem merge_arg11 : after mergeOps V (no_index (Proc.devRef .tc main_arg11)) = (V (Proc.devRef .tc main_arg11)) := by
  after_reads_simp

theorem merge_arg12 : after mergeOps V (no_index (Proc.devRef .tc main_arg12)) = (V (Proc.devRef .tc main_arg12)) := by
  after_reads_simp

theorem merge_arg13 : after mergeOps V (no_index (Proc.devRef .tc main_arg13)) = (V (Proc.devRef .tc main_arg13)) := by
  after_reads_simp

theorem merge_arg14 : after mergeOps V (no_index (Proc.devRef .tc main_arg14)) = (V (Proc.devRef .tc main_arg14)) := by
  after_reads_simp

theorem merge_arg15 : after mergeOps V (no_index (Proc.devRef .tc main_arg15)) = (V (Proc.devRef .tc main_arg15)) := by
  after_reads_simp

theorem merge_arg16 : after mergeOps V (no_index (Proc.devRef .tc main_arg16)) = (V (Proc.devRef .tc main_arg16)) := by
  after_reads_simp

theorem merge_arg17 : after mergeOps V (no_index (Proc.devRef .tc main_arg17)) = (V (Proc.devRef .tc main_arg17)) := by
  after_reads_simp

theorem merge_arg18 : after mergeOps V (no_index (Proc.devRef .tc main_arg18)) = (V (Proc.devRef .tc main_arg18)) := by
  after_reads_simp

theorem merge_arg19 : after mergeOps V (no_index (Proc.devRef .tc main_arg19)) = (V (Proc.devRef .tc main_arg19)) := by
  after_reads_simp

theorem merge_arg20 : after mergeOps V (no_index (Proc.devRef .tc main_arg20)) = (V (Proc.devRef .tc main_arg20)) := by
  after_reads_simp

theorem merge_arg21 : after mergeOps V (no_index (Proc.devRef .tc main_arg21)) = (V (Proc.devRef .tc main_arg21)) := by
  after_reads_simp

theorem out_v3 : after outOps V (no_index (Proc.devRef .tc main_v3)) = (V (Proc.devRef .tc main_v3)) := by
  after_reads_simp

theorem out_v4 : after outOps V (no_index (Proc.devRef .tc main_v4)) = (V (Proc.devRef .tc main_v4)) := by
  after_reads_simp

theorem out_v126 : after outOps V (no_index (Proc.devRef .tc main_v126)) = outR (V (Proc.devRef .tc main_arg0)) (V (Proc.devRef .tc main_v122)) (V (Proc.devRef .tc main_arg14)) (V (Proc.devRef .tc main_v2)) := by
  after_reads_simp; rfl

theorem out_arg0 : after outOps V (no_index (Proc.devRef .tc main_arg0)) = (V (Proc.devRef .tc main_arg0)) := by
  after_reads_simp

theorem out_arg1 : after outOps V (no_index (Proc.devRef .tc main_arg1)) = (V (Proc.devRef .tc main_arg1)) := by
  after_reads_simp

theorem out_arg2 : after outOps V (no_index (Proc.devRef .tc main_arg2)) = (V (Proc.devRef .tc main_arg2)) := by
  after_reads_simp

theorem out_arg3 : after outOps V (no_index (Proc.devRef .tc main_arg3)) = (V (Proc.devRef .tc main_arg3)) := by
  after_reads_simp

theorem out_arg4 : after outOps V (no_index (Proc.devRef .tc main_arg4)) = (V (Proc.devRef .tc main_arg4)) := by
  after_reads_simp

theorem out_arg5 : after outOps V (no_index (Proc.devRef .tc main_arg5)) = (V (Proc.devRef .tc main_arg5)) := by
  after_reads_simp

theorem out_arg6 : after outOps V (no_index (Proc.devRef .tc main_arg6)) = (V (Proc.devRef .tc main_arg6)) := by
  after_reads_simp

theorem out_arg7 : after outOps V (no_index (Proc.devRef .tc main_arg7)) = (V (Proc.devRef .tc main_arg7)) := by
  after_reads_simp

theorem out_arg8 : after outOps V (no_index (Proc.devRef .tc main_arg8)) = (V (Proc.devRef .tc main_arg8)) := by
  after_reads_simp

theorem out_arg9 : after outOps V (no_index (Proc.devRef .tc main_arg9)) = (V (Proc.devRef .tc main_arg9)) := by
  after_reads_simp

theorem out_arg10 : after outOps V (no_index (Proc.devRef .tc main_arg10)) = (V (Proc.devRef .tc main_arg10)) := by
  after_reads_simp

theorem out_arg11 : after outOps V (no_index (Proc.devRef .tc main_arg11)) = (V (Proc.devRef .tc main_arg11)) := by
  after_reads_simp

theorem out_arg12 : after outOps V (no_index (Proc.devRef .tc main_arg12)) = (V (Proc.devRef .tc main_arg12)) := by
  after_reads_simp

theorem out_arg13 : after outOps V (no_index (Proc.devRef .tc main_arg13)) = (V (Proc.devRef .tc main_arg13)) := by
  after_reads_simp

theorem out_arg14 : after outOps V (no_index (Proc.devRef .tc main_arg14)) = (V (Proc.devRef .tc main_arg14)) := by
  after_reads_simp

theorem out_arg15 : after outOps V (no_index (Proc.devRef .tc main_arg15)) = (V (Proc.devRef .tc main_arg15)) := by
  after_reads_simp

theorem out_arg16 : after outOps V (no_index (Proc.devRef .tc main_arg16)) = (V (Proc.devRef .tc main_arg16)) := by
  after_reads_simp

theorem out_arg17 : after outOps V (no_index (Proc.devRef .tc main_arg17)) = (V (Proc.devRef .tc main_arg17)) := by
  after_reads_simp

theorem out_arg18 : after outOps V (no_index (Proc.devRef .tc main_arg18)) = (V (Proc.devRef .tc main_arg18)) := by
  after_reads_simp

theorem out_arg19 : after outOps V (no_index (Proc.devRef .tc main_arg19)) = (V (Proc.devRef .tc main_arg19)) := by
  after_reads_simp

theorem out_arg20 : after outOps V (no_index (Proc.devRef .tc main_arg20)) = (V (Proc.devRef .tc main_arg20)) := by
  after_reads_simp

theorem out_arg21 : after outOps V (no_index (Proc.devRef .tc main_arg21)) = (V (Proc.devRef .tc main_arg21)) := by
  after_reads_simp

theorem norm_v126 : after normOps V (no_index (Proc.devRef .tc main_v126)) = (V (Proc.devRef .tc main_v126)) := by
  after_reads_simp

theorem norm_v147 : after normOps V (no_index (Proc.devRef .tc main_v147)) = flatR (normR (V (Proc.devRef .tc main_v126)) (V (Proc.devRef .tc main_arg11)) (V (Proc.devRef .tc main_v4)) (V (Proc.devRef .tc main_v3))) := by
  after_reads_simp; rfl

theorem norm_arg0 : after normOps V (no_index (Proc.devRef .tc main_arg0)) = (V (Proc.devRef .tc main_arg0)) := by
  after_reads_simp

theorem norm_arg1 : after normOps V (no_index (Proc.devRef .tc main_arg1)) = (V (Proc.devRef .tc main_arg1)) := by
  after_reads_simp

theorem norm_arg2 : after normOps V (no_index (Proc.devRef .tc main_arg2)) = (V (Proc.devRef .tc main_arg2)) := by
  after_reads_simp

theorem norm_arg3 : after normOps V (no_index (Proc.devRef .tc main_arg3)) = (V (Proc.devRef .tc main_arg3)) := by
  after_reads_simp

theorem norm_arg4 : after normOps V (no_index (Proc.devRef .tc main_arg4)) = (V (Proc.devRef .tc main_arg4)) := by
  after_reads_simp

theorem norm_arg5 : after normOps V (no_index (Proc.devRef .tc main_arg5)) = (V (Proc.devRef .tc main_arg5)) := by
  after_reads_simp

theorem norm_arg6 : after normOps V (no_index (Proc.devRef .tc main_arg6)) = (V (Proc.devRef .tc main_arg6)) := by
  after_reads_simp

theorem norm_arg7 : after normOps V (no_index (Proc.devRef .tc main_arg7)) = (V (Proc.devRef .tc main_arg7)) := by
  after_reads_simp

theorem norm_arg8 : after normOps V (no_index (Proc.devRef .tc main_arg8)) = (V (Proc.devRef .tc main_arg8)) := by
  after_reads_simp

theorem norm_arg9 : after normOps V (no_index (Proc.devRef .tc main_arg9)) = (V (Proc.devRef .tc main_arg9)) := by
  after_reads_simp

theorem norm_arg10 : after normOps V (no_index (Proc.devRef .tc main_arg10)) = (V (Proc.devRef .tc main_arg10)) := by
  after_reads_simp

theorem norm_arg11 : after normOps V (no_index (Proc.devRef .tc main_arg11)) = (V (Proc.devRef .tc main_arg11)) := by
  after_reads_simp

theorem norm_arg12 : after normOps V (no_index (Proc.devRef .tc main_arg12)) = (V (Proc.devRef .tc main_arg12)) := by
  after_reads_simp

theorem norm_arg13 : after normOps V (no_index (Proc.devRef .tc main_arg13)) = (V (Proc.devRef .tc main_arg13)) := by
  after_reads_simp

theorem norm_arg14 : after normOps V (no_index (Proc.devRef .tc main_arg14)) = (V (Proc.devRef .tc main_arg14)) := by
  after_reads_simp

theorem norm_arg15 : after normOps V (no_index (Proc.devRef .tc main_arg15)) = (V (Proc.devRef .tc main_arg15)) := by
  after_reads_simp

theorem norm_arg16 : after normOps V (no_index (Proc.devRef .tc main_arg16)) = (V (Proc.devRef .tc main_arg16)) := by
  after_reads_simp

theorem norm_arg17 : after normOps V (no_index (Proc.devRef .tc main_arg17)) = (V (Proc.devRef .tc main_arg17)) := by
  after_reads_simp

theorem norm_arg18 : after normOps V (no_index (Proc.devRef .tc main_arg18)) = (V (Proc.devRef .tc main_arg18)) := by
  after_reads_simp

theorem norm_arg19 : after normOps V (no_index (Proc.devRef .tc main_arg19)) = (V (Proc.devRef .tc main_arg19)) := by
  after_reads_simp

theorem norm_arg20 : after normOps V (no_index (Proc.devRef .tc main_arg20)) = (V (Proc.devRef .tc main_arg20)) := by
  after_reads_simp

theorem norm_arg21 : after normOps V (no_index (Proc.devRef .tc main_arg21)) = (V (Proc.devRef .tc main_arg21)) := by
  after_reads_simp

/-! ## The whole line -/

/-- One list of operations after another. -/
theorem after_two (l k : List (HloOp τ sig (Elt F))) (V : Valuation τ sig (Elt F)) :
    after (l ++ k) V = after k (after l V) := by
  induction l generalizing V with
  | nil => rfl
  | cons o l ih => exact ih _

/-- The first result of the reference, as a function of its arguments. -/
def res0 (x : FVec F S4x8192x1024 .f32) (P : FVec F S11x4x8192x256 .f32) (h0 h1 h2 s0 s1 s2 yc : FVec F S4x8192x256 .f32)
    (M : FVec F S4x8x1024 .f32) (nm : FVec F S1024 .f32) (W : FVec F S1024x7176 .f32) (wb : FVec F S4x256x1024 .f32)
    (wo : FVec F S1024x1024 .f32) (hw : FVec F S64 .f32) (sd : FVec F S4 .f32) (sw : FVec F S256 .f32) :
    FVec F S4x8192x1024 .f32 :=
  outR x (mergedR (gateR (normR x nm (modR ![0, 1, 0] slices_S4x8x1024_S4x1x1024_0_1_0 M)
        (modR ![0, 0, 0] slices_S4x8x1024_S4x1x1024_0_0_0 M)) W) wb
      (slabR ![0, 0, 0, 0] slices_S11x4x8192x256_S1x4x8192x256_0_0_0_0 P)
      (ybR (headR h0 h1 h2 (slabR ![5, 0, 0, 0] slices_S11x4x8192x256_S1x4x8192x256_5_0_0_0 P) hw)) yc
      (ydR (rawR s0 s1 s2 (slabR ![7, 0, 0, 0] slices_S11x4x8192x256_S1x4x8192x256_7_0_0_0 P)
        (slabR ![6, 0, 0, 0] slices_S11x4x8192x256_S1x4x8192x256_6_0_0_0 P) sd) sw))
    wo (modR ![0, 2, 0] slices_S4x8x1024_S4x1x1024_0_2_0 M)

/-- The second result, from the first. -/
def res1 (X : FVec F S4x8192x1024 .f32) (nf : FVec F S1024 .f32) (M : FVec F S4x8x1024 .f32) : FVec F S32768x1024 .bf16 :=
  flatR (normR X nf (modR ![0, 4, 0] slices_S4x8x1024_S4x1x1024_0_4_0 M)
    (modR ![0, 3, 0] slices_S4x8x1024_S4x1x1024_0_3_0 M))

theorem ops_v126 : after ops V (Proc.devRef .tc main_v126)
    = res0
      (V (Proc.devRef .tc main_arg0)) (V (Proc.devRef .tc main_arg1)) (V (Proc.devRef .tc main_arg2))
      (V (Proc.devRef .tc main_arg3)) (V (Proc.devRef .tc main_arg4)) (V (Proc.devRef .tc main_arg5))
      (V (Proc.devRef .tc main_arg6)) (V (Proc.devRef .tc main_arg7)) (V (Proc.devRef .tc main_arg8))
      (V (Proc.devRef .tc main_arg9)) (V (Proc.devRef .tc main_arg10)) (V (Proc.devRef .tc main_arg12))
      (V (Proc.devRef .tc main_arg13)) (V (Proc.devRef .tc main_arg14)) (V (Proc.devRef .tc main_arg15))
      (V (Proc.devRef .tc main_arg16)) (V (Proc.devRef .tc main_arg17)) := by
  simp only [ops, after_two,
    row_v2, row_v3, row_v4, row_v23, slab_v2, slab_v3, slab_v4, slab_v23, slab_v25, slab_v27, slab_v29,
    slab_v31, head_v2, head_v3, head_v4, head_v23, head_v25, head_v29, head_v31, head_v56, group_v2, group_v3,
    group_v4, group_v23, group_v25, group_v90, group_v91, gate_v2, gate_v3, gate_v4, gate_v25, gate_v90,
    gate_v91, gate_v99, merge_v2, merge_v3, merge_v4, merge_v122, out_v3, out_v4, out_v126, norm_v126,
    norm_v147, row_arg0, row_arg1, row_arg2, row_arg3, row_arg4, row_arg5, row_arg6, row_arg7, row_arg8,
    row_arg9, row_arg10, row_arg11, row_arg12, row_arg13, row_arg14, row_arg15, row_arg16, row_arg17, row_arg18,
    row_arg19, row_arg20, row_arg21, slab_arg0, slab_arg1, slab_arg2, slab_arg3, slab_arg4, slab_arg5,
    slab_arg6, slab_arg7, slab_arg8, slab_arg9, slab_arg10, slab_arg11, slab_arg12, slab_arg13, slab_arg14,
    slab_arg15, slab_arg16, slab_arg17, slab_arg18, slab_arg19, slab_arg20, slab_arg21, head_arg0, head_arg1,
    head_arg2, head_arg3, head_arg4, head_arg5, head_arg6, head_arg7, head_arg8, head_arg9, head_arg10,
    head_arg11, head_arg12, head_arg13, head_arg14, head_arg15, head_arg16, head_arg17, head_arg18, head_arg19,
    head_arg20, head_arg21, group_arg0, group_arg1, group_arg2, group_arg3, group_arg4, group_arg5, group_arg6,
    group_arg7, group_arg8, group_arg9, group_arg10, group_arg11, group_arg12, group_arg13, group_arg14,
    group_arg15, group_arg16, group_arg17, group_arg18, group_arg19, group_arg20, group_arg21, gate_arg0,
    gate_arg1, gate_arg2, gate_arg3, gate_arg4, gate_arg5, gate_arg6, gate_arg7, gate_arg8, gate_arg9,
    gate_arg10, gate_arg11, gate_arg12, gate_arg13, gate_arg14, gate_arg15, gate_arg16, gate_arg17, gate_arg18,
    gate_arg19, gate_arg20, gate_arg21, merge_arg0, merge_arg1, merge_arg2, merge_arg3, merge_arg4, merge_arg5,
    merge_arg6, merge_arg7, merge_arg8, merge_arg9, merge_arg10, merge_arg11, merge_arg12, merge_arg13,
    merge_arg14, merge_arg15, merge_arg16, merge_arg17, merge_arg18, merge_arg19, merge_arg20, merge_arg21,
    out_arg0, out_arg1, out_arg2, out_arg3, out_arg4, out_arg5, out_arg6, out_arg7, out_arg8, out_arg9,
    out_arg10, out_arg11, out_arg12, out_arg13, out_arg14, out_arg15, out_arg16, out_arg17, out_arg18,
    out_arg19, out_arg20, out_arg21, norm_arg0, norm_arg1, norm_arg2, norm_arg3, norm_arg4, norm_arg5,
    norm_arg6, norm_arg7, norm_arg8, norm_arg9, norm_arg10, norm_arg11, norm_arg12, norm_arg13, norm_arg14,
    norm_arg15, norm_arg16, norm_arg17, norm_arg18, norm_arg19, norm_arg20, norm_arg21, res0]

theorem ops_v147 : after ops V (Proc.devRef .tc main_v147)
    = res1 (res0
      (V (Proc.devRef .tc main_arg0)) (V (Proc.devRef .tc main_arg1)) (V (Proc.devRef .tc main_arg2))
      (V (Proc.devRef .tc main_arg3)) (V (Proc.devRef .tc main_arg4)) (V (Proc.devRef .tc main_arg5))
      (V (Proc.devRef .tc main_arg6)) (V (Proc.devRef .tc main_arg7)) (V (Proc.devRef .tc main_arg8))
      (V (Proc.devRef .tc main_arg9)) (V (Proc.devRef .tc main_arg10)) (V (Proc.devRef .tc main_arg12))
      (V (Proc.devRef .tc main_arg13)) (V (Proc.devRef .tc main_arg14)) (V (Proc.devRef .tc main_arg15))
      (V (Proc.devRef .tc main_arg16)) (V (Proc.devRef .tc main_arg17)))
      (V (Proc.devRef .tc main_arg11)) (V (Proc.devRef .tc main_arg9)) := by
  simp only [ops, after_two,
    row_v2, row_v3, row_v4, row_v23, slab_v2, slab_v3, slab_v4, slab_v23, slab_v25, slab_v27, slab_v29,
    slab_v31, head_v2, head_v3, head_v4, head_v23, head_v25, head_v29, head_v31, head_v56, group_v2, group_v3,
    group_v4, group_v23, group_v25, group_v90, group_v91, gate_v2, gate_v3, gate_v4, gate_v25, gate_v90,
    gate_v91, gate_v99, merge_v2, merge_v3, merge_v4, merge_v122, out_v3, out_v4, out_v126, norm_v126,
    norm_v147, row_arg0, row_arg1, row_arg2, row_arg3, row_arg4, row_arg5, row_arg6, row_arg7, row_arg8,
    row_arg9, row_arg10, row_arg11, row_arg12, row_arg13, row_arg14, row_arg15, row_arg16, row_arg17, row_arg18,
    row_arg19, row_arg20, row_arg21, slab_arg0, slab_arg1, slab_arg2, slab_arg3, slab_arg4, slab_arg5,
    slab_arg6, slab_arg7, slab_arg8, slab_arg9, slab_arg10, slab_arg11, slab_arg12, slab_arg13, slab_arg14,
    slab_arg15, slab_arg16, slab_arg17, slab_arg18, slab_arg19, slab_arg20, slab_arg21, head_arg0, head_arg1,
    head_arg2, head_arg3, head_arg4, head_arg5, head_arg6, head_arg7, head_arg8, head_arg9, head_arg10,
    head_arg11, head_arg12, head_arg13, head_arg14, head_arg15, head_arg16, head_arg17, head_arg18, head_arg19,
    head_arg20, head_arg21, group_arg0, group_arg1, group_arg2, group_arg3, group_arg4, group_arg5, group_arg6,
    group_arg7, group_arg8, group_arg9, group_arg10, group_arg11, group_arg12, group_arg13, group_arg14,
    group_arg15, group_arg16, group_arg17, group_arg18, group_arg19, group_arg20, group_arg21, gate_arg0,
    gate_arg1, gate_arg2, gate_arg3, gate_arg4, gate_arg5, gate_arg6, gate_arg7, gate_arg8, gate_arg9,
    gate_arg10, gate_arg11, gate_arg12, gate_arg13, gate_arg14, gate_arg15, gate_arg16, gate_arg17, gate_arg18,
    gate_arg19, gate_arg20, gate_arg21, merge_arg0, merge_arg1, merge_arg2, merge_arg3, merge_arg4, merge_arg5,
    merge_arg6, merge_arg7, merge_arg8, merge_arg9, merge_arg10, merge_arg11, merge_arg12, merge_arg13,
    merge_arg14, merge_arg15, merge_arg16, merge_arg17, merge_arg18, merge_arg19, merge_arg20, merge_arg21,
    out_arg0, out_arg1, out_arg2, out_arg3, out_arg4, out_arg5, out_arg6, out_arg7, out_arg8, out_arg9,
    out_arg10, out_arg11, out_arg12, out_arg13, out_arg14, out_arg15, out_arg16, out_arg17, out_arg18,
    out_arg19, out_arg20, out_arg21, norm_arg0, norm_arg1, norm_arg2, norm_arg3, norm_arg4, norm_arg5,
    norm_arg6, norm_arg7, norm_arg8, norm_arg9, norm_arg10, norm_arg11, norm_arg12, norm_arg13, norm_arg14,
    norm_arg15, norm_arg16, norm_arg17, norm_arg18, norm_arg19, norm_arg20, norm_arg21, res0, res1]

theorem ops_arg0 : after ops V (Proc.devRef .tc main_arg0) = V (Proc.devRef .tc main_arg0) := by
  simp only [ops, after_two, norm_arg0, out_arg0, merge_arg0, gate_arg0, group_arg0, head_arg0, slab_arg0, row_arg0]

theorem ops_arg1 : after ops V (Proc.devRef .tc main_arg1) = V (Proc.devRef .tc main_arg1) := by
  simp only [ops, after_two, norm_arg1, out_arg1, merge_arg1, gate_arg1, group_arg1, head_arg1, slab_arg1, row_arg1]

theorem ops_arg2 : after ops V (Proc.devRef .tc main_arg2) = V (Proc.devRef .tc main_arg2) := by
  simp only [ops, after_two, norm_arg2, out_arg2, merge_arg2, gate_arg2, group_arg2, head_arg2, slab_arg2, row_arg2]

theorem ops_arg3 : after ops V (Proc.devRef .tc main_arg3) = V (Proc.devRef .tc main_arg3) := by
  simp only [ops, after_two, norm_arg3, out_arg3, merge_arg3, gate_arg3, group_arg3, head_arg3, slab_arg3, row_arg3]

theorem ops_arg4 : after ops V (Proc.devRef .tc main_arg4) = V (Proc.devRef .tc main_arg4) := by
  simp only [ops, after_two, norm_arg4, out_arg4, merge_arg4, gate_arg4, group_arg4, head_arg4, slab_arg4, row_arg4]

theorem ops_arg5 : after ops V (Proc.devRef .tc main_arg5) = V (Proc.devRef .tc main_arg5) := by
  simp only [ops, after_two, norm_arg5, out_arg5, merge_arg5, gate_arg5, group_arg5, head_arg5, slab_arg5, row_arg5]

theorem ops_arg6 : after ops V (Proc.devRef .tc main_arg6) = V (Proc.devRef .tc main_arg6) := by
  simp only [ops, after_two, norm_arg6, out_arg6, merge_arg6, gate_arg6, group_arg6, head_arg6, slab_arg6, row_arg6]

theorem ops_arg7 : after ops V (Proc.devRef .tc main_arg7) = V (Proc.devRef .tc main_arg7) := by
  simp only [ops, after_two, norm_arg7, out_arg7, merge_arg7, gate_arg7, group_arg7, head_arg7, slab_arg7, row_arg7]

theorem ops_arg8 : after ops V (Proc.devRef .tc main_arg8) = V (Proc.devRef .tc main_arg8) := by
  simp only [ops, after_two, norm_arg8, out_arg8, merge_arg8, gate_arg8, group_arg8, head_arg8, slab_arg8, row_arg8]

theorem ops_arg9 : after ops V (Proc.devRef .tc main_arg9) = V (Proc.devRef .tc main_arg9) := by
  simp only [ops, after_two, norm_arg9, out_arg9, merge_arg9, gate_arg9, group_arg9, head_arg9, slab_arg9, row_arg9]

theorem ops_arg10 : after ops V (Proc.devRef .tc main_arg10) = V (Proc.devRef .tc main_arg10) := by
  simp only [ops, after_two, norm_arg10, out_arg10, merge_arg10, gate_arg10, group_arg10, head_arg10, slab_arg10, row_arg10]

theorem ops_arg11 : after ops V (Proc.devRef .tc main_arg11) = V (Proc.devRef .tc main_arg11) := by
  simp only [ops, after_two, norm_arg11, out_arg11, merge_arg11, gate_arg11, group_arg11, head_arg11, slab_arg11, row_arg11]

theorem ops_arg12 : after ops V (Proc.devRef .tc main_arg12) = V (Proc.devRef .tc main_arg12) := by
  simp only [ops, after_two, norm_arg12, out_arg12, merge_arg12, gate_arg12, group_arg12, head_arg12, slab_arg12, row_arg12]

theorem ops_arg13 : after ops V (Proc.devRef .tc main_arg13) = V (Proc.devRef .tc main_arg13) := by
  simp only [ops, after_two, norm_arg13, out_arg13, merge_arg13, gate_arg13, group_arg13, head_arg13, slab_arg13, row_arg13]

theorem ops_arg14 : after ops V (Proc.devRef .tc main_arg14) = V (Proc.devRef .tc main_arg14) := by
  simp only [ops, after_two, norm_arg14, out_arg14, merge_arg14, gate_arg14, group_arg14, head_arg14, slab_arg14, row_arg14]

theorem ops_arg15 : after ops V (Proc.devRef .tc main_arg15) = V (Proc.devRef .tc main_arg15) := by
  simp only [ops, after_two, norm_arg15, out_arg15, merge_arg15, gate_arg15, group_arg15, head_arg15, slab_arg15, row_arg15]

theorem ops_arg16 : after ops V (Proc.devRef .tc main_arg16) = V (Proc.devRef .tc main_arg16) := by
  simp only [ops, after_two, norm_arg16, out_arg16, merge_arg16, gate_arg16, group_arg16, head_arg16, slab_arg16, row_arg16]

theorem ops_arg17 : after ops V (Proc.devRef .tc main_arg17) = V (Proc.devRef .tc main_arg17) := by
  simp only [ops, after_two, norm_arg17, out_arg17, merge_arg17, gate_arg17, group_arg17, head_arg17, slab_arg17, row_arg17]

theorem ops_arg18 : after ops V (Proc.devRef .tc main_arg18) = V (Proc.devRef .tc main_arg18) := by
  simp only [ops, after_two, norm_arg18, out_arg18, merge_arg18, gate_arg18, group_arg18, head_arg18, slab_arg18, row_arg18]

theorem ops_arg19 : after ops V (Proc.devRef .tc main_arg19) = V (Proc.devRef .tc main_arg19) := by
  simp only [ops, after_two, norm_arg19, out_arg19, merge_arg19, gate_arg19, group_arg19, head_arg19, slab_arg19, row_arg19]

theorem ops_arg20 : after ops V (Proc.devRef .tc main_arg20) = V (Proc.devRef .tc main_arg20) := by
  simp only [ops, after_two, norm_arg20, out_arg20, merge_arg20, gate_arg20, group_arg20, head_arg20, slab_arg20, row_arg20]

theorem ops_arg21 : after ops V (Proc.devRef .tc main_arg21) = V (Proc.devRef .tc main_arg21) := by
  simp only [ops, after_two, norm_arg21, out_arg21, merge_arg21, gate_arg21, group_arg21, head_arg21, slab_arg21, row_arg21]

/-- The run of the reference: its two results as functions of the arguments, which are unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v126)
          = res0
            (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
            (m ((c.tc : Thread nD τ).loc main_arg8)) (m ((c.tc : Thread nD τ).loc main_arg9))
            (m ((c.tc : Thread nD τ).loc main_arg10)) (m ((c.tc : Thread nD τ).loc main_arg12))
            (m ((c.tc : Thread nD τ).loc main_arg13)) (m ((c.tc : Thread nD τ).loc main_arg14))
            (m ((c.tc : Thread nD τ).loc main_arg15)) (m ((c.tc : Thread nD τ).loc main_arg16))
            (m ((c.tc : Thread nD τ).loc main_arg17))
      ∧ r.2.mem ((c.tc : Thread nD τ).loc main_v147)
          = res1 (res0
            (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
            (m ((c.tc : Thread nD τ).loc main_arg8)) (m ((c.tc : Thread nD τ).loc main_arg9))
            (m ((c.tc : Thread nD τ).loc main_arg10)) (m ((c.tc : Thread nD τ).loc main_arg12))
            (m ((c.tc : Thread nD τ).loc main_arg13)) (m ((c.tc : Thread nD τ).loc main_arg14))
            (m ((c.tc : Thread nD τ).loc main_arg15)) (m ((c.tc : Thread nD τ).loc main_arg16))
            (m ((c.tc : Thread nD τ).loc main_arg17)))
            (m ((c.tc : Thread nD τ).loc main_arg11)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21) :=
  (θ_run defs _ _).mono (fun _ h c => ⟨(h c main_v126).trans (ops_v126 _), (h c main_v147).trans (ops_v147 _),
      (h c main_arg0).trans (ops_arg0 _),
      (h c main_arg1).trans (ops_arg1 _),
      (h c main_arg2).trans (ops_arg2 _),
      (h c main_arg3).trans (ops_arg3 _),
      (h c main_arg4).trans (ops_arg4 _),
      (h c main_arg5).trans (ops_arg5 _),
      (h c main_arg6).trans (ops_arg6 _),
      (h c main_arg7).trans (ops_arg7 _),
      (h c main_arg8).trans (ops_arg8 _),
      (h c main_arg9).trans (ops_arg9 _),
      (h c main_arg10).trans (ops_arg10 _),
      (h c main_arg11).trans (ops_arg11 _),
      (h c main_arg12).trans (ops_arg12 _),
      (h c main_arg13).trans (ops_arg13 _),
      (h c main_arg14).trans (ops_arg14 _),
      (h c main_arg15).trans (ops_arg15 _),
      (h c main_arg16).trans (ops_arg16 _),
      (h c main_arg17).trans (ops_arg17 _),
      (h c main_arg18).trans (ops_arg18 _),
      (h c main_arg19).trans (ops_arg19 _),
      (h c main_arg20).trans (ops_arg20 _),
      (h c main_arg21).trans (ops_arg21 _)⟩)
    (run_seq scoped_refs scoped_sems defs main (fun _ => ops) main_eq (fun _ => ops_sub) m ρ)

end Cert.Proof.MergeRef

end
-- ==== Proof.MgRef.lean ====
/-
  THE MERGE'S REFERENCE at coordinates: its normalisations, branches, gates and sums, read at an element, are the
  specification's.
-/
module

public import proofs.«01_k».proof.Proof.MgSpec
public import proofs.«01_k».proof.Proof.MgRefRun

@[expose] public section

set_option maxRecDepth 16384

noncomputable section

namespace Cert.Proof.MergeRef

open Idealize.ShloMosaic Idealize.ShloMosaic.TcCoe Idealize.SL.Sem
open Cert.Reference3Ideal Cert.Reference3Ideal.Gen
open Cert.Proof.Inproj (normRow silu)
open Cert.Proof.Merge (Args sigm squares rms64 rms128 norm gate yb yd0 yd term merged xo ff)

theorem normR_at (X : FVec Ideal S4x8192x1024 .f32) (N : FVec Ideal S1024 .f32) (sc sh : FVec Ideal S4x1x1024 .f32)
    (b : Fin 4) (p : Fin 8192) (k : Fin 1024) :
    normR X N sc sh (ix3 b p k)
      = normRow (fun k => X (ix3 b p k)) (fun k => N (ix1 k)) (fun k => sc (ix3 b 0 k)) (fun k => sh (ix3 b 0 k)) k := by
  pointwise [normR, normRow]

theorem siluR_at (v : FVec Ideal S4x8192x256 .f32) (b : Fin 4) (p : Fin 8192) (l : Fin 256) :
    siluR v (ix3 b p l) = silu (v (ix3 b p l)) := by
  pointwise [siluR, silu]

theorem rmsHeadR_at (U : FVec Ideal S4x8192x256 .f32) (b : Fin 4) (p : Fin 8192) (l : Fin 256) :
    rmsHeadR (heads U) (ix4 b p ⟨l.val / 64, by omega⟩ ⟨l.val % 64, by omega⟩) = rms64 (fun l => U (ix3 b p l)) l := by
  pointwise [rmsHeadR, rms64, squares]

theorem rmsGroupR_at (U : FVec Ideal S4x8192x256 .f32) (b : Fin 4) (p : Fin 8192) (l : Fin 256) :
    rmsGroupR (shapeCast _ U shapeCasts_S4x8192x256_S4x8192x2x128) (ix4 b p ⟨l.val / 128, by omega⟩ ⟨l.val % 128, by omega⟩)
      = rms128 (fun l => U (ix3 b p l)) l := by
  pointwise [rmsGroupR, rms128, squares]

theorem gateR_at (H : FVec Ideal S4x8192x1024 .f32) (W : FVec Ideal S1024x7176 .f32) (b : Fin 4) (p : Fin 8192)
    (n : Fin 4096) :
    gateR H W (ix3 b p n) = sigm (∑ k : Fin 1024, H (ix3 b p k) * W (ix2 k ⟨3080 + n.val, by omega⟩)) := by
  pointwise [gateR, sigm]

theorem ybR_at (H0 H1 H2 G : FVec Ideal S4x8192x256 .f32) (W : FVec Ideal S64 .f32) (b : Fin 4) (p : Fin 8192)
    (l : Fin 256) :
    ybR (headR H0 H1 H2 G W) (ix3 b p l)
      = rms64 (fun l => H0 (ix3 b p l) + H1 (ix3 b p l) + H2 (ix3 b p l)) l * W (ix1 ⟨l.val % 64, by omega⟩)
        * silu (G (ix3 b p l)) := by
  unfold headR
  generalize hU : rmsHeadR (heads (addf (addf H0 H1) H2)) = U
  generalize hS : siluR G = S
  pointwise
  subst hU hS
  rw [rmsHeadR_at, siluR_at]
  rfl

theorem rawR_at (s0 s1 s2 X Z : FVec Ideal S4x8192x256 .f32) (D : FVec Ideal S4 .f32) (b : Fin 4) (p : Fin 8192)
    (l : Fin 256) :
    rawR s0 s1 s2 X Z D (ix3 b p l)
      = (s0 (ix3 b p l) + s1 (ix3 b p l) + s2 (ix3 b p l) + D (ix1 ⟨l.val / 64, by omega⟩) * X (ix3 b p l))
        * silu (Z (ix3 b p l)) := by
  unfold rawR
  generalize hS : siluR Z = S
  pointwise
  subst hS
  rw [siluR_at]

theorem ydR_at (v : FVec Ideal S4x8192x256 .f32) (W : FVec Ideal S256 .f32) (b : Fin 4) (p : Fin 8192) (l : Fin 256) :
    ydR v W (ix3 b p l) = rms128 (fun l => v (ix3 b p l)) l * W (ix1 l) := by
  unfold ydR
  generalize hU : rmsGroupR (shapeCast _ v shapeCasts_S4x8192x256_S4x8192x2x128) = U
  pointwise
  subst hU
  rw [rmsGroupR_at]

theorem outR_at (X Y : FVec Ideal S4x8192x1024 .f32) (W : FVec Ideal S1024x1024 .f32) (s : FVec Ideal S4x1x1024 .f32)
    (b : Fin 4) (p : Fin 8192) (n : Fin 1024) :
    outR X Y W s (ix3 b p n)
      = X (ix3 b p n) + s (ix3 b 0 n) * ∑ k : Fin 1024, Y (ix3 b p k) * W (ix2 k n) := by
  pointwise [outR]

theorem mergedR_at (G : FVec Ideal S4x8192x4096 .f32) (W : FVec Ideal S4x256x1024 .f32)
    (A B C D : FVec Ideal S4x8192x256 .f32) (b : Fin 4) (p : Fin 8192) (n : Fin 1024) :
    mergedR G W A B C D (ix3 b p n)
      = G (ix3 b p ⟨n.val, by omega⟩) * (∑ l : Fin 256, A (ix3 b p l) * W (ix3 0 l n))
        + G (ix3 b p ⟨1024 + n.val, by omega⟩) * (∑ l : Fin 256, B (ix3 b p l) * W (ix3 1 l n))
        + G (ix3 b p ⟨2048 + n.val, by omega⟩) * (∑ l : Fin 256, C (ix3 b p l) * W (ix3 2 l n))
        + G (ix3 b p ⟨3072 + n.val, by omega⟩) * (∑ l : Fin 256, D (ix3 b p l) * W (ix3 3 l n)) := by
  pointwise [mergedR, termR]

theorem flatR_at (X : FVec Ideal S4x8192x1024 .f32) (r : Fin 32768) (k : Fin 1024) :
    flatR X (ix2 r k) = X (ix3 ⟨r.val / 8192, by omega⟩ ⟨r.val % 8192, by omega⟩ k) := by
  pointwise [flatR]

variable (X : FVec Ideal S4x8192x1024 .f32) (P : FVec Ideal S11x4x8192x256 .f32)
    (h0 h1 h2 s0 s1 s2 yc : FVec Ideal S4x8192x256 .f32) (M : FVec Ideal S4x8x1024 .f32) (nm nf : FVec Ideal S1024 .f32)
    (W : FVec Ideal S1024x7176 .f32) (wb : FVec Ideal S4x256x1024 .f32) (wo : FVec Ideal S1024x1024 .f32)
    (hw : FVec Ideal S64 .f32) (sd : FVec Ideal S4 .f32) (sw : FVec Ideal S256 .f32)

/-- The arguments read at coordinates. -/
def argsR : Args where
  x b p k := X (ix3 b p k)
  sl s b p l := P (ix4 s b p l)
  h0 b p l := h0 (ix3 b p l)
  h1 b p l := h1 (ix3 b p l)
  h2 b p l := h2 (ix3 b p l)
  s0 b p l := s0 (ix3 b p l)
  s1 b p l := s1 (ix3 b p l)
  s2 b p l := s2 (ix3 b p l)
  yc b p l := yc (ix3 b p l)
  md b j k := M (ix3 b j k)
  nm k := nm (ix1 k)
  nf k := nf (ix1 k)
  win k n := W (ix2 k n)
  wb k l n := wb (ix3 k l n)
  wo k n := wo (ix2 k n)
  hw l := hw (ix1 l)
  sd l := sd (ix1 l)
  sw l := sw (ix1 l)

theorem modR_at (j : Fin 8) (o : Fin 3 → ℕ) (h : S4x8x1024.Slices o S4x1x1024) (ho : o = ![0, j.val, 0]) (b : Fin 4)
    (k : Fin 1024) : modR o h M (ix3 b 0 k) = M (ix3 b j k) := by
  subst ho
  pointwise [modR]

theorem slabR_at (s : Fin 11) (o : Fin 4 → ℕ) (h : S11x4x8192x256.Slices o S1x4x8192x256) (ho : o = ![s.val, 0, 0, 0])
    (b : Fin 4) (p : Fin 8192) (l : Fin 256) : slabR o h P (ix3 b p l) = P (ix4 s b p l) := by
  subst ho
  pointwise [slabR]

/-- The gates' input. -/
theorem norm_at (b : Fin 4) (p : Fin 8192) (k : Fin 1024) :
    normR X nm (modR ![0, 1, 0] slices_S4x8x1024_S4x1x1024_0_1_0 M) (modR ![0, 0, 0] slices_S4x8x1024_S4x1x1024_0_0_0 M)
      (ix3 b p k) = norm (argsR X P h0 h1 h2 s0 s1 s2 yc M nm nf W wb wo hw sd sw) b p k := by
  rw [normR_at]
  simp only [modR_at M 1 ![0, 1, 0] _ rfl, modR_at M 0 ![0, 0, 0] _ rfl]
  rfl

/-- The gates. -/
theorem gate_at (b : Fin 4) (p : Fin 8192) (n : Fin 4096) :
    gateR (normR X nm (modR ![0, 1, 0] slices_S4x8x1024_S4x1x1024_0_1_0 M)
      (modR ![0, 0, 0] slices_S4x8x1024_S4x1x1024_0_0_0 M)) W (ix3 b p n)
      = gate (argsR X P h0 h1 h2 s0 s1 s2 yc M nm nf W wb wo hw sd sw) b p n := by
  rw [gateR_at]
  simp only [norm_at X P h0 h1 h2 s0 s1 s2 yc M nm nf W wb wo hw sd sw]
  rfl

/-- The second branch. -/
theorem yb_at (b : Fin 4) (p : Fin 8192) (l : Fin 256) :
    ybR (headR h0 h1 h2 (slabR ![5, 0, 0, 0] slices_S11x4x8192x256_S1x4x8192x256_5_0_0_0 P) hw) (ix3 b p l)
      = yb (argsR X P h0 h1 h2 s0 s1 s2 yc M nm nf W wb wo hw sd sw) b p l := by
  rw [ybR_at, slabR_at P 5 ![5, 0, 0, 0] _ rfl]
  rfl

/-- The fourth branch. -/
theorem yd_at (b : Fin 4) (p : Fin 8192) (l : Fin 256) :
    ydR (rawR s0 s1 s2 (slabR ![7, 0, 0, 0] slices_S11x4x8192x256_S1x4x8192x256_7_0_0_0 P)
        (slabR ![6, 0, 0, 0] slices_S11x4x8192x256_S1x4x8192x256_6_0_0_0 P) sd) sw (ix3 b p l)
      = yd (argsR X P h0 h1 h2 s0 s1 s2 yc M nm nf W wb wo hw sd sw) b p l := by
  rw [ydR_at]
  simp only [rawR_at, slabR_at P 7 ![7, 0, 0, 0] _ rfl, slabR_at P 6 ![6, 0, 0, 0] _ rfl]
  rfl

/-- The first result is the specification's. -/
theorem res0_at (b : Fin 4) (p : Fin 8192) (n : Fin 1024) :
    res0 X P h0 h1 h2 s0 s1 s2 yc M nm W wb wo hw sd sw (ix3 b p n)
      = xo (argsR X P h0 h1 h2 s0 s1 s2 yc M nm nf W wb wo hw sd sw) b p n := by
  unfold res0
  rw [outR_at, modR_at M 2 ![0, 2, 0] _ rfl]
  refine Ideal.add_congr rfl (Ideal.mul_congr rfl (Finset.sum_congr rfl fun k _ => Ideal.mul_congr ?_ rfl))
  rw [mergedR_at]
  simp only [gate_at X P h0 h1 h2 s0 s1 s2 yc M nm nf W wb wo hw sd sw,
    yb_at X P h0 h1 h2 s0 s1 s2 yc M nm nf W wb wo hw sd sw, yd_at X P h0 h1 h2 s0 s1 s2 yc M nm nf W wb wo hw sd sw,
    slabR_at P 0 ![0, 0, 0, 0] _ rfl]
  have hg : (⟨k.val, by omega⟩ : Fin 4096) = ⟨1024 * (0 : Fin 4).val + k.val, by simp; omega⟩ := Fin.ext (by simp)
  rw [hg]
  rfl

/-- The second result is the specification's. -/
theorem res1_at (r : Fin 32768) (k : Fin 1024) :
    res1 (res0 X P h0 h1 h2 s0 s1 s2 yc M nm W wb wo hw sd sw) nf M (ix2 r k)
      = ff (argsR X P h0 h1 h2 s0 s1 s2 yc M nm nf W wb wo hw sd sw) ⟨r.val / 8192, by omega⟩ ⟨r.val % 8192, by omega⟩ k := by
  unfold res1
  rw [flatR_at, normR_at]
  simp only [modR_at M 4 ![0, 4, 0] _ rfl, modR_at M 3 ![0, 3, 0] _ rfl, res0_at X P h0 h1 h2 s0 s1 s2 yc M nm nf W wb wo hw sd sw]
  rfl

end Cert.Proof.MergeRef

end
-- ==== Proof.CoSpec.lean ====
/-
  THE COMBINATION OF THE TWO EXPERTS, at coordinates: what the fourth program's result holds, as plain functions of its
  arguments over the extended reals. A token's two rows of expert outputs, held as words of two bfloat16 halves each, are
  weighted and added, scaled by the batch's gate, added to the token's row, and the sum is normalised.
-/
module

public import Idealize.ShloMosaic.Lib.Pointwise

@[expose] public section

set_option maxRecDepth 16384

noncomputable section

namespace Cert.Proof.Combine

open Idealize.ShloMosaic

/-- The arguments of the combination, read at coordinates. -/
structure Args where
  /-- the tokens: batch, position, lane -/
  x : Fin 4 → Fin 8192 → Fin 1024 → EReal
  /-- the words of the two experts' rows: which of the two, token, word -/
  g : Fin 2 → Fin 32768 → Fin 512 → BitVec 32
  /-- the weights: rows 0 and 1 are the two experts' -/
  wt : Fin 8 → Fin 32768 → EReal
  /-- the modulation of a batch: row 5 is the gate -/
  md : Fin 4 → Fin 8 → Fin 1024 → EReal
  /-- the final norm's weights -/
  nw : Fin 1024 → EReal

/-- The number held by a word's low half. -/
def low (w : BitVec 32) : EReal := Ideal.ofBits .f32 (w <<< 16)

/-- The number held by a word's high half. -/
def high (w : BitVec 32) : EReal := Ideal.ofBits .f32 (w &&& 4294901760#32)

/-- Lane `n` of an expert's row of a token: the low halves of its words, then the high halves. -/
def lane (a : Args) (k : Fin 2) (q : Fin 32768) (n : Fin 1024) : EReal :=
  if h : n.val < 512 then low (a.g k q ⟨n.val, h⟩) else high (a.g k q ⟨n.val - 512, by omega⟩)

/-- The token at a batch and a position. -/
def tok (b : Fin 4) (p : Fin 8192) : Fin 32768 := ⟨b.val * 8192 + p.val, by omega⟩

/-- The tokens with their experts' outputs. -/
def mix (a : Args) (b : Fin 4) (p : Fin 8192) (n : Fin 1024) : EReal :=
  a.x b p n + a.md b 5 n * (a.wt 0 (tok b p) * lane a 0 (tok b p) n + a.wt 1 (tok b p) * lane a 1 (tok b p) n)

/-- The result: the rows normalised by their root mean square, and weighted. -/
def out (a : Args) (b : Fin 4) (p : Fin 8192) (n : Fin 1024) : EReal :=
  mix a b p n * Ideal.rsqrt (Ideal.div (∑ l, mix a b p l * mix a b p l) (Ideal.ofBits .f32 0x44800000#32)
    + Ideal.ofBits .f32 0x358637BD#32) * a.nw n

end Cert.Proof.Combine

end
end
-- ==== Proof.CoPay.lean ====
/-
  THE COMBINATION'S BODY at coordinates: each vector its kernel computes, read at a row and a column, over arbitrary blocks.
-/
module

public import proofs.«01_k».proof.Proof.CoSpec
public import proofs.«01_k».proof.Proof.Gen.Kernel4Ideal.Value
public import proofs.«01_k».proof.Proof.Gen.Pre_weights_finite
public import Idealize.ShloMosaic.Lib.Pipeline.ValueKit

@[expose] public section

set_option maxRecDepth 16384

noncomputable section

namespace Cert.Proof.Combine

open Idealize.ShloMosaic Idealize.ShloMosaic.TcCoe Idealize.SL.Sem
open Cert.Kernel4Ideal Cert.Kernel4Ideal.Gen

/-- Selecting where two row numbers are equal. -/
theorem select_eq (r j : Fin 512) (a b : EReal) :
    Scalar.select (IntOp.cmpi .eq (BitVec.ofNat 32 r.val) (BitVec.ofNat 32 j.val)) a b = if j = r then a else b := by
  by_cases h : j = r
  · subst h
    simp [Scalar.select, IntOp.cmpi]
  · have hne : BitVec.ofNat 32 r.val ≠ BitVec.ofNat 32 j.val := by
      intro e
      have e' := congrArg BitVec.toNat e
      simp only [BitVec.toNat_ofNat] at e'
      exact h (Fin.ext (by omega))
    rw [if_neg h]
    simp only [Scalar.select, IntOp.cmpi, beq_eq_false_iff_ne.mpr hne]
    rfl

/-- A column of the weights: the products of the unit matrix with the weights and with what their rounding leaves, which is
    zero where the weight is finite. -/
theorem pay2_at (v : Vec Ideal S8x512 .f32) (r : Fin 512) (k : Fin 8)
    (h : (v (ix2 k r) : EReal) ≠ ⊤ ∧ (v (ix2 k r) : EReal) ≠ ⊥) :
    k0_pay2 v (ix2 r k) = v (ix2 k r) := by
  pointwise [k0_pay2]
  simp only [select_eq, Finset.sum_ite_eq', Finset.mem_univ, if_true]
  exact (congrArg _ (EReal.sub_self h.1 h.2)).trans (add_zero _)

/-- The low halves' weighted sum. -/
theorem pay8_at (v : Vec Ideal S8x512 .f32) (a b : Vec Ideal S1x512x512 .i32) (r : Fin 512) (l : Fin 512) :
    k0_pay8 v a b (ix2 r l)
      = k0_pay2 v (ix2 r 0) * low (a (ix3 0 r l)) + k0_pay2 v (ix2 r 1) * low (b (ix3 0 r l)) := by
  pointwise [k0_pay8, k0_pay6, k0_pay7, k0_pay3, k0_pay4, low]
  rfl

/-- The first of the high halves, weighted. -/
theorem pay9_at (v : Vec Ideal S8x512 .f32) (a : Vec Ideal S1x512x512 .i32) (r : Fin 512) (l : Fin 512) :
    k0_pay9 v a (ix2 r l) = k0_pay2 v (ix2 r 0) * high (a (ix3 0 r l)) := by
  pointwise [k0_pay9, k0_pay6, k0_pay3, high]
  rfl

/-- The second of the high halves. -/
theorem pay5_at (b : Vec Ideal S1x512x512 .i32) (r : Fin 512) (l : Fin 512) :
    k0_pay5 (F := Ideal) b (ix2 r l) = high (b (ix3 0 r l)) := by
  pointwise [k0_pay5, k0_pay4, high]
  rfl

/-- Its weight. -/
theorem pay10_at (v : Vec Ideal S8x512 .f32) (r : Fin 512) (l : Fin 512) :
    k0_pay10 v (ix2 r l) = k0_pay2 v (ix2 r 1) := by
  pointwise [k0_pay10, k0_pay7]

/-- The rows before their normalisation, over blocks. -/
def mixB (u f s t : FVec Ideal S512x512 .f32) (x : Vec Ideal S1x512x1024 .f32) (g : Vec Ideal S1x1x1024 .f32) (r : Fin 512)
    (n : Fin 1024) : EReal :=
  x (ix3 0 r n) + g (ix3 0 0 n) * (if h : n.val < 512 then f (ix2 r ⟨n.val, h⟩)
    else s (ix2 r ⟨n.val - 512, by omega⟩) + t (ix2 r ⟨n.val - 512, by omega⟩) * u (ix2 r ⟨n.val - 512, by omega⟩))

/-- A sum over 1024 lanes in halves. -/
theorem sum_halves (f : Fin 1024 → EReal) :
    ∑ n, f n = ∑ l : Fin 512, f ⟨l.val, by omega⟩ + ∑ l : Fin 512, f ⟨512 + l.val, by omega⟩ :=
  Fin.sum_univ_add (a := 512) (b := 512) f

/-- The body over blocks. -/
theorem pay1_at (u f s t : FVec Ideal S512x512 .f32) (x : Vec Ideal S1x512x1024 .f32) (g : Vec Ideal S1x1x1024 .f32)
    (w : Vec Ideal S1x1024 .f32) (r : Fin 512) (n : Fin 1024) :
    k0_pay1 u f s t x g w (ix3 0 r n)
      = mixB u f s t x g r n * Ideal.rsqrt (Ideal.div (∑ l, mixB u f s t x g r l * mixB u f s t x g r l)
          (Ideal.ofBits .f32 0x44800000#32) + Ideal.ofBits .f32 0x358637BD#32) * w (ix2 0 n) := by
  have hl : ∀ l : Fin 512, mixB u f s t x g r ⟨l.val, by omega⟩
      = x (ix3 0 r ⟨l.val, by omega⟩) + g (ix3 0 0 ⟨l.val, by omega⟩) * f (ix2 r l) := by
    intro l
    unfold mixB
    rw [dif_pos l.isLt]
  have hh : ∀ l : Fin 512, mixB u f s t x g r ⟨512 + l.val, by omega⟩
      = x (ix3 0 r ⟨512 + l.val, by omega⟩)
          + g (ix3 0 0 ⟨512 + l.val, by omega⟩) * (s (ix2 r l) + t (ix2 r l) * u (ix2 r l)) := by
    intro l
    have e : (⟨512 + l.val - 512, by omega⟩ : Fin 512) = l := Fin.ext (by simp)
    unfold mixB
    rw [dif_neg (by simp)]
    simp only [e]
  rw [sum_halves]
  simp only [hl, hh]
  unfold mixB
  pointwise [k0_pay1]

/-- Where the precondition holds, the two rows of weights are finite. -/
theorem finite_of_pre {x : FVec Ideal S4x8192x1024 .f32} {g : IVec S2x32768x512 32} {w : FVec Ideal S8x32768 .f32}
    {md : FVec Ideal S4x8x1024 .f32} {n : FVec Ideal S1024 .f32}
    (h : Cert.Pre_weights_finite.fn (F := Ideal) x g w md n = fun _ => 1#1) (k : Fin 2) (q : Fin 32768) :
    (w (ix2 ⟨k.val, by omega⟩ q) : EReal) ≠ ⊤ ∧ (w (ix2 ⟨k.val, by omega⟩ q) : EReal) ≠ ⊥ := by
  have e := congrFun h (ix2 k q)
  pointwise [Cert.Pre_weights_finite.fn] at e
  have hb (p : Bool) : (BitVec.ofBool p = 1#1) → p = true := by cases p <;> decide
  have ht : Ideal.ofBits .f32 0x7F800000#32 = ⊤ := by simp [Ideal.ofBits, Ideal.ieee]
  have hlt : max (w (ix2 ⟨k.val, by omega⟩ q) : EReal) (-(w (ix2 ⟨k.val, by omega⟩ q) : EReal)) < ⊤ :=
    lt_of_lt_of_eq (of_decide_eq_true (hb _ e)) ht
  obtain ⟨h1, h2⟩ := max_lt_iff.mp hlt
  refine ⟨h1.ne, fun hbot => h2.ne ?_⟩
  rw [hbot]
  rfl

end Cert.Proof.Combine

end
-- ==== Proof.CoKernel.lean ====
/-
  THE COMBINATION'S RESULT: what each input window's block holds at a grid point, what the body leaves there, and the array
  that the grid's points make up. A point is a batch and a tile of 512 rows of its sequence.
-/
module

public import proofs.«01_k».proof.Proof.CoPay

@[expose] public section

set_option maxRecDepth 16384

noncomputable section

namespace Cert.Proof.Combine

open Idealize.ShloMosaic Idealize.ShloMosaic.TcCoe Idealize.SL.Sem
open Idealize.ShloMosaic.Pipeline (Dat)
open Cert.Kernel4Ideal Cert.Kernel4Ideal.Gen

variable (m : (ℓ : Loc nD τ sig) → Buf (Elt Ideal) ℓ)

/-- The kernel's arguments, read at coordinates. -/
def args (c : Dev nD) : Args where
  x b p n := (m ((c : Thread nD τ).loc main_arg0) : FVec Ideal S4x8192x1024 .f32) (ix3 b p n)
  g k q l := (m ((c : Thread nD τ).loc main_arg1) : IVec S2x32768x512 32) (ix3 k q l)
  wt k q := (m ((c : Thread nD τ).loc main_arg2) : FVec Ideal S8x32768 .f32) (ix2 k q)
  md b j n := (m ((c : Thread nD τ).loc main_arg3) : FVec Ideal S4x8x1024 .f32) (ix3 b j n)
  nw n := (m ((c : Thread nD τ).loc main_arg4) : FVec Ideal S1024 .f32) (ix1 n)

/-- The windows' index maps over the 64 grid points: batch `t / 16`, tile `t % 16`. -/
theorem idx : ∀ t : Fin cfg0.N,
    win0_0.index t = ![t.val / 16, t.val % 16, 0]
    ∧ win0_1.index t = ![0, t.val, 0]
    ∧ win0_2.index t = ![1, t.val, 0]
    ∧ win0_3.index t = ![0, t.val]
    ∧ win0_4.index t = ![t.val / 16, 0, 0] ∧ win0_5.index t = ![0, 0]
    ∧ win0_6.index t = ![t.val / 16, t.val % 16, 0]
    ∧ t.val < 64 :=
  (by decide +kernel : ∀ t : Fin grid0.N, _)

theorem lt64 (t : Fin cfg0.N) : t.val < 64 := (idx t).2.2.2.2.2.2.2

/-- The batch of a grid point. -/
def bat (t : Fin cfg0.N) : Fin 4 := ⟨t.val / 16, by have := lt64 t; omega⟩

/-- The position of a tile's row in its sequence. -/
def pos (t : Fin cfg0.N) (r : Fin 512) : Fin 8192 := ⟨512 * (t.val % 16) + r.val, by omega⟩

/-- The token of a tile's row. -/
theorem tok_val (t : Fin cfg0.N) (r : Fin 512) : (tok (bat t) (pos t r)).val = t.val * 512 + r.val := by
  have := lt64 t
  unfold tok bat pos
  dsimp only
  omega

theorem tok_eq (t : Fin cfg0.N) (r : Fin 512) (h : t.val * 512 + r.val < 32768) :
    tok (bat t) (pos t r) = ⟨t.val * 512 + r.val, h⟩ := Fin.ext (tok_val t r)

theorem w0_at (c : Dev nD) (t : Fin cfg0.N) (r : Fin 512) (n : Fin 1024) :
    (iblk m c 0 t : FVec Ideal S1x512x1024 .f32) (ix3 0 r n) = (args m c).x (bat t) (pos t r) n := by
  unfold args bat pos
  blk_ext [iblk, V, idx t]

theorem w1_at (c : Dev nD) (t : Fin cfg0.N) (r : Fin 512) (l : Fin 512) :
    (iblk m c 1 t : IVec S1x512x512 32) (ix3 0 r l) = (args m c).g 0 (tok (bat t) (pos t r)) l := by
  have := lt64 t
  rw [tok_eq t r (by omega)]
  unfold args
  blk_ext [iblk, V, idx t]

theorem w2_at (c : Dev nD) (t : Fin cfg0.N) (r : Fin 512) (l : Fin 512) :
    (iblk m c 2 t : IVec S1x512x512 32) (ix3 0 r l) = (args m c).g 1 (tok (bat t) (pos t r)) l := by
  have := lt64 t
  rw [tok_eq t r (by omega)]
  unfold args
  blk_ext [iblk, V, idx t]

theorem w3_at (c : Dev nD) (t : Fin cfg0.N) (k : Fin 8) (r : Fin 512) :
    (iblk m c 3 t : FVec Ideal S8x512 .f32) (ix2 k r) = (args m c).wt k (tok (bat t) (pos t r)) := by
  have := lt64 t
  rw [tok_eq t r (by omega)]
  unfold args
  blk_ext [iblk, V, idx t]

theorem w4_at (c : Dev nD) (t : Fin cfg0.N) (j : Fin 8) (n : Fin 1024) :
    (iblk m c 4 t : FVec Ideal S1x8x1024 .f32) (ix3 0 j n) = (args m c).md (bat t) j n := by
  unfold args bat
  blk_point [iblk, V, idx t]

theorem w5_at (c : Dev nD) (t : Fin cfg0.N) (n : Fin 1024) :
    (iblk m c 5 t : FVec Ideal S1x1024 .f32) (ix2 0 n) = (args m c).nw n := by
  unfold args
  blk_point [iblk, V, idx t]

/-- The two rows of weights are finite. -/
def Finite (a : Args) : Prop := ∀ (k : Fin 2) (q : Fin 32768), a.wt ⟨k.val, by omega⟩ q ≠ ⊤ ∧ a.wt ⟨k.val, by omega⟩ q ≠ ⊥

/-- The weights' column of a tile. -/
theorem col_at (c : Dev nD) (hf : Finite (args m c)) (t : Fin cfg0.N) (r : Fin 512) (k : Fin 2) :
    k0_pay2 (F := Ideal) (View.ld (iblk m c 3 t) r0_0) (ix2 r ⟨k.val, by omega⟩)
      = (args m c).wt ⟨k.val, by omega⟩ (tok (bat t) (pos t r)) := by
  have e : (View.ld (iblk m c 3 t) r0_0 : FVec Ideal S8x512 .f32) (ix2 ⟨k.val, by omega⟩ r)
      = (args m c).wt ⟨k.val, by omega⟩ (tok (bat t) (pos t r)) := by
    pointwise
    exact w3_at m c t ⟨k.val, by omega⟩ r
  rw [pay2_at]
  · exact e
  · rw [e]
    exact hf k _

/-- The words of a tile's rows. -/
theorem word0_at (c : Dev nD) (t : Fin cfg0.N) (r : Fin 512) (l : Fin 512) :
    (View.ld (iblk m c 1 t) r0_1 : IVec S1x512x512 32) (ix3 0 r l) = (args m c).g 0 (tok (bat t) (pos t r)) l := by
  pointwise
  exact w1_at m c t r l

theorem word1_at (c : Dev nD) (t : Fin cfg0.N) (r : Fin 512) (l : Fin 512) :
    (View.ld (iblk m c 2 t) r0_1 : IVec S1x512x512 32) (ix3 0 r l) = (args m c).g 1 (tok (bat t) (pos t r)) l := by
  pointwise
  exact w2_at m c t r l

/-- The rows before their normalisation, on a tile. -/
theorem mix_at (c : Dev nD) (hf : Finite (args m c)) (t : Fin cfg0.N) (r : Fin 512) (n : Fin 1024) :
    mixB (k0_pay5 (View.ld (iblk m c 2 t) r0_1))
      (k0_pay8 (View.ld (iblk m c 3 t) r0_0) (View.ld (iblk m c 1 t) r0_1) (View.ld (iblk m c 2 t) r0_1))
      (k0_pay9 (View.ld (iblk m c 3 t) r0_0) (View.ld (iblk m c 1 t) r0_1)) (k0_pay10 (View.ld (iblk m c 3 t) r0_0))
      (View.ld (iblk m c 0 t) r0_2) (View.ld (iblk m c 4 t) r0_3) r n
      = mix (args m c) (bat t) (pos t r) n := by
  unfold mixB mix lane
  refine Ideal.add_congr ?_ (Ideal.mul_congr ?_ ?_)
  · pointwise
    exact w0_at m c t r n
  · pointwise
    exact w4_at m c t 5 n
  · by_cases h : n.val < 512
    · rw [dif_pos h, dif_pos h, dif_pos h, pay8_at]
      exact Ideal.add_congr (Ideal.mul_congr (col_at m c hf t r 0) (congrArg low (word0_at m c t r _)))
        (Ideal.mul_congr (col_at m c hf t r 1) (congrArg low (word1_at m c t r _)))
    · rw [dif_neg h, dif_neg h, dif_neg h, pay9_at, pay10_at, pay5_at]
      exact Ideal.add_congr (Ideal.mul_congr (col_at m c hf t r 0) (congrArg high (word0_at m c t r _)))
        (Ideal.mul_congr (col_at m c hf t r 1) (congrArg high (word1_at m c t r _)))

/-- What the body leaves at a grid point. -/
theorem point6 (c : Dev nD) (hf : Finite (args m c)) (t : Fin cfg0.N) (y : S1x512x1024.Idx) :
    out0_6 (F := Ideal) (iblk m c 0 t) (iblk m c 1 t) (iblk m c 2 t) (iblk m c 3 t) (iblk m c 4 t) (iblk m c 5 t) y
      = out (args m c) (bat t) (pos t (y 1)) (y 2) := by
  canon_tiles x h
  · idx_vars x
    idx_vars y
    obtain rfl : y1 = x1 := Fin.ext (by simpa using h1)
    obtain rfl : y2 = x2 := Fin.ext (by simpa using h2)
    obtain rfl : x0 = 0 := Fin.ext (by omega)
    refine (pay1_at _ _ _ _ _ _ _ y1 y2).trans ?_
    unfold out
    refine Ideal.mul_congr (Ideal.mul_congr (mix_at m c hf t y1 y2) (congrArg Ideal.rsqrt (Ideal.add_congr
      (congrArg (fun z => Ideal.div z _) (Finset.sum_congr rfl fun j _ =>
        Ideal.mul_congr (mix_at m c hf t y1 j) (mix_at m c hf t y1 j))) rfl))) ?_
    pointwise
    exact w5_at m c t y2

/-- The result at equal coordinates. -/
theorem out_congr (a : Args) {b b' : Fin 4} {p p' : Fin 8192} {n n' : Fin 1024}
    (hb : b.val = b'.val) (hp : p.val = p'.val) (hn : n.val = n'.val) : out a b p n = out a b' p' n' := by
  rw [Fin.ext hb, Fin.ext hp, Fin.ext hn]

/-- The result's array after the run. -/
theorem final6 (c : Dev nD) (hf : Finite (args m c)) :
    (dats m 0 c).arrAt 6 cfg0.N = fun i => out (args m c) (i 0) (i 1) (i 2) := by
  refine (dats m 0 c).arrAt_eq_of_covers 6 _ (by decide +kernel) fun t _ y => ?_
  blk_simp
  rw [after0_6, point6 m c hf]
  refine out_congr _ ?_ ?_ ?_
  all_goals (blk_simp [idx t, bat, pos] <;> try exact congrArg (· + _) (Nat.mul_comm _ _))

end Cert.Proof.Combine

end
-- ==== Proof.CoRef.lean ====
/-
  THE COMBINATION'S REFERENCE at coordinates: its result is the specification's, element by element.
-/
module

public import proofs.«01_k».proof.Proof.CoPay
public import proofs.«01_k».proof.Proof.Gen.Reference4Ideal.Run

@[expose] public section

set_option maxRecDepth 16384

noncomputable section

namespace Cert.Proof.CombineRef

open Idealize.ShloMosaic Idealize.ShloMosaic.TcCoe Idealize.SL.Sem
open Cert.Reference4Ideal Cert.Reference4Ideal.Gen Cert.Reference4Ideal.Value
open Cert.Proof.Combine (Args low high lane tok mix out sum_halves)

variable (m : (ℓ : Loc nD τ sig) → Buf (Elt Ideal) ℓ)

/-- The reference's arguments, read at coordinates. -/
def args (c : Dev nD) : Args where
  x b p n := (m ((c.tc : Thread nD τ).loc main_arg0) : FVec Ideal S4x8192x1024 .f32) (ix3 b p n)
  g k q l := (m ((c.tc : Thread nD τ).loc main_arg1) : IVec S2x32768x512 32) (ix3 k q l)
  wt k q := (m ((c.tc : Thread nD τ).loc main_arg2) : FVec Ideal S8x32768 .f32) (ix2 k q)
  md b j n := (m ((c.tc : Thread nD τ).loc main_arg3) : FVec Ideal S4x8x1024 .f32) (ix3 b j n)
  nw n := (m ((c.tc : Thread nD τ).loc main_arg4) : FVec Ideal S1024 .f32) (ix1 n)

/-- Lane `l` of a row with its experts' outputs: from the words' low halves, -/
theorem mix_low (a : Args) (b : Fin 4) (p : Fin 8192) (l : Fin 512) :
    mix a b p ⟨l.val, by omega⟩ = a.x b p ⟨l.val, by omega⟩ + a.md b 5 ⟨l.val, by omega⟩
      * (a.wt 0 (tok b p) * low (a.g 0 (tok b p) l) + a.wt 1 (tok b p) * low (a.g 1 (tok b p) l)) := by
  unfold mix lane
  rw [dif_pos l.isLt, dif_pos l.isLt]

/-- and from their high halves. -/
theorem mix_high (a : Args) (b : Fin 4) (p : Fin 8192) (l : Fin 512) :
    mix a b p ⟨512 + l.val, by omega⟩ = a.x b p ⟨512 + l.val, by omega⟩ + a.md b 5 ⟨512 + l.val, by omega⟩
      * (a.wt 0 (tok b p) * high (a.g 0 (tok b p) l) + a.wt 1 (tok b p) * high (a.g 1 (tok b p) l)) := by
  have e : (⟨512 + l.val - 512, by omega⟩ : Fin 512) = l := Fin.ext (by simp)
  unfold mix lane
  rw [dif_neg (by simp), dif_neg (by simp)]
  simp only [e]

/-- The reference's result, at an element. -/
theorem res_at (c : Dev nD) (b : Fin 4) (p : Fin 8192) (n : Fin 1024) :
    (res_main_v39 m c : FVec Ideal S4x8192x1024 .f32) (ix3 b p n) = out (args m c) b p n := by
  unfold out
  rw [sum_halves]
  simp only [mix_low, mix_high]
  unfold mix lane
  pointwise [res_main_v39]
  rfl

end Cert.Proof.CombineRef

end
-- ==== Proof.FfKit.lean ====
/-
  THE EXPERTS' RUN, WHAT IT IS STATED OVER: the memory the program starts from, the three tables of counts and block experts,
  the blocks the grid's points read, and the staging and scratch buffers the body is handed.
-/
module

public import proofs.«01_k».proof.Proof.Gen.Kernel5Ideal.Launch
public import proofs.«01_k».proof.Proof.Gen.Kernel5Ideal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Proof.FfnRun

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl
theorem V_main_arg6 (c : Dev nD) : V m c main_arg6 = m ((c : Thread nD τ).loc main_arg6) := rfl

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 3) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
   . -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S96 .i32 := Memref.whole main_arg1
abbrev htbM0_0 : tbM0_0.IsWhole := Memref.isWhole_whole _
abbrev tbM0_1 : Memref sig .tc .smem S1 .i32 := Memref.whole main_arg2
abbrev htbM0_1 : tbM0_1.IsWhole := Memref.isWhole_whole _
abbrev tbM0_2 : Memref sig .tc .smem S96 .i32 := Memref.whole main_arg3
abbrev htbM0_2 : tbM0_2.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body, table by table: what the body
    obligation hands the run and takes back. -/
theorem PhiT0_eq (c : Dev nD) : (Pipeline.ΦT pre0 (tbl m) c : sProp 𝕄) = iprop(tbPt0 c tbM0_0 (tbl m 0) ∗ tbPt0 c tbM0_1 (tbl m 1) ∗ tbPt0 c tbM0_2 (tbl m 2)) := by
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Each window's current staging memref at point `t`, spelled as the pipeline passes it (`bodyAt0`), and its wholeness. -/
abbrev ms0_0 (hO : Ok m) (t : Fin (cfgM m hO).N) : Memref sig .tc .vmem S1024x512 .i32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1x1024x512 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1x1024x512 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x1x512x1024 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1024x1024 .bf16 := spec0_4.stage ((cfgM m hO).slots t 4)
abbrev hs0_4 (hO : Ok m) (t : Fin (cfgM m hO).N) : (ms0_4 m hO t).IsWhole := hstage0_4 (((cfgM m hO).slots t 4).cast nbuf0_4)
/-- The scratch operands: whole scoped buffers of the kernel's own, passed beside the windows. -/
abbrev scM0_0 : Memref sig .tc .vmem S1024x512 .bf16 := Memref.whole cc0_scratch0
abbrev scM0_1 : Memref sig .tc .vmem S1024x512 .bf16 := Memref.whole cc0_scratch1
abbrev scM0_2 : Memref sig .tc .vmem S512x1024 .bf16 := Memref.whole cc0_scratch2
/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-- The result's block is written back at every point, at any contents of the tables. -/
theorem flush0_4 (a : (pcfg0 (F := F)).Adm) : ∀ t : Fin (cfg0 a).N, ((cfg0 a).win 4).flush t = true :=
  (fun t => (Pipeline.Window.flushOf_reads cc0_transform_4 reads0_4 hreads0_4 0 (by decide) (by decide) (Pipeline.Window.sep_of_coord cc0_transform_4 0 0 (fun _ => rfl) (by decide)) (P := 1) (m := 0) (by decide) rfl t).mpr (Nat.mod_one _) : ∀ t : Fin grid0.N, Pipeline.Window.flushOf grid0 true cc0_transform_4 t = true)

/-- The kernel body at point `t`. -/
abbrev bodyAt0 (a : (pcfg0 (F := F)).Adm) (t : Fin (cfg0 a).N) : Prog (TpuEff nD τ sig (Elt F) Λ₀ .tc) PUnit :=
  cc0_moe_ffn (grid0.coords t) (Memref.whole main_arg1) (Memref.isWhole_whole _) (Memref.whole main_arg2) (Memref.isWhole_whole _) (Memref.whole main_arg3) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (Memref.whole cc0_scratch0) (Memref.isWhole_whole _) (Memref.whole cc0_scratch1) (Memref.isWhole_whole _) (Memref.whole cc0_scratch2) (Memref.isWhole_whole _)

end Cert.Proof.FfnRun

end
-- ==== Proof.FfBody.lean ====
/-
  THE EXPERTS' BODY at one grid point, in its three cases: the weights stored first, the weights kept, and the block not in use.
-/
module

public import proofs.«01_k».proof.Proof.FfKit
public import Idealize.ShloMosaic.Lib.VecWindow
public import Idealize.ShloMosaic.Lib.Pipeline.Value

@[expose] public section

set_option maxRecDepth 16384

noncomputable section

namespace Cert.Proof.FfnRun

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The number of blocks in use, the block's expert, the expert of the block before, and the number of rows the block
    holds, as the body reads them off the tables. -/
abbrev usedWord (c : Dev nD) (xt1 : TbBuf0 (F := F) c tbM0_1) : BitVec 32 :=
  tbM0_1.view.readAt (Elt F) (Rect.unit (s := S1) ![0] S1.size inb_S1_S1_0).toLoadRect xt1 (Shape.Idx.first (numel1_S1.symm ▸ Nat.one_pos))
abbrev hereWord (c : Dev nD) (i : grid0.Coords) (xt0 : TbBuf0 (F := F) c tbM0_0) : BitVec 32 :=
  tbM0_0.view.readAt (Elt F) (Rect.unit (s := S96) (k0_off1 i) S1.size (k0_off1_inb i)).toLoadRect xt0 (Shape.Idx.first (numel1_S1.symm ▸ Nat.one_pos))
abbrev beforeWord (c : Dev nD) (i : grid0.Coords) (xt0 : TbBuf0 (F := F) c tbM0_0) : BitVec 32 :=
  tbM0_0.view.readAt (Elt F) (Rect.unit (s := S96) (k0_off2 i) S1.size (k0_off2_inb i)).toLoadRect xt0 (Shape.Idx.first (numel1_S1.symm ▸ Nat.one_pos))
abbrev rowsWord (c : Dev nD) (i : grid0.Coords) (xt2 : TbBuf0 (F := F) c tbM0_2) : BitVec 32 :=
  tbM0_2.view.readAt (Elt F) (Rect.unit (s := S96) (k0_off3 i) S1.size (k0_off3_inb i)).toLoadRect xt2 (Shape.Idx.first (numel1_S1.symm ▸ Nat.one_pos))

/-- The condition under which the body stores the expert's weights. -/
abbrev isFresh (i : grid0.Coords) (v0 v4 v8 : BitVec 32) : Prop :=
  (Scalar.cmpi .ne (Scalar.extui (Scalar.andi (Scalar.cmpi .slt (BitVec.ofNat 32 (i 0).val) v0) (Scalar.ori (Scalar.cmpi .eq (BitVec.ofNat 32 (i 0).val) 0#32) (Scalar.cmpi .ne v4 v8)))) 0#32) = 1#1

/-- What the body leaves in a block in use: its rows through the weights `d0`, `d1`, `d2`. -/
def outOf (v21 : BitVec 32) (x0 : Vec F S1024x512 .i32) (d0 : Vec F S1024x512 .bf16) (d1 : Vec F S1024x512 .bf16) (d2 : Vec F S512x1024 .bf16) : Vec F S1024x1024 .bf16 :=
  k0_pay4 (k0_pay6 v21 x0 (View.ld d0 (Rect.unit (s := S1024x512) ![0, 0] S512x512.size inb_S1024x512_S512x512_0_0)) (View.ld d0 (Rect.unit (s := S1024x512) ![512, 0] S512x512.size inb_S1024x512_S512x512_512_0))
    (View.ld d1 (Rect.unit (s := S1024x512) ![0, 0] S512x512.size inb_S1024x512_S512x512_0_0)) (View.ld d1 (Rect.unit (s := S1024x512) ![512, 0] S512x512.size inb_S1024x512_S512x512_512_0))) d2

theorem outOf_eq {v21 : BitVec 32} {x0 z : Vec F S1024x512 .i32} {d0 d1 : Vec F S1024x512 .bf16} {d2 e : Vec F S512x1024 .bf16} {a b a' b' : Vec F S512x512 .bf16}
    (hz : z = x0) (ha : a = View.ld d0 (Rect.unit (s := S1024x512) ![0, 0] S512x512.size inb_S1024x512_S512x512_0_0)) (hb : b = View.ld d0 (Rect.unit (s := S1024x512) ![512, 0] S512x512.size inb_S1024x512_S512x512_512_0))
    (ha' : a' = View.ld d1 (Rect.unit (s := S1024x512) ![0, 0] S512x512.size inb_S1024x512_S512x512_0_0)) (hb' : b' = View.ld d1 (Rect.unit (s := S1024x512) ![512, 0] S512x512.size inb_S1024x512_S512x512_512_0))
    (he : e = d2) : k0_pay4 (k0_pay6 v21 z a b a' b') e = outOf v21 x0 d0 d1 d2 := by
  subst hz ha hb ha' hb' he; rfl

/-- A load of what one whole store left reads the stored contents. -/
theorem read_stored {sp : Space} {s : Shape} {e : EltTy} (v : View sig .tc sp s e) {off : Fin s.rank → ℕ} (inb : ∀ a, off a + s.size a ≤ s.size a) (r : Rect s)
    (w : s.Idx → Elt F e) {w' : s.Idx → Elt F e} (h : w = w') : v.readCov [(⟨Rect.unit off s.size inb, w⟩ : View.Piece (Elt F) s e)] r.toLoadRect = View.ld w' r := by
  subst h
  exact congrArg (fun X => View.ld X r) (View.read_writes_full v v.junk inb w [])

set_option maxHeartbeats 1000000 in
/-- A block in use whose expert's weights are not in the scratch buffers yet: they are stored there, and the block's rows go through them. -/
theorem run_fresh (c : Dev nD) (E : Set ℕ) (i : grid0.Coords) (arg4 : Memref sig .tc .vmem S1024x512 .i32) (harg4 : arg4.IsWhole) (arg5 : Memref sig .tc .vmem S1x1x1024x512 .f32) (harg5 : arg5.IsWhole) (arg6 : Memref sig .tc .vmem S1x1x1024x512 .f32) (harg6 : arg6.IsWhole) (arg7 : Memref sig .tc .vmem S1x1x512x1024 .f32) (harg7 : arg7.IsWhole) (arg8 : Memref sig .tc .vmem S1024x1024 .bf16) (harg8 : arg8.IsWhole) (arg9 : Memref sig .tc .vmem S1024x512 .bf16) (harg9 : arg9.IsWhole) (arg10 : Memref sig .tc .vmem S1024x512 .bf16) (harg10 : arg10.IsWhole) (arg11 : Memref sig .tc .vmem S512x1024 .bf16) (harg11 : arg11.IsWhole)
    (x0 : Vec F S1024x512 .i32) (x1 : Vec F S1x1x1024x512 .f32) (x2 : Vec F S1x1x1024x512 .f32) (x3 : Vec F S1x1x512x1024 .f32) (xt0 : TbBuf0 (F := F) c tbM0_0) (xt1 : TbBuf0 (F := F) c tbM0_1) (xt2 : TbBuf0 (F := F) c tbM0_2) (hc1 : (isFresh i (usedWord c xt1) (hereWord c i xt0) (beforeWord c i xt0))) (hc2 : (k0_cond2 i (usedWord c xt1) = 1#1)) (hc3 : ¬ (k0_cond3 i (usedWord c xt1) = 1#1)) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ tbPt0 c tbM0_0 xt0 ∗ tbPt0 c tbM0_1 xt1 ∗ tbPt0 c tbM0_2 xt2
        ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare (outOf (rowsWord c i xt2) x0 (k0_pay1 x1) (k0_pay2 x2) (k0_pay3 x3)) ∗ owns (c : Thread nD τ) arg9 fullShare (k0_pay1 x1) ∗ owns (c : Thread nD τ) arg10 fullShare (k0_pay2 x2) ∗ owns (c : Thread nD τ) arg11 fullShare (k0_pay3 x3) ∗ tbPt0 c tbM0_0 xt0 ∗ tbPt0 c tbM0_1 xt1 ∗ tbPt0 c tbM0_2 xt2) -∗ K ⟨⟩))
      ⊢ wp frame (wpE (defs₀ (F := F)) Variants.none c none) E (cc0_moe_ffn i tbM0_0 htbM0_0 tbM0_1 htbM0_1 tbM0_2 htbM0_2 arg4 harg4 arg5 harg5 arg6 harg6 arg7 harg7 arg8 harg8 arg9 harg9 arg10 harg10 arg11 harg11) K := by
  simp only [cc0_moe_ffn_eq_skeleton]; unfold cc0_moe_ffn_skel
  simp only [k0_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%ds1, %fs1, -, HS1⟩, ⟨%ds2, %fs2, -, HS2⟩, HT0, HT1, HT2, Hk⟩
  sl_exec (disch := first | sl_exact hc1 | sl_exact hc2 | sl_exact hc3)
  sl_step
  iapply Hk
  isplitl [H0]
  · iexists f0; isplitr; · ipureintro; exact hf0
    iexact H0
  isplitl [H1]
  · iexists f1; isplitr; · ipureintro; exact hf1
    iexact H1
  isplitl [H2]
  · iexists f2; isplitr; · ipureintro; exact hf2
    iexact H2
  isplitl [H3]
  · iexists f3; isplitr; · ipureintro; exact hf3
    iexact H3
  isplitl [H4]
  · iexists _; isplitr
    swap; · iexact H4
    ipureintro
    refine (View.read_writes_full _ _ _ _ _).trans ?_
    exact outOf_eq ((View.readAt_full _ _ _).trans hf0)
      (read_stored _ _ _ _ (congrArg k0_pay1 ((View.readAt_full _ _ _).trans hf1))) (read_stored _ _ _ _ (congrArg k0_pay1 ((View.readAt_full _ _ _).trans hf1)))
      (read_stored _ _ _ _ (congrArg k0_pay2 ((View.readAt_full _ _ _).trans hf2))) (read_stored _ _ _ _ (congrArg k0_pay2 ((View.readAt_full _ _ _).trans hf2)))
      ((read_stored _ _ _ _ (congrArg k0_pay3 ((View.readAt_full _ _ _).trans hf3))).trans (View.ld_unit_zero (funext fun a => by fin_cases a <;> rfl) _ _))
  isplitl [HS0]
  · iexists _; isplitr
    swap; · iexact HS0
    ipureintro
    refine (View.read_writes_full _ _ _ _ _).trans ?_
    exact congrArg k0_pay1 ((View.readAt_full _ _ _).trans hf1)
  isplitl [HS1]
  · iexists _; isplitr
    swap; · iexact HS1
    ipureintro
    refine (View.read_writes_full _ _ _ _ _).trans ?_
    exact congrArg k0_pay2 ((View.readAt_full _ _ _).trans hf2)
  isplitl [HS2]
  · iexists _; isplitr
    swap; · iexact HS2
    ipureintro
    refine (View.read_writes_full _ _ _ _ _).trans ?_
    exact congrArg k0_pay3 ((View.readAt_full _ _ _).trans hf3)
  isplitl [HT0]; · iexact HT0
  isplitl [HT1]; · iexact HT1
  iexact HT2

set_option maxHeartbeats 1000000 in
/-- A block in use whose expert's weights are in the scratch buffers. -/
theorem run_kept (c : Dev nD) (E : Set ℕ) (i : grid0.Coords) (arg4 : Memref sig .tc .vmem S1024x512 .i32) (harg4 : arg4.IsWhole) (arg5 : Memref sig .tc .vmem S1x1x1024x512 .f32) (harg5 : arg5.IsWhole) (arg6 : Memref sig .tc .vmem S1x1x1024x512 .f32) (harg6 : arg6.IsWhole) (arg7 : Memref sig .tc .vmem S1x1x512x1024 .f32) (harg7 : arg7.IsWhole) (arg8 : Memref sig .tc .vmem S1024x1024 .bf16) (harg8 : arg8.IsWhole) (arg9 : Memref sig .tc .vmem S1024x512 .bf16) (harg9 : arg9.IsWhole) (arg10 : Memref sig .tc .vmem S1024x512 .bf16) (harg10 : arg10.IsWhole) (arg11 : Memref sig .tc .vmem S512x1024 .bf16) (harg11 : arg11.IsWhole)
    (x0 : Vec F S1024x512 .i32) (x1 : Vec F S1x1x1024x512 .f32) (x2 : Vec F S1x1x1024x512 .f32) (x3 : Vec F S1x1x512x1024 .f32) (xt0 : TbBuf0 (F := F) c tbM0_0) (xt1 : TbBuf0 (F := F) c tbM0_1) (xt2 : TbBuf0 (F := F) c tbM0_2) (d0 : Vec F S1024x512 .bf16) (d1 : Vec F S1024x512 .bf16) (d2 : Vec F S512x1024 .bf16) (hc1 : ¬ (isFresh i (usedWord c xt1) (hereWord c i xt0) (beforeWord c i xt0))) (hc2 : (k0_cond2 i (usedWord c xt1) = 1#1)) (hc3 : ¬ (k0_cond3 i (usedWord c xt1) = 1#1)) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3 ∗ (∃ d, owns (c : Thread nD τ) arg8 fullShare d) ∗ owns (c : Thread nD τ) arg9 fullShare d0 ∗ owns (c : Thread nD τ) arg10 fullShare d1 ∗ owns (c : Thread nD τ) arg11 fullShare d2 ∗ tbPt0 c tbM0_0 xt0 ∗ tbPt0 c tbM0_1 xt1 ∗ tbPt0 c tbM0_2 xt2
        ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare (outOf (rowsWord c i xt2) x0 d0 d1 d2) ∗ owns (c : Thread nD τ) arg9 fullShare d0 ∗ owns (c : Thread nD τ) arg10 fullShare d1 ∗ owns (c : Thread nD τ) arg11 fullShare d2 ∗ tbPt0 c tbM0_0 xt0 ∗ tbPt0 c tbM0_1 xt1 ∗ tbPt0 c tbM0_2 xt2) -∗ K ⟨⟩))
      ⊢ wp frame (wpE (defs₀ (F := F)) Variants.none c none) E (cc0_moe_ffn i tbM0_0 htbM0_0 tbM0_1 htbM0_1 tbM0_2 htbM0_2 arg4 harg4 arg5 harg5 arg6 harg6 arg7 harg7 arg8 harg8 arg9 harg9 arg10 harg10 arg11 harg11) K := by
  simp only [cc0_moe_ffn_eq_skeleton]; unfold cc0_moe_ffn_skel
  simp only [k0_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%fs0, %hs0, HS0⟩, ⟨%fs1, %hs1, HS1⟩, ⟨%fs2, %hs2, HS2⟩, HT0, HT1, HT2, Hk⟩
  sl_exec (disch := first | sl_exact hc1 | sl_exact hc2 | sl_exact hc3)
  sl_step
  iapply Hk
  isplitl [H0]
  · iexists f0; isplitr; · ipureintro; exact hf0
    iexact H0
  isplitl [H1]
  · iexists f1; isplitr; · ipureintro; exact hf1
    iexact H1
  isplitl [H2]
  · iexists f2; isplitr; · ipureintro; exact hf2
    iexact H2
  isplitl [H3]
  · iexists f3; isplitr; · ipureintro; exact hf3
    iexact H3
  isplitl [H4]
  · iexists _; isplitr
    swap; · iexact H4
    ipureintro
    refine (View.read_writes_full _ _ _ _ _).trans ?_
    subst hs0 hs1
    exact congrArg₂ k0_pay4 (congrArg (fun z => k0_pay6 (rowsWord c i xt2) z _ _ _ _) ((View.readAt_full _ _ _).trans hf0)) ((View.readAt_full _ _ _).trans hs2)
  isplitl [HS0]
  · iexists fs0; isplitr; · ipureintro; exact hs0
    iexact HS0
  isplitl [HS1]
  · iexists fs1; isplitr; · ipureintro; exact hs1
    iexact HS1
  isplitl [HS2]
  · iexists fs2; isplitr; · ipureintro; exact hs2
    iexact HS2
  isplitl [HT0]; · iexact HT0
  isplitl [HT1]; · iexact HT1
  iexact HT2

set_option maxHeartbeats 1000000 in
/-- A block not in use: zeros. -/
theorem run_unused (c : Dev nD) (E : Set ℕ) (i : grid0.Coords) (arg4 : Memref sig .tc .vmem S1024x512 .i32) (harg4 : arg4.IsWhole) (arg5 : Memref sig .tc .vmem S1x1x1024x512 .f32) (harg5 : arg5.IsWhole) (arg6 : Memref sig .tc .vmem S1x1x1024x512 .f32) (harg6 : arg6.IsWhole) (arg7 : Memref sig .tc .vmem S1x1x512x1024 .f32) (harg7 : arg7.IsWhole) (arg8 : Memref sig .tc .vmem S1024x1024 .bf16) (harg8 : arg8.IsWhole) (arg9 : Memref sig .tc .vmem S1024x512 .bf16) (harg9 : arg9.IsWhole) (arg10 : Memref sig .tc .vmem S1024x512 .bf16) (harg10 : arg10.IsWhole) (arg11 : Memref sig .tc .vmem S512x1024 .bf16) (harg11 : arg11.IsWhole)
    (x0 : Vec F S1024x512 .i32) (x1 : Vec F S1x1x1024x512 .f32) (x2 : Vec F S1x1x1024x512 .f32) (x3 : Vec F S1x1x512x1024 .f32) (xt0 : TbBuf0 (F := F) c tbM0_0) (xt1 : TbBuf0 (F := F) c tbM0_1) (xt2 : TbBuf0 (F := F) c tbM0_2) (d0 : Vec F S1024x512 .bf16) (d1 : Vec F S1024x512 .bf16) (d2 : Vec F S512x1024 .bf16) (hc1 : ¬ (isFresh i (usedWord c xt1) (hereWord c i xt0) (beforeWord c i xt0))) (hc2 : ¬ (k0_cond2 i (usedWord c xt1) = 1#1)) (hc3 : (k0_cond3 i (usedWord c xt1) = 1#1)) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3 ∗ (∃ d, owns (c : Thread nD τ) arg8 fullShare d) ∗ owns (c : Thread nD τ) arg9 fullShare d0 ∗ owns (c : Thread nD τ) arg10 fullShare d1 ∗ owns (c : Thread nD τ) arg11 fullShare d2 ∗ tbPt0 c tbM0_0 xt0 ∗ tbPt0 c tbM0_1 xt1 ∗ tbPt0 c tbM0_2 xt2
        ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare k0_pay5 ∗ owns (c : Thread nD τ) arg9 fullShare d0 ∗ owns (c : Thread nD τ) arg10 fullShare d1 ∗ owns (c : Thread nD τ) arg11 fullShare d2 ∗ tbPt0 c tbM0_0 xt0 ∗ tbPt0 c tbM0_1 xt1 ∗ tbPt0 c tbM0_2 xt2) -∗ K ⟨⟩))
      ⊢ wp frame (wpE (defs₀ (F := F)) Variants.none c none) E (cc0_moe_ffn i tbM0_0 htbM0_0 tbM0_1 htbM0_1 tbM0_2 htbM0_2 arg4 harg4 arg5 harg5 arg6 harg6 arg7 harg7 arg8 harg8 arg9 harg9 arg10 harg10 arg11 harg11) K := by
  simp only [cc0_moe_ffn_eq_skeleton]; unfold cc0_moe_ffn_skel
  simp only [k0_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%fs0, %hs0, HS0⟩, ⟨%fs1, %hs1, HS1⟩, ⟨%fs2, %hs2, HS2⟩, HT0, HT1, HT2, Hk⟩
  sl_exec (disch := first | sl_exact hc1 | sl_exact hc2 | sl_exact hc3)
  sl_step
  iapply Hk
  isplitl [H0]
  · iexists f0; isplitr; · ipureintro; exact hf0
    iexact H0
  isplitl [H1]
  · iexists f1; isplitr; · ipureintro; exact hf1
    iexact H1
  isplitl [H2]
  · iexists f2; isplitr; · ipureintro; exact hf2
    iexact H2
  isplitl [H3]
  · iexists f3; isplitr; · ipureintro; exact hf3
    iexact H3
  isplitl [H4]
  · iexists _; isplitr
    swap; · iexact H4
    ipureintro
    exact (View.read_writes_full _ _ _ _ _)
  isplitl [HS0]
  · iexists fs0; isplitr; · ipureintro; exact hs0
    iexact HS0
  isplitl [HS1]
  · iexists fs1; isplitr; · ipureintro; exact hs1
    iexact HS1
  isplitl [HS2]
  · iexists fs2; isplitr; · ipureintro; exact hs2
    iexact HS2
  isplitl [HT0]; · iexact HT0
  isplitl [HT1]; · iexact HT1
  iexact HT2

end Cert.Proof.FfnRun

end
-- ==== Proof.FfWords.lean ====
/-
  THE EXPERTS' WORDS AND BLOCKS: the words the body reads off the tables as entries of the tables, its conditions over them,
  and the weights' blocks of a point as slices of the weights.
-/
module

public import proofs.«01_k».proof.Proof.FfBody
public import proofs.«01_k».proof.Proof.CoKernel

@[expose] public section

set_option maxRecDepth 16384

noncomputable section

namespace Cert.Proof.FfnRun

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Bits -/

theorem bit_cases (a : BitVec 1) : a = 0#1 ∨ a = 1#1 := by
  rcases a with ⟨⟨v, h⟩⟩
  have : v = 0 ∨ v = 1 := by omega
  rcases this with rfl | rfl
  · exact Or.inl rfl
  · exact Or.inr rfl

theorem cond2_iff (i : grid0.Coords) (v : BitVec 32) : k0_cond2 i v = 1#1 ↔ Scalar.cmpi .slt (BitVec.ofNat 32 (i 0).val) v = 1#1 := by
  have key : ∀ a : BitVec 1, Scalar.cmpi .ne (Scalar.extui a : BitVec 32) 0#32 = 1#1 ↔ a = 1#1 := by
    intro a; rcases bit_cases a with rfl | rfl <;> decide
  exact key _

theorem cond3_iff (i : grid0.Coords) (v : BitVec 32) : k0_cond3 i v = 1#1 ↔ ¬ k0_cond2 i v = 1#1 := by
  rw [cond2_iff]
  have key : ∀ a : BitVec 1, Scalar.cmpi .ne (Scalar.extui (Scalar.xori a 1#1) : BitVec 32) 0#32 = 1#1 ↔ ¬ a = 1#1 := by
    intro a; rcases bit_cases a with rfl | rfl <;> decide
  exact key _

theorem fresh_iff (i : grid0.Coords) (v0 v4 v8 : BitVec 32) : isFresh i v0 v4 v8
    ↔ k0_cond2 i v0 = 1#1 ∧ (Scalar.cmpi .eq (BitVec.ofNat 32 (i 0).val) 0#32 = 1#1 ∨ Scalar.cmpi .ne v4 v8 = 1#1) := by
  rw [cond2_iff]
  unfold isFresh
  generalize Scalar.cmpi .slt (BitVec.ofNat 32 (i 0).val) v0 = a
  generalize Scalar.cmpi .eq (BitVec.ofNat 32 (i 0).val) 0#32 = b
  generalize Scalar.cmpi .ne v4 v8 = d
  rcases bit_cases a with rfl | rfl <;> rcases bit_cases b with rfl | rfl <;> rcases bit_cases d with rfl | rfl <;> decide

theorem ofBool_one (b : Bool) : BitVec.ofBool b = 1#1 ↔ b = true := by cases b <;> decide

/-- The block is in use where its number is under the number of blocks in use. -/
theorem used_iff (i : grid0.Coords) (v : BitVec 32) : k0_cond2 i v = 1#1 ↔ ((i 0).val : ℤ) < v.toInt := by
  have h : (i 0).val < 96 := (i 0).isLt
  have e : (BitVec.ofNat 32 (i 0).val).toInt = ((i 0).val : ℤ) := by
    rw [BitVec.toInt_ofNat']
    exact Int.bmod_eq_of_le (by omega) (by norm_num; omega)
  rw [cond2_iff]
  show BitVec.ofBool ((BitVec.ofNat 32 (i 0).val).slt v) = 1#1 ↔ _
  rw [ofBool_one, BitVec.slt_iff_toInt_lt, e]

theorem eq_iff (a b : BitVec 32) : Scalar.cmpi .eq a b = 1#1 ↔ a = b := by
  show BitVec.ofBool (a == b) = 1#1 ↔ _
  rw [ofBool_one, beq_iff_eq]

theorem ne_iff (a b : BitVec 32) : Scalar.cmpi .ne a b = 1#1 ↔ a ≠ b := by
  show BitVec.ofBool (a != b) = 1#1 ↔ _
  rw [ofBool_one, bne_iff_ne]

/-! ## The tables' entries -/

theorem coord (t : Fin grid0.N) : (grid0.coords t 0).val = t.val := by
  have h : t.val < 96 := lt_of_lt_of_eq t.isLt N_0
  have e : (grid0.coords t 0).val = t.val / 1 % 96 := Pipeline.Grid.coords_val t 0 (by decide) rfl
  omega

/-- A block's expert, the number of blocks in use, and a block's number of rows. -/
def expertOf (t : Fin 96) : BitVec 32 := tbl m 0 (ix1 t)
def usedCount : BitVec 32 := tbl m 1 (ix1 0)
def rowsOf (t : Fin 96) : BitVec 32 := tbl m 2 (ix1 t)

theorem used_word (c : Dev nD) : usedWord c (tbl m 1) = usedCount m := by
  unfold usedCount
  refine congrArg (tbl m 1) (funext fun a => Fin.ext ?_)
  fin_cases a
  rfl

theorem here_word (c : Dev nD) (i : grid0.Coords) : hereWord c i (tbl m 0) = expertOf m (i 0) := by
  unfold expertOf
  refine congrArg (tbl m 0) (funext fun a => Fin.ext ?_)
  fin_cases a
  exact congrFun (k0_off1_eq i) 0

theorem rows_word (c : Dev nD) (i : grid0.Coords) : rowsWord c i (tbl m 2) = rowsOf m (i 0) := by
  unfold rowsOf
  refine congrArg (tbl m 2) (funext fun a => Fin.ext ?_)
  fin_cases a
  exact congrFun (k0_off3_eq i) 0

theorem off2_eq : ∀ i : grid0.Coords, k0_off2 i 0 = (i 0).val - 1 := by decide +kernel

theorem before_word (c : Dev nD) (i : grid0.Coords) : beforeWord c i (tbl m 0) = expertOf m ⟨(i 0).val - 1, Nat.lt_of_le_of_lt (Nat.sub_le _ _) (i 0).isLt⟩ := by
  unfold expertOf
  refine congrArg (tbl m 0) (funext fun a => Fin.ext ?_)
  fin_cases a
  exact off2_eq i

/-! ## The weights' blocks -/

theorem ix_1 (i : grid0.Coords) : cc0_transform_1 k0_off1_inb numel1_S1 (tbl m) i = ![1, (expertOf m (i 0)).toNat, 0, 0] := by
  have e : (tbl m).at 0 (Rect.unit (s := S96) (k0_off1 i) S1.size (k0_off1_inb i)) numel1_S1 = expertOf m (i 0) := here_word m 0 i
  exact congrArg (fun z : BitVec 32 => ![1, z.toNat, 0, 0]) e

end Cert.Proof.FfnRun

end
-- ==== Proof.FfBlocks.lean ====
/-
  THE EXPERTS' BLOCKS: which elements of the arguments a grid point's blocks hold.
-/
module

public import proofs.«01_k».proof.Proof.FfWords

@[expose] public section

set_option maxRecDepth 16384

noncomputable section

namespace Cert.Proof.FfnRun

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem ix_0 (t : Fin grid0.N) : cc0_transform_0 (grid0.coords t) = ![t.val, 0] := by
  have h : t.val < 96 := lt_of_lt_of_eq t.isLt N_0
  have e : (BitVec.ofNat 32 (grid0.coords t 0).val).toNat = t.val := by
    rw [coord t, BitVec.toNat_ofNat]; exact Nat.mod_eq_of_lt (by omega)
  exact congrArg (fun z : ℕ => ![z, 0]) e

theorem ix_2 (i : grid0.Coords) : cc0_transform_2 k0_off1_inb numel1_S1 (tbl m) i = ![1, (expertOf m (i 0)).toNat, 0, 0] := ix_1 m i

theorem ix_3 (i : grid0.Coords) : cc0_transform_3 k0_off1_inb numel1_S1 (tbl m) i = ![1, (expertOf m (i 0)).toNat, 0, 0] := ix_1 m i

variable {m}

/-- A block in use names an expert of the weights. -/
theorem expert_lt (hO : Ok m) (t : Fin 96) : (expertOf m t).toNat < 32 := by
  obtain ⟨h, -⟩ := hO.1 (fun | 0 => t)
  have h1 := h 1
  rw [ix_1] at h1
  have h2 : ((expertOf m t).toNat + 1) * 1 ≤ 32 := h1
  omega

/-- A point of a pipeline of 96 points. -/
theorem lt96 (hO : Ok m) (t : Fin (cfgM m hO).N) : t.val < 96 := lt_of_lt_of_eq t.isLt N_0

theorem blk0_at (hO : Ok m) (c : Dev nD) (t : Fin (cfgM m hO).N) (r : Fin 1024) (l : Fin 512) (h : t.val * 1024 + r.val < 98304) :
    (iblk m hO c 0 t : IVec S1024x512 32) (ix2 r l) = m ((c : Thread nD τ).loc main_arg0) (ix2 ⟨t.val * 1024 + r.val, h⟩ l) := by
  have e := ix_0 t
  refine congrArg (m ((c : Thread nD τ).loc main_arg0)) (funext fun k => Fin.ext ?_)
  fin_cases k
  · show cc0_transform_0 (grid0.coords t) 0 * 1024 + 1 * r.val = t.val * 1024 + r.val
    rw [e, one_mul]; rfl
  · show cc0_transform_0 (grid0.coords t) 1 * 512 + 1 * l.val = l.val
    rw [e]; show 0 * 512 + 1 * l.val = l.val; omega

theorem blk1_at (hO : Ok m) (c : Dev nD) (t : Fin (cfgM m hO).N) (a : Fin 1024) (b : Fin 512) :
    (iblk m hO c 1 t : Vec F S1x1x1024x512 .f32) (ix4 0 0 a b)
      = m ((c : Thread nD τ).loc main_arg4) (ix4 1 ⟨(expertOf m (grid0.coords t 0)).toNat, expert_lt hO _⟩ a b) := by
  refine congrArg (m ((c : Thread nD τ).loc main_arg4)) (funext fun k => Fin.ext ?_)
  have e := ix_1 m (grid0.coords t)
  fin_cases k
  · show cc0_transform_1 k0_off1_inb numel1_S1 (tbl m) (grid0.coords t) 0 * 1 + 1 * 0 = 1
    rw [e]; rfl
  · show cc0_transform_1 k0_off1_inb numel1_S1 (tbl m) (grid0.coords t) 1 * 1 + 1 * 0 = (expertOf m (grid0.coords t 0)).toNat
    rw [e]; exact Nat.mul_one _
  · show cc0_transform_1 k0_off1_inb numel1_S1 (tbl m) (grid0.coords t) 2 * 1024 + 1 * a.val = a.val
    rw [e]; show 0 * 1024 + 1 * a.val = a.val; omega
  · show cc0_transform_1 k0_off1_inb numel1_S1 (tbl m) (grid0.coords t) 3 * 512 + 1 * b.val = b.val
    rw [e]; show 0 * 512 + 1 * b.val = b.val; omega

theorem blk2_at (hO : Ok m) (c : Dev nD) (t : Fin (cfgM m hO).N) (a : Fin 1024) (b : Fin 512) :
    (iblk m hO c 2 t : Vec F S1x1x1024x512 .f32) (ix4 0 0 a b)
      = m ((c : Thread nD τ).loc main_arg5) (ix4 1 ⟨(expertOf m (grid0.coords t 0)).toNat, expert_lt hO _⟩ a b) := by
  refine congrArg (m ((c : Thread nD τ).loc main_arg5)) (funext fun k => Fin.ext ?_)
  have e := ix_2 m (grid0.coords t)
  fin_cases k
  · show cc0_transform_2 k0_off1_inb numel1_S1 (tbl m) (grid0.coords t) 0 * 1 + 1 * 0 = 1
    rw [e]; rfl
  · show cc0_transform_2 k0_off1_inb numel1_S1 (tbl m) (grid0.coords t) 1 * 1 + 1 * 0 = (expertOf m (grid0.coords t 0)).toNat
    rw [e]; exact Nat.mul_one _
  · show cc0_transform_2 k0_off1_inb numel1_S1 (tbl m) (grid0.coords t) 2 * 1024 + 1 * a.val = a.val
    rw [e]; show 0 * 1024 + 1 * a.val = a.val; omega
  · show cc0_transform_2 k0_off1_inb numel1_S1 (tbl m) (grid0.coords t) 3 * 512 + 1 * b.val = b.val
    rw [e]; show 0 * 512 + 1 * b.val = b.val; omega

theorem blk3_at (hO : Ok m) (c : Dev nD) (t : Fin (cfgM m hO).N) (a : Fin 512) (b : Fin 1024) :
    (iblk m hO c 3 t : Vec F S1x1x512x1024 .f32) (ix4 0 0 a b)
      = m ((c : Thread nD τ).loc main_arg6) (ix4 1 ⟨(expertOf m (grid0.coords t 0)).toNat, expert_lt hO _⟩ a b) := by
  refine congrArg (m ((c : Thread nD τ).loc main_arg6)) (funext fun k => Fin.ext ?_)
  have e := ix_3 m (grid0.coords t)
  fin_cases k
  · show cc0_transform_3 k0_off1_inb numel1_S1 (tbl m) (grid0.coords t) 0 * 1 + 1 * 0 = 1
    rw [e]; rfl
  · show cc0_transform_3 k0_off1_inb numel1_S1 (tbl m) (grid0.coords t) 1 * 1 + 1 * 0 = (expertOf m (grid0.coords t 0)).toNat
    rw [e]; exact Nat.mul_one _
  · show cc0_transform_3 k0_off1_inb numel1_S1 (tbl m) (grid0.coords t) 2 * 512 + 1 * a.val = a.val
    rw [e]; show 0 * 512 + 1 * a.val = a.val; omega
  · show cc0_transform_3 k0_off1_inb numel1_S1 (tbl m) (grid0.coords t) 3 * 1024 + 1 * b.val = b.val
    rw [e]; show 0 * 1024 + 1 * b.val = b.val; omega

theorem ext4 {α : Type} (f g : S1x1x1024x512.Idx → α) (h : ∀ a b, f (ix4 0 0 a b) = g (ix4 0 0 a b)) : f = g := by
  funext x
  idx_vars x
  obtain rfl := Subsingleton.elim x0 0
  obtain rfl := Subsingleton.elim x1 0
  exact h x2 x3

theorem ext4' {α : Type} (f g : S1x1x512x1024.Idx → α) (h : ∀ a b, f (ix4 0 0 a b) = g (ix4 0 0 a b)) : f = g := by
  funext x
  idx_vars x
  obtain rfl := Subsingleton.elim x0 0
  obtain rfl := Subsingleton.elim x1 0
  exact h x2 x3

/-- Points of one expert read the same blocks of weights. -/
theorem same_blocks (hO : Ok m) (c : Dev nD) (s t : Fin (cfgM m hO).N) (h : expertOf m (grid0.coords s 0) = expertOf m (grid0.coords t 0)) :
    iblk m hO c 1 s = iblk m hO c 1 t ∧ iblk m hO c 2 s = iblk m hO c 2 t ∧ iblk m hO c 3 s = iblk m hO c 3 t := by
  refine ⟨?_, ?_, ?_⟩
  · refine ext4 _ _ fun a b => (blk1_at hO c s a b).trans (Eq.trans ?_ (blk1_at hO c t a b).symm)
    simp only [h]; rfl
  · refine ext4 _ _ fun a b => (blk2_at hO c s a b).trans (Eq.trans ?_ (blk2_at hO c t a b).symm)
    simp only [h]; rfl
  · refine ext4' _ _ fun a b => (blk3_at hO c s a b).trans (Eq.trans ?_ (blk3_at hO c t a b).symm)
    simp only [h]; rfl

end Cert.Proof.FfnRun

end
-- ==== Proof.FfRun.lean ====
/-
  THE EXPERTS' RUN: what the scratch buffers hold between the grid's points, the body at a point, and the whole program's run
  from any memory whose tables name blocks of the weights: every fair execution ends, its result is what the grid's points
  wrote back, its arguments are unchanged and its semaphore counters are zero.
-/
module

public import proofs.«01_k».proof.Proof.FfBlocks

@[expose] public section

set_option maxRecDepth 16384

noncomputable section

namespace Cert.Proof.FfnRun

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the points leave -/

/-- The scratch buffers before point `n`: where the point before is in use, its expert's weights. -/
def Holds (hO : Ok m) (c : Dev nD) (n : ℕ) (d0 d1 : Vec F S1024x512 .bf16) (d2 : Vec F S512x1024 .bf16) : Prop :=
  ∀ s : Fin (cfgM m hO).N, s.val + 1 = n → k0_cond2 (grid0.coords s) (usedCount m) = 1#1 →
    d0 = k0_pay1 (iblk m hO c 1 s) ∧ d1 = k0_pay2 (iblk m hO c 2 s) ∧ d2 = k0_pay3 (iblk m hO c 3 s)

/-- The result's block of a point. -/
def outAt (hO : Ok m) (c : Dev nD) (t : Fin (cfgM m hO).N) : Vec F S1024x1024 .bf16 :=
  if k0_cond2 (grid0.coords t) (usedCount m) = 1#1 then
    outOf (rowsOf m (grid0.coords t 0)) (iblk m hO c 0 t) (k0_pay1 (iblk m hO c 1 t)) (k0_pay2 (iblk m hO c 2 t)) (k0_pay3 (iblk m hO c 3 t))
  else k0_pay5

/-- What is held before point `n` beside the windows: the scratch buffers, the generator register and the tables. -/
def PhiS (c : Dev nD) (hO : Ok m) (n : ℕ) : sProp 𝕄 :=
  iprop(iprop((∃ d0 d1 d2, ⌜Holds m hO c n d0 d1 d2⌝ ∗ owns (c : Thread nD τ) scM0_0 fullShare d0 ∗ owns (c : Thread nD τ) scM0_1 fullShare d1 ∗ owns (c : Thread nD τ) scM0_2 fullShare d2) ∗ (∃ r, prngReg c r)) ∗ Pipeline.ΦT pre0 (tbl m) c)

/-- The proof data of the one pipeline on core `c`. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => outAt m hO c t
  Φ t := PhiS m c hO t.val
  q _ := fullShare
  owed _ := 0

/-- The arrays are the ones the run starts from. -/
theorem A_eq (hO : Ok m) (c : Dev nD) (w : Fin (cfgM m hO).W) : (dats m hO 0 c).A w = V m c (Pipeline.arrRef spec0 w) := by
  dsimp only [dats]

/-- What the body leaves, window by window. -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = outAt m hO c t := by dsimp only [dats]; try rfl

/-- Each input's current staging buffer holds its block at every point, fetched there or not. -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d

/-! ## The scratch buffers from point to point -/

variable {m}

theorem holds_fresh (hO : Ok m) (c : Dev nD) (t : Fin (cfgM m hO).N) :
    Holds m hO c (t.val + 1) (k0_pay1 (iblk m hO c 1 t)) (k0_pay2 (iblk m hO c 2 t)) (k0_pay3 (iblk m hO c 3 t)) := by
  intro s hs _
  obtain rfl : s = t := Fin.ext (by omega)
  exact ⟨rfl, rfl, rfl⟩

theorem holds_unused (hO : Ok m) (c : Dev nD) (t : Fin (cfgM m hO).N) (h : ¬ k0_cond2 (grid0.coords t) (usedCount m) = 1#1)
    (d0 d1 : Vec F S1024x512 .bf16) (d2 : Vec F S512x1024 .bf16) : Holds m hO c (t.val + 1) d0 d1 d2 := by
  intro s hs hu
  obtain rfl : s = t := Fin.ext (by omega)
  exact absurd hu h

/-- A block in use whose weights are not stored anew: the scratch buffers hold its expert's weights. -/
theorem holds_kept (hO : Ok m) (c : Dev nD) (t : Fin (cfgM m hO).N) (hu : k0_cond2 (grid0.coords t) (usedCount m) = 1#1)
    (hf : ¬ isFresh (grid0.coords t) (usedCount m) (expertOf m (grid0.coords t 0)) (expertOf m ⟨(grid0.coords t 0).val - 1, Nat.lt_of_le_of_lt (Nat.sub_le _ _) (grid0.coords t 0).isLt⟩))
    {d0 d1 : Vec F S1024x512 .bf16} {d2 : Vec F S512x1024 .bf16} (hd : Holds m hO c t.val d0 d1 d2) :
    d0 = k0_pay1 (iblk m hO c 1 t) ∧ d1 = k0_pay2 (iblk m hO c 2 t) ∧ d2 = k0_pay3 (iblk m hO c 3 t) := by
  have ht : t.val < 96 := lt_of_lt_of_eq t.isLt N_0
  rw [fresh_iff, not_and_or, not_or, eq_iff, ne_iff, not_not] at hf
  obtain ⟨h0, he⟩ := hf.resolve_left (not_not.mpr hu)
  have ct : (grid0.coords t 0).val = t.val := coord t
  have hpos : t.val ≠ 0 := fun h => h0 (by rw [ct, h])
  let s : Fin (cfgM m hO).N := ⟨t.val - 1, lt_of_le_of_lt (Nat.sub_le _ _) t.isLt⟩
  have cs : (grid0.coords s 0).val = t.val - 1 := coord s
  have hs : expertOf m (grid0.coords s 0) = expertOf m (grid0.coords t 0) := by
    rw [he]; congr 1; exact Fin.ext (by rw [cs]; show _ = (grid0.coords t 0).val - 1; rw [ct])
  have us : k0_cond2 (grid0.coords s) (usedCount m) = 1#1 := by
    rw [used_iff] at hu ⊢; omega
  obtain ⟨e1, e2, e3⟩ := hd s (by show t.val - 1 + 1 = t.val; omega) us
  obtain ⟨f1, f2, f3⟩ := same_blocks hO c s t hs
  rw [e1, e2, e3, f1, f2, f3]
  exact ⟨rfl, rfl, rfl⟩

variable (m)

/-! ## The body obligation, at a generic point -/

/-- What the body is called with at point `t`, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t))

/-- What the body reads off the tables. -/
theorem words (c : Dev nD) (i : grid0.Coords) : usedWord (F := F) c (tbl m 1) = usedCount m ∧ hereWord (F := F) c i (tbl m 0) = expertOf m (i 0)
    ∧ beforeWord (F := F) c i (tbl m 0) = expertOf m ⟨(i 0).val - 1, Nat.lt_of_le_of_lt (Nat.sub_le _ _) (i 0).isLt⟩
    ∧ rowsWord (F := F) c i (tbl m 2) = rowsOf m (i 0) :=
  ⟨used_word m c, here_word m c i, before_word m c i, rows_word m c i⟩

set_option maxHeartbeats 4000000 in
/-- The body at any point, by its case. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3]
  rw [show (dats m hO 0 c).owesAt () t.succ = (dats m hO 0 c).owesAt () t.castSucc from rfl,
    after0_0, after0_1, after0_2, after0_3, after0_4]
  rw [show (dats m hO 0 c).Φ t.succ = PhiS m c hO (t.val + 1) from rfl, show (dats m hO 0 c).Φ t.castSucc = PhiS m c hO t.val from rfl]
  unfold PhiS
  rw [PhiT0_eq]
  obtain ⟨e1, e2, e3, e4⟩ := words m c (grid0.coords t)
  iintro ⟨⟨⟨⟨%d0, %d1, %d2, %hd, HS0, HS1, HS2⟩, Hg⟩, ⟨HT0, HT1, HT2⟩⟩, Ho, ⟨%z0, H0⟩, ⟨%z1, H1⟩, ⟨%z2, H2⟩, ⟨%z3, H3⟩, ⟨%z4, H4⟩⟩
  by_cases h1 : isFresh (grid0.coords t) (usedWord (F := F) c (tbl m 1)) (hereWord (F := F) c (grid0.coords t) (tbl m 0)) (beforeWord (F := F) c (grid0.coords t) (tbl m 0))
  · have h2 : k0_cond2 (grid0.coords t) (usedWord (F := F) c (tbl m 1)) = 1#1 := ((fresh_iff _ _ _ _).mp h1).1
    have h3 : ¬ k0_cond3 (grid0.coords t) (usedWord (F := F) c (tbl m 1)) = 1#1 := fun h => (cond3_iff _ _).mp h h2
    rw [show outAt m hO c t = outOf (rowsWord (F := F) c (grid0.coords t) (tbl m 2)) (iblk m hO c 0 t) (k0_pay1 (iblk m hO c 1 t)) (k0_pay2 (iblk m hO c 2 t)) (k0_pay3 (iblk m hO c 3 t)) from by
      unfold outAt; rw [e4, if_pos (e1 ▸ h2)]]
    iapply (run_fresh c Set.univ (grid0.coords t) _ _ _ _ _ _ _ _ _ _ _ _ _ _ _ _ (iblk m hO c 0 t) (iblk m hO c 1 t) (iblk m hO c 2 t) (iblk m hO c 3 t) (tbl m 0) (tbl m 1) (tbl m 2) h1 h2 h3 _)
    isplitl [H0]; · iexact H0
    isplitl [H1]; · iexact H1
    isplitl [H2]; · iexact H2
    isplitl [H3]; · iexact H3
    isplitl [H4]; · iexists _; iexact H4
    isplitl [HS0]; · iexists _; iexact HS0
    isplitl [HS1]; · iexists _; iexact HS1
    isplitl [HS2]; · iexists _; iexact HS2
    isplitl [HT0]; · iexact HT0
    isplitl [HT1]; · iexact HT1
    isplitl [HT2]; · iexact HT2
    iintro ⟨H0, H1, H2, H3, H4, HS0, HS1, HS2, HT0, HT1, HT2⟩
    isplitl [HS0 HS1 HS2 Hg HT0 HT1 HT2]
    · isplitl [HS0 HS1 HS2 Hg]
      · isplitl [HS0 HS1 HS2]
        · iexists _; iexists _; iexists _
          isplitr
          · ipureintro; exact holds_fresh hO c t
          isplitl [HS0]; · iexact HS0
          isplitl [HS1]; · iexact HS1
          iexact HS2
        iexact Hg
      isplitl [HT0]; · iexact HT0
      isplitl [HT1]; · iexact HT1
      iexact HT2
    isplitl [Ho]; · iexact Ho
    isplitl [H0]; · iexact H0
    isplitl [H1]; · iexact H1
    isplitl [H2]; · iexact H2
    isplitl [H3]; · iexact H3
    iexact H4
  by_cases h2 : k0_cond2 (grid0.coords t) (usedWord (F := F) c (tbl m 1)) = 1#1
  · have h3 : ¬ k0_cond3 (grid0.coords t) (usedWord (F := F) c (tbl m 1)) = 1#1 := fun h => (cond3_iff _ _).mp h h2
    obtain ⟨k0, k1, k2⟩ := holds_kept hO c t (e1 ▸ h2) (by rw [e1, e2, e3] at h1; exact h1) hd
    subst k0 k1 k2
    rw [show outAt m hO c t = outOf (rowsWord (F := F) c (grid0.coords t) (tbl m 2)) (iblk m hO c 0 t) (k0_pay1 (iblk m hO c 1 t)) (k0_pay2 (iblk m hO c 2 t)) (k0_pay3 (iblk m hO c 3 t)) from by
      unfold outAt; rw [e4, if_pos (e1 ▸ h2)]]
    iapply (run_kept c Set.univ (grid0.coords t) _ _ _ _ _ _ _ _ _ _ _ _ _ _ _ _ (iblk m hO c 0 t) (iblk m hO c 1 t) (iblk m hO c 2 t) (iblk m hO c 3 t) (tbl m 0) (tbl m 1) (tbl m 2) _ _ _ h1 h2 h3 _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    isplitl [HS2]; · iexact HS2
    isplitl [HT0]; · iexact HT0
    isplitl [HT1]; · iexact HT1
    isplitl [HT2]; · iexact HT2
    iintro ⟨H0, H1, H2, H3, H4, HS0, HS1, HS2, HT0, HT1, HT2⟩
    isplitl [HS0 HS1 HS2 Hg HT0 HT1 HT2]
    · isplitl [HS0 HS1 HS2 Hg]
      · isplitl [HS0 HS1 HS2]
        · iexists _; iexists _; iexists _
          isplitr
          · ipureintro; exact holds_fresh hO c t
          isplitl [HS0]; · iexact HS0
          isplitl [HS1]; · iexact HS1
          iexact HS2
        iexact Hg
      isplitl [HT0]; · iexact HT0
      isplitl [HT1]; · iexact HT1
      iexact HT2
    isplitl [Ho]; · iexact Ho
    isplitl [H0]; · iexact H0
    isplitl [H1]; · iexact H1
    isplitl [H2]; · iexact H2
    isplitl [H3]; · iexact H3
    iexact H4
  · have h3 : k0_cond3 (grid0.coords t) (usedWord (F := F) c (tbl m 1)) = 1#1 := (cond3_iff _ _).mpr h2
    rw [show outAt m hO c t = k0_pay5 from by unfold outAt; rw [if_neg (e1 ▸ h2)]]
    iapply (run_unused c Set.univ (grid0.coords t) _ _ _ _ _ _ _ _ _ _ _ _ _ _ _ _ (iblk m hO c 0 t) (iblk m hO c 1 t) (iblk m hO c 2 t) (iblk m hO c 3 t) (tbl m 0) (tbl m 1) (tbl m 2) d0 d1 d2 h1 h2 h3 _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    isplitl [HS2]; · iexact HS2
    isplitl [HT0]; · iexact HT0
    isplitl [HT1]; · iexact HT1
    isplitl [HT2]; · iexact HT2
    iintro ⟨H0, H1, H2, H3, H4, HS0, HS1, HS2, HT0, HT1, HT2⟩
    isplitl [HS0 HS1 HS2 Hg HT0 HT1 HT2]
    · isplitl [HS0 HS1 HS2 Hg]
      · isplitl [HS0 HS1 HS2]
        · iexists d0; iexists d1; iexists d2
          isplitr
          · ipureintro; exact holds_unused hO c t (e1 ▸ h2) d0 d1 d2
          isplitl [HS0]; · iexact HS0
          isplitl [HS1]; · iexact HS1
          iexact HS2
        iexact Hg
      isplitl [HT0]; · iexact HT0
      isplitl [HT1]; · iexact HT1
      iexact HT2
    isplitl [Ho]; · iexact Ho
    isplitl [H0]; · iexact H0
    isplitl [H1]; · iexact H1
    isplitl [H2]; · iexact H2
    isplitl [H3]; · iexact H3
    iexact H4

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The result's block is stored at every point. -/
theorem stored (hO : Ok m) (t : Fin (cfgM m hO).N) : (cfgM m hO).idle 4 ((cfgM m hO).grid.coords t) = false := by
  show (!(k0_cond2 (grid0.coords t) ((tbl m).atD 1 ![0]) == 1#1) && !(k0_cond3 (grid0.coords t) ((tbl m).atD 1 ![0]) == 1#1)) = false
  by_cases h : k0_cond2 (grid0.coords t) ((tbl m).atD 1 ![0]) = 1#1
  · rw [beq_iff_eq.mpr h]; rfl
  · rw [beq_iff_eq.mpr ((cond3_iff _ _).mpr h)]; exact Bool.and_false _

theorem leave4 (hO : Ok m) (c : Dev nD) (t : Fin (cfgM m hO).N) :
    owns (c : Thread nD τ) (ms0_4 m hO t) fullShare ((dats m hO 0 c).after 4 t) ⊢ ((dats m hO 0 c).leavesExact 4 t : sProp 𝕄) := by
  unfold Dat.leavesExact; rw [stored m hO t]; exact .rfl

/-- The library's body obligation, at every point. -/
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ =>
    sep_mono .rfl (sep_mono .rfl (sep_mono .rfl (sep_mono .rfl (sep_mono .rfl (sep_mono .rfl (leave4 m hO c t))))))

/-- What the launch hands the region is the invariant before the first point. -/
theorem hin (hO : Ok m) (c : Dev nD) : iprop(Pipeline.ΦA spec0 c ∗ Pipeline.ΦT pre0 (tbl m) c) ⊢ (dats m hO 0 c).Φ 0 := by
  rw [show (dats m hO 0 c).Φ 0 = PhiS m c hO 0 from rfl, PhiA0_eq]
  unfold PhiS
  iintro ⟨⟨⟨⟨%d0, HS0⟩, ⟨%d1, HS1⟩, ⟨%d2, HS2⟩⟩, Hg⟩, HT⟩
  isplitl [HS0 HS1 HS2 Hg]
  · isplitl [HS0 HS1 HS2]
    · iexists d0; iexists d1; iexists d2
      isplitr
      · ipureintro; exact fun s h => absurd h (Nat.succ_ne_zero _)
      isplitl [HS0]; · iexact HS0
      isplitl [HS1]; · iexact HS1
      iexact HS2
    iexact Hg
  iexact HT

/-- After the last point the invariant gives the scratch buffers back. -/
theorem hout (hO : Ok m) (c : Dev nD) : (dats m hO 0 c).Φ (Fin.last (cfgM m hO).N) ⊢ Pipeline.ΦA spec0 c := by
  rw [show (dats m hO 0 c).Φ (Fin.last (cfgM m hO).N) = PhiS m c hO (cfgM m hO).N from rfl, PhiA0_eq]
  unfold PhiS
  iintro ⟨⟨⟨%d0, %d1, %d2, -, HS0, HS1, HS2⟩, Hg⟩, -⟩
  isplitl [HS0 HS1 HS2]
  · isplitl [HS0]
    · iexists _; iexact HS0
    isplitl [HS1]
    · iexists _; iexact HS1
    iexists _; iexact HS2
  iexact Hg

/-! ## The run and the frame -/

-- the launch theorem's implicit arguments are found by unifying its conclusion with this one, which takes unfolding plain
-- definitions in a metavariable's type
set_option backward.isDefEq.respectTransparency.types false in
/-- The launch: the run's result, and every semaphore counter of the machine at zero at every final state. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hin := hin m hO) (hout := hout m hO)

/-- The run, its result named and its arguments unchanged. -/
theorem run (hO : Ok m) : θ_run defs (onTc (τ := τ) (main (F := F))) ⟨m, fun _ => 0, ρ⟩ (fun r => (∀ c : Dev nD,
      r.2.mem ((c.tc : Thread nD τ).loc main_v0) = (dats m hO 0 c).arrAt 4 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => ⟨(h.1 c).1 4,
      ((h.1 c).1 0).trans (((dats m hO 0 c).arrAt_in 0 rfl _).trans ((A_eq m hO c 0).trans (V_main_arg0 m c))),
      ((h.1 c).2 main_arg1 (by decide : main_arg1 ∈ Pipeline.restRefs sig spec0)).trans (V_main_arg1 m c),
      ((h.1 c).2 main_arg2 (by decide : main_arg2 ∈ Pipeline.restRefs sig spec0)).trans (V_main_arg2 m c),
      ((h.1 c).2 main_arg3 (by decide : main_arg3 ∈ Pipeline.restRefs sig spec0)).trans (V_main_arg3 m c),
      ((h.1 c).1 1).trans (((dats m hO 0 c).arrAt_in 1 rfl _).trans ((A_eq m hO c 1).trans (V_main_arg4 m c))),
      ((h.1 c).1 2).trans (((dats m hO 0 c).arrAt_in 2 rfl _).trans ((A_eq m hO c 2).trans (V_main_arg5 m c))),
      ((h.1 c).1 3).trans (((dats m hO 0 c).arrAt_in 3 rfl _).trans ((A_eq m hO c 3).trans (V_main_arg6 m c)))⟩, h.2⟩) (run_main_quiescent m ρ hO)

end Cert.Proof.FfnRun

end
-- ==== Proof.FfSame.lean ====
/-
  THE EXPERTS' PRECONDITION AND PRINTED PROGRAM: tables that name experts name blocks of the weights, and the printed
  program's text is the idealized program's, so its frame is the run's at the words.
-/
module

public import proofs.«01_k».proof.Defs
public import proofs.«01_k».proof.Proof.Gen.Kernel5
public import proofs.«01_k».proof.Proof.Gen.Pre_experts_named
public import proofs.«01_k».proof.Proof.FfRun
public import Idealize.ShloMosaic.Lib.Pipeline.Regions

@[expose] public section

set_option maxRecDepth 16384

noncomputable section

namespace Cert.Proof.FfnRun

open Idealize.ShloMosaic Idealize.ShloMosaic.TcCoe Idealize.SL.Sem
open Cert.Kernel5Ideal Cert.Kernel5Ideal.Gen

variable {F : FTy → Type} [FloatOps F]

/-- The precondition on a memory: the blocks name experts. -/
def Pre (m : (ℓ : Loc nD τ sig) → Buf (Elt F) ℓ) : Prop :=
  ∀ c : Dev nD,
    (Cert.Pre_experts_named.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) = fun _ => 1#1

theorem and_bits (a b : BitVec 1) (h : a &&& b = 1#1) : a = 1#1 ∧ b = 1#1 := by
  revert a b; decide

/-- Under the precondition a block's expert is one of the 32. -/
theorem expert_range {m : (ℓ : Loc nD τ sig) → Buf (Elt F) ℓ} (h : Pre m) (t : Fin 96) : (expertOf m t).toNat < 32 ∧ 0 ≤ (expertOf m t).toInt := by
  have e := congrFun (h 0) (ix1 t)
  simp only [Cert.Pre_experts_named.fn, andi, cmpi, broadcastInDim, constantI] at e
  obtain ⟨e0, e1⟩ := and_bits _ _ e
  have f0 : (0#32).toInt ≤ (expertOf m t).toInt := of_decide_eq_true ((ofBool_one _).mp e0)
  have f1 : (expertOf m t).toInt < (32#32).toInt := of_decide_eq_true ((ofBool_one _).mp e1)
  have g0 : (0#32).toInt = 0 := by decide
  have g1 : (32#32).toInt = 32 := by decide
  rw [g0] at f0; rw [g1] at f1
  refine ⟨?_, f0⟩
  have := BitVec.toInt_eq_toNat_cond (expertOf m t)
  have := (expertOf m t).isLt
  split at * <;> omega

/-- The expert as a signed number and as a plain one. -/
theorem expert_toInt {m : (ℓ : Loc nD τ sig) → Buf (Elt F) ℓ} (h : Pre m) (t : Fin 96) : (expertOf m t).toInt = ((expertOf m t).toNat : ℤ) := by
  have := (expert_range h t).1
  have := BitVec.toInt_eq_toNat_cond (expertOf m t)
  split at * <;> omega

theorem in_w1 (e : ℕ) (h : e < 32) : ∀ a, ((![1, e, 0, 0] : Fin 4 → ℕ) a + 1) * S1x1x1024x512.size a ≤ S2x32x1024x512.size a := by
  intro a
  fin_cases a
  · show (1 + 1) * 1 ≤ 2; omega
  · show (e + 1) * 1 ≤ 32; omega
  · show (0 + 1) * 1024 ≤ 1024; omega
  · show (0 + 1) * 512 ≤ 512; omega

theorem in_w2 (e : ℕ) (h : e < 32) : ∀ a, ((![1, e, 0, 0] : Fin 4 → ℕ) a + 1) * S1x1x512x1024.size a ≤ S2x32x512x1024.size a := by
  intro a
  fin_cases a
  · show (1 + 1) * 1 ≤ 2; omega
  · show (e + 1) * 1 ≤ 32; omega
  · show (0 + 1) * 512 ≤ 512; omega
  · show (0 + 1) * 1024 ≤ 1024; omega

/-- Under the precondition every block of the weights lies inside them. -/
theorem ok_of_pre {m : (ℓ : Loc nD τ sig) → Buf (Elt F) ℓ} (h : Pre m) : Ok m :=
  ⟨fun i => ⟨by rw [ix_1]; exact in_w1 _ (expert_range h _).1, Or.inl rfl⟩,
    fun i => ⟨by rw [ix_2]; exact in_w1 _ (expert_range h _).1, Or.inl rfl⟩,
    fun i => ⟨by rw [ix_3]; exact in_w2 _ (expert_range h _).1, Or.inl rfl⟩⟩

/-- The frame of the idealized program's text at the words. -/
def FrameBits : Prop :=
  ∀ (m : (ℓ : Loc nD τ sig) → Buf (Elt Bits) ℓ) (g : Dev nD → PrngReg), Pre m →
    θ_run (defs (F := Bits)) (onTc (τ := τ) (main (F := Bits))) ⟨m, fun _ => 0, g⟩ (fun r =>
      (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0)

theorem frame_bits : FrameBits := fun m g h =>
  (θ_run defs _ _).mono (fun _ h => ⟨fun c => (h.1 c).2, h.2⟩) (run (F := Bits) m g (ok_of_pre h))

/-- The printed program's frame is that statement: the two texts unfold to one. -/
theorem frame_same : Cert.quiescent_Kernel5 (hKernel5 := Cert.Kernel5.Gen.facts) (hPre_experts_named := Cert.Pre_experts_named.Gen.facts) = FrameBits := by
  chain_rfl

end Cert.Proof.FfnRun

end
-- ==== Proof.FfSpec.lean ====
/-
  THE EXPERTS' RESULT as a function of the arguments: every row of a block that is in use, below the block's count, through
  its expert's gated feed-forward; zero elsewhere.
-/
module

public import proofs.«01_k».proof.Proof.CoSpec

@[expose] public section

noncomputable section

namespace Cert.Proof.Ffn

open Idealize.ShloMosaic
open Cert.Proof.Combine (low high)

/-- The arguments: packed rows, the blocks' experts, the number of blocks in use, the blocks' counts of rows, and the weights
    of the second layer. -/
structure Args where
  buf : Fin 98304 → Fin 512 → BitVec 32
  expert : Fin 96 → Fin 32
  used : BitVec 32
  rows : Fin 96 → BitVec 32
  w1 : Fin 32 → Fin 1024 → Fin 512 → EReal
  w3 : Fin 32 → Fin 1024 → Fin 512 → EReal
  w2 : Fin 32 → Fin 512 → Fin 1024 → EReal

/-- Row `r` of block `t` in the packed rows. -/
def row (t : Fin 96) (r : Fin 1024) : Fin 98304 := ⟨t.val * 1024 + r.val, by omega⟩

/-- The block is in use and the row below its count. -/
def Held (a : Args) (t : Fin 96) (r : Fin 1024) : Prop := (r.val : ℤ) < (a.rows t).toInt ∧ (t.val : ℤ) < a.used.toInt

open Classical in
/-- A lane of a held row: the low halves of its words, then the high halves. Zero in the other rows. -/
def lane (a : Args) (t : Fin 96) (r : Fin 1024) (n : Fin 1024) : EReal :=
  if Held a t r then
    if h : n.val < 512 then low (a.buf (row t r) ⟨n.val, h⟩) else high (a.buf (row t r) ⟨n.val - 512, by omega⟩)
  else 0

/-- A row times a block's expert's matrix. -/
def up (a : Args) (w : Fin 32 → Fin 1024 → Fin 512 → EReal) (t : Fin 96) (r : Fin 1024) (f : Fin 512) : EReal :=
  ∑ n : Fin 1024, lane a t r n * w (a.expert t) n f

/-- The silu of the first number times the second. -/
def gated (a b : EReal) : EReal := a * Ideal.div 1 (1 + Ideal.exp (-a)) * b

/-- The result of a block's row. -/
def out (a : Args) (t : Fin 96) (r n : Fin 1024) : EReal :=
  ∑ f : Fin 512, gated (up a a.w1 t r f) (up a a.w3 t r f) * a.w2 (a.expert t) f n

/-- Nothing comes of a row that is not held. -/
theorem out_unheld (a : Args) (t : Fin 96) (r n : Fin 1024) (h : ¬ Held a t r) : out a t r n = 0 := by
  have hl : ∀ l, lane a t r l = 0 := fun l => by unfold lane; exact if_neg h
  have hu : ∀ w f, up a w t r f = 0 := fun w f => by
    unfold up; simp only [hl, zero_mul, Finset.sum_const_zero]
  unfold out gated
  simp only [hu, zero_mul, Finset.sum_const_zero]

/-- Comparing a small number with a word is comparing it with the word's value. -/
theorem slt_iff (k : ℕ) (hk : k < 2147483648) (v : BitVec 32) : IntOp.cmpi .slt (BitVec.ofNat 32 k) v = 1#1 ↔ (k : ℤ) < v.toInt := by
  have hb (p : Bool) : BitVec.ofBool p = 1#1 ↔ p = true := by cases p <;> decide
  have e : (BitVec.ofNat 32 k).toInt = k := by
    rw [BitVec.toInt_ofNat']
    exact Int.bmod_eq_of_le (by omega) (by omega)
  show BitVec.ofBool (BitVec.slt (BitVec.ofNat 32 k) v) = 1#1 ↔ _
  rw [hb, BitVec.slt_eq_decide, decide_eq_true_eq, e]

/-- The halves of the zero word. -/
theorem low_zero : low 0#32 = 0 := by
  unfold low; simp [Ideal.ofBits, Ideal.ieee]

theorem high_zero : high 0#32 = 0 := by
  unfold high; simp [Ideal.ofBits, Ideal.ieee]

end Cert.Proof.Ffn

end
-- ==== Proof.FfPay.lean ====
/-
  THE EXPERTS' BODY at coordinates: each vector its kernel computes, read at a row and a column, over arbitrary blocks.
-/
module

public import proofs.«01_k».proof.Proof.CoPay
public import proofs.«01_k».proof.Proof.FfSame
public import proofs.«01_k».proof.Proof.FfSpec

@[expose] public section

set_option maxRecDepth 16384

noncomputable section

namespace Cert.Proof.FfnRun

open Idealize.ShloMosaic Idealize.ShloMosaic.TcCoe Idealize.SL.Sem
open Cert.Kernel5Ideal Cert.Kernel5Ideal.Gen
open Cert.Proof.Combine (low high sum_halves)
open Cert.Proof.Ffn (gated)

theorem pay1_at (v : Vec Ideal S1x1x1024x512 .f32) (n : Fin 1024) (f : Fin 512) : k0_pay1 v (ix2 n f) = v (ix4 0 0 n f) := by
  pointwise [k0_pay1]

theorem pay2_at (v : Vec Ideal S1x1x1024x512 .f32) (n : Fin 1024) (f : Fin 512) : k0_pay2 v (ix2 n f) = v (ix4 0 0 n f) := by
  pointwise [k0_pay2]

theorem pay3_at (v : Vec Ideal S1x1x512x1024 .f32) (f : Fin 512) (n : Fin 1024) : k0_pay3 v (ix2 f n) = v (ix4 0 0 f n) := by
  pointwise [k0_pay3]

theorem pay5_at (r n : Fin 1024) : (k0_pay5 (F := Ideal) (ix2 r n) : EReal) = 0 := by
  pointwise [k0_pay5]

theorem pay4_at (v : FVec Ideal S1024x512 .bf16) (w : Vec Ideal S512x1024 .bf16) (r n : Fin 1024) :
    (k0_pay4 v w (ix2 r n) : EReal) = ∑ f : Fin 512, v (ix2 r f) * w (ix2 f n) := by
  pointwise [k0_pay4]

/-- The word of a row, kept below the row's count. -/
def keptWord (k : BitVec 32) (x : Vec Ideal S1024x512 .i32) (r : Fin 1024) (l : Fin 512) : BitVec 32 :=
  Scalar.select (IntOp.cmpi .slt (BitVec.ofNat 32 r.val) k) (x (ix2 r l)) 0#32

/-- A row's product with a matrix, its low and its high halves against the matrix's two halves. -/
def halvesDot (k : BitVec 32) (x : Vec Ideal S1024x512 .i32) (u v : Vec Ideal S512x512 .bf16) (r : Fin 1024) (f : Fin 512) : EReal :=
  (∑ l : Fin 512, low (keptWord k x r l) * u (ix2 l f)) + ∑ l : Fin 512, high (keptWord k x r l) * v (ix2 l f)

theorem pay6_at (k : BitVec 32) (x : Vec Ideal S1024x512 .i32) (u v y z : Vec Ideal S512x512 .bf16) (r : Fin 1024) (f : Fin 512) :
    (k0_pay6 k x u v y z (ix2 r f) : EReal) = gated (halvesDot k x u v r f) (halvesDot k x y z r f) := by
  unfold gated halvesDot keptWord
  pointwise [k0_pay6, low, high]
  simp only [zero_sub]
  rfl

/-- A row through weights stored in the scratch buffers, at a column of the result. -/
theorem outOf_at (k : BitVec 32) (x : Vec Ideal S1024x512 .i32) (d0 d1 : Vec Ideal S1024x512 .bf16) (d2 : Vec Ideal S512x1024 .bf16) (r n : Fin 1024) :
    (outOf k x d0 d1 d2 (ix2 r n) : EReal)
      = ∑ f : Fin 512, gated
          ((∑ l : Fin 512, low (keptWord k x r l) * d0 (ix2 ⟨l.val, by omega⟩ f)) + ∑ l : Fin 512, high (keptWord k x r l) * d0 (ix2 ⟨512 + l.val, by omega⟩ f))
          ((∑ l : Fin 512, low (keptWord k x r l) * d1 (ix2 ⟨l.val, by omega⟩ f)) + ∑ l : Fin 512, high (keptWord k x r l) * d1 (ix2 ⟨512 + l.val, by omega⟩ f))
          * d2 (ix2 f n) := by
  unfold outOf
  rw [pay4_at]
  refine Finset.sum_congr rfl fun f _ => ?_
  rw [pay6_at]
  unfold halvesDot
  pointwise

end Cert.Proof.FfnRun

end
-- ==== Proof.FfKernel.lean ====
/-
  THE EXPERTS' RESULT ARRAY after the run: the specification of the run's arguments.
-/
module

public import proofs.«01_k».proof.Proof.FfPay

@[expose] public section

set_option maxRecDepth 16384

noncomputable section

namespace Cert.Proof.FfnRun

open Idealize.ShloMosaic Idealize.ShloMosaic.TcCoe Idealize.SL.Sem Idealize.ShloMosaic.Pipeline
open Cert.Kernel5Ideal Cert.Kernel5Ideal.Gen
open Cert.Proof.Combine (low high sum_halves)
open Cert.Proof.Ffn (gated)

variable {m : (ℓ : Loc nD τ sig) → Buf (Elt Ideal) ℓ}

/-- The run's arguments. -/
def args (hO : Ok m) (c : Dev nD) : Ffn.Args where
  buf q l := (m ((c : Thread nD τ).loc main_arg0) : IVec S98304x512 32) (ix2 q l)
  expert t := ⟨(expertOf m t).toNat, expert_lt hO t⟩
  used := usedCount m
  rows := rowsOf m
  w1 e n f := (m ((c : Thread nD τ).loc main_arg4) : FVec Ideal S2x32x1024x512 .f32) (ix4 1 e n f)
  w3 e n f := (m ((c : Thread nD τ).loc main_arg5) : FVec Ideal S2x32x1024x512 .f32) (ix4 1 e n f)
  w2 e f n := (m ((c : Thread nD τ).loc main_arg6) : FVec Ideal S2x32x512x1024 .f32) (ix4 1 e f n)

/-- The block of a grid point. -/
def blockOf (t : Fin grid0.N) : Fin 96 := grid0.coords t 0

theorem kept_at (hO : Ok m) (c : Dev nD) (t : Fin (cfgM m hO).N) (hu : k0_cond2 (grid0.coords t) (usedCount m) = 1#1) (r : Fin 1024) (l : Fin 512) :
    low (keptWord (rowsOf m (grid0.coords t 0)) (iblk m hO c 0 t) r l) = Ffn.lane (args hO c) (grid0.coords t 0) r ⟨l.val, by omega⟩
    ∧ high (keptWord (rowsOf m (grid0.coords t 0)) (iblk m hO c 0 t) r l) = Ffn.lane (args hO c) (grid0.coords t 0) r ⟨512 + l.val, by omega⟩ := by
  have ct : (grid0.coords t 0).val = t.val := coord t
  have ht := lt96 hO t
  have eb : (iblk m hO c 0 t : IVec S1024x512 32) (ix2 r l) = (args hO c).buf (Ffn.row (grid0.coords t 0) r) l := by
    rw [blk0_at hO c t r l (by omega)]
    exact congrArg (fun q => (m ((c : Thread nD τ).loc main_arg0) : IVec S98304x512 32) (ix2 q l)) (Fin.ext (by show t.val * 1024 + r.val = (grid0.coords t 0).val * 1024 + r.val; rw [ct]))
  have hs := Ffn.slt_iff r.val (by omega) (rowsOf m (grid0.coords t 0))
  rw [used_iff] at hu
  by_cases h : IntOp.cmpi .slt (BitVec.ofNat 32 r.val) (rowsOf m (grid0.coords t 0)) = 1#1
  · have hh : Ffn.Held (args hO c) (grid0.coords t 0) r := ⟨hs.mp h, hu⟩
    have ek : keptWord (rowsOf m (grid0.coords t 0)) (iblk m hO c 0 t) r l = (args hO c).buf (Ffn.row (grid0.coords t 0) r) l := by
      unfold keptWord
      rw [h]; exact eb
    rw [ek]
    unfold Ffn.lane
    rw [if_pos hh, if_pos hh, dif_pos l.isLt, dif_neg (by simp)]
    have e : (⟨512 + l.val - 512, by omega⟩ : Fin 512) = l := Fin.ext (by simp)
    simp only [e, and_self]
  · have hh : ¬ Ffn.Held (args hO c) (grid0.coords t 0) r := fun hd => h (hs.mpr hd.1)
    have ek : keptWord (rowsOf m (grid0.coords t 0)) (iblk m hO c 0 t) r l = 0#32 := by
      unfold keptWord Scalar.select
      exact if_neg h
    rw [ek]
    unfold Ffn.lane
    rw [if_neg hh, if_neg hh]
    exact ⟨Ffn.low_zero, Ffn.high_zero⟩

/-- A row's product with a matrix, in the halves of its lanes. -/
theorem up_of_halves (a : Ffn.Args) (w : Fin 32 → Fin 1024 → Fin 512 → EReal) (b : Fin 96) (r : Fin 1024) (f : Fin 512)
    (p q : Fin 512 → EReal) (d : Fin 1024 → EReal) (hp : ∀ l : Fin 512, p l = Ffn.lane a b r ⟨l.val, by omega⟩)
    (hq : ∀ l : Fin 512, q l = Ffn.lane a b r ⟨512 + l.val, by omega⟩) (hd : ∀ n, d n = w (a.expert b) n f) :
    (∑ l : Fin 512, p l * d ⟨l.val, by omega⟩) + ∑ l : Fin 512, q l * d ⟨512 + l.val, by omega⟩ = Ffn.up a w b r f := by
  unfold Ffn.up
  rw [sum_halves]
  simp only [hp, hq, hd]

/-- A point's block of the result. -/
theorem outAt_at (hO : Ok m) (c : Dev nD) (t : Fin (cfgM m hO).N) (r n : Fin 1024) :
    (outAt m hO c t (ix2 r n) : EReal) = Ffn.out (args hO c) (grid0.coords t 0) r n := by
  unfold outAt
  by_cases hu : k0_cond2 (grid0.coords t) (usedCount m) = 1#1
  · rw [if_pos hu]
    refine (outOf_at _ _ _ _ _ r n).trans (Finset.sum_congr rfl fun f _ => congrArg₂ (· * ·) (congrArg₂ gated ?_ ?_) ?_)
    · exact up_of_halves (args hO c) _ _ r f _ _ (fun j => k0_pay1 (iblk m hO c 1 t) (ix2 j f)) (fun l => (kept_at hO c t hu r l).1)
        (fun l => (kept_at hO c t hu r l).2) fun j => (pay1_at _ j f).trans (blk1_at hO c t j f)
    · exact up_of_halves (args hO c) _ _ r f _ _ (fun j => k0_pay2 (iblk m hO c 2 t) (ix2 j f)) (fun l => (kept_at hO c t hu r l).1)
        (fun l => (kept_at hO c t hu r l).2) fun j => (pay2_at _ j f).trans (blk2_at hO c t j f)
    · exact (pay3_at _ f n).trans (blk3_at hO c t f n)
  · rw [if_neg hu]
    refine (pay5_at r n).trans (Ffn.out_unheld _ _ _ _ fun h => hu ?_).symm
    rw [used_iff]; exact h.2

theorem ix_4 (t : Fin grid0.N) : cc0_transform_4 (grid0.coords t) = ![t.val, 0] := ix_0 t

/-- The result at equal coordinates. -/
theorem out_congr (a : Ffn.Args) {b b' : Fin 96} {r r' n n' : Fin 1024} (hb : b.val = b'.val) (hr : r.val = r'.val) (hn : n.val = n'.val) :
    Ffn.out a b r n = Ffn.out a b' r' n' := by
  rw [Fin.ext hb, Fin.ext hr, Fin.ext hn]

/-- The points' blocks cover the result. -/
theorem covers4 (hO : Ok m) : ((cfgM m hO).win 4).Covers := by
  refine ⟨(by decide : ∀ a : Fin 2, 0 < S1024x1024.size a), fun β => ?_⟩
  let i0 : Fin ((cfgM m hO).win 4).shape.rank := (0 : Fin 2)
  let i1 : Fin ((cfgM m hO).win 4).shape.rank := (1 : Fin 2)
  have hβ : (β i0).val < 96 := lt_of_lt_of_eq (β i0).isLt (by show (98304 + 1024 - 1) / 1024 = 96; norm_num)
  have hβ1 : (β i1).val < 1 := lt_of_lt_of_eq (β i1).isLt (by show (1024 + 1024 - 1) / 1024 = 1; norm_num)
  let t : Fin (cfgM m hO).N := ⟨(β i0).val, lt_of_lt_of_eq hβ N_0.symm⟩
  have hi : ((cfgM m hO).win 4).index t = ![t.val, 0] := ix_4 t
  refine ⟨t, flush0_4 (adm m hO) t, fun a => ⟨?_, Or.inl rfl⟩⟩
  have h0 : ((cfgM m hO).win 4).index t i0 = β i0 := congrFun hi i0
  have h1 : ((cfgM m hO).win 4).index t i1 = β i1 := (congrFun hi i1).trans (by show 0 = (β i1).val; omega)
  have key : ∀ a : Fin 2, a = 0 ∨ a = 1 := by decide
  rcases key a with e | e
  · obtain rfl : a = i0 := e
    exact h0
  · obtain rfl : a = i1 := e
    exact h1

/-- Where a point's block lies in the result. -/
def place (hO : Ok m) (t : Fin (cfgM m hO).N) (z : S1024x1024.Idx) : S98304x1024.Idx := (((cfgM m hO).win 4).blk t).view.emb z

theorem place_0 (hO : Ok m) (t : Fin (cfgM m hO).N) (z : S1024x1024.Idx) : (place hO t z 0).val = t.val * 1024 + (z 0).val := by
  show cc0_transform_4 (grid0.coords t) 0 * 1024 + 1 * (z 0).val = t.val * 1024 + (z 0).val
  rw [ix_4, one_mul]; rfl

theorem place_1 (hO : Ok m) (t : Fin (cfgM m hO).N) (z : S1024x1024.Idx) : (place hO t z 1).val = (z 1).val := by
  show cc0_transform_4 (grid0.coords t) 1 * 1024 + 1 * (z 1).val = (z 1).val
  rw [ix_4]; show 0 * 1024 + 1 * (z 1).val = (z 1).val; omega

/-- The result, as an array. -/
def outArray (a : Ffn.Args) : FVec Ideal S98304x1024 .bf16 :=
  fun i => Ffn.out a ⟨(i 0).val / 1024, by have h : (i 0).val < 98304 := (i 0).isLt; omega⟩ ⟨(i 0).val % 1024, by omega⟩ (i 1)

/-- A point's block is the specification's, where it lies. -/
theorem point4 (hO : Ok m) (c : Dev nD) (t : Fin (cfgM m hO).N) (z : S1024x1024.Idx) :
    outAt m hO c t z = outArray (args hO c) (place hO t z) := by
  have ht := lt96 hO t
  have ct : (grid0.coords t 0).val = t.val := coord t
  have p0 := place_0 hO t z
  have p1 := place_1 hO t z
  have h0 : (z 0).val < 1024 := (z 0).isLt
  have ez : z = ix2 (z 0) (z 1) := funext fun a => by fin_cases a <;> rfl
  refine ((congrArg (outAt m hO c t) ez).trans (outAt_at hO c t _ _)).trans (out_congr _ ?_ ?_ ?_)
  · show (grid0.coords t 0).val = (place hO t z 0).val / 1024
    rw [ct, p0]; omega
  · show (z 0).val = (place hO t z 0).val % 1024
    rw [p0]; omega
  · exact p1.symm

/-- The result's array after the run. -/
theorem final4 (hO : Ok m) (c : Dev nD) : (dats m hO 0 c).arrAt 4 (cfgM m hO).N = outArray (args hO c) := by
  refine (dats m hO 0 c).arrAt_eq_of_covers 4 _ (covers4 hO) fun t _ y => ?_
  exact point4 hO c t y

end Cert.Proof.FfnRun

end
-- ==== Proof.FfRef.lean ====
/-
  THE EXPERTS' REFERENCE at coordinates: its result is the specification's, element by element.
-/
module

public import proofs.«01_k».proof.Proof.CoPay
public import proofs.«01_k».proof.Proof.FfSpec
public import proofs.«01_k».proof.Proof.Gen.Reference5Ideal.Run

@[expose] public section

set_option maxRecDepth 16384

noncomputable section

namespace Cert.Proof.FfnRef

open Idealize.ShloMosaic Idealize.ShloMosaic.TcCoe Idealize.SL.Sem
open Cert.Reference5Ideal Cert.Reference5Ideal.Gen Cert.Reference5Ideal.Value
open Cert.Proof.Combine (low high)
open Cert.Proof.Ffn (gated)

/-! ## Taking blocks by their numbers -/

/-- The dimension numbers of taking `n` of `N` blocks of `A` by `B` elements. -/
abbrev takeBlocks (N A B n : ℕ) (wf : GatherDims.WF ⟨3, ![N, A, B]⟩ ⟨2, ![n, 1]⟩ ⟨3, ![n, A, B]⟩ [1, 2] [0] [] [0] [] 1 ![1, A, B]) :
    GatherDims ⟨3, ![N, A, B]⟩ ⟨2, ![n, 1]⟩ ⟨3, ![n, A, B]⟩ where
  offsetDims := [1, 2]
  collapsedSliceDims := [0]
  operandBatchingDims := []
  startIndicesBatchingDims := []
  startIndexMap := [0]
  indexVectorDim := 1
  sliceSizes := ![1, A, B]
  wf := wf

theorem not_zero_1 : (1 : Fin 3) ∉ [(0 : Fin 3)] := by decide
theorem not_zero_2 : (2 : Fin 3) ∉ [(0 : Fin 3)] := by decide

/-- Where the number at `t` is a block's, the blocks taken hold that block at `t`. -/
theorem takeBlocks_at {α : Type} {N A B n : ℕ} (wf : GatherDims.WF ⟨3, ![N, A, B]⟩ ⟨2, ![n, 1]⟩ ⟨3, ![n, A, B]⟩ [1, 2] [0] [] [0] [] 1 ![1, A, B])
    (x : (⟨3, ![N, A, B]⟩ : Shape).Idx → α) (idx : IVec ⟨2, ![n, 1]⟩ 32) (t : Fin n) (a : Fin A) (b : Fin B) (e : Fin N)
    (he : (idx (ix2 t 0)).toInt.toNat = e.val) : Host.gather (takeBlocks N A B n wf) x idx (ix3 t a b) = x (ix3 e a b) := by
  unfold Host.gather
  refine congrArg x (funext fun k => Fin.ext ?_)
  show (takeBlocks N A B n wf).start (ix3 t a b) idx k + (takeBlocks N A B n wf).batchCoord (ix3 t a b) k
    + (takeBlocks N A B n wf).offCoord (ix3 t a b) k = _
  rw [GatherDims.batchCoord_eq_zero _ _ _ List.not_mem_nil, Nat.add_zero]
  match k with
  | ⟨0, _⟩ =>
    show (takeBlocks N A B n wf).start (ix3 t a b) idx 0 + (takeBlocks N A B n wf).offCoord (ix3 t a b) 0 = e.val
    rw [GatherDims.offCoord_eq_zero _ _ _ (fun h => ((GatherDims.mem_sKept _ _).mp h).1 (List.mem_singleton.mpr rfl)), Nat.add_zero]
    unfold GatherDims.start
    rw [dif_pos (show (0 : Fin 3) ∈ (takeBlocks N A B n wf).startIndexMap from List.mem_singleton.mpr rfl)]
    have hsi : (takeBlocks N A B n wf).siIdx (ix3 t a b) ⟨List.idxOf (0 : Fin 3) (takeBlocks N A B n wf).startIndexMap,
        List.idxOf_lt_length_iff.2 (List.mem_singleton.mpr rfl)⟩ = ix2 t 0 := by
      funext j; refine Fin.ext ?_
      match j with
      | ⟨0, _⟩ => rfl
      | ⟨1, _⟩ => rfl
    rw [hsi, he]
    show min e.val (N - 1) = e.val
    have := e.isLt
    omega
  | ⟨1, _⟩ =>
    show (takeBlocks N A B n wf).start (ix3 t a b) idx 1 + (takeBlocks N A B n wf).offCoord (ix3 t a b) 1 = a.val
    unfold GatherDims.start GatherDims.offCoord
    rw [dif_neg (show (1 : Fin 3) ∉ (takeBlocks N A B n wf).startIndexMap from not_zero_1),
      dif_pos ((GatherDims.mem_sKept _ _).mpr ⟨not_zero_1, List.not_mem_nil⟩), Nat.zero_add]
    rfl
  | ⟨2, _⟩ =>
    show (takeBlocks N A B n wf).start (ix3 t a b) idx 2 + (takeBlocks N A B n wf).offCoord (ix3 t a b) 2 = b.val
    unfold GatherDims.start GatherDims.offCoord
    rw [dif_neg (show (2 : Fin 3) ∉ (takeBlocks N A B n wf).startIndexMap from not_zero_2),
      dif_pos ((GatherDims.mem_sKept _ _).mpr ⟨not_zero_2, List.not_mem_nil⟩), Nat.zero_add]
    rfl

/-! ## The reference's arrays -/

/-- The blocks' experts, as numbers to take by. -/
def idxR (be : IVec S96 32) : IVec S96x1 32 :=
  broadcastInDim S96x1 ![0] bcast_S96_S96x1_0 (select (cmpi .slt be (broadcastInDim S96 ![] bcast_S_S96 (constantI S_ 32 0#32)))
    (addi be (broadcastInDim S96 ![] bcast_S_S96 (constantI S_ 32 32#32))) be)

/-- The second layer of weights, -/
def upR (w : FVec Ideal S2x32x1024x512 .f32) : FVec Ideal S32x1024x512 .f32 :=
  shapeCast _ (extractStridedSlice S1x32x1024x512 ![1, 0, 0, 0] w slices_S2x32x1024x512_S1x32x1024x512_1_0_0_0) shapeCasts_S1x32x1024x512_S32x1024x512
def downR (w : FVec Ideal S2x32x512x1024 .f32) : FVec Ideal S32x512x1024 .f32 :=
  shapeCast _ (extractStridedSlice S1x32x512x1024 ![1, 0, 0, 0] w slices_S2x32x512x1024_S1x32x512x1024_1_0_0_0) shapeCasts_S1x32x512x1024_S32x512x1024

/-- and every block's expert's. -/
def upsR (w : FVec Ideal S2x32x1024x512 .f32) (be : IVec S96 32) : FVec Ideal S96x1024x512 .f32 :=
  Host.gather gather_S32x1024x512_S96x1_S96x1024x512_12_0_n_n_0_1_11024512 (upR w) (idxR be)
def downsR (w : FVec Ideal S2x32x512x1024 .f32) (be : IVec S96 32) : FVec Ideal S96x512x1024 .f32 :=
  Host.gather gather_S32x512x1024_S96x1_S96x512x1024_12_0_n_n_0_1_15121024 (downR w) (idxR be)

/-- Which rows are held. -/
def heldR (used : IVec S1 32) (rows : IVec S96 32) : IVec S96x1024 1 :=
  andi (cmpi .slt (iotaInDim S96x1024 32 1) (broadcastInDim S96x1024 ![0, 1] bcast_S96x1_S96x1024_0_1 (broadcastInDim S96x1 ![0] bcast_S96_S96x1_0 rows)))
    (cmpi .slt (iotaInDim S96x1024 32 0) (broadcastInDim S96x1024 ![] bcast_S_S96x1024 (shapeCast _ used shapeCasts_S1_S_)))

/-- The rows' numbers. -/
def numsR (buf : IVec S98304x512 32) : FVec Ideal S96x1024x1024 .f32 :=
  shapeCast _ (concatenate S98304x1024 1 [⟨S98304x512, (bitcastToFloat (F := Ideal) .f32 (Host.shli buf (broadcastInDim S98304x512 ![] bcast_S_S98304x512 (constantI S_ 32 16#32))))⟩, ⟨S98304x512, (bitcastToFloat (F := Ideal) .f32 (andi buf (broadcastInDim S98304x512 ![] bcast_S_S98304x512 (constantI S_ 32 4294901760#32))))⟩] concatenates_S98304x512_S98304x512_S98304x1024_d1) shapeCasts_S98304x1024_S96x1024x1024

/-- The held rows' numbers, zero in the others. -/
def lanesR (buf : IVec S98304x512 32) (used : IVec S1 32) (rows : IVec S96 32) : FVec Ideal S96x1024x1024 .f32 :=
  select (broadcastInDim S96x1024x1024 ![0, 1, 2] bcast_S96x1024x1_S96x1024x1024_0_1_2 (broadcastInDim S96x1024x1 ![0, 1] bcast_S96x1024_S96x1024x1_0_1 (heldR used rows)))
    (numsR buf) (broadcastInDim S96x1024x1024 ![] bcast_S_S96x1024x1024 (id (constant S_ .f32 0x00000000#32)))

def dotUpR (x : FVec Ideal S96x1024x1024 .f32) (w : FVec Ideal S96x1024x512 .f32) : FVec Ideal S96x1024x512 .f32 :=
  Host.dotGeneral dot_S96x1024x1024_S96x1024x512_S96x1024x512_2_1_1_2_0_0 none x w

def gatedR (a b : FVec Ideal S96x1024x512 .f32) : FVec Ideal S96x1024x512 .f32 :=
  mulf (mulf a (Host.divf (broadcastInDim S96x1024x512 ![] bcast_S_S96x1024x512 (constant S_ .f32 0x3F800000#32))
    (addf (broadcastInDim S96x1024x512 ![] bcast_S_S96x1024x512 (constant S_ .f32 0x3F800000#32)) (Host.exp (Host.negf a))))) b

def resR (g : FVec Ideal S96x1024x512 .f32) (w : FVec Ideal S96x512x1024 .f32) : FVec Ideal S98304x1024 .bf16 :=
  truncf .bf16 (shapeCast _ (Host.dotGeneral dot_S96x1024x512_S96x512x1024_S96x1024x1024_2_1_1_2_0_0 none g w) shapeCasts_S96x1024x1024_S98304x1024) bitsLt_bf16_f32

variable (m : (ℓ : Loc nD τ sig) → Buf (Elt Ideal) ℓ)

abbrev lanesM (c : Dev nD) := lanesR (m ((c.tc : Thread nD τ).loc main_arg0)) (m ((c.tc : Thread nD τ).loc main_arg2)) (m ((c.tc : Thread nD τ).loc main_arg3))

theorem res_eq (c : Dev nD) : res_main_v58 m c
    = resR (gatedR (dotUpR (lanesM m c) (upsR (m ((c.tc : Thread nD τ).loc main_arg4)) (m ((c.tc : Thread nD τ).loc main_arg1))))
        (dotUpR (lanesM m c) (upsR (m ((c.tc : Thread nD τ).loc main_arg5)) (m ((c.tc : Thread nD τ).loc main_arg1)))))
      (downsR (m ((c.tc : Thread nD τ).loc main_arg6)) (m ((c.tc : Thread nD τ).loc main_arg1))) := rfl

/-! ## Their elements -/

theorem idxR_at (be : IVec S96 32) (t : Fin 96) (e : Fin 32) (h : (be (ix1 t)).toInt = e.val) : (idxR be (ix2 t 0)).toInt.toNat = e.val := by
  have hn : ¬ IntOp.cmpi .slt (be (ix1 t)) 0#32 = 1#1 := by
    have hb (p : Bool) : BitVec.ofBool p = 1#1 ↔ p = true := by cases p <;> decide
    show ¬ BitVec.ofBool (BitVec.slt (be (ix1 t)) 0#32) = 1#1
    rw [hb, BitVec.slt_eq_decide, decide_eq_true_eq, h]
    simp
  pointwise [idxR]
  rw [show Scalar.select (IntOp.cmpi .slt (be (ix1 t)) 0#32) (IntOp.addi (be (ix1 t)) 32#32) (be (ix1 t)) = be (ix1 t) from if_neg hn, h]
  simp

theorem upR_at (w : FVec Ideal S2x32x1024x512 .f32) (e : Fin 32) (n : Fin 1024) (f : Fin 512) : upR w (ix3 e n f) = w (ix4 1 e n f) := by
  pointwise [upR]

theorem downR_at (w : FVec Ideal S2x32x512x1024 .f32) (e : Fin 32) (f : Fin 512) (n : Fin 1024) : downR w (ix3 e f n) = w (ix4 1 e f n) := by
  pointwise [downR]

theorem upsR_at (w : FVec Ideal S2x32x1024x512 .f32) (be : IVec S96 32) (t : Fin 96) (e : Fin 32) (h : (be (ix1 t)).toInt = e.val) (n : Fin 1024) (f : Fin 512) :
    upsR w be (ix3 t n f) = w (ix4 1 e n f) :=
  (takeBlocks_at _ (upR w) (idxR be) t n f e (idxR_at be t e h)).trans (upR_at w e n f)

theorem downsR_at (w : FVec Ideal S2x32x512x1024 .f32) (be : IVec S96 32) (t : Fin 96) (e : Fin 32) (h : (be (ix1 t)).toInt = e.val) (f : Fin 512) (n : Fin 1024) :
    downsR w be (ix3 t f n) = w (ix4 1 e f n) :=
  (takeBlocks_at _ (downR w) (idxR be) t f n e (idxR_at be t e h)).trans (downR_at w e f n)

theorem heldR_at (used : IVec S1 32) (rows : IVec S96 32) (t : Fin 96) (r : Fin 1024) :
    heldR used rows (ix2 t r) = IntOp.andi (IntOp.cmpi .slt (BitVec.ofNat 32 r.val) (rows (ix1 t))) (IntOp.cmpi .slt (BitVec.ofNat 32 t.val) (used (ix1 0))) := by
  pointwise [heldR]

theorem numsR_at (buf : IVec S98304x512 32) (t : Fin 96) (r n : Fin 1024) :
    numsR buf (ix3 t r n) = if h : n.val < 512 then low (buf (ix2 (Ffn.row t r) ⟨n.val, h⟩)) else high (buf (ix2 (Ffn.row t r) ⟨n.val - 512, by omega⟩)) := by
  pointwise [numsR, low, high]
  rfl

theorem zero_word : (id (constant (F := Ideal) S_ .f32 0x00000000#32) ix0 : EReal) = 0 := by
  show Ideal.ofBits .f32 0x00000000#32 = 0
  simp [Ideal.ofBits, Ideal.ieee]

theorem lanesR_at (buf : IVec S98304x512 32) (used : IVec S1 32) (rows : IVec S96 32) (t : Fin 96) (r n : Fin 1024) :
    (lanesR buf used rows (ix3 t r n) : EReal) = Scalar.select (heldR used rows (ix2 t r)) (numsR buf (ix3 t r n)) 0 := by
  pointwise [lanesR]
  exact congrArg (Scalar.select _ _) zero_word

theorem dotUpR_at (x : FVec Ideal S96x1024x1024 .f32) (w : FVec Ideal S96x1024x512 .f32) (t : Fin 96) (r : Fin 1024) (f : Fin 512) :
    (dotUpR x w (ix3 t r f) : EReal) = ∑ n : Fin 1024, x (ix3 t r n) * w (ix3 t n f) := by
  pointwise [dotUpR]

theorem gatedR_at (a b : FVec Ideal S96x1024x512 .f32) (t : Fin 96) (r : Fin 1024) (f : Fin 512) :
    (gatedR a b (ix3 t r f) : EReal) = gated (a (ix3 t r f)) (b (ix3 t r f)) := by
  pointwise [gatedR, gated]

theorem resR_at (g : FVec Ideal S96x1024x512 .f32) (w : FVec Ideal S96x512x1024 .f32) (t : Fin 96) (r n : Fin 1024) :
    (resR g w (ix2 (Ffn.row t r) n) : EReal) = ∑ f : Fin 512, g (ix3 t r f) * w (ix3 t f n) := by
  pointwise [resR]
  refine Finset.sum_congr rfl fun f _ => ?_
  have e (a : Fin 96) (b : Fin 1024) (ha : a = t) (hb : b = r) : (g (ix3 a b f) * w (ix3 a f n) : EReal) = g (ix3 t r f) * w (ix3 t f n) := by
    rw [ha, hb]
  refine e _ _ (Fin.ext ?_) (Fin.ext ?_)
  · show (t.val * 1024 + r.val) / 1024 = t.val; omega
  · show (t.val * 1024 + r.val) % 1024 = r.val; omega

/-! ## The specification's -/

/-- The conjunction of two bits is one where both are. -/
theorem and_one (a b : BitVec 1) : IntOp.andi a b = 1#1 ↔ a = 1#1 ∧ b = 1#1 := by
  revert a b; decide

theorem lane_at (a : Ffn.Args) (buf : IVec S98304x512 32) (used : IVec S1 32) (rows : IVec S96 32)
    (hb : ∀ q l, buf (ix2 q l) = a.buf q l) (hu : used (ix1 0) = a.used) (hr : ∀ t, rows (ix1 t) = a.rows t) (t : Fin 96) (r n : Fin 1024) :
    (lanesR buf used rows (ix3 t r n) : EReal) = Ffn.lane a t r n := by
  have hh : heldR used rows (ix2 t r) = 1#1 ↔ Ffn.Held a t r := by
    rw [heldR_at, and_one, Ffn.slt_iff r.val (by omega), Ffn.slt_iff t.val (by omega), hr, hu]
    exact Iff.rfl
  rw [lanesR_at, numsR_at]
  unfold Ffn.lane Scalar.select
  simp only [hb]
  by_cases h : Ffn.Held a t r
  · rw [if_pos h]; exact if_pos (hh.mpr h)
  · rw [if_neg h]; exact if_neg fun h' => h (hh.mp h')

/-- The reference's result: the specification's, where the arrays hold its arguments. -/
theorem res_at (c : Dev nD) (a : Ffn.Args)
    (hb : ∀ q l, (m ((c.tc : Thread nD τ).loc main_arg0) : IVec S98304x512 32) (ix2 q l) = a.buf q l)
    (he : ∀ t, ((m ((c.tc : Thread nD τ).loc main_arg1) : IVec S96 32) (ix1 t)).toInt = (a.expert t).val)
    (hu : (m ((c.tc : Thread nD τ).loc main_arg2) : IVec S1 32) (ix1 0) = a.used)
    (hr : ∀ t, (m ((c.tc : Thread nD τ).loc main_arg3) : IVec S96 32) (ix1 t) = a.rows t)
    (h1 : ∀ e n f, (m ((c.tc : Thread nD τ).loc main_arg4) : FVec Ideal S2x32x1024x512 .f32) (ix4 1 e n f) = a.w1 e n f)
    (h3 : ∀ e n f, (m ((c.tc : Thread nD τ).loc main_arg5) : FVec Ideal S2x32x1024x512 .f32) (ix4 1 e n f) = a.w3 e n f)
    (h2 : ∀ e f n, (m ((c.tc : Thread nD τ).loc main_arg6) : FVec Ideal S2x32x512x1024 .f32) (ix4 1 e f n) = a.w2 e f n)
    (t : Fin 96) (r n : Fin 1024) : (res_main_v58 m c (ix2 (Ffn.row t r) n) : EReal) = Ffn.out a t r n := by
  have hl := lane_at a _ _ _ hb hu hr t r
  rw [res_eq]
  refine (resR_at _ _ t r n).trans (Finset.sum_congr rfl fun f _ => ?_)
  refine congrArg₂ (· * ·) ((gatedR_at _ _ t r f).trans (congrArg₂ gated ?_ ?_)) ?_
  · exact (dotUpR_at _ _ t r f).trans (Finset.sum_congr rfl fun l _ => congrArg₂ (· * ·) (hl l) ((upsR_at _ _ t _ (he t) l f).trans (h1 _ _ _)))
  · exact (dotUpR_at _ _ t r f).trans (Finset.sum_congr rfl fun l _ => congrArg₂ (· * ·) (hl l) ((upsR_at _ _ t _ (he t) l f).trans (h3 _ _ _)))
  · exact (downsR_at _ _ t _ (he t) f n).trans (h2 _ _ _)

end Cert.Proof.FfnRef

end
-- ==== Proof.lean ====
/-
  The certificate of the row gather, of the input projection (modules In…), of the merge of the branches (modules Mg…), of
  the combination of the experts (modules Co…) and of the experts' feed-forward (modules Ff…).
  Of the gather, setup, blocks, a subcore's run, the deal and the launch are in modules of their own
  (Proof/Words, Setup, Block, Tile, Deal, Launch); Proof/Value reads the result and the reference. Here each claim is read
  off the runs; those of the gather, of the merge and of the feed-forward are stated for any float values and so serve both instances.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.Reference
public import proofs.«01_k».proof.Proof.Gen.Pre_rows_named
public import proofs.«01_k».proof.Proof.Gen.ReferenceIdeal.Run
public import proofs.«01_k».proof.Proof.Value
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Kernel3
public import proofs.«01_k».proof.Proof.Gen.Kernel3Ideal
public import proofs.«01_k».proof.Proof.Gen.Reference3Ideal
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Pre_weights_finite
public import proofs.«01_k».proof.Proof.Gen.Kernel5
public import proofs.«01_k».proof.Proof.Gen.Kernel5Ideal
public import proofs.«01_k».proof.Proof.Gen.Kernel5Ideal.Launch
public import proofs.«01_k».proof.Proof.Gen.Kernel5Ideal.Skeleton
public import proofs.«01_k».proof.Proof.Gen.Reference5Ideal
public import proofs.«01_k».proof.Proof.Gen.Reference5Ideal.Run
public import proofs.«01_k».proof.Proof.Gen.Pre_experts_named
public import proofs.«01_k».proof.Proof.InKernel
public import proofs.«01_k».proof.Proof.InRef
public import proofs.«01_k».proof.Proof.MgRun
public import proofs.«01_k».proof.Proof.MgSame
public import proofs.«01_k».proof.Proof.MgKernel
public import proofs.«01_k».proof.Proof.MgRef
public import proofs.«01_k».proof.Proof.CoKernel
public import proofs.«01_k».proof.Proof.CoRef
public import proofs.«01_k».proof.Proof.FfSame
public import proofs.«01_k».proof.Proof.FfKernel
public import proofs.«01_k».proof.Proof.FfRef
public import Idealize.ShloMosaic.Adequacy
public import Idealize.ShloMosaic.Init

@[expose] public section

noncomputable section

namespace Cert.Proof

open Idealize.ShloMosaic Idealize.SL.Sem

/-- `Cert.quiescent_KernelIdeal`. -/
theorem frame_ideal : Cert.quiescent_KernelIdeal := fun m ρ hpre =>
  (θ_run Cert.KernelIdeal.defs _ _).mono (fun _ h => ⟨fun c => (h.1 c).2, h.2⟩)
    (Rows.run_rows (F := Ideal) m ρ fun d => Rows.named_of_pre (F := Ideal) (hpre d))

/-- `Cert.quiescent_Kernel`: the printed program is the idealized one's text at the other instance. -/
theorem frame_kernel : Cert.quiescent_Kernel := fun m ρ hpre =>
  (θ_run Cert.KernelIdeal.defs _ _).mono (fun _ h => ⟨fun c => (h.1 c).2, h.2⟩)
    (Rows.run_rows (F := Bits) m ρ fun d => Rows.named_of_pre (F := Bits) (hpre d))

/-- `Cert.quiescent_ReferenceIdeal`. -/
theorem frame_ref_ideal : Cert.quiescent_ReferenceIdeal := fun m ρ _ =>
  (θ_run Cert.ReferenceIdeal.defs _ _).mono (fun _ h => ⟨fun c => (h.1 c).2, h.2⟩) (Rows.run_ref (F := Ideal) m ρ)

/-- `Cert.quiescent_ReferenceIdeal_pre_rows_named`. -/
theorem frame_ref_ideal_pre : Cert.quiescent_ReferenceIdeal_pre_rows_named := fun m ρ _ => frame_ref_ideal m ρ trivial

/-- `Cert.quiescent_Reference`. -/
theorem frame_ref : Cert.quiescent_Reference := fun m ρ _ =>
  (θ_run Cert.ReferenceIdeal.defs _ _).mono (fun _ h => ⟨fun c => (h.1 c).2, h.2⟩) (Rows.run_ref (F := Bits) m ρ)

/-- `Cert.algebraic_KernelIdeal_ReferenceIdeal`: both end with the rows the list names. -/
theorem algebraic : Cert.algebraic_KernelIdeal_ReferenceIdeal := by
  intro m ρ m' ρ' hpre hagree
  have hn : ∀ d, Rows.Named (m (Rows.gLoc d)) := fun d => Rows.named_of_pre (F := Ideal) (hpre d)
  refine ⟨fun c => Rows.rowsOf (m (Rows.yLoc c)) (m (Rows.gLoc c)),
    (θ_run Cert.KernelIdeal.defs _ _).mono (fun _ h c => h.1 c) (Rows.run_rows (F := Ideal) m ρ hn), ?_⟩
  refine (θ_run Cert.ReferenceIdeal.defs _ _).mono (fun _ h c => ⟨(h.1 c).1.trans ?_, (h.1 c).2⟩) (Rows.run_ref (F := Ideal) m' ρ')
  exact (congrArg₂ Rows.gathered (hagree c).1 (hagree c).2).trans (Rows.gathered_eq _ (hn c))

/-- `Cert.bitexact_Kernel_Reference`: the same at the words themselves. -/
theorem bitexact : Cert.bitexact_Kernel_Reference := by
  intro m ρ m' ρ' hpre hagree
  have hn : ∀ d, Rows.Named (m (Rows.gLoc d)) := fun d => Rows.named_of_pre (F := Bits) (hpre d)
  refine ⟨fun c => Rows.rowsOf (m (Rows.yLoc c)) (m (Rows.gLoc c)),
    (θ_run Cert.KernelIdeal.defs _ _).mono (fun _ h c => h.1 c) (Rows.run_rows (F := Bits) m ρ hn), ?_⟩
  refine (θ_run Cert.ReferenceIdeal.defs _ _).mono (fun _ h c => ⟨(h.1 c).1.trans ?_, (h.1 c).2⟩) (Rows.run_ref (F := Bits) m' ρ')
  exact (congrArg₂ Rows.gathered (hagree c).1 (hagree c).2).trans (Rows.gathered_eq _ (hn c))

/-- `Cert.quiescent_Kernel2`. -/
theorem frame_proj : Cert.quiescent_Kernel2 := fun m ρ _ => Cert.Kernel2.Gen.frame m ρ

/-- `Cert.quiescent_Kernel2Ideal`. -/
theorem frame_proj_ideal : Cert.quiescent_Kernel2Ideal := fun m ρ _ => Cert.Kernel2Ideal.Gen.frame m ρ

/-- `Cert.quiescent_Reference2Ideal`. -/
theorem frame_proj_ref : Cert.quiescent_Reference2Ideal := fun m ρ _ =>
  (θ_run Cert.Reference2Ideal.defs _ _).mono
    (fun r h => ⟨fun c => (h c).2.2, sem_eq_zero_of_no_sems (by decide) r.2⟩) (InprojRef.run (F := Ideal) m ρ)

/-- `Cert.algebraic_Kernel2Ideal_Reference2Ideal`: both end with the specification's two arrays. -/
theorem algebraic_proj : Cert.algebraic_Kernel2Ideal_Reference2Ideal := by
  intro m ρ m' ρ' _ hagree
  refine ⟨fun c => (fun i => Inproj.slab (Inproj.args m c) (i 0) (i 1) (i 2) (i 3)),
    fun c => (fun i => Inproj.four (Inproj.args m c) (i 0) (i 1) (i 2)), ?_, ?_⟩
  · exact (θ_run Cert.Kernel2Ideal.defs _ _).mono
      (fun _ h c => ⟨(h c).1.trans (Inproj.final11 m c), (h c).2.1.trans (Inproj.final12 m c), (h c).2.2⟩)
      (Cert.Kernel2Ideal.Value.run_blocks (F := Ideal) m ρ)
  · refine (θ_run Cert.Reference2Ideal.defs _ _).mono (fun _ h c => ⟨(h c).1.trans ?_, (h c).2.1.trans ?_, (h c).2.2⟩)
      (InprojRef.run (F := Ideal) m' ρ')
    · obtain ⟨h0, h1, h2, h3, h4, h5, h6, h7⟩ := hagree c
      rw [h0, h1, h2, h3, h4, h5, h6, h7]
      funext i
      exact (congrArg _ (eq_ix4 i)).trans (InprojRef.slabsR_at _ _ _ _ _ _ _ _ (i 0) (i 1) (i 2) (i 3))
    · obtain ⟨h0, h1, h2, h3, h4, h5, h6, h7⟩ := hagree c
      rw [h0, h1, h2, h3]
      funext i
      exact (congrArg _ (eq_ix3 i)).trans (InprojRef.fourR_at _ _ _ _ _ _ _ _ (i 0) (i 1) (i 2))

/-- `Cert.quiescent_Kernel3Ideal`. -/
theorem frame_merge_ideal : Cert.quiescent_Kernel3Ideal := fun m ρ _ =>
  (θ_run Cert.Kernel3Ideal.defs _ _).mono (fun _ h => ⟨fun c => (h.1 c).2.2, h.2⟩) (MergeRun.run (F := Ideal) m ρ)

/-- `Cert.quiescent_Kernel3`: the printed program is the idealized one's text at the other instance. -/
theorem frame_merge : Cert.quiescent_Kernel3 := MergeRun.frame_same.mpr MergeRun.frame_bits

/-- `Cert.quiescent_Reference3Ideal`. -/
theorem frame_merge_ref : Cert.quiescent_Reference3Ideal := fun m ρ _ =>
  (θ_run Cert.Reference3Ideal.defs _ _).mono
    (fun r h => ⟨fun c => (h c).2.2, sem_eq_zero_of_no_sems (by decide) r.2⟩) (MergeRef.run (F := Ideal) m ρ)

/-- `Cert.algebraic_Kernel3Ideal_Reference3Ideal`: both end with the specification's two arrays. -/
theorem algebraic_merge : Cert.algebraic_Kernel3Ideal_Reference3Ideal := by
  intro m ρ m' ρ' _ hagree
  refine ⟨fun c => (fun i => Merge.xo (Merge.args m c) (i 0) (i 1) (i 2)),
    fun c => (fun i => Merge.ff (Merge.args m c) (Merge.rowB (i 0)) (Merge.rowP (i 0)) (i 1)), ?_, ?_⟩
  · exact (θ_run Cert.Kernel3Ideal.defs _ _).mono
      (fun _ h c => ⟨(h.1 c).1.trans (Merge.final25 m c), (h.1 c).2.1.trans (Merge.final26 m c), (h.1 c).2.2⟩)
      (MergeRun.run (F := Ideal) m ρ)
  · refine (θ_run Cert.Reference3Ideal.defs _ _).mono (fun _ h c => ⟨(h c).1.trans ?_, (h c).2.1.trans ?_, (h c).2.2⟩)
      (MergeRef.run (F := Ideal) m' ρ')
    · obtain ⟨h0, h1, h2, h3, h4, h5, h6, h7, h8, h9, h10, h11, h12, h13, h14, h15, h16, h17, h18, h19, h20, h21⟩ := hagree c
      rw [h0, h1, h2, h3, h4, h5, h6, h7, h8, h9, h10, h12, h13, h14, h15, h16, h17]
      funext i
      exact (congrArg _ (eq_ix3 i)).trans (MergeRef.res0_at _ _ _ _ _ _ _ _ _ _ _
        (m ((c.tc : Thread Cert.Kernel3Ideal.nD Cert.Kernel3Ideal.τ).loc Cert.Kernel3Ideal.main_arg11)) _ _ _ _ _ _ (i 0) (i 1)
        (i 2))
    · obtain ⟨h0, h1, h2, h3, h4, h5, h6, h7, h8, h9, h10, h11, h12, h13, h14, h15, h16, h17, h18, h19, h20, h21⟩ := hagree c
      rw [h0, h1, h2, h3, h4, h5, h6, h7, h8, h9, h10, h11, h12, h13, h14, h15, h16, h17]
      funext i
      exact (congrArg _ (eq_ix2 i)).trans (MergeRef.res1_at _ _ _ _ _ _ _ _ _ _ _ _ _ _ _ _ _ _ (i 0) (i 1))

/-- `Cert.quiescent_Kernel4`. -/
theorem frame_comb : Cert.quiescent_Kernel4 := fun m ρ _ => Cert.Kernel4.Gen.frame m ρ

/-- `Cert.quiescent_Kernel4Ideal`. -/
theorem frame_comb_ideal : Cert.quiescent_Kernel4Ideal := fun m ρ _ => Cert.Kernel4Ideal.Gen.frame m ρ

/-- `Cert.quiescent_Kernel4Ideal_pre_weights_finite`. -/
theorem frame_comb_ideal_pre : Cert.quiescent_Kernel4Ideal_pre_weights_finite := fun m ρ _ => frame_comb_ideal m ρ trivial

/-- `Cert.quiescent_Reference4Ideal`. -/
theorem frame_comb_ref : Cert.quiescent_Reference4Ideal := fun m ρ _ =>
  (θ_run Cert.Reference4Ideal.defs _ _).mono
    (fun r h => ⟨fun c => (h c).2, sem_eq_zero_of_no_sems (by decide) r.2⟩) (Cert.Reference4Ideal.Value.run (F := Ideal) m ρ)

/-- `Cert.quiescent_Reference4Ideal_pre_weights_finite`. -/
theorem frame_comb_ref_pre : Cert.quiescent_Reference4Ideal_pre_weights_finite := fun m ρ _ => frame_comb_ref m ρ trivial

/-- `Cert.algebraic_Kernel4Ideal_Reference4Ideal_pre_weights_finite`: both end with the specification's array. -/
theorem algebraic_comb : Cert.algebraic_Kernel4Ideal_Reference4Ideal_pre_weights_finite := by
  intro m ρ m' ρ' hpre hagree
  refine ⟨fun c => (fun i => Combine.out (Combine.args m c) (i 0) (i 1) (i 2)), ?_, ?_⟩
  · exact (θ_run Cert.Kernel4Ideal.defs _ _).mono
      (fun _ h c => ⟨(h c).1.trans (Combine.final6 m c fun k q => Combine.finite_of_pre (hpre c) k q), (h c).2⟩)
      (Cert.Kernel4Ideal.Value.run_blocks (F := Ideal) m ρ)
  · refine (θ_run Cert.Reference4Ideal.defs _ _).mono (fun _ h c => ⟨(h c).1.trans ?_, (h c).2⟩)
      (Cert.Reference4Ideal.Value.run (F := Ideal) m' ρ')
    have e : CombineRef.args m' c = Combine.args m c := by
      obtain ⟨h0, h1, h2, h3, h4⟩ := hagree c
      unfold CombineRef.args Combine.args
      rw [h0, h1, h2, h3, h4]
    funext i
    refine (congrArg _ (eq_ix3 i)).trans ((CombineRef.res_at m' c (i 0) (i 1) (i 2)).trans ?_)
    rw [e]

/-- `Cert.quiescent_Kernel5Ideal`. -/
theorem frame_ffn_ideal : Cert.quiescent_Kernel5Ideal := fun m ρ hpre =>
  (θ_run Cert.Kernel5Ideal.defs _ _).mono (fun _ h => ⟨fun c => (h.1 c).2, h.2⟩)
    (FfnRun.run (F := Ideal) m ρ (FfnRun.ok_of_pre (F := Ideal) hpre))

/-- `Cert.quiescent_Kernel5`: the printed program is the idealized one's text at the other instance. -/
theorem frame_ffn : Cert.quiescent_Kernel5 := FfnRun.frame_same.mpr FfnRun.frame_bits

/-- `Cert.quiescent_Reference5Ideal`. -/
theorem frame_ffn_ref : Cert.quiescent_Reference5Ideal := fun m ρ _ =>
  (θ_run Cert.Reference5Ideal.defs _ _).mono
    (fun r h => ⟨fun c => (h c).2, sem_eq_zero_of_no_sems (by decide) r.2⟩) (Cert.Reference5Ideal.Value.run (F := Ideal) m ρ)

/-- `Cert.quiescent_Reference5Ideal_pre_experts_named`. -/
theorem frame_ffn_ref_pre : Cert.quiescent_Reference5Ideal_pre_experts_named := fun m ρ _ => frame_ffn_ref m ρ trivial

/-- `Cert.algebraic_Kernel5Ideal_Reference5Ideal`: both end with the specification's array. -/
theorem algebraic_ffn : Cert.algebraic_Kernel5Ideal_Reference5Ideal := by
  intro m ρ m' ρ' hpre hagree
  have hO := FfnRun.ok_of_pre (F := Ideal) hpre
  refine ⟨fun c => FfnRun.outArray (FfnRun.args hO c), ?_, ?_⟩
  · exact (θ_run Cert.Kernel5Ideal.defs _ _).mono
      (fun _ h c => ⟨(h.1 c).1.trans (FfnRun.final4 hO c), (h.1 c).2⟩) (FfnRun.run (F := Ideal) m ρ hO)
  · refine (θ_run Cert.Reference5Ideal.defs _ _).mono (fun _ h c => ⟨(h c).1.trans ?_, (h c).2⟩)
      (Cert.Reference5Ideal.Value.run (F := Ideal) m' ρ')
    obtain ⟨h0, h1, h2, h3, h4, h5, h6⟩ := hagree c
    have hc : c = (0 : Dev Cert.Kernel5Ideal.nD) := Subsingleton.elim _ _
    subst hc
    funext i
    have hi : (i 0).val < 98304 := (i 0).isLt
    have ei : i = ix2 (Ffn.row ⟨(i 0).val / 1024, by omega⟩ ⟨(i 0).val % 1024, by omega⟩) (i 1) := by
      refine (eq_ix2 i).trans (congrArg (fun q : Fin 98304 => (ix2 q (i 1) : Cert.Reference5Ideal.S98304x1024.Idx)) (Fin.ext ?_))
      show (i 0).val = (i 0).val / 1024 * 1024 + (i 0).val % 1024
      omega
    refine (congrArg _ ei).trans (FfnRef.res_at m' 0 (FfnRun.args hO 0) (fun q l => congrFun h0 (ix2 q l)) (fun t => ?_)
      (congrFun h2 (ix1 0)) (fun t => congrFun h3 (ix1 t)) (fun e n f => congrFun h4 (ix4 1 e n f))
      (fun e n f => congrFun h5 (ix4 1 e n f)) (fun e f n => congrFun h6 (ix4 1 e f n)) _ _ _)
    exact (congrArg BitVec.toInt (congrFun h1 (ix1 t))).trans (FfnRun.expert_toInt hpre t)

/-- `Cert.Claim`. -/
theorem claim : Cert.Claim :=
  ⟨Cert.Kernel.Gen.facts, Cert.KernelIdeal.Gen.facts, Cert.ReferenceIdeal.Gen.facts, Cert.Reference.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts, Cert.Pre_rows_named.Gen.facts,
    Cert.Pre_weights_finite.Gen.facts, Cert.Pre_experts_named.Gen.facts,
    frame_kernel, frame_ideal, frame_ref_ideal, frame_ref_ideal_pre, frame_ref, frame_proj, frame_proj_ideal, frame_proj_ref,
    frame_merge, frame_merge_ideal, frame_merge_ref, frame_comb, frame_comb_ideal, frame_comb_ideal_pre,
    frame_comb_ref, frame_comb_ref_pre, frame_ffn, frame_ffn_ideal, frame_ffn_ref, frame_ffn_ref_pre, trivial, algebraic, bitexact, trivial, algebraic_proj, trivial,
    algebraic_merge, trivial, algebraic_comb, trivial, algebraic_ffn⟩

end Cert.Proof

end
